-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_finite [hPre_gate_finite : Cert.Pre_gate_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_finite [hPre_gate_finite : Cert.Pre_gate_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_tables_ok : Cert.Pre_tables_ok.Facts] (m : (ℓ : Loc Cert.Kernel3.nD Cert.Kernel3.τ Cert.Kernel3.sig) → Buf (Elt Bits) ℓ) : Prop :=
  ∀ c : Dev Cert.Kernel3.nD,
    (Cert.Pre_tables_ok.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).1 = (fun _ => 1#1)
    ∧ (Cert.Pre_tables_ok.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).2.1 = (fun _ => 1#1)
    ∧ (Cert.Pre_tables_ok.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).2.2.1 = (fun _ => 1#1)
    ∧ (Cert.Pre_tables_ok.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).2.2.2.1 = (fun _ => 1#1)
    ∧ (Cert.Pre_tables_ok.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).2.2.2.2 = (fun _ => 1#1)

def Pre_Kernel3Ideal [hPre_tables_ok : Cert.Pre_tables_ok.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables_ok.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_tables_ok.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_tables_ok.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_tables_ok.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 = (fun _ => 1#1)
    ∧ (Cert.Pre_tables_ok.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables_ok [hPre_tables_ok : Cert.Pre_tables_ok.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables_ok.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_tables_ok.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_tables_ok.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_tables_ok.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.1 = (fun _ => 1#1)
    ∧ (Cert.Pre_tables_ok.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_gate_finite [hKernelIdeal : Cert.KernelIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_gate_finite [hReferenceIdeal : Cert.ReferenceIdeal.Facts] [hPre_gate_finite : Cert.Pre_gate_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_tables_ok : Cert.Pre_tables_ok.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] [hPre_tables_ok : Cert.Pre_tables_ok.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_tables_ok [hReference3Ideal : Cert.Reference3Ideal.Facts] [hPre_tables_ok : Cert.Pre_tables_ok.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables_ok m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal_pre_gate_finite [hKernelIdeal : Cert.KernelIdeal.Facts] [hReferenceIdeal : Cert.ReferenceIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)) (v3 : (c : Dev Cert.Kernel2Ideal.nD) → Buf (Elt Ideal) ((c.tc : Thread Cert.Kernel2Ideal.nD Cert.Kernel2Ideal.τ).loc Cert.Kernel2Ideal.main_v12_3)) (v4 : (c : Dev Cert.Kernel2Ideal.nD) → Buf (Elt Ideal) ((c.tc : Thread Cert.Kernel2Ideal.nD Cert.Kernel2Ideal.τ).loc Cert.Kernel2Ideal.main_v12_4)) (v5 : (c : Dev Cert.Kernel2Ideal.nD) → Buf (Elt Ideal) ((c.tc : Thread Cert.Kernel2Ideal.nD Cert.Kernel2Ideal.τ).loc Cert.Kernel2Ideal.main_v12_5)) (v6 : (c : Dev Cert.Kernel2Ideal.nD) → Buf (Elt Ideal) ((c.tc : Thread Cert.Kernel2Ideal.nD Cert.Kernel2Ideal.τ).loc Cert.Kernel2Ideal.main_v12_6)) (v7 : (c : Dev Cert.Kernel2Ideal.nD) → Buf (Elt Ideal) ((c.tc : Thread Cert.Kernel2Ideal.nD Cert.Kernel2Ideal.τ).loc Cert.Kernel2Ideal.main_v12_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_v12_3) = v3 c
          ∧ r.2.mem ((c.tc : Thread Cert.Kernel2Ideal.nD Cert.Kernel2Ideal.τ).loc Cert.Kernel2Ideal.main_v12_4) = v4 c
          ∧ r.2.mem ((c.tc : Thread Cert.Kernel2Ideal.nD Cert.Kernel2Ideal.τ).loc Cert.Kernel2Ideal.main_v12_5) = v5 c
          ∧ r.2.mem ((c.tc : Thread Cert.Kernel2Ideal.nD Cert.Kernel2Ideal.τ).loc Cert.Kernel2Ideal.main_v12_6) = v6 c
          ∧ r.2.mem ((c.tc : Thread Cert.Kernel2Ideal.nD Cert.Kernel2Ideal.τ).loc Cert.Kernel2Ideal.main_v12_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_v63) = v1 c
          ∧ r.2.mem ((c.tc : Thread Cert.Reference2Ideal.nD Cert.Reference2Ideal.τ).loc Cert.Reference2Ideal.main_v64) = v2 c
          ∧ r.2.mem ((c.tc : Thread Cert.Reference2Ideal.nD Cert.Reference2Ideal.τ).loc Cert.Reference2Ideal.main_v67) = v3 c
          ∧ r.2.mem ((c.tc : Thread Cert.Reference2Ideal.nD Cert.Reference2Ideal.τ).loc Cert.Reference2Ideal.main_v69) = v4 c
          ∧ r.2.mem ((c.tc : Thread Cert.Reference2Ideal.nD Cert.Reference2Ideal.τ).loc Cert.Reference2Ideal.main_v61) = v5 c
          ∧ r.2.mem ((c.tc : Thread Cert.Reference2Ideal.nD Cert.Reference2Ideal.τ).loc Cert.Reference2Ideal.main_v72) = v6 c
          ∧ r.2.mem ((c.tc : Thread Cert.Reference2Ideal.nD Cert.Reference2Ideal.τ).loc Cert.Reference2Ideal.main_v80) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_tables_ok : Cert.Pre_tables_ok.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v54_0)) (v1 : (c : Dev Cert.Kernel3Ideal.nD) → Buf (Elt Ideal) ((c.tc : Thread Cert.Kernel3Ideal.nD Cert.Kernel3Ideal.τ).loc Cert.Kernel3Ideal.main_v54_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v54_0) = v0 c
          ∧ r.2.mem ((c.tc : Thread Cert.Kernel3Ideal.nD Cert.Kernel3Ideal.τ).loc Cert.Kernel3Ideal.main_v54_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_gate_finite : Cert.Pre_gate_finite.Facts) (hPre_tables_ok : Cert.Pre_tables_ok.Facts),
    quiescent_Kernel (hKernel := hKernel)
    ∧ quiescent_KernelIdeal (hKernelIdeal := hKernelIdeal)
    ∧ quiescent_KernelIdeal_pre_gate_finite (hKernelIdeal := hKernelIdeal) (hPre_gate_finite := hPre_gate_finite)
    ∧ quiescent_ReferenceIdeal (hReferenceIdeal := hReferenceIdeal)
    ∧ quiescent_ReferenceIdeal_pre_gate_finite (hReferenceIdeal := hReferenceIdeal) (hPre_gate_finite := hPre_gate_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_tables_ok := hPre_tables_ok)
    ∧ quiescent_Kernel3Ideal (hKernel3Ideal := hKernel3Ideal) (hPre_tables_ok := hPre_tables_ok)
    ∧ quiescent_Reference3Ideal (hReference3Ideal := hReference3Ideal)
    ∧ quiescent_Reference3Ideal_pre_tables_ok (hReference3Ideal := hReference3Ideal) (hPre_tables_ok := hPre_tables_ok)
    ∧ preserves_Kernel_KernelIdeal
    ∧ algebraic_KernelIdeal_ReferenceIdeal_pre_gate_finite (hKernelIdeal := hKernelIdeal) (hReferenceIdeal := hReferenceIdeal) (hPre_gate_finite := hPre_gate_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_tables_ok := hPre_tables_ok)
-- ==== Pre_gate_finite.lean ====
abbrev S32768x1024 : Shape := ⟨2, ![32768, 1024]⟩
abbrev S32768x128 : Shape := ⟨2, ![32768, 128]⟩
abbrev S1x16x512 : Shape := ⟨3, ![1, 16, 512]⟩
abbrev S1x512 : Shape := ⟨2, ![1, 512]⟩
abbrev S1x256 : Shape := ⟨2, ![1, 256]⟩
abbrev S32768x16 : Shape := ⟨2, ![32768, 16]⟩
abbrev S_ : Shape := ⟨0, ![]⟩

class Facts : Prop where
  slices_S32768x128_S32768x16_0_0 : S32768x128.Slices ![0, 0] S32768x16
  bcast_S_S32768x16 : S_.BroadcastsInDim S32768x16 (![] : Fin 0 → Fin S32768x16.rank)
  bcast_S_S1x16x512 : S_.BroadcastsInDim S1x16x512 (![] : Fin 0 → Fin S1x16x512.rank)

variable [Facts]

def fn {F : FTy → Type} [FloatOps F] (main_arg0 : FVec F S32768x1024 .bf16) (main_arg1 : FVec F S32768x1024 .bf16) (main_arg2 : FVec F S32768x128 .f32) (main_arg3 : FVec F S1x16x512 .f32) (main_arg4 : FVec F S1x512 .f32) (main_arg5 : FVec F S32768x1024 .bf16) (main_arg6 : FVec F S1x256 .f32) : IVec S32768x16 1 × IVec S1x16x512 1 :=
  let main_v0 : FVec F S32768x16 .f32 := (extractStridedSlice S32768x16 ![0, 0] · slices_S32768x128_S32768x16_0_0) main_arg2
  let main_v1 : FVec F S32768x16 .f32 := Host.absf main_v0
  let main_cst : FVec F S_ .f32 := constant S_ .f32 0x7F800000#32
  let main_v2 : FVec F S32768x16 .f32 := broadcastInDim S32768x16 ![] bcast_S_S32768x16 main_cst
  let main_v3 : IVec S32768x16 1 := cmpf .olt main_v1 main_v2
  let main_v4 : FVec F S1x16x512 .f32 := Host.absf main_arg3
  let main_cst_0 : FVec F S_ .f32 := constant S_ .f32 0x7F800000#32
  let main_v5 : FVec F S1x16x512 .f32 := broadcastInDim S1x16x512 ![] bcast_S_S1x16x512 main_cst_0
  let main_v6 : IVec S1x16x512 1 := cmpf .olt main_v4 main_v5
  (main_v3, main_v6)
-- ==== Pre_tables_ok.lean ====
abbrev S32 : Shape := ⟨1, ![32]⟩
abbrev S147456x1024 : Shape := ⟨2, ![147456, 1024]⟩
abbrev S1x32x1024x1024 : Shape := ⟨4, ![1, 32, 1024, 1024]⟩
abbrev S1x32x1024 : Shape := ⟨3, ![1, 32, 1024]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S1 : Shape := ⟨1, ![1]⟩
abbrev S32x1 : Shape := ⟨2, ![32, 1]⟩
abbrev S32x32 : Shape := ⟨2, ![32, 32]⟩
abbrev S287 : Shape := ⟨1, ![287]⟩
abbrev S287x1 : Shape := ⟨2, ![287, 1]⟩
abbrev S287x32 : Shape := ⟨2, ![287, 32]⟩

class Facts : Prop where
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  bcast_S_S288 : S_.BroadcastsInDim S288 (![] : Fin 0 → Fin S288.rank)
  bcast_S32_S1x32_1 : S32.BroadcastsInDim S1x32 (![1] : Fin 1 → Fin S1x32.rank)
  bcast_S288_S288x1_0 : S288.BroadcastsInDim S288x1 (![0] : Fin 1 → Fin S288x1.rank)
  bcast_S1x32_S288x32_0_1 : S1x32.BroadcastsInDim S288x32 (![0, 1] : Fin 2 → Fin S288x32.rank)
  bcast_S288x1_S288x32_0_1 : S288x1.BroadcastsInDim S288x32 (![0, 1] : Fin 2 → Fin S288x32.rank)
  natLt_1_32 : 1 < 32
  reducesTo_S288x32_S288_d1 : S288x32.ReducesTo [1] S288
  slices_S32_S1_31 : S32.Slices ![31] S1
  bcast_S_S1 : S_.BroadcastsInDim S1 (![] : Fin 0 → Fin S1.rank)
  bcast_S32_S32x1_0 : S32.BroadcastsInDim S32x1 (![0] : Fin 1 → Fin S32x1.rank)
  bcast_S1x32_S32x32_0_1 : S1x32.BroadcastsInDim S32x32 (![0, 1] : Fin 2 → Fin S32x32.rank)
  bcast_S32x1_S32x32_0_1 : S32x1.BroadcastsInDim S32x32 (![0, 1] : Fin 2 → Fin S32x32.rank)
  bcast_S_S1x32 : S_.BroadcastsInDim S1x32 (![] : Fin 0 → Fin S1x32.rank)
  reducesTo_S32x32_S32_d1 : S32x32.ReducesTo [1] S32
  slices_S288_S287_0 : S288.Slices ![0] S287
  bcast_S287_S287x1_0 : S287.BroadcastsInDim S287x1 (![0] : Fin 1 → Fin S287x1.rank)
  slices_S288_S287_1 : S288.Slices ![1] S287
  bcast_S_S288x1 : S_.BroadcastsInDim S288x1 (![] : Fin 0 → Fin S288x1.rank)
  slices_S288x1_S287x1_0_0 : S288x1.Slices ![0, 0] S287x1
  shapeCasts_S1_S_ : S1.ShapeCasts S_
  bcast_S_S287x1 : S_.BroadcastsInDim S287x1 (![] : Fin 0 → Fin S287x1.rank)
  slices_S288x32_S287x32_0_0 : S288x32.Slices ![0, 0] S287x32
  bcast_S287x1_S287x32_0_1 : S287x1.BroadcastsInDim S287x32 (![0, 1] : Fin 2 → Fin S287x32.rank)
  bcast_S1x32_S287x32_0_1 : S1x32.BroadcastsInDim S287x32 (![0, 1] : Fin 2 → Fin S287x32.rank)

variable [Facts]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_cumsum_0 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_0 (F := F) arg0
  v0

def fn_where_2 {F : FTy → Type} [FloatOps F] (arg0 : IVec S1 1) (arg1 : IVec S1 32) (arg2 : IVec S1 32) : IVec S1 32 :=
  let v0 : IVec S1 32 := select arg0 arg1 arg2
  v0

def fn_floor_divide_1 {F : FTy → Type} [FloatOps F] (arg0 : IVec S1 32) (arg1 : IVec S_ 32) : IVec S1 32 :=
  let v0 : IVec S_ 32 := id arg1
  let v1 : IVec S1 32 := broadcastInDim S1 ![] bcast_S_S1 v0
  let v2 : IVec S1 32 := Host.divsi arg0 v1
  let v3 : IVec S1 32 := signi arg0
  let v4 : IVec S_ 32 := signi v0
  let v5 : IVec S1 32 := broadcastInDim S1 ![] bcast_S_S1 v4
  let v6 : IVec S1 1 := cmpi .ne v3 v5
  let v7 : IVec S1 32 := broadcastInDim S1 ![] bcast_S_S1 v0
  let v8 : IVec S1 32 := Host.remsi arg0 v7
  let c : IVec S_ 32 := constantI S_ 32 0#32
  let v9 : IVec S1 32 := broadcastInDim S1 ![] bcast_S_S1 c
  let v10 : IVec S1 1 := cmpi .ne v8 v9
  let v11 : IVec S1 1 := andi v6 v10
  let c_0 : IVec S_ 32 := constantI S_ 32 1#32
  let v12 : IVec S1 32 := broadcastInDim S1 ![] bcast_S_S1 c_0
  let v13 : IVec S1 32 := subi v2 v12
  let v14 : IVec S1 32 := fn_where_2 (F := F) v11 v13 v2
  v14

def fn_argmax {F : FTy → Type} [FloatOps F] (arg0 : IVec S32x32 1) : IVec S32 32 :=
  let v0 : IVec S32x32 32 := iotaInDim S32x32 32 1
  let c : IVec S_ 1 := constantI S_ 1 0#1
  let c_0 : IVec S_ 32 := constantI S_ 32 0#32
  let v1_0 : IVec S32 1 := (fun x y u v j => (Host.reduce2 reducer_argmax_i1_i32 x y u v reducesTo_S32x32_S32_d1 h_S_ j).1) arg0 v0 c c_0
  let v1_1 : IVec S32 32 := (fun x y u v j => (Host.reduce2 reducer_argmax_i1_i32 x y u v reducesTo_S32x32_S32_d1 h_S_ j).2) arg0 v0 c c_0
  v1_1

def fn_part4 {F : FTy → Type} [FloatOps F] (main_v21 : IVec S1 32) (main_v37 : IVec S1x32 32) (main_v41 : IVec S288x32 1) (main_v42 : IVec S1x32 32) (main_v50 : IVec S288x1 32) (main_v55 : IVec S288 1) (main_v60 : IVec S1 1) (main_v65 : IVec S32 1) (main_v75 : IVec S287x32 1) (main_v78 : IVec S287x32 1) : IVec S288 1 × IVec S1 1 × IVec S32 1 × IVec S287x32 1 × IVec S288x32 1 :=
  let main_v79 : IVec S287x32 1 := ori main_v75 main_v78
  let main_v80 : IVec S_ 32 := shapeCast S_ main_v21 shapeCasts_S1_S_
  let main_v81 : IVec S288x1 32 := broadcastInDim S288x1 ![] bcast_S_S288x1 main_v80
  let main_v82 : IVec S288x1 1 := cmpi .ne main_v50 main_v81
  let main_v83 : IVec S288x32 1 := broadcastInDim S288x32 ![0, 1] bcast_S288x1_S288x32_0_1 main_v82
  let main_v84 : IVec S288x32 1 := ori main_v83 main_v41
  let main_v85 : IVec S1x32 1 := cmpi .eq main_v42 main_v37
  let main_v86 : IVec S288x32 1 := broadcastInDim S288x32 ![0, 1] bcast_S1x32_S288x32_0_1 main_v85
  let main_v87 : IVec S288x32 1 := ori main_v84 main_v86
  (main_v55, main_v60, main_v65, main_v79, main_v87)

def fn_part3 {F : FTy → Type} [FloatOps F] (main_v21 : IVec S1 32) (main_v35 : IVec S32 32) (main_v37 : IVec S1x32 32) (main_v41 : IVec S288x32 1) (main_v42 : IVec S1x32 32) (main_v44 : IVec S287x1 32) (main_v46 : IVec S287x1 32) (main_v50 : IVec S288x1 32) (main_v55 : IVec S288 1) (main_v57 : IVec S1 1) : IVec S288 1 × IVec S1 1 × IVec S32 1 × IVec S287x32 1 × IVec S288x32 1 :=
  let main_c_13 : IVec S_ 32 := constantI S_ 32 288#32
  let main_v58 : IVec S1 32 := broadcastInDim S1 ![] bcast_S_S1 main_c_13
  let main_v59 : IVec S1 1 := cmpi .sle main_v21 main_v58
  let main_v60 : IVec S1 1 := andi main_v57 main_v59
  let main_c_14 : IVec S_ 32 := constantI S_ 32 0#32
  let main_v61 : IVec S32 32 := broadcastInDim S32 ![] bcast_S_S32 main_c_14
  let main_v62 : IVec S32 1 := cmpi .sge main_v35 main_v61
  let main_c_15 : IVec S_ 32 := constantI S_ 32 32#32
  let main_v63 : IVec S32 32 := broadcastInDim S32 ![] bcast_S_S32 main_c_15
  let main_v64 : IVec S32 1 := cmpi .slt main_v35 main_v63
  let main_v65 : IVec S32 1 := andi main_v62 main_v64
  let main_v66 : IVec S287x1 32 := (extractStridedSlice S287x1 ![0, 0] · slices_S288x1_S287x1_0_0) main_v50
  let main_v67 : IVec S_ 32 := shapeCast S_ main_v21 shapeCasts_S1_S_
  let main_v68 : IVec S287x1 32 := broadcastInDim S287x1 ![] bcast_S_S287x1 main_v67
  let main_v69 : IVec S287x1 1 := cmpi .sge main_v66 main_v68
  let main_v70 : IVec S287x32 1 := (extractStridedSlice S287x32 ![0, 0] · slices_S288x32_S287x32_0_0) main_v41
  let main_v71 : IVec S287x32 1 := broadcastInDim S287x32 ![0, 1] bcast_S287x1_S287x32_0_1 main_v69
  let main_v72 : IVec S287x32 1 := ori main_v71 main_v70
  let main_v73 : IVec S287x1 1 := cmpi .eq main_v46 main_v44
  let main_v74 : IVec S287x32 1 := broadcastInDim S287x32 ![0, 1] bcast_S287x1_S287x32_0_1 main_v73
  let main_v75 : IVec S287x32 1 := ori main_v72 main_v74
  let main_v76 : IVec S287x32 32 := broadcastInDim S287x32 ![0, 1] bcast_S1x32_S287x32_0_1 main_v42
  let main_v77 : IVec S287x32 32 := broadcastInDim S287x32 ![0, 1] bcast_S287x1_S287x32_0_1 main_v46
  let main_v78 : IVec S287x32 1 := cmpi .eq main_v76 main_v77
  fn_part4 (F := F) main_v21 main_v37 main_v41 main_v42 main_v50 main_v55 main_v60 main_v65 main_v75 main_v78

def fn_part2 {F : FTy → Type} [FloatOps F] (main_v19 : IVec S288 32) (main_v21 : IVec S1 32) (main_v35 : IVec S32 32) (main_v37 : IVec S1x32 32) : IVec S288 1 × IVec S1 1 × IVec S32 1 × IVec S287x32 1 × IVec S288x32 1 :=
  let main_v38 : IVec S288x1 32 := broadcastInDim S288x1 ![0] bcast_S288_S288x1_0 main_v19
  let main_v39 : IVec S288x32 32 := broadcastInDim S288x32 ![0, 1] bcast_S288x1_S288x32_0_1 main_v38
  let main_v40 : IVec S288x32 32 := broadcastInDim S288x32 ![0, 1] bcast_S1x32_S288x32_0_1 main_v37
  let main_v41 : IVec S288x32 1 := cmpi .ne main_v39 main_v40
  let main_v42 : IVec S1x32 32 := broadcastInDim S1x32 ![1] bcast_S32_S1x32_1 main_v35
  let main_v43 : IVec S287 32 := (extractStridedSlice S287 ![0] · slices_S288_S287_0) main_v19
  let main_v44 : IVec S287x1 32 := broadcastInDim S287x1 ![0] bcast_S287_S287x1_0 main_v43
  let main_v45 : IVec S287 32 := (extractStridedSlice S287 ![1] · slices_S288_S287_1) main_v19
  let main_v46 : IVec S287x1 32 := broadcastInDim S287x1 ![0] bcast_S287_S287x1_0 main_v45
  let main_v47 : IVec S288 32 := iotaInDim S288 32 0
  let main_v48 : IVec S288x1 32 := broadcastInDim S288x1 ![0] bcast_S288_S288x1_0 main_v47
  let main_c_9 : IVec S_ 32 := constantI S_ 32 1#32
  let main_v49 : IVec S288x1 32 := broadcastInDim S288x1 ![] bcast_S_S288x1 main_c_9
  let main_v50 : IVec S288x1 32 := addi main_v48 main_v49
  let main_c_10 : IVec S_ 32 := constantI S_ 32 0#32
  let main_v51 : IVec S288 32 := broadcastInDim S288 ![] bcast_S_S288 main_c_10
  let main_v52 : IVec S288 1 := cmpi .sge main_v19 main_v51
  let main_c_11 : IVec S_ 32 := constantI S_ 32 32#32
  let main_v53 : IVec S288 32 := broadcastInDim S288 ![] bcast_S_S288 main_c_11
  let main_v54 : IVec S288 1 := cmpi .slt main_v19 main_v53
  let main_v55 : IVec S288 1 := andi main_v52 main_v54
  let main_c_12 : IVec S_ 32 := constantI S_ 32 1#32
  let main_v56 : IVec S1 32 := broadcastInDim S1 ![] bcast_S_S1 main_c_12
  let main_v57 : IVec S1 1 := cmpi .sge main_v21 main_v56
  fn_part3 (F := F) main_v21 main_v35 main_v37 main_v41 main_v42 main_v44 main_v46 main_v50 main_v55 main_v57

def fn_part1 {F : FTy → Type} [FloatOps F] (main_v6 : IVec S32 32) (main_v7 : IVec S32 32) (main_v17 : IVec S288 32) : IVec S288 1 × IVec S1 1 × IVec S32 1 × IVec S287x32 1 × IVec S288x32 1 :=
  let main_c_5 : IVec S_ 32 := constantI S_ 32 31#32
  let main_v18 : IVec S288 32 := broadcastInDim S288 ![] bcast_S_S288 main_c_5
  let main_v19 : IVec S288 32 := minsi main_v17 main_v18
  let main_v20 : IVec S1 32 := (extractStridedSlice S1 ![31] · slices_S32_S1_31) main_v7
  let main_c_6 : IVec S_ 32 := constantI S_ 32 512#32
  let main_v21 : IVec S1 32 := fn_floor_divide_1 (F := F) main_v20 main_c_6
  let main_v22 : IVec S32 32 := iotaInDim S32 32 0
  let main_v23 : IVec S1x32 32 := broadcastInDim S1x32 ![1] bcast_S32_S1x32_1 main_v22
  let main_v24 : IVec S32x1 32 := broadcastInDim S32x1 ![0] bcast_S32_S32x1_0 main_v22
  let main_v25 : IVec S32x32 32 := broadcastInDim S32x32 ![0, 1] bcast_S1x32_S32x32_0_1 main_v23
  let main_v26 : IVec S32x32 32 := broadcastInDim S32x32 ![0, 1] bcast_S32x1_S32x32_0_1 main_v24
  let main_v27 : IVec S32x32 1 := cmpi .sgt main_v25 main_v26
  let main_v28 : IVec S1x32 32 := broadcastInDim S1x32 ![1] bcast_S32_S1x32_1 main_v6
  let main_c_7 : IVec S_ 32 := constantI S_ 32 0#32
  let main_v29 : IVec S1x32 32 := broadcastInDim S1x32 ![] bcast_S_S1x32 main_c_7
  let main_v30 : IVec S1x32 1 := cmpi .sgt main_v28 main_v29
  let main_v31 : IVec S32x32 1 := broadcastInDim S32x32 ![0, 1] bcast_S1x32_S32x32_0_1 main_v30
  let main_v32 : IVec S32x32 1 := andi main_v27 main_v31
  let main_c_8 : IVec S_ 1 := constantI S_ 1 0#1
  let main_v33 : IVec S32 1 := (fun x v => Host.reduce IntOp.ori x v reducesTo_S32x32_S32_d1 h_S_) main_v32 main_c_8
  let main_v34 : IVec S32 32 := fn_argmax (F := F) main_v32
  let main_v35 : IVec S32 32 := fn_where (F := F) main_v33 main_v34 main_v22
  let main_v36 : IVec S32 32 := iotaInDim S32 32 0
  let main_v37 : IVec S1x32 32 := broadcastInDim S1x32 ![1] bcast_S32_S1x32_1 main_v36
  fn_part2 (F := F) main_v19 main_v21 main_v35 main_v37

def fn {F : FTy → Type} [FloatOps F] (main_arg0 : IVec S32 32) (main_arg1 : FVec F S147456x1024 .f32) (main_arg2 : FVec F S1x32x1024x1024 .f32) (main_arg3 : FVec F S1x32x1024 .f32) (main_arg4 : FVec F S1x32x1024x1024 .f32) (main_arg5 : FVec F S1x32x1024 .f32) (main_arg6 : FVec F S1x32x1024x1024 .f32) (main_arg7 : FVec F S1x32x1024 .f32) : IVec S288 1 × IVec S1 1 × IVec S32 1 × IVec S287x32 1 × IVec S288x32 1 :=
  let main_c : IVec S_ 32 := constantI S_ 32 512#32
  let main_v0 : IVec S32 32 := broadcastInDim S32 ![] bcast_S_S32 main_c
  let main_v1 : IVec S32 32 := addi main_arg0 main_v0
  let main_c_0 : IVec S_ 32 := constantI S_ 32 1#32
  let main_v2 : IVec S32 32 := broadcastInDim S32 ![] bcast_S_S32 main_c_0
  let main_v3 : IVec S32 32 := subi main_v1 main_v2
  let main_c_1 : IVec S_ 32 := constantI S_ 32 512#32
  let main_v4 : IVec S32 32 := fn_floor_divide (F := F) main_v3 main_c_1
  let main_c_2 : IVec S_ 32 := constantI S_ 32 512#32
  let main_v5 : IVec S32 32 := broadcastInDim S32 ![] bcast_S_S32 main_c_2
  let main_v6 : IVec S32 32 := muli main_v4 main_v5
  let main_v7 : IVec S32 32 := fn_cumsum (F := F) main_v6
  let main_v8 : IVec S288 32 := iotaInDim S288 32 0
  let main_c_3 : IVec S_ 32 := constantI S_ 32 512#32
  let main_v9 : IVec S288 32 := broadcastInDim S288 ![] bcast_S_S288 main_c_3
  let main_v10 : IVec S288 32 := muli main_v8 main_v9
  let main_v11 : IVec S1x32 32 := broadcastInDim S1x32 ![1] bcast_S32_S1x32_1 main_v7
  let main_v12 : IVec S288x1 32 := broadcastInDim S288x1 ![0] bcast_S288_S288x1_0 main_v10
  let main_v13 : IVec S288x32 32 := broadcastInDim S288x32 ![0, 1] bcast_S1x32_S288x32_0_1 main_v11
  let main_v14 : IVec S288x32 32 := broadcastInDim S288x32 ![0, 1] bcast_S288x1_S288x32_0_1 main_v12
  let main_v15 : IVec S288x32 1 := cmpi .sle main_v13 main_v14
  let main_v16 : IVec S288x32 32 := (extui 32 · natLt_1_32) main_v15
  let main_c_4 : IVec S_ 32 := constantI S_ 32 0#32
  let main_v17 : IVec S288 32 := (fun x v => Host.reduce IntOp.addi x v reducesTo_S288x32_S288_d1 h_S_) main_v16 main_c_4
  fn_part1 (F := F) main_v6 main_v7 main_v17
-- ==== Kernel.lean ====
abbrev S32768x1024 : Shape := ⟨2, ![32768, 1024]⟩
abbrev S32768x128 : Shape := ⟨2, ![32768, 128]⟩
abbrev S1x16x512 : Shape := ⟨3, ![1, 16, 512]⟩
abbrev S1x512 : Shape := ⟨2, ![1, 512]⟩
abbrev S1x256 : Shape := ⟨2, ![1, 256]⟩
abbrev S16x512 : Shape := ⟨2, ![16, 512]⟩
abbrev S_ : Shape := ⟨0, ![]⟩
abbrev S128x512 : Shape := ⟨2, ![128, 512]⟩
abbrev S512 : Shape := ⟨1, ![512]⟩
abbrev S256 : Shape := ⟨1, ![256]⟩
abbrev S1024x512 : Shape := ⟨2, ![1024, 512]⟩
abbrev S1024x1024 : Shape := ⟨2, ![1024, 1024]⟩
abbrev S1024x128 : Shape := ⟨2, ![1024, 128]⟩
abbrev S4x128x256 : Shape := ⟨3, ![4, 128, 256]⟩
abbrev S64x64 : Shape := ⟨2, ![64, 64]⟩
abbrev S128x128 : Shape := ⟨2, ![128, 128]⟩
abbrev S1x128 : Shape := ⟨2, ![1, 128]⟩
abbrev S16x64x128 : Shape := ⟨3, ![16, 64, 128]⟩
abbrev S16x1x128 : Shape := ⟨3, ![16, 1, 128]⟩
abbrev S64x256 : Shape := ⟨2, ![64, 256]⟩
abbrev S64x128 : Shape := ⟨2, ![64, 128]⟩
abbrev S128x256 : Shape := ⟨2, ![128, 256]⟩
abbrev S1x1x128 : Shape := ⟨3, ![1, 1, 128]⟩
abbrev S128 : Shape := ⟨1, ![128]⟩
abbrev S128x1 : Shape := ⟨2, ![128, 1]⟩
abbrev S1x128x256 : Shape := ⟨3, ![1, 128, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 16
  | .vmem => 16
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x128, .f32⟩
  | .hbm, ⟨3, _⟩ => ⟨S1x16x512, .f32⟩
  | .hbm, ⟨4, _⟩ => ⟨S1x512, .f32⟩
  | .hbm, ⟨5, _⟩ => ⟨S32768x1024, .bf16⟩
  | .hbm, ⟨6, _⟩ => ⟨S1x256, .f32⟩
  | .hbm, ⟨7, _⟩ => ⟨S16x512, .f32⟩
  | .hbm, ⟨8, _⟩ => ⟨S_, .i32⟩
  | .hbm, ⟨9, _⟩ => ⟨S_, .f32⟩
  | .hbm, ⟨10, _⟩ => ⟨S128x512, .f32⟩
  | .hbm, ⟨11, _⟩ => ⟨S512, .f32⟩
  | .hbm, ⟨12, _⟩ => ⟨S1x512, .f32⟩
  | .hbm, ⟨13, _⟩ => ⟨S256, .f32⟩
  | .hbm, ⟨14, _⟩ => ⟨S1x256, .f32⟩
  | .hbm, ⟨15, _⟩ => ⟨S32768x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x128, .f32⟩
  | .local _ .vmem, ⟨7, _⟩ => ⟨S1024x128, .f32⟩
  | .local _ .vmem, ⟨8, _⟩ => ⟨S128x512, .f32⟩
  | .local _ .vmem, ⟨9, _⟩ => ⟨S1x512, .f32⟩
  | .local _ .vmem, ⟨10, _⟩ => ⟨S1024x1024, .bf16⟩
  | .local _ .vmem, ⟨11, _⟩ => ⟨S1024x1024, .bf16⟩
  | .local _ .vmem, ⟨12, _⟩ => ⟨S1x256, .f32⟩
  | .local _ .vmem, ⟨13, _⟩ => ⟨S1024x1024, .bf16⟩
  | .local _ .vmem, ⟨14, _⟩ => ⟨S1024x1024, .bf16⟩
  | .local _ .vmem, ⟨15, _⟩ => ⟨S4x128x256, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S32768x1024 : Shape := ⟨2, ![32768, 1024]⟩
abbrev S32768x128 : Shape := ⟨2, ![32768, 128]⟩
abbrev S1x16x512 : Shape := ⟨3, ![1, 16, 512]⟩
abbrev S1x512 : Shape := ⟨2, ![1, 512]⟩
abbrev S1x256 : Shape := ⟨2, ![1, 256]⟩
abbrev S32768x512 : Shape := ⟨2, ![32768, 512]⟩
abbrev S32768x16 : Shape := ⟨2, ![32768, 16]⟩
abbrev S16x512 : Shape := ⟨2, ![16, 512]⟩
abbrev S512 : Shape := ⟨1, ![512]⟩
abbrev S_ : Shape := ⟨0, ![]⟩
abbrev S4x8192x4x128 : Shape := ⟨4, ![4, 8192, 4, 128]⟩
abbrev S4x8192x4x256 : Shape := ⟨4, ![4, 8192, 4, 256]⟩
abbrev S4x128x64x4x128 : Shape := ⟨5, ![4, 128, 64, 4, 128]⟩
abbrev S4x4x128x64x128 : Shape := ⟨5, ![4, 4, 128, 64, 128]⟩
abbrev S4x128x64x4x256 : Shape := ⟨5, ![4, 128, 64, 4, 256]⟩
abbrev S4x4x128x64x256 : Shape := ⟨5, ![4, 4, 128, 64, 256]⟩
abbrev S4x4x128x1x128 : Shape := ⟨5, ![4, 4, 128, 1, 128]⟩
abbrev S64x64 : Shape := ⟨2, ![64, 64]⟩
abbrev S4x4x128x64x64 : Shape := ⟨5, ![4, 4, 128, 64, 64]⟩
abbrev S4x4x128x128 : Shape := ⟨4, ![4, 4, 128, 128]⟩
abbrev S128x4x4x64x128 : Shape := ⟨5, ![128, 4, 4, 64, 128]⟩
abbrev S128x4x4x64x256 : Shape := ⟨5, ![128, 4, 4, 64, 256]⟩
abbrev S128x4x4x128 : Shape := ⟨4, ![128, 4, 4, 128]⟩
abbrev S4x4x128x256 : Shape := ⟨4, ![4, 4, 128, 256]⟩
abbrev S1x4x4x64x128 : Shape := ⟨5, ![1, 4, 4, 64, 128]⟩
abbrev S4x4x64x128 : Shape := ⟨4, ![4, 4, 64, 128]⟩
abbrev S1x4x4x64x256 : Shape := ⟨5, ![1, 4, 4, 64, 256]⟩
abbrev S4x4x64x256 : Shape := ⟨4, ![4, 4, 64, 256]⟩
abbrev S1x4x4x128 : Shape := ⟨4, ![1, 4, 4, 128]⟩
abbrev S4x4x128 : Shape := ⟨3, ![4, 4, 128]⟩
abbrev S4x4x128x1 : Shape := ⟨4, ![4, 4, 128, 1]⟩
abbrev S256 : Shape := ⟨1, ![256]⟩
abbrev S4x8192x4 : Shape := ⟨3, ![4, 8192, 4]⟩
abbrev S4x8192x4x1 : Shape := ⟨4, ![4, 8192, 4, 1]⟩
abbrev S1x1x1x256 : Shape := ⟨4, ![1, 1, 1, 256]⟩

abbrev nBuf : Space → Nat
  | .hbm => 166
  | .vmem => 0
  | .smem => 0
  | _ => 0

abbrev hbmTy0_0 (i : Nat) : BufTy := match i % 128 with
  | 0 => ⟨S32768x1024, .bf16⟩
  | 1 => ⟨S32768x1024, .bf16⟩
  | 2 => ⟨S32768x128, .f32⟩
  | 3 => ⟨S1x16x512, .f32⟩
  | 4 => ⟨S1x512, .f32⟩
  | 5 => ⟨S32768x1024, .bf16⟩
  | 6 => ⟨S1x256, .f32⟩
  | 7 => ⟨S32768x1024, .f32⟩
  | 8 => ⟨S32768x512, .f32⟩
  | 9 => ⟨S32768x512, .f32⟩
  | 10 => ⟨S32768x16, .f32⟩
  | 11 => ⟨S16x512, .f32⟩
  | 12 => ⟨S32768x512, .f32⟩
  | 13 => ⟨S512, .f32⟩
  | 14 => ⟨S1x512, .f32⟩
  | 15 => ⟨S32768x512, .f32⟩
  | 16 => ⟨S32768x512, .f32⟩
  | 17 => ⟨S32768x512, .f32⟩
  | 18 => ⟨S_, .f32⟩
  | 19 => ⟨S32768x512, .f32⟩
  | 20 => ⟨S32768x512, .f32⟩
  | 21 => ⟨S32768x512, .f32⟩
  | 22 => ⟨S32768x512, .f32⟩
  | 23 => ⟨S32768x512, .i1⟩
  | 24 => ⟨S32768x512, .f32⟩
  | 25 => ⟨S32768x512, .f32⟩
  | 26 => ⟨S32768x512, .f32⟩
  | 27 => ⟨S32768x512, .f32⟩
  | 28 => ⟨S32768x512, .f32⟩
  | 29 => ⟨S32768x512, .f32⟩
  | 30 => ⟨S32768x512, .f32⟩
  | 31 => ⟨S32768x512, .f32⟩
  | 32 => ⟨S32768x512, .f32⟩
  | 33 => ⟨S_, .f32⟩
  | 34 => ⟨S32768x512, .f32⟩
  | 35 => ⟨S32768x512, .f32⟩
  | 36 => ⟨S4x8192x4x128, .f32⟩
  | 37 => ⟨S4x8192x4x128, .f32⟩
  | 38 => ⟨S32768x1024, .f32⟩
  | 39 => ⟨S4x8192x4x256, .f32⟩
  | 40 => ⟨S4x8192x4x128, .f32⟩
  | 41 => ⟨S4x128x64x4x128, .f32⟩
  | 42 => ⟨S4x4x128x64x128, .f32⟩
  | 43 => ⟨S_, .f32⟩
  | 44 => ⟨S4x4x128x64x128, .f32⟩
  | 45 => ⟨S4x4x128x64x128, .f32⟩
  | 46 => ⟨S4x128x64x4x128, .f32⟩
  | 47 => ⟨S4x4x128x64x128, .f32⟩
  | 48 => ⟨S4x128x64x4x256, .f32⟩
  | 49 => ⟨S4x4x128x64x256, .f32⟩
  | 50 => ⟨S4x128x64x4x128, .f32⟩
  | 51 => ⟨S4x4x128x64x128, .f32⟩
  | 52 => ⟨S_, .f32⟩
  | 53 => ⟨S_, .f32⟩
  | 54 => ⟨S4x4x128x64x128, .f32⟩
  | 55 => ⟨S4x4x128x1x128, .f32⟩
  | 56 => ⟨S4x4x128x64x128, .f32⟩
  | 57 => ⟨S4x4x128x64x128, .f32⟩
  | 58 => ⟨S4x4x128x64x128, .f32⟩
  | 59 => ⟨S4x4x128x64x128, .f32⟩
  | 60 => ⟨S4x4x128x64x128, .f32⟩
  | 61 => ⟨S4x4x128x64x128, .f32⟩
  | 62 => ⟨S4x4x128x64x128, .f32⟩
  | 63 => ⟨S4x4x128x64x128, .f32⟩
  | 64 => ⟨S4x4x128x64x128, .f32⟩
  | 65 => ⟨S_, .i1⟩
  | 66 => ⟨S64x64, .i1⟩
  | 67 => ⟨S64x64, .i32⟩
  | 68 => ⟨S_, .i32⟩
  | 69 => ⟨S64x64, .i32⟩
  | 70 => ⟨S64x64, .i32⟩
  | 71 => ⟨S64x64, .i32⟩
  | 72 => ⟨S64x64, .i1⟩
  | 73 => ⟨S_, .i1⟩
  | 74 => ⟨S64x64, .i1⟩
  | 75 => ⟨S64x64, .i1⟩
  | 76 => ⟨S4x4x128x64x64, .f32⟩
  | 77 => ⟨S_, .i32⟩
  | 78 => ⟨S_, .f32⟩
  | 79 => ⟨S4x4x128x64x64, .i1⟩
  | 80 => ⟨S4x4x128x64x64, .f32⟩
  | 81 => ⟨S4x4x128x64x64, .f32⟩
  | 82 => ⟨S4x4x128x64x256, .f32⟩
  | 83 => ⟨S4x4x128x128, .f32⟩
  | 84 => ⟨S4x4x128x128, .f32⟩
  | 85 => ⟨S128x4x4x64x128, .f32⟩
  | 86 => ⟨S128x4x4x64x128, .f32⟩
  | 87 => ⟨S128x4x4x64x256, .f32⟩
  | 88 => ⟨S128x4x4x128, .f32⟩
  | 89 => ⟨S_, .f32⟩
  | 90 => ⟨S4x4x128x256, .f32⟩
  | 91 => ⟨S_, .f32⟩
  | 92 => ⟨S128x4x4x64x256, .f32⟩
  | 93 => ⟨S_, .i32⟩
  | 94 => ⟨S128x4x4x64x128, .f32⟩
  | 95 => ⟨S128x4x4x64x128, .f32⟩
  | 96 => ⟨S128x4x4x64x256, .f32⟩
  | 97 => ⟨S128x4x4x128, .f32⟩
  | 98 => ⟨S_, .i32⟩
  | 99 => ⟨S4x4x128x256, .f32⟩
  | 100 => ⟨S128x4x4x64x256, .f32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S1x4x4x64x128, .f32⟩
  | 108 => ⟨S4x4x64x128, .f32⟩
  | 109 => ⟨S_, .i32⟩
  | 110 => ⟨S_, .i32⟩
  | 111 => ⟨S_, .i32⟩
  | 112 => ⟨S_, .i32⟩
  | 113 => ⟨S1x4x4x64x128, .f32⟩
  | 114 => ⟨S4x4x64x128, .f32⟩
  | 115 => ⟨S_, .i32⟩
  | 116 => ⟨S_, .i32⟩
  | 117 => ⟨S_, .i32⟩
  | 118 => ⟨S_, .i32⟩
  | 119 => ⟨S1x4x4x64x256, .f32⟩
  | 120 => ⟨S4x4x64x256, .f32⟩
  | 121 => ⟨S_, .i32⟩
  | 122 => ⟨S_, .i32⟩
  | 123 => ⟨S_, .i32⟩
  | 124 => ⟨S1x4x4x128, .f32⟩
  | 125 => ⟨S4x4x128, .f32⟩
  | 126 => ⟨S4x4x64x256, .f32⟩
  | 127 => ⟨S4x4x128x1, .f32⟩
  | _ => ⟨S32768x1024, .bf16⟩

abbrev hbmTy0_1 (i : Nat) : BufTy := match i % 128 with
  | 0 => ⟨S4x4x128x256, .f32⟩
  | 1 => ⟨S4x4x128x256, .f32⟩
  | 2 => ⟨S4x4x128x256, .f32⟩
  | 3 => ⟨S4x4x128x256, .f32⟩
  | 4 => ⟨S1x4x4x64x256, .f32⟩
  | 5 => ⟨S_, .i32⟩
  | 6 => ⟨S_, .i32⟩
  | 7 => ⟨S_, .i32⟩
  | 8 => ⟨S_, .i32⟩
  | 9 => ⟨S128x4x4x64x256, .f32⟩
  | 10 => ⟨S_, .i32⟩
  | 11 => ⟨S_, .i32⟩
  | 12 => ⟨S4x4x128x64x256, .f32⟩
  | 13 => ⟨S4x4x128x64x256, .f32⟩
  | 14 => ⟨S4x128x64x4x256, .f32⟩
  | 15 => ⟨S4x8192x4x256, .f32⟩
  | 16 => ⟨S256, .f32⟩
  | 17 => ⟨S4x8192x4x256, .f32⟩
  | 18 => ⟨S_, .f32⟩
  | 19 => ⟨S4x8192x4, .f32⟩
  | 20 => ⟨S4x8192x4x1, .f32⟩
  | 21 => ⟨S_, .f32⟩
  | 22 => ⟨S4x8192x4x1, .f32⟩
  | 23 => ⟨S4x8192x4x1, .f32⟩
  | 24 => ⟨S_, .f32⟩
  | 25 => ⟨S4x8192x4x1, .f32⟩
  | 26 => ⟨S4x8192x4x1, .f32⟩
  | 27 => ⟨S4x8192x4x1, .f32⟩
  | 28 => ⟨S4x8192x4x256, .f32⟩
  | 29 => ⟨S4x8192x4x256, .f32⟩
  | 30 => ⟨S1x1x1x256, .f32⟩
  | 31 => ⟨S4x8192x4x256, .f32⟩
  | 32 => ⟨S4x8192x4x256, .f32⟩
  | 33 => ⟨S32768x1024, .f32⟩
  | 34 => ⟨S4x8192x4x256, .f32⟩
  | 35 => ⟨S4x8192x4x256, .f32⟩
  | 36 => ⟨S32768x1024, .f32⟩
  | 37 => ⟨S32768x1024, .bf16⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call1_call0_cst : Ref sig .tc := ⟨.hbm, 52, rfl⟩
abbrev main_call1_call0_v0 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c : Ref sig .tc := ⟨.hbm, 65, rfl⟩
abbrev main_v39 : Ref sig .tc := ⟨.hbm, 66, rfl⟩
abbrev main_call2_v0 : Ref sig .tc := ⟨.hbm, 67, rfl⟩
abbrev main_call2_c : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_c_0 : Ref sig .tc := ⟨.hbm, 73, rfl⟩
abbrev main_call2_v5 : Ref sig .tc := ⟨.hbm, 74, rfl⟩
abbrev main_v40 : Ref sig .tc := ⟨.hbm, 75, rfl⟩
abbrev main_v41 : Ref sig .tc := ⟨.hbm, 76, rfl⟩
abbrev main_c_1 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_2 : Ref sig .tc := ⟨.hbm, 89, rfl⟩
abbrev main_v50 : Ref sig .tc := ⟨.hbm, 90, rfl⟩
abbrev main_cst_3 : Ref sig .tc := ⟨.hbm, 91, rfl⟩
abbrev main_v51 : Ref sig .tc := ⟨.hbm, 92, rfl⟩
abbrev main_c_4 : Ref sig .tc := ⟨.hbm, 93, rfl⟩
abbrev main_v52_0 : Ref sig .tc := ⟨.hbm, 94, rfl⟩
abbrev main_v52_1 : Ref sig .tc := ⟨.hbm, 95, rfl⟩
abbrev main_v52_2 : Ref sig .tc := ⟨.hbm, 96, rfl⟩
abbrev main_v52_3 : Ref sig .tc := ⟨.hbm, 97, rfl⟩
abbrev main_v52_4 : Ref sig .tc := ⟨.hbm, 98, rfl⟩
abbrev main_v52_5 : Ref sig .tc := ⟨.hbm, 99, rfl⟩
abbrev main_v52_6 : Ref sig .tc := ⟨.hbm, 100, rfl⟩
abbrev main_while0c_c_14 : Ref sig .tc := ⟨.hbm, 101, rfl⟩
abbrev main_while0c_v76 : Ref sig .tc := ⟨.hbm, 102, rfl⟩
abbrev main_while0b_call4_c : Ref sig .tc := ⟨.hbm, 103, rfl⟩
abbrev main_while0b_call4_c_0 : Ref sig .tc := ⟨.hbm, 104, rfl⟩
abbrev main_while0b_call4_c_1 : Ref sig .tc := ⟨.hbm, 105, rfl⟩
abbrev main_while0b_call4_c_2 : Ref sig .tc := ⟨.hbm, 106, rfl⟩
abbrev main_while0b_call4_v0 : Ref sig .tc := ⟨.hbm, 107, rfl⟩
abbrev main_while0b_v76 : Ref sig .tc := ⟨.hbm, 108, rfl⟩
abbrev main_while0b_call5_c : Ref sig .tc := ⟨.hbm, 109, rfl⟩
abbrev main_while0b_call5_c_0 : Ref sig .tc := ⟨.hbm, 110, rfl⟩
abbrev main_while0b_call5_c_1 : Ref sig .tc := ⟨.hbm, 111, rfl⟩
abbrev main_while0b_call5_c_2 : Ref sig .tc := ⟨.hbm, 112, rfl⟩
abbrev main_while0b_call5_v0 : Ref sig .tc := ⟨.hbm, 113, rfl⟩
abbrev main_while0b_v77 : Ref sig .tc := ⟨.hbm, 114, rfl⟩
abbrev main_while0b_call6_c : Ref sig .tc := ⟨.hbm, 115, rfl⟩
abbrev main_while0b_call6_c_0 : Ref sig .tc := ⟨.hbm, 116, rfl⟩
abbrev main_while0b_call6_c_1 : Ref sig .tc := ⟨.hbm, 117, rfl⟩
abbrev main_while0b_call6_c_2 : Ref sig .tc := ⟨.hbm, 118, rfl⟩
abbrev main_while0b_call6_v0 : Ref sig .tc := ⟨.hbm, 119, rfl⟩
abbrev main_while0b_v78 : Ref sig .tc := ⟨.hbm, 120, rfl⟩
abbrev main_while0b_call7_c : Ref sig .tc := ⟨.hbm, 121, rfl⟩
abbrev main_while0b_call7_c_0 : Ref sig .tc := ⟨.hbm, 122, rfl⟩
abbrev main_while0b_call7_c_1 : Ref sig .tc := ⟨.hbm, 123, rfl⟩
abbrev main_while0b_call7_v0 : Ref sig .tc := ⟨.hbm, 124, rfl⟩
abbrev main_while0b_v79 : Ref sig .tc := ⟨.hbm, 125, rfl⟩
abbrev main_while0b_v80 : Ref sig .tc := ⟨.hbm, 126, rfl⟩
abbrev main_while0b_v81 : Ref sig .tc := ⟨.hbm, 127, rfl⟩
abbrev main_while0b_v82 : Ref sig .tc := ⟨.hbm, 128, rfl⟩
abbrev main_while0b_v83 : Ref sig .tc := ⟨.hbm, 129, rfl⟩
abbrev main_while0b_v84 : Ref sig .tc := ⟨.hbm, 130, rfl⟩
abbrev main_while0b_v85 : Ref sig .tc := ⟨.hbm, 131, rfl⟩
abbrev main_while0b_call8_v0 : Ref sig .tc := ⟨.hbm, 132, rfl⟩
abbrev main_while0b_call8_c : Ref sig .tc := ⟨.hbm, 133, rfl⟩
abbrev main_while0b_call8_c_0 : Ref sig .tc := ⟨.hbm, 134, rfl⟩
abbrev main_while0b_call8_c_1 : Ref sig .tc := ⟨.hbm, 135, rfl⟩
abbrev main_while0b_call8_c_2 : Ref sig .tc := ⟨.hbm, 136, rfl⟩
abbrev main_while0b_v86 : Ref sig .tc := ⟨.hbm, 137, rfl⟩
abbrev main_while0b_c_14 : Ref sig .tc := ⟨.hbm, 138, rfl⟩
abbrev main_while0b_v87 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_cst_5 : Ref sig .tc := ⟨.hbm, 146, rfl⟩
abbrev main_v59 : Ref sig .tc := ⟨.hbm, 147, rfl⟩
abbrev main_v60 : Ref sig .tc := ⟨.hbm, 148, rfl⟩
abbrev main_cst_6 : Ref sig .tc := ⟨.hbm, 149, rfl⟩
abbrev main_v61 : Ref sig .tc := ⟨.hbm, 150, rfl⟩
abbrev main_v62 : Ref sig .tc := ⟨.hbm, 151, rfl⟩
abbrev main_cst_7 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S4x8192x1024 : Shape := ⟨3, ![4, 8192, 1024]⟩
abbrev S1x1024 : Shape := ⟨2, ![1, 1024]⟩
abbrev S4x1024 : Shape := ⟨2, ![4, 1024]⟩
abbrev S1x1024x6672 : Shape := ⟨3, ![1, 1024, 6672]⟩
abbrev S32768x1024 : Shape := ⟨2, ![32768, 1024]⟩
abbrev S1024 : Shape := ⟨1, ![1024]⟩
abbrev S4x1x1024 : Shape := ⟨3, ![4, 1, 1024]⟩
abbrev S1024x6672 : Shape := ⟨2, ![1024, 6672]⟩
abbrev S1024x16 : Shape := ⟨2, ![1024, 16]⟩
abbrev S_ : Shape := ⟨0, ![]⟩
abbrev S1024x128 : Shape := ⟨2, ![1024, 128]⟩
abbrev S1024x3584 : Shape := ⟨2, ![1024, 3584]⟩
abbrev S1024x3072 : Shape := ⟨2, ![1024, 3072]⟩
abbrev S1024x6784 : Shape := ⟨2, ![1024, 6784]⟩
abbrev S4x8x64x8192 : Shape := ⟨4, ![4, 8, 64, 8192]⟩
abbrev S4x8x32x256x128 : Shape := ⟨5, ![4, 8, 32, 256, 128]⟩
abbrev S4x8x32x80x256 : Shape := ⟨5, ![4, 8, 32, 80, 256]⟩
abbrev S32768x128 : Shape := ⟨2, ![32768, 128]⟩
abbrev S32768x2048 : Shape := ⟨2, ![32768, 2048]⟩
abbrev S512x1024 : Shape := ⟨2, ![512, 1024]⟩
abbrev S1x1x1024 : Shape := ⟨3, ![1, 1, 1024]⟩
abbrev S1x8x64x512 : Shape := ⟨4, ![1, 8, 64, 512]⟩
abbrev S1x8x2x256x128 : Shape := ⟨5, ![1, 8, 2, 256, 128]⟩
abbrev S1x8x2x80x256 : Shape := ⟨5, ![1, 8, 2, 80, 256]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S256x128 : Shape := ⟨2, ![256, 128]⟩
abbrev S16x256 : Shape := ⟨2, ![16, 256]⟩
abbrev S64x512 : Shape := ⟨2, ![64, 512]⟩
abbrev S1x1x64x512 : Shape := ⟨4, ![1, 1, 64, 512]⟩
abbrev S1x1x1x256x128 : Shape := ⟨5, ![1, 1, 1, 256, 128]⟩
abbrev S64x256 : Shape := ⟨2, ![64, 256]⟩
abbrev S1x1x1x64x256 : Shape := ⟨5, ![1, 1, 1, 64, 256]⟩
abbrev S1x1x1x16x256 : Shape := ⟨5, ![1, 1, 1, 16, 256]⟩
abbrev S1024x1024 : Shape := ⟨2, ![1024, 1024]⟩
abbrev S1024x2048 : Shape := ⟨2, ![1024, 2048]⟩

abbrev nBuf : Space → Nat
  | .hbm => 27
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S4x1024, .f32⟩
  | .hbm, ⟨3, _⟩ => ⟨S4x1024, .f32⟩
  | .hbm, ⟨4, _⟩ => ⟨S1x1024x6672, .f32⟩
  | .hbm, ⟨5, _⟩ => ⟨S32768x1024, .f32⟩
  | .hbm, ⟨6, _⟩ => ⟨S1024, .f32⟩
  | .hbm, ⟨7, _⟩ => ⟨S4x1x1024, .f32⟩
  | .hbm, ⟨8, _⟩ => ⟨S4x1x1024, .f32⟩
  | .hbm, ⟨9, _⟩ => ⟨S1024x6672, .f32⟩
  | .hbm, ⟨10, _⟩ => ⟨S1024x6672, .bf16⟩
  | .hbm, ⟨11, _⟩ => ⟨S1024x16, .bf16⟩
  | .hbm, ⟨12, _⟩ => ⟨S_, .i32⟩
  | .hbm, ⟨13, _⟩ => ⟨S_, .bf16⟩
  | .hbm, ⟨14, _⟩ => ⟨S1024x128, .bf16⟩
  | .hbm, ⟨15, _⟩ => ⟨S1024x3584, .bf16⟩
  | .hbm, ⟨16, _⟩ => ⟨S1024x3072, .bf16⟩
  | .hbm, ⟨17, _⟩ => ⟨S1024x6784, .bf16⟩
  | .hbm, ⟨18, _⟩ => ⟨S1x1024, .f32⟩
  | .hbm, ⟨19, _⟩ => ⟨S4x8x64x8192, .bf16⟩
  | .hbm, ⟨20, _⟩ => ⟨S4x8x32x256x128, .bf16⟩
  | .hbm, ⟨21, _⟩ => ⟨S4x8x32x80x256, .bf16⟩
  | .hbm, ⟨22, _⟩ => ⟨S32768x1024, .bf16⟩
  | .hbm, ⟨23, _⟩ => ⟨S32768x1024, .bf16⟩
  | .hbm, ⟨24, _⟩ => ⟨S32768x128, .f32⟩
  | .hbm, ⟨25, _⟩ => ⟨S32768x1024, .bf16⟩
  | .hbm, ⟨26, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x6784, .bf16⟩
  | .local _ .vmem, ⟨8, _⟩ => ⟨S1x8x64x512, .bf16⟩
  | .local _ .vmem, ⟨9, _⟩ => ⟨S1x8x64x512, .bf16⟩
  | .local _ .vmem, ⟨10, _⟩ => ⟨S1x8x2x256x128, .bf16⟩
  | .local _ .vmem, ⟨11, _⟩ => ⟨S1x8x2x256x128, .bf16⟩
  | .local _ .vmem, ⟨12, _⟩ => ⟨S1x8x2x80x256, .bf16⟩
  | .local _ .vmem, ⟨13, _⟩ => ⟨S1x8x2x80x256, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x128, .f32⟩
  | .local _ .vmem, ⟨19, _⟩ => ⟨S512x128, .f32⟩
  | .local _ .vmem, ⟨20, _⟩ => ⟨S512x1024, .bf16⟩
  | .local _ .vmem, ⟨21, _⟩ => ⟨S512x1024, .bf16⟩
  | .local _ .vmem, ⟨22, _⟩ => ⟨S512x2048, .bf16⟩
  | .local _ .vmem, ⟨23, _⟩ => ⟨S512x2048, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev main_v12_5 : Ref sig .tc := ⟨.hbm, 24, rfl⟩
abbrev main_v12_6 : Ref sig .tc := ⟨.hbm, 25, rfl⟩
abbrev main_v12_7 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_6 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_7 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x6784 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x2x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x2x80x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S4x8192x1024 : Shape := ⟨3, ![4, 8192, 1024]⟩
abbrev S1x1024 : Shape := ⟨2, ![1, 1024]⟩
abbrev S4x1024 : Shape := ⟨2, ![4, 1024]⟩
abbrev S1x1024x6672 : Shape := ⟨3, ![1, 1024, 6672]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S1024x6672 : Shape := ⟨2, ![1024, 6672]⟩
abbrev S4x8192x6672 : Shape := ⟨3, ![4, 8192, 6672]⟩
abbrev S4x8192x512 : Shape := ⟨3, ![4, 8192, 512]⟩
abbrev S4x8192x16 : Shape := ⟨3, ![4, 8192, 16]⟩
abbrev S4x8192x2048 : Shape := ⟨3, ![4, 8192, 2048]⟩
abbrev S4x8192x8x64 : Shape := ⟨4, ![4, 8192, 8, 64]⟩
abbrev S4x8x8192x64 : Shape := ⟨4, ![4, 8, 8192, 64]⟩
abbrev S4x8x64x8192 : Shape := ⟨4, ![4, 8, 64, 8192]⟩
abbrev S32 : Shape := ⟨1, ![32]⟩
abbrev S32x1 : Shape := ⟨2, ![32, 1]⟩
abbrev S64 : Shape := ⟨1, ![64]⟩
abbrev S1x64 : Shape := ⟨2, ![1, 64]⟩
abbrev S32x64 : Shape := ⟨2, ![32, 64]⟩
abbrev S1x1x32x1x64 : Shape := ⟨5, ![1, 1, 32, 1, 64]⟩
abbrev S4x8x32x256x64 : Shape := ⟨5, ![4, 8, 32, 256, 64]⟩
abbrev S4x8x32x256x128 : Shape := ⟨5, ![4, 8, 32, 256, 128]⟩
abbrev S4x8x32x1x256 : Shape := ⟨5, ![4, 8, 32, 1, 256]⟩
abbrev S4x8x32x15x256 : Shape := ⟨5, ![4, 8, 32, 15, 256]⟩
abbrev S4x8x32x64x256 : Shape := ⟨5, ![4, 8, 32, 64, 256]⟩
abbrev S4x8x32x80x256 : Shape := ⟨5, ![4, 8, 32, 80, 256]⟩
abbrev S32768x16 : Shape := ⟨2, ![32768, 16]⟩
abbrev S32768x128 : Shape := ⟨2, ![32768, 128]⟩
abbrev S32768x1024 : Shape := ⟨2, ![32768, 1024]⟩
abbrev S32768x2048 : Shape := ⟨2, ![32768, 2048]⟩

abbrev nBuf : Space → Nat
  | .hbm => 109
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S4x1024, .f32⟩
  | .hbm, ⟨3, _⟩ => ⟨S4x1024, .f32⟩
  | .hbm, ⟨4, _⟩ => ⟨S1x1024x6672, .f32⟩
  | .hbm, ⟨5, _⟩ => ⟨S1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x1x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x8192x1024, .f32⟩
  | .hbm, ⟨27, _⟩ => ⟨S4x8192x1024, .f32⟩
  | .hbm, ⟨28, _⟩ => ⟨S4x1x1024, .f32⟩
  | .hbm, ⟨29, _⟩ => ⟨S4x8192x1024, .f32⟩
  | .hbm, ⟨30, _⟩ => ⟨S4x8192x1024, .f32⟩
  | .hbm, ⟨31, _⟩ => ⟨S1024x6672, .f32⟩
  | .hbm, ⟨32, _⟩ => ⟨S4x8192x6672, .f32⟩
  | .hbm, ⟨33, _⟩ => ⟨S4x8192x512, .f32⟩
  | .hbm, ⟨34, _⟩ => ⟨S4x8192x512, .f32⟩
  | .hbm, ⟨35, _⟩ => ⟨S4x8192x512, .f32⟩
  | .hbm, ⟨36, _⟩ => ⟨S4x8192x512, .f32⟩
  | .hbm, ⟨37, _⟩ => ⟨S4x8192x512, .f32⟩
  | .hbm, ⟨38, _⟩ => ⟨S4x8192x1024, .f32⟩
  | .hbm, ⟨39, _⟩ => ⟨S4x8192x16, .f32⟩
  | .hbm, ⟨40, _⟩ => ⟨S4x8192x1024, .f32⟩
  | .hbm, ⟨41, _⟩ => ⟨S4x8192x2048, .f32⟩
  | .hbm, ⟨42, _⟩ => ⟨S4x8192x8x64, .f32⟩
  | .hbm, ⟨43, _⟩ => ⟨S4x8x8192x64, .f32⟩
  | .hbm, ⟨44, _⟩ => ⟨S_, .f32⟩
  | .hbm, ⟨45, _⟩ => ⟨S4x8x8192x64, .f32⟩
  | .hbm, ⟨46, _⟩ => ⟨S4x8x8192x64, .f32⟩
  | .hbm, ⟨47, _⟩ => ⟨S4x8x64x8192, .f32⟩
  | .hbm, ⟨48, _⟩ => ⟨S32, .i32⟩
  | .hbm, ⟨49, _⟩ => ⟨S32x1, .i32⟩
  | .hbm, ⟨50, _⟩ => ⟨S64, .i32⟩
  | .hbm, ⟨51, _⟩ => ⟨S1x64, .i32⟩
  | .hbm, ⟨52, _⟩ => ⟨S32x64, .i32⟩
  | .hbm, ⟨53, _⟩ => ⟨S32x64, .i32⟩
  | .hbm, ⟨54, _⟩ => ⟨S32x64, .i1⟩
  | .hbm, ⟨55, _⟩ => ⟨S_, .f32⟩
  | .hbm, ⟨56, _⟩ => ⟨S_, .f32⟩
  | .hbm, ⟨57, _⟩ => ⟨S32x64, .f32⟩
  | .hbm, ⟨58, _⟩ => ⟨S32x64, .f32⟩
  | .hbm, ⟨59, _⟩ => ⟨S32x64, .f32⟩
  | .hbm, ⟨60, _⟩ => ⟨S1x1x32x1x64, .f32⟩
  | .hbm, ⟨61, _⟩ => ⟨S4x8x32x256x64, .f32⟩
  | .hbm, ⟨62, _⟩ => ⟨S4x8192x8x64, .f32⟩
  | .hbm, ⟨63, _⟩ => ⟨S4x8x8192x64, .f32⟩
  | .hbm, ⟨64, _⟩ => ⟨S4x8x32x256x64, .f32⟩
  | .hbm, ⟨65, _⟩ => ⟨S4x8x32x256x64, .f32⟩
  | .hbm, ⟨66, _⟩ => ⟨S4x8x32x256x128, .f32⟩
  | .hbm, ⟨67, _⟩ => ⟨S_, .f32⟩
  | .hbm, ⟨68, _⟩ => ⟨S4x8x32x1x256, .f32⟩
  | .hbm, ⟨69, _⟩ => ⟨S_, .f32⟩
  | .hbm, ⟨70, _⟩ => ⟨S4x8x32x15x256, .f32⟩
  | .hbm, ⟨71, _⟩ => ⟨S4x8192x8x64, .f32⟩
  | .hbm, ⟨72, _⟩ => ⟨S4x8x8192x64, .f32⟩
  | .hbm, ⟨73, _⟩ => ⟨S4x8x32x256x64, .f32⟩
  | .hbm, ⟨74, _⟩ => ⟨S4x8x32x64x256, .f32⟩
  | .hbm, ⟨75, _⟩ => ⟨S4x8x32x80x256, .f32⟩
  | .hbm, ⟨76, _⟩ => ⟨S32768x16, .f32⟩
  | .hbm, ⟨77, _⟩ => ⟨S_, .i32⟩
  | .hbm, ⟨78, _⟩ => ⟨S_, .f32⟩
  | .hbm, ⟨79, _⟩ => ⟨S32768x128, .f32⟩
  | .hbm, ⟨80, _⟩ => ⟨S4x8x64x8192, .bf16⟩
  | .hbm, ⟨81, _⟩ => ⟨S4x8x32x256x128, .bf16⟩
  | .hbm, ⟨82, _⟩ => ⟨S4x8x32x80x256, .bf16⟩
  | .hbm, ⟨83, _⟩ => ⟨S4x8192x1024, .f32⟩
  | .hbm, ⟨84, _⟩ => ⟨S32768x1024, .f32⟩
  | .hbm, ⟨85, _⟩ => ⟨S32768x1024, .bf16⟩
  | .hbm, ⟨86, _⟩ => ⟨S32768x1024, .f32⟩
  | .hbm, ⟨87, _⟩ => ⟨S32768x1024, .bf16⟩
  | .hbm, ⟨88, _⟩ => ⟨S4x8192x1024, .f32⟩
  | .hbm, ⟨89, _⟩ => ⟨S4x8192x1024, .f32⟩
  | .hbm, ⟨90, _⟩ => ⟨S_, .f32⟩
  | .hbm, ⟨91, _⟩ => ⟨S4x8192x1024, .f32⟩
  | .hbm, ⟨92, _⟩ => ⟨S4x8192x1024, .f32⟩
  | .hbm, ⟨93, _⟩ => ⟨S_, .f32⟩
  | .hbm, ⟨94, _⟩ => ⟨S4x8192x1024, .f32⟩
  | .hbm, ⟨95, _⟩ => ⟨S4x8192x1024, .f32⟩
  | .hbm, ⟨96, _⟩ => ⟨S4x8192x1024, .f32⟩
  | .hbm, ⟨97, _⟩ => ⟨S32768x1024, .f32⟩
  | .hbm, ⟨98, _⟩ => ⟨S32768x1024, .bf16⟩
  | .hbm, ⟨99, _⟩ => ⟨S4x8192x2048, .f32⟩
  | .hbm, ⟨100, _⟩ => ⟨S4x8192x2048, .f32⟩
  | .hbm, ⟨101, _⟩ => ⟨S_, .f32⟩
  | .hbm, ⟨102, _⟩ => ⟨S4x8192x2048, .f32⟩
  | .hbm, ⟨103, _⟩ => ⟨S4x8192x2048, .f32⟩
  | .hbm, ⟨104, _⟩ => ⟨S_, .f32⟩
  | .hbm, ⟨105, _⟩ => ⟨S4x8192x2048, .f32⟩
  | .hbm, ⟨106, _⟩ => ⟨S4x8192x2048, .f32⟩
  | .hbm, ⟨107, _⟩ => ⟨S32768x2048, .f32⟩
  | .hbm, ⟨108, _⟩ => ⟨S32768x2048, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_cst_5 : Ref sig .tc := ⟨.hbm, 56, rfl⟩
abbrev main_call0_v0 : Ref sig .tc := ⟨.hbm, 57, rfl⟩
abbrev main_call0_v1 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_c : Ref sig .tc := ⟨.hbm, 77, rfl⟩
abbrev main_call1_v0 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_call2_v0 : Ref sig .tc := ⟨.hbm, 88, rfl⟩
abbrev main_call2_v1 : Ref sig .tc := ⟨.hbm, 89, rfl⟩
abbrev main_call2_cst : Ref sig .tc := ⟨.hbm, 90, rfl⟩
abbrev main_call2_v2 : Ref sig .tc := ⟨.hbm, 91, rfl⟩
abbrev main_call2_v3 : Ref sig .tc := ⟨.hbm, 92, rfl⟩
abbrev main_call2_cst_0 : Ref sig .tc := ⟨.hbm, 93, rfl⟩
abbrev main_call2_v4 : Ref sig .tc := ⟨.hbm, 94, rfl⟩
abbrev main_call2_v5 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_8 : Ref sig .tc := ⟨.hbm, 101, rfl⟩
abbrev main_v75 : Ref sig .tc := ⟨.hbm, 102, rfl⟩
abbrev main_v76 : Ref sig .tc := ⟨.hbm, 103, rfl⟩
abbrev main_cst_9 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩

abbrev nD : Nat := 1
abbrev τ : Topo := Topo.v7x

variable {F : FTy → Type} [FloatOps F]
-- ==== Kernel3.lean ====
abbrev S32 : Shape := ⟨1, ![32]⟩
abbrev S147456x1024 : Shape := ⟨2, ![147456, 1024]⟩
abbrev S1x32x1024x1024 : Shape := ⟨4, ![1, 32, 1024, 1024]⟩
abbrev S1x32x1024 : Shape := ⟨3, ![1, 32, 1024]⟩
abbrev S147456x512 : Shape := ⟨2, ![147456, 512]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S1 : Shape := ⟨1, ![1]⟩
abbrev S32x1 : Shape := ⟨2, ![32, 1]⟩
abbrev S32x32 : Shape := ⟨2, ![32, 32]⟩
abbrev S589824x128 : Shape := ⟨2, ![589824, 128]⟩
abbrev S32x1024x1024 : Shape := ⟨3, ![32, 1024, 1024]⟩
abbrev S32x1024 : Shape := ⟨2, ![32, 1024]⟩
abbrev S32x1x1024 : Shape := ⟨3, ![32, 1, 1024]⟩
abbrev S32x3x1024 : Shape := ⟨3, ![32, 3, 1024]⟩
abbrev S2048x128 : Shape := ⟨2, ![2048, 128]⟩
abbrev S1x3x1024 : Shape := ⟨3, ![1, 3, 1024]⟩
abbrev S1024x1024 : Shape := ⟨2, ![1024, 1024]⟩
abbrev S1x1024x1024 : Shape := ⟨3, ![1, 1024, 1024]⟩
abbrev S512x128 : Shape := ⟨2, ![512, 128]⟩
abbrev S512x512 : Shape := ⟨2, ![512, 512]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 109
  | .vmem => 16
  | .smem => 3
  | _ => 0

abbrev bufTy : (tb : Table) → Fin (tcTables nBuf tb) → BufTy
  | .hbm, ⟨0, _⟩ => ⟨S32, .i32⟩
  | .hbm, ⟨1, _⟩ => ⟨S147456x1024, .f32⟩
  | .hbm, ⟨2, _⟩ => ⟨S1x32x1024x1024, .f32⟩
  | .hbm, ⟨3, _⟩ => ⟨S1x32x1024, .f32⟩
  | .hbm, ⟨4, _⟩ => ⟨S1x32x1024x1024, .f32⟩
  | .hbm, ⟨5, _⟩ => ⟨S1x32x1024, .f32⟩
  | .hbm, ⟨6, _⟩ => ⟨S1x32x1024x1024, .f32⟩
  | .hbm, ⟨7, _⟩ => ⟨S1x32x1024, .f32⟩
  | .hbm, ⟨8, _⟩ => ⟨S147456x512, .f32⟩
  | .hbm, ⟨9, _⟩ => ⟨S147456x512, .bf16⟩
  | .hbm, ⟨10, _⟩ => ⟨S147456x512, .f32⟩
  | .hbm, ⟨11, _⟩ => ⟨S147456x512, .f32⟩
  | .hbm, ⟨12, _⟩ => ⟨S147456x512, .bf16⟩
  | .hbm, ⟨13, _⟩ => ⟨S147456x512, .f32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S_, .i32⟩
  | .hbm, ⟨22, _⟩ => ⟨S32, .i32⟩
  | .hbm, ⟨23, _⟩ => ⟨S32, .i32⟩
  | .hbm, ⟨24, _⟩ => ⟨S32, .i32⟩
  | .hbm, ⟨25, _⟩ => ⟨S_, .i32⟩
  | .hbm, ⟨26, _⟩ => ⟨S32, .i32⟩
  | .hbm, ⟨27, _⟩ => ⟨S32, .i1⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i1⟩
  | .hbm, ⟨33, _⟩ => ⟨S32, .i1⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S32, .i32⟩
  | .hbm, ⟨38, _⟩ => ⟨S_, .i32⟩
  | .hbm, ⟨39, _⟩ => ⟨S32, .i32⟩
  | .hbm, ⟨40, _⟩ => ⟨S32, .i32⟩
  | .hbm, ⟨41, _⟩ => ⟨S_, .i32⟩
  | .hbm, ⟨42, _⟩ => ⟨S_, .i32⟩
  | .hbm, ⟨43, _⟩ => ⟨S32, .i32⟩
  | .hbm, ⟨44, _⟩ => ⟨S288, .i32⟩
  | .hbm, ⟨45, _⟩ => ⟨S_, .i32⟩
  | .hbm, ⟨46, _⟩ => ⟨S288, .i32⟩
  | .hbm, ⟨47, _⟩ => ⟨S288, .i32⟩
  | .hbm, ⟨48, _⟩ => ⟨S1x32, .i32⟩
  | .hbm, ⟨49, _⟩ => ⟨S288x1, .i32⟩
  | .hbm, ⟨50, _⟩ => ⟨S288x32, .i32⟩
  | .hbm, ⟨51, _⟩ => ⟨S288x32, .i32⟩
  | .hbm, ⟨52, _⟩ => ⟨S288x32, .i1⟩
  | .hbm, ⟨53, _⟩ => ⟨S288x32, .i32⟩
  | .hbm, ⟨54, _⟩ => ⟨S_, .i32⟩
  | .hbm, ⟨55, _⟩ => ⟨S288, .i32⟩
  | .hbm, ⟨56, _⟩ => ⟨S_, .i32⟩
  | .hbm, ⟨57, _⟩ => ⟨S288, .i32⟩
  | .hbm, ⟨58, _⟩ => ⟨S1, .i32⟩
  | .hbm, ⟨59, _⟩ => ⟨S_, .i32⟩
  | .hbm, ⟨60, _⟩ => ⟨S_, .i32⟩
  | .hbm, ⟨61, _⟩ => ⟨S1, .i32⟩
  | .hbm, ⟨62, _⟩ => ⟨S1, .i32⟩
  | .hbm, ⟨63, _⟩ => ⟨S1, .i32⟩
  | .hbm, ⟨64, _⟩ => ⟨S_, .i32⟩
  | .hbm, ⟨65, _⟩ => ⟨S1, .i32⟩
  | .hbm, ⟨66, _⟩ => ⟨S1, .i1⟩
  | .hbm, ⟨67, _⟩ => ⟨S1, .i32⟩
  | .hbm, ⟨68, _⟩ => ⟨S1, .i32⟩
  | .hbm, ⟨69, _⟩ => ⟨S_, .i32⟩
  | .hbm, ⟨70, _⟩ => ⟨S1, .i32⟩
  | .hbm, ⟨71, _⟩ => ⟨S1, .i1⟩
  | .hbm, ⟨72, _⟩ => ⟨S1, .i1⟩
  | .hbm, ⟨73, _⟩ => ⟨S_, .i32⟩
  | .hbm, ⟨74, _⟩ => ⟨S1, .i32⟩
  | .hbm, ⟨75, _⟩ => ⟨S1, .i32⟩
  | .hbm, ⟨76, _⟩ => ⟨S32, .i32⟩
  | .hbm, ⟨77, _⟩ => ⟨S1x32, .i32⟩
  | .hbm, ⟨78, _⟩ => ⟨S32x1, .i32⟩
  | .hbm, ⟨79, _⟩ => ⟨S32x32, .i32⟩
  | .hbm, ⟨80, _⟩ => ⟨S32x32, .i32⟩
  | .hbm, ⟨81, _⟩ => ⟨S32x32, .i1⟩
  | .hbm, ⟨82, _⟩ => ⟨S1x32, .i32⟩
  | .hbm, ⟨83, _⟩ => ⟨S_, .i32⟩
  | .hbm, ⟨84, _⟩ => ⟨S1x32, .i32⟩
  | .hbm, ⟨85, _⟩ => ⟨S1x32, .i1⟩
  | .hbm, ⟨86, _⟩ => ⟨S32x32, .i1⟩
  | .hbm, ⟨87, _⟩ => ⟨S32x32, .i1⟩
  | .hbm, ⟨88, _⟩ => ⟨S_, .i1⟩
  | .hbm, ⟨89, _⟩ => ⟨S32, .i1⟩
  | .hbm, ⟨90, _⟩ => ⟨S32x32, .i32⟩
  | .hbm, ⟨91, _⟩ => ⟨S_, .i1⟩
  | .hbm, ⟨92, _⟩ => ⟨S_, .i32⟩
  | .hbm, ⟨93, _⟩ => ⟨S32, .i1⟩
  | .hbm, ⟨94, _⟩ => ⟨S32, .i32⟩
  | .hbm, ⟨95, _⟩ => ⟨S589824x128, .f32⟩
  | .hbm, ⟨96, _⟩ => ⟨S589824x128, .f32⟩
  | .hbm, ⟨97, _⟩ => ⟨S32x1024x1024, .f32⟩
  | .hbm, ⟨98, _⟩ => ⟨S32x1024, .f32⟩
  | .hbm, ⟨99, _⟩ => ⟨S32x1024x1024, .f32⟩
  | .hbm, ⟨100, _⟩ => ⟨S32x1024, .f32⟩
  | .hbm, ⟨101, _⟩ => ⟨S32x1024x1024, .f32⟩
  | .hbm, ⟨102, _⟩ => ⟨S32x1024, .f32⟩
  | .hbm, ⟨103, _⟩ => ⟨S32x1x1024, .f32⟩
  | .hbm, ⟨104, _⟩ => ⟨S32x1x1024, .f32⟩
  | .hbm, ⟨105, _⟩ => ⟨S32x1x1024, .f32⟩
  | .hbm, ⟨106, _⟩ => ⟨S32x3x1024, .f32⟩
  | .hbm, ⟨107, _⟩ => ⟨S589824x128, .f32⟩
  | .hbm, ⟨108, _⟩ => ⟨S589824x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x3x1024, .f32⟩
  | .local _ .vmem, ⟨5, _⟩ => ⟨S1x3x1024, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .smem, ⟨0, _⟩ => ⟨S288, .i32⟩
  | .local _ .smem, ⟨1, _⟩ => ⟨S1, .i32⟩
  | .local _ .smem, ⟨2, _⟩ => ⟨S32, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v10 : Ref sig .tc := ⟨.hbm, 37, rfl⟩
abbrev main_c_2 : Ref sig .tc := ⟨.hbm, 38, rfl⟩
abbrev main_v11 : Ref sig .tc := ⟨.hbm, 39, rfl⟩
abbrev main_v12 : Ref sig .tc := ⟨.hbm, 40, rfl⟩
abbrev main_call1_call0_c : Ref sig .tc := ⟨.hbm, 41, rfl⟩
abbrev main_call1_call0_v0 : Ref sig .tc := ⟨.hbm, 42, rfl⟩
abbrev main_v13 : Ref sig .tc := ⟨.hbm, 43, rfl⟩
abbrev main_v14 : Ref sig .tc := ⟨.hbm, 44, rfl⟩
abbrev main_c_3 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_4 : Ref sig .tc := ⟨.hbm, 54, rfl⟩
abbrev main_v23 : Ref sig .tc := ⟨.hbm, 55, rfl⟩
abbrev main_c_5 : Ref sig .tc := ⟨.hbm, 56, rfl⟩
abbrev main_v24 : Ref sig .tc := ⟨.hbm, 57, rfl⟩
abbrev main_v26 : Ref sig .tc := ⟨.hbm, 58, rfl⟩
abbrev main_c_6 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_c : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_0 : Ref sig .tc := ⟨.hbm, 73, rfl⟩
abbrev main_call2_v12 : Ref sig .tc := ⟨.hbm, 74, rfl⟩
abbrev main_call2_v13 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_c_7 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_c_8 : Ref sig .tc := ⟨.hbm, 88, rfl⟩
abbrev main_v39 : Ref sig .tc := ⟨.hbm, 89, rfl⟩
abbrev main_call3_v0 : Ref sig .tc := ⟨.hbm, 90, rfl⟩
abbrev main_call3_c : Ref sig .tc := ⟨.hbm, 91, rfl⟩
abbrev main_call3_c_0 : Ref sig .tc := ⟨.hbm, 92, rfl⟩
abbrev main_call3_v1_0 : Ref sig .tc := ⟨.hbm, 93, rfl⟩
abbrev main_v40 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54_0 : Ref sig .tc := ⟨.hbm, 107, rfl⟩
abbrev main_v54_1 : Ref sig .tc := ⟨.hbm, 108, rfl⟩
abbrev main_v25 : Ref sig .tc := ⟨.smem, 0, rfl⟩
abbrev main_v27 : Ref sig .tc := ⟨.smem, 1, rfl⟩
abbrev main_v41 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_v25.idx, main_v27.idx, main_v41.idx], fun | 0 => main_v25.names | 1 => main_v27.names | 2 => main_v41.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond1 (i : grid0.Coords) : BitVec 1 :=
  let arg0 : BitVec 32 := BitVec.ofNat 32 (i 0).val
  let c0_i32_1 : BitVec 32 := 0#32
  let v12 : BitVec 1 := Scalar.cmpi .eq arg0 c0_i32_1
  let v13 : BitVec 32 := Scalar.extui v12
  let c0_i32_2 : BitVec 32 := 0#32
  let v14 : BitVec 1 := Scalar.cmpi .ne v13 c0_i32_2
  v14

def k0_off3 (v1 : BitVec 32) : Fin 3 → Nat :=
  let c0_i32_8 : BitVec 32 := 0#32
  let c0_i32_9 : BitVec 32 := 0#32
  ![v1.toNat, 0, 0]

def k0_off4 (v1 : BitVec 32) : Fin 3 → Nat :=
  let c0_i32_8 : BitVec 32 := 0#32
  let c0_i32_9 : BitVec 32 := 0#32
  ![v1.toNat, 0, 0]
def k0_cond2 (i : grid0.Coords) (v1 : BitVec 32) (v2 : BitVec 32) (v8 : BitVec 32) : BitVec 1 :=
  let arg0 : BitVec 32 := BitVec.ofNat 32 (i 0).val
  let v3 : BitVec 1 := Scalar.cmpi .slt arg0 v2
  let c0_i32 : BitVec 32 := 0#32
  let v4 : BitVec 1 := Scalar.cmpi .eq arg0 c0_i32
  let v9 : BitVec 1 := Scalar.cmpi .ne v1 v8
  let v10 : BitVec 1 := Scalar.ori v4 v9
  let v11 : BitVec 1 := Scalar.andi v3 v10
  let v15 : BitVec 32 := Scalar.extui v11
  let c0_i32_3 : BitVec 32 := 0#32
  let v16 : BitVec 1 := Scalar.cmpi .ne v15 c0_i32_3
  v16

def k0_chk2 (i : grid0.Coords) (v1 : BitVec 32) (v2 : BitVec 32) (v8 : BitVec 32) : Prop :=
  (∀ (k0_h2 : k0_cond2 i v1 v2 v8 = 1#1), ∀ a, (k0_off4 v1) a + S1x1024x1024.size a ≤ S32x1024x1024.size a)
theorem k0_off4_inb : ∀ (i : grid0.Coords) (v1 : BitVec 32) (v2 : BitVec 32) (v8 : BitVec 32) (k0_hw2 : k0_chk2 i v1 v2 v8), ∀ (k0_h2 : k0_cond2 i v1 v2 v8 = 1#1), ∀ a, (k0_off4 v1) a + S1x1024x1024.size a ≤ S32x1024x1024.size a := fun i v1 v2 v8 k0_hw2 k0_h2 => k0_hw2 k0_h2

def k0_off5 (v1 : BitVec 32) : Fin 1 → Nat :=
  let v17 : Index := Scalar.indexCast v1
  ![v17.toNat]

def k0_chk1 (i : grid0.Coords) (v1 : BitVec 32) : Prop :=
  (∀ (k0_h1 : k0_cond1 i = 1#1), ∀ a, (k0_off3 v1) a + S1x1024x1024.size a ≤ S32x1024x1024.size a) ∧
  (∀ a, (k0_off5 v1) a + S1.size a ≤ S32.size a)
theorem k0_off3_inb : ∀ (i : grid0.Coords) (v1 : BitVec 32) (k0_hw1 : k0_chk1 i v1), ∀ (k0_h1 : k0_cond1 i = 1#1), ∀ a, (k0_off3 v1) a + S1x1024x1024.size a ≤ S32x1024x1024.size a := fun i v1 k0_hw1 k0_h1 => k0_hw1.1 k0_h1
theorem k0_off5_inb : ∀ (i : grid0.Coords) (v1 : BitVec 32) (k0_hw1 : k0_chk1 i v1), ∀ a, (k0_off5 v1) a + S1.size a ≤ S32.size a := fun i v1 k0_hw1 => k0_hw1.2

def k0_off6 (v1 : BitVec 32) : Fin 1 → Nat :=
  let v29 : Index := Scalar.indexCast v1
  ![v29.toNat]
def k0_cond3 (i : grid0.Coords) (v1 : BitVec 32) (v2 : BitVec 32) (v8 : BitVec 32) (v18 : BitVec 32) : BitVec 1 :=
  let arg0 : BitVec 32 := BitVec.ofNat 32 (i 0).val
  let v3 : BitVec 1 := Scalar.cmpi .slt arg0 v2
  let c0_i32 : BitVec 32 := 0#32
  let v4 : BitVec 1 := Scalar.cmpi .eq arg0 c0_i32
  let v9 : BitVec 1 := Scalar.cmpi .ne v1 v8
  let v10 : BitVec 1 := Scalar.ori v4 v9
  let v11 : BitVec 1 := Scalar.andi v3 v10
  let v19 : BitVec 1 := Scalar.cmpi .ne v18 v1
  let v20 : BitVec 1 := Scalar.andi v11 v19
  let v21 : BitVec 32 := Scalar.extui v20
  let c0_i32_4 : BitVec 32 := 0#32
  let v22 : BitVec 1 := Scalar.cmpi .ne v21 c0_i32_4
  v22

def k0_chk3 (i : grid0.Coords) (v1 : BitVec 32) (v2 : BitVec 32) (v8 : BitVec 32) (v18 : BitVec 32) : Prop :=
  (∀ (k0_h3 : k0_cond3 i v1 v2 v8 v18 = 1#1), ∀ a, (k0_off6 v1) a + S1.size a ≤ S32.size a)
theorem k0_off6_inb : ∀ (i : grid0.Coords) (v1 : BitVec 32) (v2 : BitVec 32) (v8 : BitVec 32) (v18 : BitVec 32) (k0_hw3 : k0_chk3 i v1 v2 v8 v18), ∀ (k0_h3 : k0_cond3 i v1 v2 v8 v18 = 1#1), ∀ a, (k0_off6 v1) a + S1.size a ≤ S32.size a := fun i v1 v2 v8 v18 k0_hw3 k0_h3 => k0_hw3 k0_h3

def k0_off7 (v30 : BitVec 32) : Fin 3 → Nat :=
  let c0_i32_8 : BitVec 32 := 0#32
  let c0_i32_9 : BitVec 32 := 0#32
  ![v30.toNat, 0, 0]

def k0_chk4 (i : grid0.Coords) (v1 : BitVec 32) (v2 : BitVec 32) (v8 : BitVec 32) (v18 : BitVec 32) (v30 : BitVec 32) : Prop :=
  (∀ (k0_h3 : k0_cond3 i v1 v2 v8 v18 = 1#1), ∀ a, (k0_off7 v30) a + S1x1024x1024.size a ≤ S32x1024x1024.size a)
theorem k0_off7_inb : ∀ (i : grid0.Coords) (v1 : BitVec 32) (v2 : BitVec 32) (v8 : BitVec 32) (v18 : BitVec 32) (v30 : BitVec 32) (k0_hw4 : k0_chk4 i v1 v2 v8 v18 v30), ∀ (k0_h3 : k0_cond3 i v1 v2 v8 v18 = 1#1), ∀ a, (k0_off7 v30) a + S1x1024x1024.size a ≤ S32x1024x1024.size a := fun i v1 v2 v8 v18 v30 k0_hw4 k0_h3 => k0_hw4 k0_h3

def k0_cond4 (i : grid0.Coords) (v2 : BitVec 32) : BitVec 1 :=
  let arg0 : BitVec 32 := BitVec.ofNat 32 (i 0).val
  let v3 : BitVec 1 := Scalar.cmpi .slt arg0 v2
  let v23 : BitVec 32 := Scalar.extui v3
  let c0_i32_5 : BitVec 32 := 0#32
  let v24 : BitVec 1 := Scalar.cmpi .ne v23 c0_i32_5
  v24

def k0_cond5 (i : grid0.Coords) (v25 : BitVec 32) : BitVec 1 :=
  let arg0 : BitVec 32 := BitVec.ofNat 32 (i 0).val
  let v26 : BitVec 1 := Scalar.cmpi .sge arg0 v25
  let v27 : BitVec 32 := Scalar.extui v26
  let c0_i32_7 : BitVec 32 := 0#32
  let v28 : BitVec 1 := Scalar.cmpi .ne v27 c0_i32_7
  v28

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S32 : Shape := ⟨1, ![32]⟩
abbrev S147456x1024 : Shape := ⟨2, ![147456, 1024]⟩
abbrev S1x32x1024x1024 : Shape := ⟨4, ![1, 32, 1024, 1024]⟩
abbrev S1x32x1024 : Shape := ⟨3, ![1, 32, 1024]⟩
abbrev S32x1024x1024 : Shape := ⟨3, ![32, 1024, 1024]⟩
abbrev S32x1024 : Shape := ⟨2, ![32, 1024]⟩
abbrev S_ : Shape := ⟨0, ![]⟩
abbrev S1x32 : Shape := ⟨2, ![1, 32]⟩
abbrev S288 : Shape := ⟨1, ![288]⟩
abbrev S288x1 : Shape := ⟨2, ![288, 1]⟩
abbrev S288x32 : Shape := ⟨2, ![288, 32]⟩
abbrev S1 : Shape := ⟨1, ![1]⟩
abbrev S288x512x1024 : Shape := ⟨3, ![288, 512, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S147456x512 : Shape := ⟨2, ![147456, 512]⟩
abbrev S589824x128 : Shape := ⟨2, ![589824, 128]⟩

abbrev nBuf : Space → Nat
  | .hbm => 275
  | .vmem => 0
  | .smem => 0
  | _ => 0

abbrev hbmTy0_0 (i : Nat) : BufTy := match i % 128 with
  | 0 => ⟨S32, .i32⟩
  | 1 => ⟨S147456x1024, .f32⟩
  | 2 => ⟨S1x32x1024x1024, .f32⟩
  | 3 => ⟨S1x32x1024, .f32⟩
  | 4 => ⟨S1x32x1024x1024, .f32⟩
  | 5 => ⟨S1x32x1024, .f32⟩
  | 6 => ⟨S1x32x1024x1024, .f32⟩
  | 7 => ⟨S1x32x1024, .f32⟩
  | 8 => ⟨S32x1024x1024, .f32⟩
  | 9 => ⟨S32x1024, .f32⟩
  | 10 => ⟨S32x1024x1024, .f32⟩
  | 11 => ⟨S32x1024, .f32⟩
  | 12 => ⟨S32x1024x1024, .f32⟩
  | 13 => ⟨S32x1024, .f32⟩
  | 14 => ⟨S_, .i32⟩
  | 15 => ⟨S32, .i32⟩
  | 16 => ⟨S32, .i32⟩
  | 17 => ⟨S_, .i32⟩
  | 18 => ⟨S32, .i32⟩
  | 19 => ⟨S32, .i32⟩
  | 20 => ⟨S_, .i32⟩
  | 21 => ⟨S_, .i32⟩
  | 22 => ⟨S32, .i32⟩
  | 23 => ⟨S32, .i32⟩
  | 24 => ⟨S32, .i32⟩
  | 25 => ⟨S_, .i32⟩
  | 26 => ⟨S32, .i32⟩
  | 27 => ⟨S32, .i1⟩
  | 28 => ⟨S32, .i32⟩
  | 29 => ⟨S32, .i32⟩
  | 30 => ⟨S_, .i32⟩
  | 31 => ⟨S32, .i32⟩
  | 32 => ⟨S32, .i1⟩
  | 33 => ⟨S32, .i1⟩
  | 34 => ⟨S_, .i32⟩
  | 35 => ⟨S32, .i32⟩
  | 36 => ⟨S32, .i32⟩
  | 37 => ⟨S32, .i32⟩
  | 38 => ⟨S_, .i32⟩
  | 39 => ⟨S32, .i32⟩
  | 40 => ⟨S32, .i32⟩
  | 41 => ⟨S_, .i32⟩
  | 42 => ⟨S_, .i32⟩
  | 43 => ⟨S32, .i32⟩
  | 44 => ⟨S1x32, .i32⟩
  | 45 => ⟨S288, .i32⟩
  | 46 => ⟨S_, .i32⟩
  | 47 => ⟨S288, .i32⟩
  | 48 => ⟨S288, .i32⟩
  | 49 => ⟨S288x1, .i32⟩
  | 50 => ⟨S288x32, .i32⟩
  | 51 => ⟨S288x32, .i32⟩
  | 52 => ⟨S288x32, .i1⟩
  | 53 => ⟨S288x32, .i32⟩
  | 54 => ⟨S_, .i32⟩
  | 55 => ⟨S288, .i32⟩
  | 56 => ⟨S_, .i32⟩
  | 57 => ⟨S288, .i32⟩
  | 58 => ⟨S288, .i32⟩
  | 59 => ⟨S288, .i32⟩
  | 60 => ⟨S1, .i32⟩
  | 61 => ⟨S_, .i32⟩
  | 62 => ⟨S_, .i32⟩
  | 63 => ⟨S1, .i32⟩
  | 64 => ⟨S1, .i32⟩
  | 65 => ⟨S1, .i32⟩
  | 66 => ⟨S_, .i32⟩
  | 67 => ⟨S1, .i32⟩
  | 68 => ⟨S1, .i1⟩
  | 69 => ⟨S1, .i32⟩
  | 70 => ⟨S1, .i32⟩
  | 71 => ⟨S_, .i32⟩
  | 72 => ⟨S1, .i32⟩
  | 73 => ⟨S1, .i1⟩
  | 74 => ⟨S1, .i1⟩
  | 75 => ⟨S_, .i32⟩
  | 76 => ⟨S1, .i32⟩
  | 77 => ⟨S1, .i32⟩
  | 78 => ⟨S1, .i32⟩
  | 79 => ⟨S_, .i32⟩
  | 80 => ⟨S288, .i32⟩
  | 81 => ⟨S288, .i1⟩
  | 82 => ⟨S288x512x1024, .f32⟩
  | 83 => ⟨S_, .f32⟩
  | 84 => ⟨S288x512x1024, .f32⟩
  | 85 => ⟨S_, .i32⟩
  | 86 => ⟨S288x512x1024, .f32⟩
  | 87 => ⟨S288, .i32⟩
  | 88 => ⟨S288, .i1⟩
  | 89 => ⟨S32x1024x1024, .f32⟩
  | 90 => ⟨S32x1024, .f32⟩
  | 91 => ⟨S32x1024x1024, .f32⟩
  | 92 => ⟨S32x1024, .f32⟩
  | 93 => ⟨S32x1024x1024, .f32⟩
  | 94 => ⟨S32x1024, .f32⟩
  | 95 => ⟨S_, .i32⟩
  | 96 => ⟨S288x512x1024, .f32⟩
  | 97 => ⟨S_, .i32⟩
  | 98 => ⟨S_, .i1⟩
  | 99 => ⟨S_, .i32⟩
  | 100 => ⟨S_, .i32⟩
  | 101 => ⟨S1x512x1024, .f32⟩
  | 102 => ⟨S512x1024, .f32⟩
  | 103 => ⟨S1, .i32⟩
  | 104 => ⟨S_, .i32⟩
  | 105 => ⟨S1, .i1⟩
  | 106 => ⟨S_, .i1⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S_, .i32⟩
  | _ => ⟨S32, .i32⟩

abbrev hbmTy0_1 (i : Nat) : BufTy := match i % 128 with
  | 0 => ⟨S1x1024x1024, .f32⟩
  | 1 => ⟨S1024x1024, .f32⟩
  | 2 => ⟨S512x1024, .f32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S1x1024, .f32⟩
  | 17 => ⟨S1024, .f32⟩
  | 18 => ⟨S1x1024, .f32⟩
  | 19 => ⟨S512x1024, .f32⟩
  | 20 => ⟨S512x1024, .f32⟩
  | 21 => ⟨S_, .f32⟩
  | 22 => ⟨S512x1024, .f32⟩
  | 23 => ⟨S512x1024, .f32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S1x1024x1024, .f32⟩
  | 46 => ⟨S1024x1024, .f32⟩
  | 47 => ⟨S512x1024, .f32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S1x1024, .f32⟩
  | 62 => ⟨S1024, .f32⟩
  | 63 => ⟨S1x1024, .f32⟩
  | 64 => ⟨S512x1024, .f32⟩
  | 65 => ⟨S512x1024, .f32⟩
  | 66 => ⟨S_, .f32⟩
  | 67 => ⟨S_, .f32⟩
  | 68 => ⟨S_, .f32⟩
  | 69 => ⟨S512x1024, .f32⟩
  | 70 => ⟨S512x1024, .f32⟩
  | 71 => ⟨S_, .f32⟩
  | 72 => ⟨S512x1024, .f32⟩
  | 73 => ⟨S512x1024, .f32⟩
  | 74 => ⟨S_, .f32⟩
  | 75 => ⟨S512x1024, .f32⟩
  | 76 => ⟨S512x1024, .f32⟩
  | 77 => ⟨S512x1024, .f32⟩
  | 78 => ⟨S512x1024, .f32⟩
  | 79 => ⟨S_, .f32⟩
  | 80 => ⟨S512x1024, .f32⟩
  | 81 => ⟨S512x1024, .f32⟩
  | 82 => ⟨S_, .f32⟩
  | 83 => ⟨S512x1024, .f32⟩
  | 84 => ⟨S512x1024, .f32⟩
  | 85 => ⟨S512x1024, .f32⟩
  | 86 => ⟨S_, .f32⟩
  | 87 => ⟨S512x1024, .f32⟩
  | 88 => ⟨S512x1024, .f32⟩
  | 89 => ⟨S512x1024, .f32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S1x1024x1024, .f32⟩
  | 112 => ⟨S1024x1024, .f32⟩
  | 113 => ⟨S512x1024, .f32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i32⟩
  | 127 => ⟨S1x1024, .f32⟩
  | _ => ⟨S32, .i32⟩

abbrev hbmTy0_2 (i : Nat) : BufTy := match i % 128 with
  | 0 => ⟨S1024, .f32⟩
  | 1 => ⟨S1x1024, .f32⟩
  | 2 => ⟨S512x1024, .f32⟩
  | 3 => ⟨S512x1024, .f32⟩
  | 4 => ⟨S_, .f32⟩
  | 5 => ⟨S_, .f32⟩
  | 6 => ⟨S512x1024, .f32⟩
  | 7 => ⟨S512x1024, .f32⟩
  | 8 => ⟨S1x512x1024, .f32⟩
  | 9 => ⟨S_, .i32⟩
  | 10 => ⟨S_, .i32⟩
  | 11 => ⟨S288x512x1024, .f32⟩
  | 12 => ⟨S_, .i32⟩
  | 13 => ⟨S_, .i32⟩
  | 14 => ⟨S147456x1024, .f32⟩
  | 15 => ⟨S147456x512, .f32⟩
  | 16 => ⟨S147456x512, .f32⟩
  | 17 => ⟨S589824x128, .f32⟩
  | 18 => ⟨S589824x128, .f32⟩
  | _ => ⟨S32, .i32⟩

abbrev hbmTy (i : Nat) : BufTy := match i / 128 with
  | 0 => hbmTy0_0 i
  | 1 => hbmTy0_1 i
  | 2 => hbmTy0_2 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v10 : Ref sig .tc := ⟨.hbm, 37, rfl⟩
abbrev main_c_2 : Ref sig .tc := ⟨.hbm, 38, rfl⟩
abbrev main_v11 : Ref sig .tc := ⟨.hbm, 39, rfl⟩
abbrev main_v12 : Ref sig .tc := ⟨.hbm, 40, rfl⟩
abbrev main_call1_call0_c : Ref sig .tc := ⟨.hbm, 41, rfl⟩
abbrev main_call1_call0_v0 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_c_3 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_4 : Ref sig .tc := ⟨.hbm, 54, rfl⟩
abbrev main_v23 : Ref sig .tc := ⟨.hbm, 55, rfl⟩
abbrev main_c_5 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_c_6 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_c : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_0 : Ref sig .tc := ⟨.hbm, 75, rfl⟩
abbrev main_call2_v12 : Ref sig .tc := ⟨.hbm, 76, rfl⟩
abbrev main_call2_v13 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_cst : Ref sig .tc := ⟨.hbm, 83, rfl⟩
abbrev main_v33 : Ref sig .tc := ⟨.hbm, 84, rfl⟩
abbrev main_c_7 : Ref sig .tc := ⟨.hbm, 85, rfl⟩
abbrev main_v34_0 : Ref sig .tc := ⟨.hbm, 86, rfl⟩
abbrev main_v34_1 : Ref sig .tc := ⟨.hbm, 87, rfl⟩
abbrev main_v34_2 : Ref sig .tc := ⟨.hbm, 88, rfl⟩
abbrev main_v34_3 : Ref sig .tc := ⟨.hbm, 89, rfl⟩
abbrev main_v34_4 : Ref sig .tc := ⟨.hbm, 90, rfl⟩
abbrev main_v34_5 : Ref sig .tc := ⟨.hbm, 91, rfl⟩
abbrev main_v34_6 : Ref sig .tc := ⟨.hbm, 92, rfl⟩
abbrev main_v34_7 : Ref sig .tc := ⟨.hbm, 93, rfl⟩
abbrev main_v34_8 : Ref sig .tc := ⟨.hbm, 94, rfl⟩
abbrev main_v34_9 : Ref sig .tc := ⟨.hbm, 95, rfl⟩
abbrev main_v34_10 : Ref sig .tc := ⟨.hbm, 96, rfl⟩
abbrev main_while0c_c_18 : Ref sig .tc := ⟨.hbm, 97, rfl⟩
abbrev main_while0c_v40 : Ref sig .tc := ⟨.hbm, 98, rfl⟩
abbrev main_while0b_call3_c : Ref sig .tc := ⟨.hbm, 99, rfl⟩
abbrev main_while0b_call3_c_0 : Ref sig .tc := ⟨.hbm, 100, rfl⟩
abbrev main_while0b_call3_v0 : Ref sig .tc := ⟨.hbm, 101, rfl⟩
abbrev main_while0b_v40 : Ref sig .tc := ⟨.hbm, 102, rfl⟩
abbrev main_while0b_call4_v0 : Ref sig .tc := ⟨.hbm, 103, rfl⟩
abbrev main_while0b_v41 : Ref sig .tc := ⟨.hbm, 104, rfl⟩
abbrev main_while0b_call5_v0 : Ref sig .tc := ⟨.hbm, 105, rfl⟩
abbrev main_while0b_v42 : Ref sig .tc := ⟨.hbm, 106, rfl⟩
abbrev main_while0b_c_18 : Ref sig .tc := ⟨.hbm, 107, rfl⟩
abbrev main_while0b_v43 : Ref sig .tc := ⟨.hbm, 108, rfl⟩
abbrev main_while0b_c_19 : Ref sig .tc := ⟨.hbm, 109, rfl⟩
abbrev main_while0b_v44 : Ref sig .tc := ⟨.hbm, 110, rfl⟩
abbrev main_while0b_v45 : Ref sig .tc := ⟨.hbm, 111, rfl⟩
abbrev main_while0b_c_20 : Ref sig .tc := ⟨.hbm, 112, rfl⟩
abbrev main_while0b_c_21 : Ref sig .tc := ⟨.hbm, 113, rfl⟩
abbrev main_while0b_v46 : Ref sig .tc := ⟨.hbm, 114, rfl⟩
abbrev main_while0b_c_22 : Ref sig .tc := ⟨.hbm, 115, rfl⟩
abbrev main_while0b_c_23 : Ref sig .tc := ⟨.hbm, 116, rfl⟩
abbrev main_while0b_v47 : Ref sig .tc := ⟨.hbm, 117, rfl⟩
abbrev main_while0b_c_24 : Ref sig .tc := ⟨.hbm, 118, rfl⟩
abbrev main_while0b_v48 : Ref sig .tc := ⟨.hbm, 119, rfl⟩
abbrev main_while0b_c_25 : Ref sig .tc := ⟨.hbm, 120, rfl⟩
abbrev main_while0b_c_26 : Ref sig .tc := ⟨.hbm, 121, rfl⟩
abbrev main_while0b_v49 : Ref sig .tc := ⟨.hbm, 122, rfl⟩
abbrev main_while0b_c_27 : Ref sig .tc := ⟨.hbm, 123, rfl⟩
abbrev main_while0b_c_28 : Ref sig .tc := ⟨.hbm, 124, rfl⟩
abbrev main_while0b_v50 : Ref sig .tc := ⟨.hbm, 125, rfl⟩
abbrev main_while0b_c_29 : Ref sig .tc := ⟨.hbm, 126, rfl⟩
abbrev main_while0b_v51 : Ref sig .tc := ⟨.hbm, 127, rfl⟩
abbrev main_while0b_v52 : Ref sig .tc := ⟨.hbm, 128, rfl⟩
abbrev main_while0b_v53 : Ref sig .tc := ⟨.hbm, 129, rfl⟩
abbrev main_while0b_v54 : Ref sig .tc := ⟨.hbm, 130, rfl⟩
abbrev main_while0b_c_30 : Ref sig .tc := ⟨.hbm, 131, rfl⟩
abbrev main_while0b_v55 : Ref sig .tc := ⟨.hbm, 132, rfl⟩
abbrev main_while0b_c_31 : Ref sig .tc := ⟨.hbm, 133, rfl⟩
abbrev main_while0b_v56 : Ref sig .tc := ⟨.hbm, 134, rfl⟩
abbrev main_while0b_v57 : Ref sig .tc := ⟨.hbm, 135, rfl⟩
abbrev main_while0b_c_32 : Ref sig .tc := ⟨.hbm, 136, rfl⟩
abbrev main_while0b_c_33 : Ref sig .tc := ⟨.hbm, 137, rfl⟩
abbrev main_while0b_v58 : Ref sig .tc := ⟨.hbm, 138, rfl⟩
abbrev main_while0b_c_34 : Ref sig .tc := ⟨.hbm, 139, rfl⟩
abbrev main_while0b_c_35 : Ref sig .tc := ⟨.hbm, 140, rfl⟩
abbrev main_while0b_v59 : Ref sig .tc := ⟨.hbm, 141, rfl⟩
abbrev main_while0b_c_36 : Ref sig .tc := ⟨.hbm, 142, rfl⟩
abbrev main_while0b_v60 : Ref sig .tc := ⟨.hbm, 143, rfl⟩
abbrev main_while0b_v61 : Ref sig .tc := ⟨.hbm, 144, rfl⟩
abbrev main_while0b_v62 : Ref sig .tc := ⟨.hbm, 145, rfl⟩
abbrev main_while0b_v63 : Ref sig .tc := ⟨.hbm, 146, rfl⟩
abbrev main_while0b_v64 : Ref sig .tc := ⟨.hbm, 147, rfl⟩
abbrev main_while0b_v65 : Ref sig .tc := ⟨.hbm, 148, rfl⟩
abbrev main_while0b_cst_37 : Ref sig .tc := ⟨.hbm, 149, rfl⟩
abbrev main_while0b_v66 : Ref sig .tc := ⟨.hbm, 150, rfl⟩
abbrev main_while0b_v67 : Ref sig .tc := ⟨.hbm, 151, rfl⟩
abbrev main_while0b_c_38 : Ref sig .tc := ⟨.hbm, 152, rfl⟩
abbrev main_while0b_v68 : Ref sig .tc := ⟨.hbm, 153, rfl⟩
abbrev main_while0b_c_39 : Ref sig .tc := ⟨.hbm, 154, rfl⟩
abbrev main_while0b_v69 : Ref sig .tc := ⟨.hbm, 155, rfl⟩
abbrev main_while0b_v70 : Ref sig .tc := ⟨.hbm, 156, rfl⟩
abbrev main_while0b_c_40 : Ref sig .tc := ⟨.hbm, 157, rfl⟩
abbrev main_while0b_c_41 : Ref sig .tc := ⟨.hbm, 158, rfl⟩
abbrev main_while0b_v71 : Ref sig .tc := ⟨.hbm, 159, rfl⟩
abbrev main_while0b_c_42 : Ref sig .tc := ⟨.hbm, 160, rfl⟩
abbrev main_while0b_c_43 : Ref sig .tc := ⟨.hbm, 161, rfl⟩
abbrev main_while0b_v72 : Ref sig .tc := ⟨.hbm, 162, rfl⟩
abbrev main_while0b_c_44 : Ref sig .tc := ⟨.hbm, 163, rfl⟩
abbrev main_while0b_v73 : Ref sig .tc := ⟨.hbm, 164, rfl⟩
abbrev main_while0b_c_45 : Ref sig .tc := ⟨.hbm, 165, rfl⟩
abbrev main_while0b_c_46 : Ref sig .tc := ⟨.hbm, 166, rfl⟩
abbrev main_while0b_v74 : Ref sig .tc := ⟨.hbm, 167, rfl⟩
abbrev main_while0b_c_47 : Ref sig .tc := ⟨.hbm, 168, rfl⟩
abbrev main_while0b_c_48 : Ref sig .tc := ⟨.hbm, 169, rfl⟩
abbrev main_while0b_v75 : Ref sig .tc := ⟨.hbm, 170, rfl⟩
abbrev main_while0b_c_49 : Ref sig .tc := ⟨.hbm, 171, rfl⟩
abbrev main_while0b_v76 : Ref sig .tc := ⟨.hbm, 172, rfl⟩
abbrev main_while0b_v77 : Ref sig .tc := ⟨.hbm, 173, rfl⟩
abbrev main_while0b_v78 : Ref sig .tc := ⟨.hbm, 174, rfl⟩
abbrev main_while0b_v79 : Ref sig .tc := ⟨.hbm, 175, rfl⟩
abbrev main_while0b_c_50 : Ref sig .tc := ⟨.hbm, 176, rfl⟩
abbrev main_while0b_v80 : Ref sig .tc := ⟨.hbm, 177, rfl⟩
abbrev main_while0b_c_51 : Ref sig .tc := ⟨.hbm, 178, rfl⟩
abbrev main_while0b_v81 : Ref sig .tc := ⟨.hbm, 179, rfl⟩
abbrev main_while0b_v82 : Ref sig .tc := ⟨.hbm, 180, rfl⟩
abbrev main_while0b_c_52 : Ref sig .tc := ⟨.hbm, 181, rfl⟩
abbrev main_while0b_c_53 : Ref sig .tc := ⟨.hbm, 182, rfl⟩
abbrev main_while0b_v83 : Ref sig .tc := ⟨.hbm, 183, rfl⟩
abbrev main_while0b_c_54 : Ref sig .tc := ⟨.hbm, 184, rfl⟩
abbrev main_while0b_c_55 : Ref sig .tc := ⟨.hbm, 185, rfl⟩
abbrev main_while0b_v84 : Ref sig .tc := ⟨.hbm, 186, rfl⟩
abbrev main_while0b_c_56 : Ref sig .tc := ⟨.hbm, 187, rfl⟩
abbrev main_while0b_v85 : Ref sig .tc := ⟨.hbm, 188, rfl⟩
abbrev main_while0b_v86 : Ref sig .tc := ⟨.hbm, 189, rfl⟩
abbrev main_while0b_v87 : Ref sig .tc := ⟨.hbm, 190, rfl⟩
abbrev main_while0b_v88 : Ref sig .tc := ⟨.hbm, 191, rfl⟩
abbrev main_while0b_v89 : Ref sig .tc := ⟨.hbm, 192, rfl⟩
abbrev main_while0b_v90 : Ref sig .tc := ⟨.hbm, 193, rfl⟩
abbrev main_while0b_cst_57 : Ref sig .tc := ⟨.hbm, 194, rfl⟩
abbrev main_while0b_cst_58 : Ref sig .tc := ⟨.hbm, 195, rfl⟩
abbrev main_while0b_call6_v0 : Ref sig .tc := ⟨.hbm, 196, rfl⟩
abbrev main_while0b_call6_v1 : Ref sig .tc := ⟨.hbm, 197, rfl⟩
abbrev main_while0b_call6_v2 : Ref sig .tc := ⟨.hbm, 198, rfl⟩
abbrev main_while0b_call6_v3 : Ref sig .tc := ⟨.hbm, 199, rfl⟩
abbrev main_while0b_call6_v4 : Ref sig .tc := ⟨.hbm, 200, rfl⟩
abbrev main_while0b_v91 : Ref sig .tc := ⟨.hbm, 201, rfl⟩
abbrev main_while0b_cst_59 : Ref sig .tc := ⟨.hbm, 202, rfl⟩
abbrev main_while0b_v92 : Ref sig .tc := ⟨.hbm, 203, rfl⟩
abbrev main_while0b_v93 : Ref sig .tc := ⟨.hbm, 204, rfl⟩
abbrev main_while0b_v94 : Ref sig .tc := ⟨.hbm, 205, rfl⟩
abbrev main_while0b_v95 : Ref sig .tc := ⟨.hbm, 206, rfl⟩
abbrev main_while0b_cst_60 : Ref sig .tc := ⟨.hbm, 207, rfl⟩
abbrev main_while0b_v96 : Ref sig .tc := ⟨.hbm, 208, rfl⟩
abbrev main_while0b_v97 : Ref sig .tc := ⟨.hbm, 209, rfl⟩
abbrev main_while0b_cst_61 : Ref sig .tc := ⟨.hbm, 210, rfl⟩
abbrev main_while0b_v98 : Ref sig .tc := ⟨.hbm, 211, rfl⟩
abbrev main_while0b_v99 : Ref sig .tc := ⟨.hbm, 212, rfl⟩
abbrev main_while0b_v100 : Ref sig .tc := ⟨.hbm, 213, rfl⟩
abbrev main_while0b_cst_62 : Ref sig .tc := ⟨.hbm, 214, rfl⟩
abbrev main_while0b_v101 : Ref sig .tc := ⟨.hbm, 215, rfl⟩
abbrev main_while0b_v102 : Ref sig .tc := ⟨.hbm, 216, rfl⟩
abbrev main_while0b_v103 : Ref sig .tc := ⟨.hbm, 217, rfl⟩
abbrev main_while0b_c_63 : Ref sig .tc := ⟨.hbm, 218, rfl⟩
abbrev main_while0b_v104 : Ref sig .tc := ⟨.hbm, 219, rfl⟩
abbrev main_while0b_c_64 : Ref sig .tc := ⟨.hbm, 220, rfl⟩
abbrev main_while0b_v105 : Ref sig .tc := ⟨.hbm, 221, rfl⟩
abbrev main_while0b_v106 : Ref sig .tc := ⟨.hbm, 222, rfl⟩
abbrev main_while0b_c_65 : Ref sig .tc := ⟨.hbm, 223, rfl⟩
abbrev main_while0b_c_66 : Ref sig .tc := ⟨.hbm, 224, rfl⟩
abbrev main_while0b_v107 : Ref sig .tc := ⟨.hbm, 225, rfl⟩
abbrev main_while0b_c_67 : Ref sig .tc := ⟨.hbm, 226, rfl⟩
abbrev main_while0b_c_68 : Ref sig .tc := ⟨.hbm, 227, rfl⟩
abbrev main_while0b_v108 : Ref sig .tc := ⟨.hbm, 228, rfl⟩
abbrev main_while0b_c_69 : Ref sig .tc := ⟨.hbm, 229, rfl⟩
abbrev main_while0b_v109 : Ref sig .tc := ⟨.hbm, 230, rfl⟩
abbrev main_while0b_c_70 : Ref sig .tc := ⟨.hbm, 231, rfl⟩
abbrev main_while0b_c_71 : Ref sig .tc := ⟨.hbm, 232, rfl⟩
abbrev main_while0b_v110 : Ref sig .tc := ⟨.hbm, 233, rfl⟩
abbrev main_while0b_c_72 : Ref sig .tc := ⟨.hbm, 234, rfl⟩
abbrev main_while0b_c_73 : Ref sig .tc := ⟨.hbm, 235, rfl⟩
abbrev main_while0b_v111 : Ref sig .tc := ⟨.hbm, 236, rfl⟩
abbrev main_while0b_c_74 : Ref sig .tc := ⟨.hbm, 237, rfl⟩
abbrev main_while0b_v112 : Ref sig .tc := ⟨.hbm, 238, rfl⟩
abbrev main_while0b_v113 : Ref sig .tc := ⟨.hbm, 239, rfl⟩
abbrev main_while0b_v114 : Ref sig .tc := ⟨.hbm, 240, rfl⟩
abbrev main_while0b_v115 : Ref sig .tc := ⟨.hbm, 241, rfl⟩
abbrev main_while0b_c_75 : Ref sig .tc := ⟨.hbm, 242, rfl⟩
abbrev main_while0b_v116 : Ref sig .tc := ⟨.hbm, 243, rfl⟩
abbrev main_while0b_c_76 : Ref sig .tc := ⟨.hbm, 244, rfl⟩
abbrev main_while0b_v117 : Ref sig .tc := ⟨.hbm, 245, rfl⟩
abbrev main_while0b_v118 : Ref sig .tc := ⟨.hbm, 246, rfl⟩
abbrev main_while0b_c_77 : Ref sig .tc := ⟨.hbm, 247, rfl⟩
abbrev main_while0b_c_78 : Ref sig .tc := ⟨.hbm, 248, rfl⟩
abbrev main_while0b_v119 : Ref sig .tc := ⟨.hbm, 249, rfl⟩
abbrev main_while0b_c_79 : Ref sig .tc := ⟨.hbm, 250, rfl⟩
abbrev main_while0b_c_80 : Ref sig .tc := ⟨.hbm, 251, rfl⟩
abbrev main_while0b_v120 : Ref sig .tc := ⟨.hbm, 252, rfl⟩
abbrev main_while0b_c_81 : Ref sig .tc := ⟨.hbm, 253, rfl⟩
abbrev main_while0b_v121 : Ref sig .tc := ⟨.hbm, 254, rfl⟩
abbrev main_while0b_v122 : Ref sig .tc := ⟨.hbm, 255, rfl⟩
abbrev main_while0b_v123 : Ref sig .tc := ⟨.hbm, 256, rfl⟩
abbrev main_while0b_v124 : Ref sig .tc := ⟨.hbm, 257, rfl⟩
abbrev main_while0b_v125 : Ref sig .tc := ⟨.hbm, 258, rfl⟩
abbrev main_while0b_v126 : Ref sig .tc := ⟨.hbm, 259, rfl⟩
abbrev main_while0b_cst_82 : Ref sig .tc := ⟨.hbm, 260, rfl⟩
abbrev main_while0b_call7_v0 : Ref sig .tc := ⟨.hbm, 261, rfl⟩
abbrev main_while0b_call7_v1 : Ref sig .tc := ⟨.hbm, 262, rfl⟩
abbrev main_while0b_v127 : Ref sig .tc := ⟨.hbm, 263, rfl⟩
abbrev main_while0b_call8_v0 : Ref sig .tc := ⟨.hbm, 264, rfl⟩
abbrev main_while0b_call8_c : Ref sig .tc := ⟨.hbm, 265, rfl⟩
abbrev main_while0b_call8_c_0 : Ref sig .tc := ⟨.hbm, 266, rfl⟩
abbrev main_while0b_v128 : Ref sig .tc := ⟨.hbm, 267, rfl⟩
abbrev main_while0b_c_83 : Ref sig .tc := ⟨.hbm, 268, rfl⟩
abbrev main_while0b_v129 : Ref sig .tc := ⟨.hbm, 269, rfl⟩
abbrev main_v35 : Ref sig .tc := ⟨.hbm, 270, rfl⟩
abbrev main_v36 : Ref sig .tc := ⟨.hbm, 271, rfl⟩
abbrev main_v37 : Ref sig .tc := ⟨.hbm, 272, rfl⟩
abbrev main_v38 : Ref sig .tc := ⟨.hbm, 273, rfl⟩
abbrev main_v39 : Ref sig .tc := ⟨.hbm, 274, rfl⟩

abbrev nD : Nat := 1
abbrev τ : Topo := Topo.v7x

variable {F : FTy → Type} [FloatOps F]

abbrev main_while0_count : Scf.Loop 32 := ⟨0#32, 288#32, 1#32⟩
-- ==== Proof.RefFrame.lean ====
module

public import proofs.«01_k».proof.Defs
public import proofs.«01_k».proof.Proof.Gen.ReferenceIdeal.Run

@[expose] public section

noncomputable section

/-! The reference program writes none of its arguments: what each buffer outside the written lists holds at the end. -/

namespace Cert.Gla.Ref

open Idealize.ShloMosaic Idealize.ShloMosaic.TcCoe Idealize.ShloMosaic.StableHlo Idealize.SL.Sem Cert.ReferenceIdeal Cert.ReferenceIdeal.Gen Cert.ReferenceIdeal.Value

variable {F : FTy → Type} [FloatOps F]

/-- The references the loop's condition and body write. -/
abbrev loopW : List (Ref sig .tc) :=
  condOps_W ++ while0Ops0_W ++ while0Ops0_1_W ++ while0Ops0_2_W ++ while0Ops0_3_W ++ while0Ops0_4_W ++ while0Ops0_5_W ++ while0Ops0_6_W

/-- The references the stretches before the loop write. -/
abbrev preW : List (Ref sig .tc) :=
  hostOps0_W ++ hostOps0_1_W ++ hostOps0_2_W ++ hostOps0_3_W ++ hostOps0_4_W ++ hostOps0_5_W ++ hostOps0_6_W ++ hostOps0_7_W ++ hostOps0_8_W

variable (m : (ℓ : Loc nD τ sig) → Buf (Elt F) ℓ) (c : Dev nD)

/-- A buffer the stretches before the loop do not write holds its launch contents at the loop's entry. -/
theorem entry_keep (r : Ref sig .tc) (h : r ∉ preW) :
    entryContents preI m c (Proc.devRef .tc r) = launchContents m c (Proc.devRef .tc r) := by
  simp only [preW, List.mem_append, not_or] at h
  obtain ⟨⟨⟨⟨⟨⟨⟨⟨h0, h1⟩, h2⟩, h3⟩, h4⟩, h5⟩, h6⟩, h7⟩, h8⟩ := h
  show after hostOps0_8 (after hostOps0_7 (after hostOps0_6 (after hostOps0_5 (after hostOps0_4 (after hostOps0_3
    (after hostOps0_2 (after hostOps0_1 (after hostOps0 _)))))))) _ = _
  rw [after_of_writes_sub _ _ hostOps0_8_writes h8, after_of_writes_sub _ _ hostOps0_7_writes h7,
    after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- A buffer the loop does not write holds at the loop's exit what it held at its entry. -/
theorem loop_keep (r : Ref sig .tc) (h : r ∉ loopW) (k : ℕ) :
    after condOps (atK m k c) (Proc.devRef .tc r) = entryContents preI m c (Proc.devRef .tc r) := by
  simp only [loopW, List.mem_append, not_or] at h
  obtain ⟨⟨⟨⟨⟨⟨⟨hc, h0⟩, h1⟩, h2⟩, h3⟩, h4⟩, h5⟩, h6⟩ := h
  rw [after_of_writes_sub _ _ condOps_writes hc]
  induction k with
  | zero => rfl
  | succ k ih =>
    rw [← ih]
    show after while0Ops0_6 (after while0Ops0_5 (after while0Ops0_4 (after while0Ops0_3
      (after while0Ops0_2 (after while0Ops0_1 (after while0Ops0 (after condOps _))))))) _ = _
    rw [after_of_writes_sub _ _ while0Ops0_6_writes h6, after_of_writes_sub _ _ while0Ops0_5_writes h5,
      after_of_writes_sub _ _ while0Ops0_4_writes h4, after_of_writes_sub _ _ while0Ops0_3_writes h3,
      after_of_writes_sub _ _ while0Ops0_2_writes h2, after_of_writes_sub _ _ while0Ops0_1_writes h1,
      after_of_writes_sub _ _ while0Ops0_writes h0, after_of_writes_sub _ _ condOps_writes hc]

/-- The references the stretch after the loop writes. -/
abbrev postW : List (Ref sig .tc) := [main_v53, main_v54, main_v55, main_v56, main_v57, main_v58, main_cst_5, main_v59, main_v60,
  main_cst_6, main_v61, main_v62, main_cst_7, main_v63, main_v64, main_v65, main_v66, main_v67, main_v68, main_v69, main_v70,
  main_v71, main_v72, main_v73, main_v74, main_v75]

theorem post_writes : (hostOps0_9 : List (HloOp τ sig (Elt F))).Forall fun op => op.writes ⊆ (postW.map (Proc.devRef (τ := τ) .tc)).toFinset :=
  StableHlo.forall_writes_sub_of_map rfl

/-- A buffer that no operation writes ends as it was at launch. -/
theorem final_keep (r : Ref sig .tc) (h : r ∉ preW) (hl : r ∉ loopW) (hp : r ∉ postW) :
    finalContents condOps preI bodyI postI 128 m c (Proc.devRef .tc r) = launchContents m c (Proc.devRef .tc r) := by
  show after hostOps0_9 (after condOps (atK m 128 c)) _ = _
  rw [after_of_writes_sub _ _ post_writes hp, loop_keep m c r hl, entry_keep m c r h]

set_option maxRecDepth 10000 in
/-- The reference's run: the result at its fold, the arguments unchanged, every counter at zero. -/
theorem run (ρ : Dev nD → PrngReg) : θ_run (defs (F := F)) (onTc (τ := τ) (main (F := F))) ⟨m, fun _ => 0, ρ⟩
    (fun r => (∀ c : Dev nD,
      r.2.mem ((c.tc : Thread nD τ).loc main_v75) = finalContents condOps preI bodyI postI 128 m c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run _ _ _).mono (fun r hr => ?_) (run_fold m ρ)
  refine ⟨fun c => ⟨hr c main_v75 rfl, ?_, ?_, ?_, ?_, ?_, ?_, ?_⟩, sem_eq_zero_of_no_sems (by decide) r.2⟩
  · rw [hr c main_arg0 rfl]; exact final_keep m c _ (by decide) (by decide) (by decide)
  · rw [hr c main_arg1 rfl]; exact final_keep m c _ (by decide) (by decide) (by decide)
  · rw [hr c main_arg2 rfl]; exact final_keep m c _ (by decide) (by decide) (by decide)
  · rw [hr c main_arg3 rfl]; exact final_keep m c _ (by decide) (by decide) (by decide)
  · rw [hr c main_arg4 rfl]; exact final_keep m c _ (by decide) (by decide) (by decide)
  · rw [hr c main_arg5 rfl]; exact final_keep m c _ (by decide) (by decide) (by decide)
  · rw [hr c main_arg6 rfl]; exact final_keep m c _ (by decide) (by decide) (by decide)

end Cert.Gla.Ref

end
-- ==== Proof.Spec.lean ====
module

public import Idealize.ShloMosaic.Lib.Pointwise

@[expose] public section

noncomputable section

/-! Gated linear attention of one head, by chunks of 64 positions, over the extended reals: what both programs compute. -/

namespace Cert.Gla.Spec

open Idealize.ShloMosaic

section

variable (q k la : ℕ → Fin 128 → EReal) (v : ℕ → Fin 256 → EReal)

/-- The running log decay at row `r` of chunk `n`. -/
def cum (n r : ℕ) (d : Fin 128) : EReal := ∑ s ∈ Finset.range (r + 1), la (64 * n + s) d

/-- The scaled and grown query. -/
def qg (n r : ℕ) (d : Fin 128) : EReal := q (64 * n + r) d * Ideal.ofBits .f32 0x3DB504F3#32 * Ideal.exp (cum la n r d)

/-- The shrunk key. -/
def kg (n r : ℕ) (d : Fin 128) : EReal := k (64 * n + r) d * Ideal.exp (-cum la n r d)

/-- The key carried to its chunk's end. -/
def kend (n r : ℕ) (d : Fin 128) : EReal := k (64 * n + r) d * Ideal.exp (cum la n 63 d - cum la n r d)

/-- Attention within chunk `n`. -/
def intra (n r : ℕ) (e : Fin 256) : EReal :=
  ∑ s : Fin 64, (if s.val ≤ r then ∑ d, qg q la n r d * kg k la n s.val d else 0) * v (64 * n + s.val) e

/-- The state before chunk `n`. -/
def state : ℕ → Fin 128 → Fin 256 → EReal
  | 0, _, _ => 0
  | n + 1, d, e => Ideal.exp (cum la n 63 d) * state n d e + ∑ r : Fin 64, kend k la n r.val d * v (64 * n + r.val) e

/-- The output before the norm. -/
def out (n r : ℕ) (e : Fin 256) : EReal := intra q k la v n r e + ∑ d, qg q la n r d * state k la v n d e

/-- The normed and gated output. -/
def fin (gn : Fin 256 → EReal) (g : ℕ → Fin 256 → EReal) (n r : ℕ) (e : Fin 256) : EReal :=
  out q k la v n r e
      * Ideal.rsqrt (Ideal.div (∑ x, out q k la v n r x * out q k la v n r x) (Ideal.ofBits .f32 0x43800000#32)
          + Ideal.ofBits .f32 0x358637BD#32)
    * gn e * g (64 * n + r) e

end

/-- Row `p` of batch `b`. -/
def row (b : Fin 4) (p : ℕ) : Fin 32768 := ⟨(b.val * 8192 + p) % 32768, Nat.mod_lt _ (by decide)⟩

/-- Column `d` of head `h`, of 128 columns each. -/
def col (h : Fin 4) (d : Fin 128) : Fin 512 := ⟨h.val * 128 + d.val, by omega⟩

/-- Column `e` of head `h`, of 256 columns each. -/
def colV (h : Fin 4) (e : Fin 256) : Fin 1024 := ⟨h.val * 256 + e.val, by omega⟩

section

variable (a0 a1 : (⟨2, ![32768, 1024]⟩ : Shape).Idx → EReal) (a2 : (⟨2, ![32768, 128]⟩ : Shape).Idx → EReal)
  (a3 : (⟨3, ![1, 16, 512]⟩ : Shape).Idx → EReal) (a4 : (⟨2, ![1, 512]⟩ : Shape).Idx → EReal)
  (a5 : (⟨2, ![32768, 1024]⟩ : Shape).Idx → EReal) (a6 : (⟨2, ![1, 256]⟩ : Shape).Idx → EReal)

/-- The queries of batch `b` and head `h`. -/
def Q (b h : Fin 4) (p : ℕ) (d : Fin 128) : EReal := a0 (ix2 (row b p) ⟨h.val * 128 + d.val, by omega⟩)

/-- The keys. -/
def K (b h : Fin 4) (p : ℕ) (d : Fin 128) : EReal := a0 (ix2 (row b p) ⟨512 + (h.val * 128 + d.val), by omega⟩)

/-- The values, and the output gate. -/
def V (b h : Fin 4) (p : ℕ) (e : Fin 256) : EReal := a1 (ix2 (row b p) (colV h e))

/-- The gate's preactivation. -/
def Z (b h : Fin 4) (p : ℕ) (d : Fin 128) : EReal :=
  ∑ x : Fin 16, a2 (ix2 (row b p) ⟨x.val, by omega⟩) * a3 (ix3 0 x (col h d)) + a4 (ix2 0 (col h d))

/-- The logistic function's logarithm over 16. -/
def logA (z : EReal) : EReal :=
  Ideal.div (min z 0 - Ideal.log (1 + Ideal.exp (0 - FloatOps.absf (F := Ideal) (φ := .f32) z))) (Ideal.ofBits .f32 0x41800000#32)

/-- The logarithm of one and an exponential is not the bottom. -/
theorem log_one_add_exp_ne_bot (w : EReal) : Ideal.log (1 + Ideal.exp w) ≠ ⊥ := by
  induction w with
  | bot =>
    show Ideal.log (1 + 0) ≠ ⊥
    rw [add_zero]
    show (if (1 : ℝ) ≤ 0 then (⊥ : EReal) else ((Real.log 1 : ℝ) : EReal)) ≠ ⊥
    rw [if_neg (by norm_num)]
    exact EReal.coe_ne_bot _
  | top =>
    show Ideal.log (1 + ⊤) ≠ ⊥
    have e : (1 : EReal) + ⊤ = ⊤ := rfl
    rw [e]
    exact bot_ne_top.symm
  | coe r =>
    have e : (1 : EReal) + Ideal.exp (r : EReal) = ((1 + Real.exp r : ℝ) : EReal) := rfl
    rw [e]
    show (if 1 + Real.exp r ≤ 0 then (⊥ : EReal) else ((Real.log (1 + Real.exp r) : ℝ) : EReal)) ≠ ⊥
    rw [if_neg (by have := Real.exp_pos r; linarith)]
    exact EReal.coe_ne_bot _

/-- The logistic function's logarithm, written as the negative of a soft maximum. -/
theorem logA_soft (z : EReal) :
    Ideal.div (-(max (-z) 0 + Ideal.log1p (Ideal.exp (-FloatOps.absf (F := Ideal) (φ := .f32) (-z))))) (Ideal.ofBits .f32 0x41800000#32) = logA z := by
  unfold logA
  congr 1
  have ha : FloatOps.absf (F := Ideal) (φ := .f32) (-z) = FloatOps.absf (F := Ideal) (φ := .f32) z := by
    rw [Ideal.absf_def, Ideal.absf_def, neg_neg, max_comm]
  rw [ha, zero_sub]
  generalize FloatOps.absf (F := Ideal) (φ := .f32) z = w
  have hL := log_one_add_exp_ne_bot (-w)
  show -(max (-z) 0 + Ideal.log (1 + Ideal.exp (-w))) = _
  rw [EReal.neg_add (Or.inl (ne_of_gt (lt_of_lt_of_le EReal.bot_lt_zero (le_max_right _ _)))) (Or.inr hL)]
  congr 1
  rcases le_total z 0 with h | h
  · rw [min_eq_left h, max_eq_left (by rw [← neg_zero]; exact EReal.neg_le_neg_iff.2 h), neg_neg]
  · rw [min_eq_right h, max_eq_right (by rw [← neg_zero (G := EReal)]; exact EReal.neg_le_neg_iff.2 h), neg_zero]

/-- The log decays. -/
def LA (b h : Fin 4) (p : ℕ) (d : Fin 128) : EReal := logA (Z a2 a3 a4 b h p d)

/-- The layer's result at row `64 n + r` of batch `b` and column `e` of head `h`. -/
def res (b h : Fin 4) (n r : ℕ) (e : Fin 256) : EReal :=
  fin (Q a0 b h) (K a0 b h) (LA a2 a3 a4 b h) (V a1 b h) (fun e => a6 (ix2 0 e)) (V a5 b h) n r e

end

/-- A gate feature's lane among the 128. -/
theorem lt128 (x : Fin 16) : x.val < 128 := Nat.lt_of_lt_of_le x.isLt (by decide)

end Cert.Gla.Spec

end
-- ==== Proof.Pre.lean ====
module

public import proofs.«01_k».proof.Pre_gate_finite
public import proofs.«01_k».proof.Proof.Spec
public import Idealize.ShloMosaic.Lib.Pointwise

@[expose] public section

noncomputable section

/-! What the precondition says of the gate's entries: they are finite, so that each less itself is zero. -/

namespace Cert.Gla.Pre

open Idealize.ShloMosaic Cert.Pre_gate_finite

theorem facts : Cert.Pre_gate_finite.Facts := ⟨by decide, by decide, by decide⟩

/-- The positive infinity's word reads as the top. -/
theorem ofBits_top : (FloatOps.ofBits FTy.f32 0x7F800000#32 : Ideal .f32) = (⊤ : EReal) := by
  show Ideal.ofBits FTy.f32 0x7F800000#32 = ⊤
  simp [Ideal.ofBits, Ideal.ieee]

/-- A value whose absolute value compares below the infinity, less itself, is zero. -/
theorem sub_self_of_lt (x : EReal) (h : Ideal.cmp .olt (max x (-x)) (⊤ : EReal) = 1#1) : x - x = 0 := by
  have hx : max x (-x) < ⊤ := by
    by_contra hn
    rw [Ideal.cmp_olt, decide_eq_false hn] at h
    exact absurd h (by decide)
  induction x using EReal.rec with
  | bot => simp at hx
  | coe r => rw [← EReal.coe_sub, sub_self]; rfl
  | top => simp at hx

variable (a0 : FVec Ideal S32768x1024 .bf16) (a1 : FVec Ideal S32768x1024 .bf16) (a2 : FVec Ideal S32768x128 .f32) (a3 : FVec Ideal S1x16x512 .f32) (a4 : FVec Ideal S1x512 .f32) (a5 : FVec Ideal S32768x1024 .bf16) (a6 : FVec Ideal S1x256 .f32)

/-- The gate's hidden features are finite. -/
theorem fin2 [Facts] (h : (fn a0 a1 a2 a3 a4 a5 a6).1 = fun _ => 1#1) (p : Fin 32768) (x : Fin 16) :
    a2 (ix2 p ⟨x.val, Spec.lt128 x⟩) - a2 (ix2 p ⟨x.val, Spec.lt128 x⟩) = 0 := by
  refine sub_self_of_lt _ ?_
  have e := congrFun h (ix2 p x)
  rw [← ofBits_top]
  refine Eq.trans ?_ e
  unfold fn
  dsimp only
  pointwise
  rfl

/-- The gate's weights are finite. -/
theorem fin3 [Facts] (h : (fn a0 a1 a2 a3 a4 a5 a6).2 = fun _ => 1#1) (x : Fin 16) (j : Fin 512) :
    a3 (ix3 0 x j) - a3 (ix3 0 x j) = 0 := by
  refine sub_self_of_lt _ ?_
  have e := congrFun h (ix3 0 x j)
  rw [← ofBits_top]
  refine Eq.trans ?_ e
  unfold fn
  dsimp only
  pointwise
  rfl

end Cert.Gla.Pre

end
-- ==== Proof.RefVal.lean ====
module

public import proofs.«01_k».proof.Proof.RefFrame
public import Idealize.ShloMosaic.Lib.StableHlo.RunRead
public import Idealize.ShloMosaic.Lib.Pointwise

@[expose] public section

set_option maxRecDepth 16384

noncomputable section

/-! The reference's arrays, by name, and what its loop is entered with. -/

namespace Cert.Gla.Ref

open Idealize.ShloMosaic Idealize.ShloMosaic.TcCoe Idealize.ShloMosaic.StableHlo Idealize.SL.Sem Cert.ReferenceIdeal Cert.ReferenceIdeal.Gen Cert.ReferenceIdeal.Value

variable {F : FTy → Type} [FloatOps F]

/-- The gate's preactivation. -/
def zed (a2 : FVec F S32768x128 .f32) (a3 : FVec F S1x16x512 .f32) (a4 : FVec F S1x512 .f32) : FVec F S32768x512 .f32 :=
  addf (Host.dotGeneral dot_S32768x16_S16x512_S32768x512_1_0_0_1_n_n none (extractStridedSlice S32768x16 ![0, 0] a2 slices_S32768x128_S32768x16_0_0)
      (shapeCast S16x512 a3 shapeCasts_S1x16x512_S16x512))
    (broadcastInDim S32768x512 ![0, 1] bcast_S1x512_S32768x512_0_1 (broadcastInDim S1x512 ![1] bcast_S512_S1x512_1
      (shapeCast S512 a4 shapeCasts_S1x512_S512)))

/-- Zero everywhere. -/
abbrev zeros : FVec F S32768x512 .f32 := broadcastInDim S32768x512 ![] bcast_S_S32768x512 (constant S_ .f32 0x00000000#32)

/-- The logistic function's logarithm. -/
def logSig (z : FVec F S32768x512 .f32) : FVec F S32768x512 .f32 :=
  let n := Host.negf z
  let d := subf n zeros
  Host.negf (select (cmpf .une d d) (addf n zeros) (addf (maximumf n zeros) (Host.log1p (Host.exp (Host.negf (Host.absf d))))))

/-- The log decays. -/
def logA (z : FVec F S32768x512 .f32) : FVec F S32768x512 .f32 :=
  Host.divf (logSig z) (broadcastInDim S32768x512 ![] bcast_S_S32768x512 (constant S_ .f32 0x41800000#32))

/-- Rows split into batches and chunks, columns into heads. -/
def grp (x : FVec F S32768x512 .f32) : FVec F S4x4x128x64x128 .f32 :=
  transpose S4x4x128x64x128 [0, 3, 1, 2, 4] (shapeCast S4x128x64x4x128 (shapeCast S4x8192x4x128 x shapeCasts_S32768x512_S4x8192x4x128)
    shapeCasts_S4x8192x4x128_S4x128x64x4x128) transposes_S4x128x64x4x128_S4x4x128x64x128_0_3_1_2_4

/-- The scaled queries. -/
def qs (a0 : FVec F S32768x1024 .bf16) : FVec F S4x4x128x64x128 .f32 :=
  mulf (grp (extractStridedSlice S32768x512 ![0, 0] (extf .f32 a0 bitsLt_bf16_f32) slices_S32768x1024_S32768x512_0_0))
    (broadcastInDim S4x4x128x64x128 ![] bcast_S_S4x4x128x64x128 (constant S_ .f32 0x3DB504F3#32))

/-- The keys. -/
def ks (a0 : FVec F S32768x1024 .bf16) : FVec F S4x4x128x64x128 .f32 :=
  grp (extractStridedSlice S32768x512 ![0, 512] (extf .f32 a0 bitsLt_bf16_f32) slices_S32768x1024_S32768x512_0_512)

/-- The values. -/
def vs (a1 : FVec F S32768x1024 .bf16) : FVec F S4x4x128x64x256 .f32 :=
  transpose S4x4x128x64x256 [0, 3, 1, 2, 4] (shapeCast S4x128x64x4x256 (shapeCast S4x8192x4x256 (extf .f32 a1 bitsLt_bf16_f32 : FVec F S32768x1024 .f32)
    shapeCasts_S32768x1024_S4x8192x4x256) shapeCasts_S4x8192x4x256_S4x128x64x4x256) transposes_S4x128x64x4x256_S4x4x128x64x256_0_3_1_2_4

/-- The running log decay within each chunk. -/
def cum (la : FVec F S32768x512 .f32) : FVec F S4x4x128x64x128 .f32 :=
  Host.reduceWindowAdd ![1, 1, 1, 64, 1] ![1, 1, 1, 1, 1] ![0, 0, 0, 63, 0] ![0, 0, 0, 0, 0] (grp la)
    (broadcastInDim S_ ![] bcast_S_S_ (constant S_ .f32 0x00000000#32))
    reduceWindows_S4x4x128x64x128_S4x4x128x64x128_w1s1p0_0_w1s1p0_0_w1s1p0_0_w64s1p63_0_w1s1p0_0 h_S_

/-- The running log decay at each chunk's last row. -/
def last (b : FVec F S4x4x128x64x128 .f32) : FVec F S4x4x128x1x128 .f32 :=
  extractStridedSlice S4x4x128x1x128 ![0, 0, 0, 63, 0] b slices_S4x4x128x64x128_S4x4x128x1x128_0_0_0_63_0

/-- The grown queries. -/
def qg (q b : FVec F S4x4x128x64x128 .f32) : FVec F S4x4x128x64x128 .f32 := mulf q (Host.exp b)

/-- The shrunk keys. -/
def kg (k b : FVec F S4x4x128x64x128 .f32) : FVec F S4x4x128x64x128 .f32 := mulf k (Host.exp (Host.negf b))

/-- The keys carried to their chunk's end. -/
def kend (k b : FVec F S4x4x128x64x128 .f32) : FVec F S4x4x128x64x128 .f32 :=
  mulf k (Host.exp (subf (broadcastInDim S4x4x128x64x128 ![0, 1, 2, 3, 4] bcast_S4x4x128x1x128_S4x4x128x64x128_0_1_2_3_4 (last b)) b))

/-- A chunk's decay. -/
def dec (b : FVec F S4x4x128x64x128 .f32) : FVec F S4x4x128x128 .f32 :=
  Host.exp (shapeCast S4x4x128x128 (last b) shapeCasts_S4x4x128x1x128_S4x4x128x128)

/-- The lower triangle. -/
def tril : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

/-- Attention within the chunks. -/
def intra (qg kg : FVec F S4x4x128x64x128 .f32) (v : FVec F S4x4x128x64x256 .f32) : FVec F S4x4x128x64x256 .f32 :=
  Host.dotGeneral dot_S4x4x128x64x64_S4x4x128x64x256_S4x4x128x64x256_4_3_3_4_012_012 none
    (select (broadcastInDim S4x4x128x64x64 ![3, 4] bcast_S64x64_S4x4x128x64x64_3_4 tril)
      (Host.dotGeneral dot_S4x4x128x64x128_S4x4x128x64x128_S4x4x128x64x64_4_4_3_3_012_012 none qg kg)
      (broadcastInDim S4x4x128x64x64 ![] bcast_S_S4x4x128x64x64 (sitofp .f32 (constantI S_ 32 0#32)))) v

/-- The result from the attention within chunks and the queries' products with the carried states. -/
def fin (o43 : FVec F S4x4x128x64x256 .f32) (o52 : FVec F S128x4x4x64x256 .f32) (a5 : FVec F S32768x1024 .bf16) (a6 : FVec F S1x256 .f32) :
    FVec F S32768x1024 .bf16 :=
  let o : FVec F S4x8192x4x256 .f32 := shapeCast S4x8192x4x256 (transpose S4x128x64x4x256 [0, 2, 3, 1, 4]
    (addf o43 (transpose S4x4x128x64x256 [1, 2, 0, 3, 4] o52 transposes_S128x4x4x64x256_S4x4x128x64x256_1_2_0_3_4))
    transposes_S4x4x128x64x256_S4x128x64x4x256_0_2_3_1_4) shapeCasts_S4x128x64x4x256_S4x8192x4x256
  let s : FVec F S4x8192x4x1 .f32 := Host.rsqrt (addf (Host.divf (broadcastInDim S4x8192x4x1 ![0, 1, 2] bcast_S4x8192x4_S4x8192x4x1_0_1_2
      (Host.reduceAdd (mulf o o) (constant S_ .f32 0x00000000#32) reducesTo_S4x8192x4x256_S4x8192x4_d3 h_S_))
    (broadcastInDim S4x8192x4x1 ![] bcast_S_S4x8192x4x1 (constant S_ .f32 0x43800000#32)))
    (broadcastInDim S4x8192x4x1 ![] bcast_S_S4x8192x4x1 (constant S_ .f32 0x358637BD#32)))
  truncf .bf16 (shapeCast S32768x1024 (mulf (mulf (mulf o (broadcastInDim S4x8192x4x256 ![0, 1, 2, 3] bcast_S4x8192x4x1_S4x8192x4x256_0_1_2_3 s))
      (broadcastInDim S4x8192x4x256 ![0, 1, 2, 3] bcast_S1x1x1x256_S4x8192x4x256_0_1_2_3 (broadcastInDim S1x1x1x256 ![3] bcast_S256_S1x1x1x256_3
        (shapeCast S256 a6 shapeCasts_S1x256_S256))))
    (shapeCast S4x8192x4x256 (extf .f32 a5 bitsLt_bf16_f32 : FVec F S32768x1024 .f32) shapeCasts_S32768x1024_S4x8192x4x256)) shapeCasts_S4x8192x4x256_S32768x1024) bitsLt_bf16_f32

variable (m : (ℓ : Loc nD τ sig) → Buf (Elt F) ℓ) (c : Dev nD)

/-- The arguments, as arrays. -/
abbrev A0 : FVec F S32768x1024 .bf16 := launchContents m c (Proc.devRef .tc main_arg0)
abbrev A1 : FVec F S32768x1024 .bf16 := launchContents m c (Proc.devRef .tc main_arg1)
abbrev A2 : FVec F S32768x128 .f32 := launchContents m c (Proc.devRef .tc main_arg2)
abbrev A3 : FVec F S1x16x512 .f32 := launchContents m c (Proc.devRef .tc main_arg3)
abbrev A4 : FVec F S1x512 .f32 := launchContents m c (Proc.devRef .tc main_arg4)
abbrev A5 : FVec F S32768x1024 .bf16 := launchContents m c (Proc.devRef .tc main_arg5)
abbrev A6 : FVec F S1x256 .f32 := launchContents m c (Proc.devRef .tc main_arg6)

/-- The running log decay, from the arguments. -/
abbrev BB : FVec F S4x4x128x64x128 .f32 := cum (logA (zed (A2 m c) (A3 m c) (A4 m c)))

/-- The last stretch's result. -/
theorem post_read (W : Valuation τ sig (Elt F)) : after hostOps0_9 W (Proc.devRef .tc main_v75)
    = fin (W (Proc.devRef .tc main_v43)) (W (Proc.devRef .tc main_v52_6)) (W (Proc.devRef .tc main_arg5)) (W (Proc.devRef .tc main_arg6)) := by
  after_reads_simp
  rfl

/-- The attention within chunks, at the loop's entry. -/
theorem entry_v43 : entryContents preI m c (Proc.devRef .tc main_v43)
    = intra (qg (qs (A0 m c)) (BB m c)) (kg (ks (A0 m c)) (BB m c)) (vs (A1 m c)) := by
  simp only [entryContents, afterL_cons, afterL_nil]
  after_reads_simp
  simp only [TRef.ofBuf_toBuf]
  rfl

/-- The grown queries, at the loop's entry. -/
theorem entry_0 : entryContents preI m c (Proc.devRef .tc main_v52_0)
    = transpose S128x4x4x64x128 [2, 0, 1, 3, 4] (qg (qs (A0 m c)) (BB m c)) transposes_S4x4x128x64x128_S128x4x4x64x128_2_0_1_3_4 := by
  simp only [entryContents, afterL_cons, afterL_nil]
  after_reads_simp
  simp only [TRef.ofBuf_toBuf]
  rfl

/-- The carried keys, at the loop's entry. -/
theorem entry_1 : entryContents preI m c (Proc.devRef .tc main_v52_1)
    = transpose S128x4x4x64x128 [2, 0, 1, 3, 4] (kend (ks (A0 m c)) (BB m c)) transposes_S4x4x128x64x128_S128x4x4x64x128_2_0_1_3_4 := by
  simp only [entryContents, afterL_cons, afterL_nil]
  after_reads_simp
  simp only [TRef.ofBuf_toBuf]
  rfl

/-- The values, at the loop's entry. -/
theorem entry_2 : entryContents preI m c (Proc.devRef .tc main_v52_2)
    = transpose S128x4x4x64x256 [2, 0, 1, 3, 4] (vs (A1 m c)) transposes_S4x4x128x64x256_S128x4x4x64x256_2_0_1_3_4 := by
  simp only [entryContents, afterL_cons, afterL_nil]
  after_reads_simp
  rfl

/-- The decays, at the loop's entry. -/
theorem entry_3 : entryContents preI m c (Proc.devRef .tc main_v52_3)
    = transpose S128x4x4x128 [2, 0, 1, 3] (dec (BB m c)) transposes_S4x4x128x128_S128x4x4x128_2_0_1_3 := by
  simp only [entryContents, afterL_cons, afterL_nil]
  after_reads_simp
  simp only [TRef.ofBuf_toBuf]
  rfl

/-- The state, at the loop's entry. -/
theorem entry_5 : entryContents preI m c (Proc.devRef .tc main_v52_5)
    = broadcastInDim S4x4x128x256 ![] bcast_S_S4x4x128x256 (constant S_ .f32 0x00000000#32) := by
  simp only [entryContents, afterL_cons, afterL_nil]
  after_reads_simp
  rfl

end Cert.Gla.Ref

end
-- ==== Proof.RefAt.lean ====
module

public import proofs.«01_k».proof.Proof.RefVal
public import proofs.«01_k».proof.Proof.Spec
public import Idealize.ShloMosaic.Lib.DynamicIndex
public import Idealize.ShloMosaic.Lib.Pipeline.Value

@[expose] public section

set_option maxRecDepth 16384

noncomputable section

/-! The reference's arrays at an index. -/

namespace Cert.Gla.Ref

open Idealize.ShloMosaic Idealize.ShloMosaic.TcCoe Idealize.ShloMosaic.StableHlo Idealize.SL.Sem Cert.ReferenceIdeal Cert.ReferenceIdeal.Gen Cert.ReferenceIdeal.Value

/-- The loop's counter, as an integer. -/
theorem iv_toInt (k : ℕ) (hk : k < 128) : (Scf.iv 0#32 1#32 k).toInt = (k : ℤ) := by
  have e : Scf.iv 0#32 1#32 k = BitVec.ofNat 32 k := by
    unfold Scf.iv
    simp
  rw [e]
  rw [BitVec.toInt_eq_toNat_of_lt] <;> rw [BitVec.toNat_ofNat] <;> omega

/-- The starts of a slice at the counter, of four axes. -/
theorem starts4 (k : ℕ) (hk : k < 128) (i : Fin 4) :
    BitVec.toInt ((![(fun _ => Scf.iv 0#32 1#32 k), constantI S_ 32 0#32, constantI S_ 32 0#32, constantI S_ 32 0#32] : Fin 4 → S_.Idx → BitVec 32)
      i (Shape.Idx.first h_S_)) = (((![k, 0, 0, 0] : Fin 4 → ℕ) i : ℕ) : ℤ) :=
  match i with
  | 0 => iv_toInt k hk
  | 1 => rfl
  | 2 => rfl
  | 3 => rfl

/-- The same, of five. -/
theorem starts5 (k : ℕ) (hk : k < 128) (i : Fin 5) :
    BitVec.toInt ((![(fun _ => Scf.iv 0#32 1#32 k), constantI S_ 32 0#32, constantI S_ 32 0#32, constantI S_ 32 0#32, constantI S_ 32 0#32] : Fin 5 → S_.Idx → BitVec 32)
      i (Shape.Idx.first h_S_)) = (((![k, 0, 0, 0, 0] : Fin 5 → ℕ) i : ℕ) : ℤ) :=
  match i with
  | 0 => iv_toInt k hk
  | 1 => rfl
  | 2 => rfl
  | 3 => rfl
  | 4 => rfl

/-- A slice of one chunk fits. -/
theorem slices5 (n k : ℕ) (hk : k < 128) : (⟨5, ![128, 4, 4, 64, n]⟩ : Shape).Slices (![k, 0, 0, 0, 0] : Fin 5 → ℕ) ⟨5, ![1, 4, 4, 64, n]⟩ :=
  ⟨rfl, fun i =>
    match i with
    | 0 => hk
    | 1 => by show 0 + 4 ≤ 4; omega
    | 2 => by show 0 + 4 ≤ 4; omega
    | 3 => by show 0 + 64 ≤ 64; omega
    | 4 => by show 0 + n ≤ n; omega⟩

/-- The same, of four axes. -/
theorem slices4 (k : ℕ) (hk : k < 128) : (⟨4, ![128, 4, 4, 128]⟩ : Shape).Slices (![k, 0, 0, 0] : Fin 4 → ℕ) ⟨4, ![1, 4, 4, 128]⟩ :=
  ⟨rfl, fun i =>
    match i with
    | 0 => hk
    | 1 => by show 0 + 4 ≤ 4; omega
    | 2 => by show 0 + 4 ≤ 4; omega
    | 3 => by show 0 + 128 ≤ 128; omega⟩

/-- The state's update, with the trip's slices at `k`. -/
theorem upd_at (X1 : FVec Ideal S128x4x4x64x128 .f32) (X2 : FVec Ideal S128x4x4x64x256 .f32) (X3 : FVec Ideal S128x4x4x128 .f32) (X5 : FVec Ideal S4x4x128x256 .f32)
    (k : ℕ) (hk : k < 128) (s4 : Fin 4 → ℤ) (h4 : ∀ i, s4 i = (((![k, 0, 0, 0] : Fin 4 → ℕ) i : ℕ) : ℤ)) (s5 s5' : Fin 5 → ℤ) (h5 : ∀ i, s5 i = (((![k, 0, 0, 0, 0] : Fin 5 → ℕ) i : ℕ) : ℤ))
    (h5' : ∀ i, s5' i = (((![k, 0, 0, 0, 0] : Fin 5 → ℕ) i : ℕ) : ℤ)) (b h : Fin 4) (d : Fin 128) (e : Fin 256) :
    addf (mulf (broadcastInDim S4x4x128x256 ![0, 1, 2, 3] bcast_S4x4x128x1_S4x4x128x256_0_1_2_3
        (broadcastInDim S4x4x128x1 ![0, 1, 2] bcast_S4x4x128_S4x4x128x1_0_1_2
          (shapeCast S4x4x128 (Host.dynamicSlice S1x4x4x128 X3 s4 sliceFits_S128x4x4x128_S1x4x4x128) shapeCasts_S1x4x4x128_S4x4x128))) X5)
      (Host.dotGeneral dot_S4x4x64x128_S4x4x64x256_S4x4x128x256_2_2_3_3_01_01 none
        (shapeCast S4x4x64x128 (Host.dynamicSlice S1x4x4x64x128 X1 s5 sliceFits_S128x4x4x64x128_S1x4x4x64x128) shapeCasts_S1x4x4x64x128_S4x4x64x128)
        (shapeCast S4x4x64x256 (Host.dynamicSlice S1x4x4x64x256 X2 s5' sliceFits_S128x4x4x64x256_S1x4x4x64x256) shapeCasts_S1x4x4x64x256_S4x4x64x256)) (ix4 b h d e)
      = X3 (ix4 ⟨k, hk⟩ b h d) * X5 (ix4 b h d e) + ∑ r, X1 (ix5 ⟨k, hk⟩ b h r d) * X2 (ix5 ⟨k, hk⟩ b h r e) := by
  rw [Host.dynamicSlice_eq_extractStridedSlice S1x4x4x128 X3 s4 (![k, 0, 0, 0] : Fin 4 → ℕ) _ (slices4 k hk) h4,
    Host.dynamicSlice_eq_extractStridedSlice S1x4x4x64x128 X1 s5 (![k, 0, 0, 0, 0] : Fin 5 → ℕ) _ (slices5 128 k hk) h5,
    Host.dynamicSlice_eq_extractStridedSlice S1x4x4x64x256 X2 s5' (![k, 0, 0, 0, 0] : Fin 5 → ℕ) _ (slices5 256 k hk) h5']
  pointwise

/-- What a trip writes, with its slice at `k`. -/
theorem inter_at (X0 : FVec Ideal S128x4x4x64x128 .f32) (X5 : FVec Ideal S4x4x128x256 .f32)
    (k : ℕ) (hk : k < 128) (s5 : Fin 5 → ℤ) (h5 : ∀ i, s5 i = (((![k, 0, 0, 0, 0] : Fin 5 → ℕ) i : ℕ) : ℤ)) (a : Fin 1) (b h : Fin 4) (r : Fin 64) (e : Fin 256) :
    broadcastInDim S1x4x4x64x256 ![1, 2, 3, 4] bcast_S4x4x64x256_S1x4x4x64x256_1_2_3_4
        (Host.dotGeneral dot_S4x4x64x128_S4x4x128x256_S4x4x64x256_3_2_2_3_01_01 none
          (shapeCast S4x4x64x128 (Host.dynamicSlice S1x4x4x64x128 X0 s5 sliceFits_S128x4x4x64x128_S1x4x4x64x128) shapeCasts_S1x4x4x64x128_S4x4x64x128) X5) (ix5 a b h r e)
      = ∑ d, X0 (ix5 ⟨k, hk⟩ b h r d) * X5 (ix4 b h d e) := by
  rw [Host.dynamicSlice_eq_extractStridedSlice S1x4x4x64x128 X0 s5 (![k, 0, 0, 0, 0] : Fin 5 → ℕ) _ (slices5 128 k hk) h5]
  pointwise

/-- An update of one chunk at `k`, at an index. -/
theorem put_at (X6 : FVec Ideal S128x4x4x64x256 .f32) (u : FVec Ideal S1x4x4x64x256 .f32)
    (k : ℕ) (hk : k < 128) (s5 : Fin 5 → ℤ) (h5 : ∀ i, s5 i = (((![k, 0, 0, 0, 0] : Fin 5 → ℕ) i : ℕ) : ℤ)) (n : Fin 128) (b h : Fin 4) (r : Fin 64) (e : Fin 256) :
    Host.dynamicUpdateSlice X6 u s5 updateFits_S128x4x4x64x256_S1x4x4x64x256 (ix5 n b h r e)
      = if n.val = k then u (ix5 0 b h r e) else X6 (ix5 n b h r e) := by
  have hcl : ∀ a : Fin 5, Host.clampedStart S128x4x4x64x256 S1x4x4x64x256 rfl s5 a = (![k, 0, 0, 0, 0] : Fin 5 → ℕ) a := fun a =>
    Host.clampedStart_of_le (s := S128x4x4x64x256) (t := S1x4x4x64x256) rfl s5 a _ (h5 a) ((slices5 256 k hk).2 a)
  rw [Host.dynamicUpdateSlice_apply]
  by_cases hn : n.val = k
  · rw [dif_pos, if_pos hn]
    · refine congrArg u ((Shape.Idx.norm5 _).trans ((ix5_inj _ _ _ _ _ _ _ _ _ _).2 ⟨Fin.ext ?_, Fin.ext ?_, Fin.ext ?_, Fin.ext ?_, Fin.ext ?_⟩))
      · show n.val - Host.clampedStart S128x4x4x64x256 S1x4x4x64x256 rfl s5 0 = 0
        rw [hcl 0]
        show n.val - k = 0
        omega
      · show b.val - Host.clampedStart S128x4x4x64x256 S1x4x4x64x256 rfl s5 1 = b.val
        rw [hcl 1]
        rfl
      · show h.val - Host.clampedStart S128x4x4x64x256 S1x4x4x64x256 rfl s5 2 = h.val
        rw [hcl 2]
        rfl
      · show r.val - Host.clampedStart S128x4x4x64x256 S1x4x4x64x256 rfl s5 3 = r.val
        rw [hcl 3]
        rfl
      · show e.val - Host.clampedStart S128x4x4x64x256 S1x4x4x64x256 rfl s5 4 = e.val
        rw [hcl 4]
        rfl
    · intro a
      rw [hcl a]
      match a with
      | 0 => show k ≤ n.val ∧ n.val < k + 1; omega
      | 1 => show 0 ≤ b.val ∧ b.val < 0 + 4; omega
      | 2 => show 0 ≤ h.val ∧ h.val < 0 + 4; omega
      | 3 => show 0 ≤ r.val ∧ r.val < 0 + 64; omega
      | 4 => show 0 ≤ e.val ∧ e.val < 0 + 256; omega
  · rw [dif_neg, if_neg hn]
    intro hin
    have h0 := hin 0
    rw [hcl 0] at h0
    have h0' : k ≤ n.val ∧ n.val < k + 1 := h0
    omega

/-- A fold of sums is the start and a sum. -/
theorem foldl_add (n : ℕ) (g : Fin n → EReal) (v : EReal) : (List.finRange n).foldl (fun r x => r + g x) v = v + ∑ x, g x := by
  have e : ∀ (l : List (Fin n)) (v : EReal), l.foldl (fun r x => r + g x) v = v + (l.map g).sum := by
    intro l
    induction l with
    | nil => intro v; simp
    | cons x l ih => intro v; rw [List.foldl_cons, ih, List.map_cons, List.sum_cons, add_assoc]
  rw [e, Fin.sum_univ_def]

/-- The window's positions are its rows. -/
def winEquiv : (⟨5, ![1, 1, 1, 64, 1]⟩ : Shape).Idx ≃ Fin 64 where
  toFun i := i 3
  invFun w := ix5 0 0 0 w 0
  left_inv i := by
    rw [eq_ix5 i]
    exact (ix5_inj _ _ _ _ _ _ _ _ _ _).2 ⟨Subsingleton.elim (α := Fin 1) _ _, Subsingleton.elim (α := Fin 1) _ _, Subsingleton.elim (α := Fin 1) _ _, rfl, Subsingleton.elim (α := Fin 1) _ _⟩
  right_inv w := rfl

/-- A running sum of 64 rows by a window padded below. -/
theorem window_sum (f : ℕ → EReal) (r : ℕ) (hr : r < 64) :
    ∑ w : Fin 64, (if 63 ≤ r + w.val then f (r + w.val - 63) else 0) = ∑ s ∈ Finset.range (r + 1), f s := by
  rw [Finset.sum_range (n := r + 1), ← Finset.sum_range (n := r + 1), ← Finset.sum_range (n := 64) (fun w => if 63 ≤ r + w then f (r + w - 63) else 0)]
  have e : 64 = (63 - r) + (r + 1) := by omega
  rw [e, Finset.sum_range_add, Finset.sum_eq_zero, zero_add]
  · refine Finset.sum_congr rfl fun s _ => ?_
    rw [if_pos (by omega)]
    congr 1
    omega
  · intro s hs
    rw [Finset.mem_range] at hs
    rw [if_neg (by omega)]

/-- The running sum along a chunk. -/
theorem cum_at (la : FVec Ideal S32768x512 .f32) (b h : Fin 4) (n : Fin 128) (r : Fin 64) (d : Fin 128) :
    cum la (ix5 b h n r d) = ∑ s ∈ Finset.range (r.val + 1), grp la (ix5 b h n ⟨s % 64, Nat.mod_lt _ (by decide)⟩ d) := by
  generalize hx : grp la = X
  unfold cum
  rw [hx]
  refine (foldl_add _ _ _).trans ?_
  have h0 : (fun _ : (⟨0, ![]⟩ : Shape).Idx => broadcastInDim S_ ![] bcast_S_S_ (constant (F := Ideal) S_ FTy.f32 0#32) (Shape.Idx.first h_S_)) = fun _ => (0 : EReal) := by
    pointwise
  rw [h0, zero_add]
  refine (Fintype.sum_equiv ((Shape.rowMajor (⟨5, ![1, 1, 1, 64, 1]⟩ : Shape)).symm.trans winEquiv) _ _ fun x => ?_).trans
    (window_sum (fun s => X (ix5 b h n ⟨s % 64, Nat.mod_lt _ (by decide)⟩ d)) r.val r.isLt)
  obtain ⟨w, hw⟩ : ∃ w, (Shape.rowMajor (⟨5, ![1, 1, 1, 64, 1]⟩ : Shape)).symm x = ix5 0 0 0 w 0 := ⟨_, (winEquiv.left_inv _).symm⟩
  have hv : ((Shape.rowMajor (⟨5, ![1, 1, 1, 64, 1]⟩ : Shape)).symm.trans winEquiv) x = w := by
    rw [Equiv.trans_apply, hw]
    rfl
  rw [hv]
  simp only [hw]
  by_cases hr : 63 ≤ r.val + w.val
  · rw [if_pos hr, dif_pos]
    · refine congrArg X ((eq_ix5 _).trans ((ix5_inj _ _ _ _ _ _ _ _ _ _).2 ⟨Fin.ext ?_, Fin.ext ?_, Fin.ext ?_, Fin.ext ?_, Fin.ext ?_⟩))
      · show b.val * 1 + 0 - 0 = b.val
        omega
      · show h.val * 1 + 0 - 0 = h.val
        omega
      · show n.val * 1 + 0 - 0 = n.val
        omega
      · show r.val * 1 + w.val - 63 = (r.val + w.val - 63) % 64
        omega
      · show d.val * 1 + 0 - 0 = d.val
        omega
    · intro a
      match a with
      | 0 => show 0 ≤ b.val * 1 + 0 ∧ b.val * 1 + 0 - 0 < 4; omega
      | 1 => show 0 ≤ h.val * 1 + 0 ∧ h.val * 1 + 0 - 0 < 4; omega
      | 2 => show 0 ≤ n.val * 1 + 0 ∧ n.val * 1 + 0 - 0 < 128; omega
      | 3 => show 63 ≤ r.val * 1 + w.val ∧ r.val * 1 + w.val - 63 < 64; omega
      | 4 => show 0 ≤ d.val * 1 + 0 ∧ d.val * 1 + 0 - 0 < 128; omega
  · rw [if_neg hr, dif_neg]
    intro hin
    have h3 : 63 ≤ r.val * 1 + w.val ∧ r.val * 1 + w.val - 63 < 64 := hin 3
    omega

end Cert.Gla.Ref

end
-- ==== Proof.RefOut.lean ====
module

public import proofs.«01_k».proof.Proof.RefAt

@[expose] public section

set_option maxRecDepth 16384

noncomputable section

/-! The reference's result is the model's. -/

namespace Cert.Gla.Ref

open Idealize.ShloMosaic Idealize.ShloMosaic.TcCoe Idealize.ShloMosaic.StableHlo Idealize.SL.Sem Cert.ReferenceIdeal Cert.ReferenceIdeal.Gen Cert.ReferenceIdeal.Value

theorem row_eq (b : Fin 4) (n : Fin 128) (r : Fin 64) (h : b.val * 8192 + n.val * 64 + r.val < 32768) :
    (⟨b.val * 8192 + n.val * 64 + r.val, h⟩ : Fin 32768) = Spec.row b (64 * n.val + r.val) := by
  apply Fin.ext
  show b.val * 8192 + n.val * 64 + r.val = (b.val * 8192 + (64 * n.val + r.val)) % 32768
  omega

section

variable (a0 a1 : FVec Ideal S32768x1024 .bf16) (a2 : FVec Ideal S32768x128 .f32) (a3 : FVec Ideal S1x16x512 .f32) (a4 : FVec Ideal S1x512 .f32)
  (b h : Fin 4) (n : Fin 128) (r : Fin 64)

theorem qs_at (d : Fin 128) : qs a0 (ix5 b h n r d) = Spec.Q a0 b h (64 * n.val + r.val) d * Ideal.ofBits .f32 0x3DB504F3#32 := by
  pointwise [qs, grp, Spec.Q]
  rw [row_eq]

theorem ks_at (d : Fin 128) : ks a0 (ix5 b h n r d) = Spec.K a0 b h (64 * n.val + r.val) d := by
  pointwise [ks, grp, Spec.K]
  rw [row_eq]

theorem vs_at (e : Fin 256) : vs a1 (ix5 b h n r e) = Spec.V a1 b h (64 * n.val + r.val) e := by
  pointwise [vs, Spec.V, Spec.colV]
  rw [row_eq]

theorem zed_at (p : Fin 32768) (j : Fin 512) : zed a2 a3 a4 (ix2 p j) = ∑ x : Fin 16, a2 (ix2 p ⟨x.val, by omega⟩) * a3 (ix3 0 x j) + a4 (ix2 0 j) := by
  pointwise [zed]

theorem logA_at (z : FVec Ideal S32768x512 .f32) (p : Fin 32768) (j : Fin 512) : logA z (ix2 p j) = Spec.logA (z (ix2 p j)) := by
  rw [← Spec.logA_soft]
  pointwise [logA, logSig]
  simp

theorem la_at (d : Fin 128) : grp (logA (zed a2 a3 a4)) (ix5 b h n r d) = Spec.LA a2 a3 a4 b h (64 * n.val + r.val) d := by
  have e : ∀ x : FVec Ideal S32768x512 .f32, grp x (ix5 b h n r d) = x (ix2 (Spec.row b (64 * n.val + r.val)) (Spec.col h d)) := by
    intro x
    pointwise [grp]
    rw [row_eq]
    rfl
  rw [e, logA_at, zed_at]
  rfl

/-- The running log decay. -/
theorem B_at (d : Fin 128) : cum (logA (zed a2 a3 a4)) (ix5 b h n r d) = Spec.cum (Spec.LA a2 a3 a4 b h) n.val r.val d := by
  rw [cum_at]
  refine Finset.sum_congr rfl fun s hs => ?_
  have hs := Finset.mem_range.1 hs
  rw [la_at]
  show Spec.LA a2 a3 a4 b h (64 * n.val + s % 64) d = _
  rw [Nat.mod_eq_of_lt (by omega)]

variable (B : FVec Ideal S4x4x128x64x128 .f32) (la : ℕ → Fin 128 → EReal)
  (hB : ∀ (n : Fin 128) (r : Fin 64) (d : Fin 128), B (ix5 b h n r d) = Spec.cum la n.val r.val d)

include hB

theorem qg_at (d : Fin 128) : qg (qs a0) B (ix5 b h n r d) = Spec.qg (Spec.Q a0 b h) la n.val r.val d := by
  have e := qs_at a0 b h n r d
  generalize qs a0 = q at e
  have e' : qg q B (ix5 b h n r d) = q (ix5 b h n r d) * Ideal.exp (B (ix5 b h n r d)) := by pointwise [qg]
  rw [e', e, hB]
  rfl

theorem kg_at (d : Fin 128) : kg (ks a0) B (ix5 b h n r d) = Spec.kg (Spec.K a0 b h) la n.val r.val d := by
  have e := ks_at a0 b h n r d
  generalize ks a0 = q at e
  have e' : kg q B (ix5 b h n r d) = q (ix5 b h n r d) * Ideal.exp (-B (ix5 b h n r d)) := by pointwise [kg]
  rw [e', e, hB]
  rfl

theorem kend_at (d : Fin 128) : kend (ks a0) B (ix5 b h n r d) = Spec.kend (Spec.K a0 b h) la n.val r.val d := by
  have e := ks_at a0 b h n r d
  generalize ks a0 = q at e
  have e' : kend q B (ix5 b h n r d) = q (ix5 b h n r d) * Ideal.exp (B (ix5 b h n 63 d) - B (ix5 b h n r d)) := by pointwise [kend, last]
  rw [e', e, hB, hB]
  rfl

theorem dec_at (d : Fin 128) : dec B (ix4 b h n d) = Ideal.exp (Spec.cum la n.val 63 d) := by
  have e' : dec B (ix4 b h n d) = Ideal.exp (B (ix5 b h n 63 d)) := by pointwise [dec, last]
  rw [e', hB]
  rfl

omit hB in
/-- The causal mask's reading. -/
theorem mask_at (r x : Fin 64) (s z : EReal) : Scalar.select (Scalar.select (IntOp.cmpi .sge (IntOp.addi (BitVec.ofNat 32 r.val) 0#32) (BitVec.ofNat 32 x.val)) 1#1 0#1) s z
    = if x.val ≤ r.val then s else z := by
  have e : ∀ r x : Fin 64, Scalar.select (IntOp.cmpi .sge (IntOp.addi (BitVec.ofNat 32 r.val) 0#32) (BitVec.ofNat 32 x.val)) 1#1 0#1
      = if x.val ≤ r.val then 1#1 else 0#1 := by decide +kernel
  rw [e]
  by_cases hx : x.val ≤ r.val
  · rw [if_pos hx, if_pos hx]
    rfl
  · rw [if_neg hx, if_neg hx]
    rfl

theorem intra_at (e : Fin 256) : intra (qg (qs a0) B) (kg (ks a0) B) (vs a1) (ix5 b h n r e)
    = Spec.intra (Spec.Q a0 b h) (Spec.K a0 b h) la (Spec.V a1 b h) n.val r.val e := by
  have e1 : ∀ r d, qg (qs a0) B (ix5 b h n r d) = _ := fun r d => qg_at a0 b h n r B la hB d
  have e2 : ∀ r d, kg (ks a0) B (ix5 b h n r d) = _ := fun r d => kg_at a0 b h n r B la hB d
  have e3 : ∀ r e, vs a1 (ix5 b h n r e) = _ := fun r e => vs_at a1 b h n r e
  generalize qg (qs a0) B = q at e1 ⊢
  generalize kg (ks a0) B = k at e2 ⊢
  generalize vs a1 = v at e3 ⊢
  have e' : intra q k v (ix5 b h n r e) = ∑ x : Fin 64, (if x.val ≤ r.val then ∑ d, q (ix5 b h n r d) * k (ix5 b h n x d) else 0) * v (ix5 b h n x e) := by
    pointwise [intra, tril]
    refine Finset.sum_congr rfl fun x _ => ?_
    rw [mask_at]
    have z0 : FloatOps.sitofp (F := Ideal) FTy.f32 0#32 = (0 : EReal) := by
      show (((0#32 : BitVec 32).toInt : ℝ) : EReal) = 0
      simp
    rw [z0]
  rw [e']
  unfold Spec.intra
  refine Finset.sum_congr rfl fun x _ => ?_
  rw [e3]
  congr 2
  exact Finset.sum_congr rfl fun d _ => by rw [e1, e2]

end

section

variable (m : (ℓ : Loc nD τ sig) → Buf (Elt Ideal) ℓ) (c : Dev nD)

/-- What the loop carries unchanged. -/
theorem carried (k : ℕ) : (STEP^[k] (entryContents preI m c)) (Proc.devRef .tc main_v52_0) = entryContents preI m c (Proc.devRef .tc main_v52_0)
    ∧ (STEP^[k] (entryContents preI m c)) (Proc.devRef .tc main_v52_1) = entryContents preI m c (Proc.devRef .tc main_v52_1)
    ∧ (STEP^[k] (entryContents preI m c)) (Proc.devRef .tc main_v52_2) = entryContents preI m c (Proc.devRef .tc main_v52_2)
    ∧ (STEP^[k] (entryContents preI m c)) (Proc.devRef .tc main_v52_3) = entryContents preI m c (Proc.devRef .tc main_v52_3)
    ∧ (STEP^[k] (entryContents preI m c)) (Proc.devRef .tc main_v52_4) = fun _ => Scf.iv 0#32 1#32 k := by
  refine ⟨?_, ?_, ?_, ?_, (atK_agree m c k main_v52_4 (by decide)).symm.trans (atK_ctr m c k)⟩
  all_goals
    induction k with
    | zero => rfl
    | succ k ih =>
      rw [Function.iterate_succ_apply']
      first
        | rw [STEP_main_v52_0, ih]
        | rw [STEP_main_v52_1, ih]
        | rw [STEP_main_v52_2, ih]
        | rw [STEP_main_v52_3, ih]

/-- The log decays of batch `b` and head `h`. -/
abbrev la (b h : Fin 4) : ℕ → Fin 128 → EReal := Spec.LA (A2 m c) (A3 m c) (A4 m c) b h

/-- The state after `k` trips. -/
theorem state_at (b h : Fin 4) (d : Fin 128) (e : Fin 256) : ∀ k, k ≤ 128 →
    (show FVec Ideal S4x4x128x256 .f32 from (STEP^[k] (entryContents preI m c)) (Proc.devRef .tc main_v52_5)) (ix4 b h d e)
      = Spec.state (Spec.K (A0 m c) b h) (la m c b h) (Spec.V (A1 m c) b h) k d e
  | 0, _ => by
    show (show FVec Ideal S4x4x128x256 .f32 from entryContents preI m c (Proc.devRef .tc main_v52_5)) (ix4 b h d e) = 0
    rw [entry_5]
    show broadcastInDim S4x4x128x256 ![] bcast_S_S4x4x128x256 (constant (F := Ideal) S_ .f32 0x00000000#32) (ix4 b h d e) = 0
    pointwise
  | k + 1, hk => by
    obtain ⟨-, h1, h2, h3, h4⟩ := carried m c k
    have ih := state_at b h d e k (by omega)
    rw [Function.iterate_succ_apply', STEP_main_v52_5, step_main_v52_5, h1, h2, h3, h4, entry_1, entry_2, entry_3]
    have hk' : k < 128 := by omega
    refine (upd_at _ _ _ _ k hk' _ (starts4 k hk') _ _ (starts5 k hk') (starts5 k hk') b h d e).trans ?_
    refine (congrArg (fun x => _ * x + _) ih).trans ?_
    have t3 : ∀ x : FVec Ideal S4x4x128x128 .f32, transpose S128x4x4x128 [2, 0, 1, 3] x transposes_S4x4x128x128_S128x4x4x128_2_0_1_3 (ix4 ⟨k, hk'⟩ b h d) = x (ix4 b h ⟨k, hk'⟩ d) := by
      intro x
      pointwise
    have t1 : ∀ (x : FVec Ideal S4x4x128x64x128 .f32) (r : Fin 64), transpose S128x4x4x64x128 [2, 0, 1, 3, 4] x transposes_S4x4x128x64x128_S128x4x4x64x128_2_0_1_3_4 (ix5 ⟨k, hk'⟩ b h r d) = x (ix5 b h ⟨k, hk'⟩ r d) := by
      intro x r
      pointwise
    have t2 : ∀ (x : FVec Ideal S4x4x128x64x256 .f32) (r : Fin 64), transpose S128x4x4x64x256 [2, 0, 1, 3, 4] x transposes_S4x4x128x64x256_S128x4x4x64x256_2_0_1_3_4 (ix5 ⟨k, hk'⟩ b h r e) = x (ix5 b h ⟨k, hk'⟩ r e) := by
      intro x r
      pointwise
    have hB : ∀ n r d, BB m c (ix5 b h n r d) = _ := fun n r d => B_at (A2 m c) (A3 m c) (A4 m c) b h n r d
    rw [t3, dec_at b h ⟨k, hk'⟩ (BB m c) (la m c b h) hB]
    show _ = Ideal.exp (Spec.cum (la m c b h) k 63 d) * _ + _
    congr 1
    refine Finset.sum_congr rfl fun r _ => ?_
    rw [t1, t2, kend_at (A0 m c) b h ⟨k, hk'⟩ r (BB m c) (la m c b h) hB, vs_at]

/-- The attention to earlier chunks, after `k` trips. -/
theorem inter_read (b h : Fin 4) (n : Fin 128) (r : Fin 64) (e : Fin 256) : ∀ k, k ≤ 128 → n.val < k →
    (show FVec Ideal S128x4x4x64x256 .f32 from (STEP^[k] (entryContents preI m c)) (Proc.devRef .tc main_v52_6)) (ix5 n b h r e)
      = ∑ d, Spec.qg (Spec.Q (A0 m c) b h) (la m c b h) n.val r.val d * Spec.state (Spec.K (A0 m c) b h) (la m c b h) (Spec.V (A1 m c) b h) n.val d e
  | 0, _, hn => absurd hn (Nat.not_lt_zero _)
  | k + 1, hk, hn => by
    obtain ⟨h0, -, -, -, h4⟩ := carried m c k
    have hk' : k < 128 := by omega
    rw [Function.iterate_succ_apply', STEP_main_v52_6, step_main_v52_6, h0, h4, entry_0]
    refine (put_at _ _ k hk' _ (starts5 k hk') n b h r e).trans ?_
    by_cases hnk : n.val = k
    · rw [if_pos hnk]
      subst hnk
      refine (inter_at _ _ n.val n.isLt _ (starts5 n.val n.isLt) 0 b h r e).trans ?_
      have t1 : ∀ (x : FVec Ideal S4x4x128x64x128 .f32) (d : Fin 128), transpose S128x4x4x64x128 [2, 0, 1, 3, 4] x transposes_S4x4x128x64x128_S128x4x4x64x128_2_0_1_3_4 (ix5 n b h r d) = x (ix5 b h n r d) := by
        intro x r
        pointwise
      have hB : ∀ n r d, BB m c (ix5 b h n r d) = _ := fun n r d => B_at (A2 m c) (A3 m c) (A4 m c) b h n r d
      refine Finset.sum_congr rfl fun d _ => ?_
      refine congrArg₂ (· * ·) ((t1 _ d).trans (qg_at (A0 m c) b h n r (BB m c) (la m c b h) hB d)) (state_at m c b h d e n.val (by omega))
    · rw [if_neg hnk]
      exact inter_read b h n r e k (by omega) (by omega)

/-- The last stretch at an index. -/
theorem fin_at (o43 : FVec Ideal S4x4x128x64x256 .f32) (o52 : FVec Ideal S128x4x4x64x256 .f32) (a5 : FVec Ideal S32768x1024 .bf16) (a6 : FVec Ideal S1x256 .f32)
    (b h : Fin 4) (n : Fin 128) (r : Fin 64) (e : Fin 256) :
    fin o43 o52 a5 a6 (ix2 (Spec.row b (64 * n.val + r.val)) (Spec.colV h e))
      = (o43 (ix5 b h n r e) + o52 (ix5 n b h r e))
        * Ideal.rsqrt (Ideal.div (∑ x, (o43 (ix5 b h n r x) + o52 (ix5 n b h r x)) * (o43 (ix5 b h n r x) + o52 (ix5 n b h r x))) (Ideal.ofBits .f32 0x43800000#32)
          + Ideal.ofBits .f32 0x358637BD#32) * a6 (ix2 0 e) * a5 (ix2 (Spec.row b (64 * n.val + r.val)) (Spec.colV h e)) := by
  have eb : ∀ h', (⟨(Spec.row b (64 * n.val + r.val)).val / 8192, h'⟩ : Fin 4) = b := fun _ => Fin.ext (by show (b.val * 8192 + (64 * n.val + r.val)) % 32768 / 8192 = b.val; omega)
  have en : ∀ h', (⟨(Spec.row b (64 * n.val + r.val)).val % 8192 / 64, h'⟩ : Fin 128) = n := fun _ => Fin.ext (by show (b.val * 8192 + (64 * n.val + r.val)) % 32768 % 8192 / 64 = n.val; omega)
  have er : ∀ h', (⟨(Spec.row b (64 * n.val + r.val)).val % 8192 % 64, h'⟩ : Fin 64) = r := fun _ => Fin.ext (by show (b.val * 8192 + (64 * n.val + r.val)) % 32768 % 8192 % 64 = r.val; omega)
  have eh : ∀ h', (⟨(Spec.colV h e).val / 256, h'⟩ : Fin 4) = h := fun _ => Fin.ext (by show (h.val * 256 + e.val) / 256 = h.val; omega)
  have ee : ∀ h', (⟨(Spec.colV h e).val % 256, h'⟩ : Fin 256) = e := fun _ => Fin.ext (by show (h.val * 256 + e.val) % 256 = e.val; omega)
  pointwise [fin]
  simp only [eb, en, er, eh, ee]

/-- The reference's result at an index. -/
theorem final_at (b h : Fin 4) (n : Fin 128) (r : Fin 64) (e : Fin 256) :
    (show FVec Ideal S32768x1024 .bf16 from finalContents condOps preI bodyI postI 128 m c (Proc.devRef .tc main_v75)) (ix2 (Spec.row b (64 * n.val + r.val)) (Spec.colV h e))
      = Spec.res (A0 m c) (A1 m c) (A2 m c) (A3 m c) (A4 m c) (A5 m c) (A6 m c) b h n.val r.val e := by
  have hB : ∀ n r d, BB m c (ix5 b h n r d) = _ := fun n r d => B_at (A2 m c) (A3 m c) (A4 m c) b h n r d
  have e5 : after condOps (atK m 128 c) (Proc.devRef .tc main_arg5) = A5 m c := (loop_keep m c _ (by decide) 128).trans (entry_keep m c _ (by decide))
  have e6 : after condOps (atK m 128 c) (Proc.devRef .tc main_arg6) = A6 m c := (loop_keep m c _ (by decide) 128).trans (entry_keep m c _ (by decide))
  have e43 := (loop_keep m c main_v43 (by decide) 128).trans (entry_v43 m c)
  have e52 : after condOps (atK m 128 c) (Proc.devRef .tc main_v52_6) = (STEP^[128] (entryContents preI m c)) (Proc.devRef .tc main_v52_6) :=
    (cond_keeps _ main_v52_6 (by decide)).trans (atK_agree m c 128 main_v52_6 (by decide))
  show (show FVec Ideal S32768x1024 .bf16 from after hostOps0_9 (after condOps (atK m 128 c)) (Proc.devRef .tc main_v75)) _ = _
  rw [post_read, e5, e6, e43, e52]
  refine (fin_at _ _ _ _ b h n r e).trans ?_
  have eo : ∀ x : Fin 256, intra (qg (qs (A0 m c)) (BB m c)) (kg (ks (A0 m c)) (BB m c)) (vs (A1 m c)) (ix5 b h n r x)
      + (show FVec Ideal S128x4x4x64x256 .f32 from (STEP^[128] (entryContents preI m c)) (Proc.devRef .tc main_v52_6)) (ix5 n b h r x)
      = Spec.out (Spec.Q (A0 m c) b h) (Spec.K (A0 m c) b h) (la m c b h) (Spec.V (A1 m c) b h) n.val r.val x := fun x => by
    rw [intra_at (A0 m c) (A1 m c) b h n r (BB m c) (la m c b h) hB x, inter_read m c b h n r x 128 le_rfl n.isLt]
    rfl
  show (_ + (show FVec Ideal S128x4x4x64x256 .f32 from (STEP^[128] (entryContents preI m c)) (Proc.devRef .tc main_v52_6)) (ix5 n b h r e)) * _ * _ * _ = _
  rw [eo e, Finset.sum_congr rfl fun x _ => congrArg₂ (· * ·) (eo x) (eo x)]
  rfl

end

end Cert.Gla.Ref

end
-- ==== Proof.Kern.lean ====
module

public import proofs.«01_k».proof.Proof.Gen.KernelIdeal.Value

@[expose] public section

noncomputable section

/-! One grid step of the kernel, head by head: the same operations under one set of names, shared by the four heads and the
    sixteen chunks. -/

namespace Cert.Gla.Kern

open Idealize.ShloMosaic Cert.KernelIdeal Cert.KernelIdeal.Gen

variable {F : FTy → Type} [FloatOps F]

theorem sl64 : ∀ n : Fin 16, S1024x128.Slices ![64 * n.val, 0] S64x128 := by decide

theorem sl16 : ∀ n : Fin 16, S16x1x128.Slices ![n.val, 0, 0] S1x1x128 := by decide

/-- Zero filling a shape. -/
abbrev zero (s : Shape) : FVec F s .f32 := broadcast s (Scalar.ofBits .f32 0x00000000#32)

/-- The row of a position within its chunk of 64. -/
def rin : IVec S1024x128 32 := andi (iota .tc S1024x128 32 [0] iota_S1024x128_d0_w32) (broadcast S1024x128 63#32)

/-- The gate's preactivation: three products of the high and low parts, and the bias. -/
def zed (gk : Vec F S1024x128 .f32) (w : Vec F S128x128 .f32) (b : Vec F S1x128 .f32) : FVec F S1024x128 .f32 :=
  let gh : FVec F S1024x128 .bf16 := truncf .bf16 gk bitsLt_bf16_f32
  let gl : FVec F S1024x128 .bf16 := truncf .bf16 (subf gk (extf .f32 gh bitsLt_bf16_f32)) bitsLt_bf16_f32
  let w' : FVec F S128x128 .f32 := shapeCast S128x128 w shapeCasts_S128x128_S128x128
  let wh : FVec F S128x128 .bf16 := truncf .bf16 w' bitsLt_bf16_f32
  let wl : FVec F S128x128 .bf16 := truncf .bf16 (subf w' (extf .f32 wh bitsLt_bf16_f32)) bitsLt_bf16_f32
  addf (addf (addf (matmul dot_S1024x128_S128x128_S1024x128_1_0_0_1_n_n none gh wh (constant S1024x128 .f32 0x00000000#32))
      (matmul dot_S1024x128_S128x128_S1024x128_1_0_0_1_n_n none gl wh (constant S1024x128 .f32 0x00000000#32)))
      (matmul dot_S1024x128_S128x128_S1024x128_1_0_0_1_n_n none gh wl (constant S1024x128 .f32 0x00000000#32)))
    (broadcastTo S1024x128 (shapeCast S1x128 b shapeCasts_S1x128_S1x128) broadcasts_S1x128_S1024x128)

/-- The log decay of a position from its preactivation. -/
def logA (z : FVec F S1024x128 .f32) : FVec F S1024x128 .f32 :=
  divf (subf (minimumf z (zero S1024x128))
      (log (addf (broadcast S1024x128 (Scalar.ofBits .f32 0x3F800000#32)) (exp (subf (zero S1024x128) (absf z))))))
    (broadcast S1024x128 (Scalar.ofBits .f32 0x41800000#32))

/-- One doubling of the running sum within a chunk: add the value `sh` rows up, where that row is in the chunk. -/
def rollAdd (sh : BitVec 32) (b : FVec F S1024x128 .f32) : FVec F S1024x128 .f32 :=
  addf b (select (cmpi .sge rin (broadcast S1024x128 sh)) (dynamicRotate 0 sh none b rotates_S1024x128_d0) (zero S1024x128))

/-- The running log decay within each chunk. -/
def cum (gk : Vec F S1024x128 .f32) (w : Vec F S128x128 .f32) (b : Vec F S1x128 .f32) : FVec F S1024x128 .f32 :=
  rollAdd 32#32 (rollAdd 16#32 (rollAdd 8#32 (rollAdd 4#32 (rollAdd 2#32 (rollAdd 1#32 (logA (zed gk w b)))))))

/-- The queries, scaled and grown by the running decay. -/
def qg (q : Vec F S1024x128 .bf16) (b : FVec F S1024x128 .f32) : FVec F S1024x128 .bf16 :=
  truncf .bf16 (mulf (mulf (extf .f32 q bitsLt_bf16_f32) (broadcast S1024x128 (Scalar.ofBits .f32 0x3DB504F3#32))) (exp b))
    bitsLt_bf16_f32

/-- The keys shrunk by the running decay. -/
def kg (k : Vec F S1024x128 .bf16) (b : FVec F S1024x128 .f32) : FVec F S1024x128 .bf16 :=
  truncf .bf16 (mulf (extf .f32 k bitsLt_bf16_f32) (exp (subf (zero S1024x128) b))) bitsLt_bf16_f32

/-- The running log decay at each chunk's last row. -/
def blast (b : FVec F S1024x128 .f32) : FVec F S16x1x128 .f32 :=
  extractStridedSlice S16x1x128 ![0, 63, 0] (shapeCast S16x64x128 b shapeCasts_S1024x128_S16x64x128) slices_S16x64x128_o0_63_0_S16x1x128

/-- The keys carried to their chunk's end. -/
def kend (k : Vec F S1024x128 .bf16) (b : FVec F S1024x128 .f32) : FVec F S1024x128 .bf16 :=
  truncf .bf16 (mulf (extf .f32 k bitsLt_bf16_f32)
    (shapeCast S1024x128 (exp (subf (broadcastTo S16x64x128 (shapeCast S16x1x128 (blast b) shapeCasts_S16x1x128_S16x1x128)
        broadcasts_S16x1x128_S16x64x128) (shapeCast S16x64x128 b shapeCasts_S1024x128_S16x64x128))) shapeCasts_S16x64x128_S1024x128))
    bitsLt_bf16_f32

/-- The rows of chunk `n`. -/
def row (n : Fin 16) {e : FTy} (x : FVec F S1024x128 e) : FVec F S64x128 e :=
  extractStridedSlice S64x128 ![64 * n.val, 0] x (sl64 n)

/-- Attention within a chunk: the causal product of its queries and keys, times its values. -/
def intra (qc kc : FVec F S64x128 .bf16) (v : Vec F S64x256 .bf16) : FVec F S64x256 .f32 :=
  matmul dot_S64x64_S64x256_S64x256_1_0_0_1_n_n none
    (truncf .bf16 (select (cmpi .sle (iota .tc S64x64 32 [1] iota_S64x64_d1_w32) (iota .tc S64x64 32 [0] iota_S64x64_d0_w32))
      (matmul dot_S64x128_S64x128_S64x64_1_1_0_0_n_n none qc kc (constant S64x64 .f32 0x00000000#32)) (zero S64x64)) bitsLt_bf16_f32)
    v (constant S64x256 .f32 0x00000000#32)

/-- A chunk's decay, one value per state row, as a column. -/
def dcol (n : Fin 16) (b : FVec F S1024x128 .f32) : FVec F S128x1 .f32 :=
  shapeCast S128x1 (multiReduction .add [1] S128
    (select (cmpi .eq (iota .tc S128x128 32 [0] iota_S128x128_d0_w32) (iota .tc S128x128 32 [1] iota_S128x128_d1_w32))
      (broadcastTo S128x128 (shapeCast S1x128 (shapeCast S1x128 (extractStridedSlice S1x1x128 ![n.val, 0, 0] (exp (blast b))
        (sl16 n)) shapeCasts_S1x1x128_S1x128) shapeCasts_S1x128_S1x128) broadcasts_S1x128_S128x128)
      (zero S128x128)) 0x00000000#32 reduces_S128x128_S128 (.inl rfl) rfl) shapeCasts_S128_S128x1

/-- The state after chunk `n` from the state before it. -/
def next (n : Fin 16) (b : FVec F S1024x128 .f32) (ke : FVec F S64x128 .bf16) (v : Vec F S64x256 .bf16) (s : FVec F S128x256 .f32) :
    FVec F S128x256 .f32 :=
  addf (mulf (broadcastTo S128x256 (dcol n b) broadcasts_S128x1_S128x256) s)
    (matmul dot_S64x128_S64x256_S128x256_0_0_1_1_n_n none ke v (constant S128x256 .f32 0x00000000#32))

/-- A chunk's output: attention within it plus the queries on the state carried in. -/
def out (qc kc : FVec F S64x128 .bf16) (v : Vec F S64x256 .bf16) (s : FVec F S128x256 .f32) : FVec F S64x256 .f32 :=
  addf (intra qc kc v) (matmul dot_S64x128_S128x256_S64x256_1_0_0_1_n_n none qc (truncf .bf16 s bitsLt_bf16_f32)
    (constant S64x256 .f32 0x00000000#32))

/-- The state after the first `n` chunks of a step. -/
def stateAt (k : Vec F S1024x128 .bf16) (b : FVec F S1024x128 .f32) (v : Fin 16 → Vec F S64x256 .bf16) (s : FVec F S128x256 .f32) :
    (n : ℕ) → n ≤ 16 → FVec F S128x256 .f32
  | 0, _ => s
  | n + 1, h => next ⟨n, h⟩ b (row ⟨n, h⟩ (kend k b)) (v ⟨n, h⟩) (stateAt k b v s n (Nat.le_of_succ_le h))

/-- The output of chunk `n`. -/
def outAt (q k : Vec F S1024x128 .bf16) (b : FVec F S1024x128 .f32) (v : Fin 16 → Vec F S64x256 .bf16) (s : FVec F S128x256 .f32)
    (n : Fin 16) : FVec F S64x256 .f32 :=
  out (row n (qg q b)) (row n (kg k b)) (v n) (stateAt k b v s n.val n.isLt.le)

/-- A head's outputs, chunk after chunk. -/
def outs (q k : Vec F S1024x128 .bf16) (b : FVec F S1024x128 .f32) (v : Fin 16 → Vec F S64x256 .bf16) (s : FVec F S128x256 .f32) :
    FVec F S1024x256 .f32 :=
  let o := outAt q k b v s
  concatenate S1024x256 0 [⟨S64x256, o 0⟩, ⟨S64x256, o 1⟩, ⟨S64x256, o 2⟩, ⟨S64x256, o 3⟩, ⟨S64x256, o 4⟩, ⟨S64x256, o 5⟩,
    ⟨S64x256, o 6⟩, ⟨S64x256, o 7⟩, ⟨S64x256, o 8⟩, ⟨S64x256, o 9⟩, ⟨S64x256, o 10⟩, ⟨S64x256, o 11⟩, ⟨S64x256, o 12⟩,
    ⟨S64x256, o 13⟩, ⟨S64x256, o 14⟩, ⟨S64x256, o 15⟩]
    concatenates_S64x256_S64x256_S64x256_S64x256_S64x256_S64x256_S64x256_S64x256_S64x256_S64x256_S64x256_S64x256_S64x256_S64x256_S64x256_S64x256_S1024x256_d0

/-- The head norm, its weight and the output gate. -/
def fin (o : FVec F S1024x256 .f32) (gn : Vec F S1x256 .f32) (r : Vec F S1024x256 .bf16) : FVec F S1024x256 .bf16 :=
  truncf .bf16 (mulf (mulf (mulf o (broadcastTo S1024x256 (rsqrt (addf (divf
      (shapeCast S1024x1 (multiReduction .add [1] S1024 (mulf o o) 0x00000000#32 reduces_S1024x256_S1024 (.inl rfl) rfl) shapeCasts_S1024_S1024x1)
      (broadcast S1024x1 (Scalar.ofBits .f32 0x43800000#32))) (broadcast S1024x1 (Scalar.ofBits .f32 0x358637BD#32)))) broadcasts_S1024x1_S1024x256))
      (broadcastTo S1024x256 (shapeCast S1x256 gn shapeCasts_S1x256_S1x256) broadcasts_S1x256_S1024x256))
    (extf .f32 r bitsLt_bf16_f32)) bitsLt_bf16_f32

/-- What a head stores of its output. -/
def head (q k : Vec F S1024x128 .bf16) (gk : Vec F S1024x128 .f32) (w : Vec F S128x128 .f32) (b : Vec F S1x128 .f32)
    (v : Fin 16 → Vec F S64x256 .bf16) (s : Vec F S1x128x256 .f32) (gn : Vec F S1x256 .f32) (r : Vec F S1024x256 .bf16) :
    FVec F S1024x256 .bf16 :=
  fin (outs q k (cum gk w b) v (shapeCast S128x256 s shapeCasts_S1x128x256_S128x256)) gn r

/-- What a head stores of its state. -/
def carry (k : Vec F S1024x128 .bf16) (gk : Vec F S1024x128 .f32) (w : Vec F S128x128 .f32) (b : Vec F S1x128 .f32)
    (v : Fin 16 → Vec F S64x256 .bf16) (s : Vec F S1x128x256 .f32) : FVec F S1x128x256 .f32 :=
  shapeCast S1x128x256 (stateAt k (cum gk w b) v (shapeCast S128x256 s shapeCasts_S1x128x256_S128x256) 16 le_rfl) shapeCasts_S128x256_S1x128x256

end Cert.Gla.Kern

end
-- ==== Proof.Step.lean ====
module

public import proofs.«01_k».proof.Proof.Kern
public import Idealize.ShloMosaic.Lib.Pointwise
public import Idealize.ShloMosaic.Lib.WholeRead
public import Idealize.ShloMosaic.Lib.WritesUnit
public import Idealize.ShloMosaic.Lib.Pipeline.ValueKit

@[expose] public section

noncomputable section

/-! What one grid step stores, as the four heads' outputs and states. -/

namespace Cert.Gla.Kern

open Idealize.ShloMosaic Cert.KernelIdeal Cert.KernelIdeal.Gen Idealize.SL.Sem

variable {F : FTy → Type} [FloatOps F]

theorem inQ : ∀ (h : Fin 4) (a : Fin 2), (![0, 128 * h.val] : Fin 2 → ℕ) a + S1024x128.size a ≤ S1024x512.size a := by decide
theorem inV : ∀ (h : Fin 4) (n : Fin 16) (a : Fin 2), (![64 * n.val, 256 * h.val] : Fin 2 → ℕ) a + S64x256.size a ≤ S1024x1024.size a := by decide
theorem inG : ∀ (a : Fin 2), (![0, 0] : Fin 2 → ℕ) a + S1024x128.size a ≤ S1024x128.size a := by decide
theorem inW : ∀ (h : Fin 4) (a : Fin 2), (![0, 128 * h.val] : Fin 2 → ℕ) a + S128x128.size a ≤ S128x512.size a := by decide
theorem inB : ∀ (h : Fin 4) (a : Fin 2), (![0, 128 * h.val] : Fin 2 → ℕ) a + S1x128.size a ≤ S1x512.size a := by decide
theorem inR : ∀ (h : Fin 4) (a : Fin 2), (![0, 256 * h.val] : Fin 2 → ℕ) a + S1024x256.size a ≤ S1024x1024.size a := by decide
theorem inN : ∀ (a : Fin 2), (![0, 0] : Fin 2 → ℕ) a + S1x256.size a ≤ S1x256.size a := by decide
theorem inS : ∀ (h : Fin 4) (a : Fin 3), (![h.val, 0, 0] : Fin 3 → ℕ) a + S1x128x256.size a ≤ S4x128x256.size a := by decide

/-- The rectangle of head `h`'s output. -/
abbrev rectR (h : Fin 4) : Rect S1024x1024 := Rect.unit ![0, 256 * h.val] S1024x256.size (inR h)

/-- The rectangle of head `h`'s state. -/
abbrev rectS (h : Fin 4) : Rect S4x128x256 := Rect.unit ![h.val, 0, 0] S1x128x256.size (inS h)

section

variable (arg2 : Memref sig .tc .vmem S1024x512 .bf16) (harg2 : arg2.IsWhole) (arg3 : Memref sig .tc .vmem S1024x512 .bf16)
  (harg3 : arg3.IsWhole) (arg4 : Memref sig .tc .vmem S1024x1024 .bf16) (harg4 : arg4.IsWhole)
  (arg5 : Memref sig .tc .vmem S1024x128 .f32) (harg5 : arg5.IsWhole) (arg6 : Memref sig .tc .vmem S128x512 .f32)
  (harg6 : arg6.IsWhole) (arg7 : Memref sig .tc .vmem S1x512 .f32) (harg7 : arg7.IsWhole)
  (arg8 : Memref sig .tc .vmem S1024x1024 .bf16) (harg8 : arg8.IsWhole) (arg9 : Memref sig .tc .vmem S1x256 .f32)
  (harg9 : arg9.IsWhole) (arg10 : Memref sig .tc .vmem S1024x1024 .bf16) (harg10 : arg10.IsWhole)
  (arg11 : Memref sig .tc .vmem S4x128x256 .f32) (harg11 : arg11.IsWhole)
  (x0 x1 : Vec F S1024x512 .bf16) (x2 : Vec F S1024x1024 .bf16) (x3 : Vec F S1024x128 .f32) (x4 : Vec F S128x512 .f32)
  (x5 : Vec F S1x512 .f32) (x6 : Vec F S1024x1024 .bf16) (x7 : Vec F S1x256 .f32) (xs0 : Vec F S4x128x256 .f32)

/-- What head `h` stores of its output, from what it loads. -/
def headL (h : Fin 4) (s : Vec F S1x128x256 .f32) : FVec F S1024x256 .bf16 :=
  head (arg2.view.readAt (Elt F) (Rect.unit (s := S1024x512) ![0, 128 * h.val] S1024x128.size (inQ h)).toLoadRect (harg2.unread x0))
    (arg3.view.readAt (Elt F) (Rect.unit (s := S1024x512) ![0, 128 * h.val] S1024x128.size (inQ h)).toLoadRect (harg3.unread x1))
    (arg5.view.readAt (Elt F) (Rect.unit (s := S1024x128) ![0, 0] S1024x128.size inG).toLoadRect (harg5.unread x3))
    (arg6.view.readAt (Elt F) (Rect.unit (s := S128x512) ![0, 128 * h.val] S128x128.size (inW h)).toLoadRect (harg6.unread x4))
    (arg7.view.readAt (Elt F) (Rect.unit (s := S1x512) ![0, 128 * h.val] S1x128.size (inB h)).toLoadRect (harg7.unread x5))
    (fun n => arg4.view.readAt (Elt F) (Rect.unit (s := S1024x1024) ![64 * n.val, 256 * h.val] S64x256.size (inV h n)).toLoadRect (harg4.unread x2))
    s
    (arg9.view.readAt (Elt F) (Rect.unit (s := S1x256) ![0, 0] S1x256.size inN).toLoadRect (harg9.unread x7))
    (arg8.view.readAt (Elt F) (Rect.unit (s := S1024x1024) ![0, 256 * h.val] S1024x256.size (inR h)).toLoadRect (harg8.unread x6))

/-- What head `h` stores of its state, from what it loads. -/
def carryL (h : Fin 4) (s : Vec F S1x128x256 .f32) : FVec F S1x128x256 .f32 :=
  carry (arg3.view.readAt (Elt F) (Rect.unit (s := S1024x512) ![0, 128 * h.val] S1024x128.size (inQ h)).toLoadRect (harg3.unread x1))
    (arg5.view.readAt (Elt F) (Rect.unit (s := S1024x128) ![0, 0] S1024x128.size inG).toLoadRect (harg5.unread x3))
    (arg6.view.readAt (Elt F) (Rect.unit (s := S128x512) ![0, 128 * h.val] S128x128.size (inW h)).toLoadRect (harg6.unread x4))
    (arg7.view.readAt (Elt F) (Rect.unit (s := S1x512) ![0, 128 * h.val] S1x128.size (inB h)).toLoadRect (harg7.unread x5))
    (fun n => arg4.view.readAt (Elt F) (Rect.unit (s := S1024x1024) ![64 * n.val, 256 * h.val] S64x256.size (inV h n)).toLoadRect (harg4.unread x2))
    s

/-- The state head `h` loads at a step that is not a row of steps' first. -/
def stateL (h : Fin 4) : Vec F S1x128x256 .f32 := arg11.view.readAt (Elt F) (rectS h).toLoadRect (harg11.unread xs0)

/-- The offsets of a head's output and of its state. -/
abbrev offO (h : Fin 4) : Fin 2 → ℕ := ![0, 256 * h.val]
abbrev offS (h : Fin 4) : Fin 3 → ℕ := ![h.val, 0, 0]

/-- The pieces a step leaves in its output block. -/
abbrev piecesO (s : Fin 4 → Vec F S1x128x256 .f32) : List (View.Piece (Elt F) S1024x1024 .bf16) :=
  View.tilePieces (s := S1024x1024) (e := .bf16) S1024x256.size offO inR (fun h => headL arg2 harg2 arg3 harg3 arg4 harg4 arg5 harg5 arg6 harg6 arg7 harg7 arg8 harg8 arg9 harg9
    x0 x1 x2 x3 x4 x5 x6 x7 h (s h)) 4 le_rfl

/-- The pieces a step leaves in the state buffer. -/
abbrev piecesS (s : Fin 4 → Vec F S1x128x256 .f32) (n : ℕ) (hn : n ≤ 4) : List (View.Piece (Elt F) S4x128x256 .f32) :=
  View.tilePieces (s := S4x128x256) (e := .f32) S1x128x256.size offS inS (fun h => carryL arg3 harg3 arg4 harg4 arg5 harg5 arg6 harg6 arg7 harg7 x1 x2 x3 x4 x5 h (s h)) n hn

/-- The state buffer filled with zeros. -/
def zeroS : View.Piece (Elt F) S4x128x256 .f32 := ⟨Rect.unit ![0, 0, 0] S4x128x256.size (by decide), k0_pay2⟩

/-- The pieces in the state buffer after the first `n` heads of a row of steps' first step. -/
def piecesA : (n : ℕ) → n ≤ 4 → List (View.Piece (Elt F) S4x128x256 .f32)
  | 0, _ => [zeroS]
  | n + 1, hn => ⟨rectS ⟨n, hn⟩, carryL arg3 harg3 arg4 harg4 arg5 harg5 arg6 harg6 arg7 harg7 x1 x2 x3 x4 x5 ⟨n, hn⟩
      (arg11.view.readCov (piecesA n (Nat.le_of_succ_le hn)) (rectS ⟨n, hn⟩).toLoadRect)⟩ :: piecesA n (Nat.le_of_succ_le hn)

/-- The state head `h` loads at a row of steps' first step. -/
def stateA (h : Fin 4) : Vec F S1x128x256 .f32 :=
  arg11.view.readCov (piecesA arg3 harg3 arg4 harg4 arg5 harg5 arg6 harg6 arg7 harg7 arg11 x1 x2 x3 x4 x5 h.val h.isLt.le) (rectS h).toLoadRect

/-- A first step's state pieces lie over the zero fill. -/
theorem piecesA_eq (n : ℕ) (hn : n ≤ 4) :
    piecesA arg3 harg3 arg4 harg4 arg5 harg5 arg6 harg6 arg7 harg7 arg11 x1 x2 x3 x4 x5 n hn
      = piecesS arg3 harg3 arg4 harg4 arg5 harg5 arg6 harg6 arg7 harg7 x1 x2 x3 x4 x5
          (stateA arg3 harg3 arg4 harg4 arg5 harg5 arg6 harg6 arg7 harg7 arg11 x1 x2 x3 x4 x5) n hn ++ [zeroS] := by
  induction n with
  | zero => rfl
  | succ n ih => exact congrArg (List.cons _) (ih (Nat.le_of_succ_le hn))

variable (c : Dev nD) (i : grid0.Coords)

/-- A later step's output pieces. -/
theorem pieces_B (hc0 : ¬cond0_0 i) :
    (kernelRun0_B (F := F) c i arg2 harg2 arg3 harg3 arg4 harg4 arg5 harg5 arg6 harg6 arg7 harg7 arg8 harg8 arg9 harg9 arg10 harg10 arg11 harg11
        hc0 x0 x1 x2 x3 x4 x5 x6 x7 xs0).1
      = piecesO arg2 harg2 arg3 harg3 arg4 harg4 arg5 harg5 arg6 harg6 arg7 harg7 arg8 harg8 arg9 harg9 x0 x1 x2 x3 x4 x5 x6 x7
          (stateL arg11 harg11 xs0) := by
  chain_rfl

/-- A later step's state pieces. -/
theorem spieces_B (hc0 : ¬cond0_0 i) :
    (kernelRun0_B (F := F) c i arg2 harg2 arg3 harg3 arg4 harg4 arg5 harg5 arg6 harg6 arg7 harg7 arg8 harg8 arg9 harg9 arg10 harg10 arg11 harg11
        hc0 x0 x1 x2 x3 x4 x5 x6 x7 xs0).2.1
      = piecesS arg3 harg3 arg4 harg4 arg5 harg5 arg6 harg6 arg7 harg7 x1 x2 x3 x4 x5
          (stateL arg11 harg11 xs0) 4 le_rfl := by
  chain_rfl

/-- A first step's output pieces. -/
theorem pieces_A (hc0 : cond0_0 i) :
    (kernelRun0_A (F := F) c i arg2 harg2 arg3 harg3 arg4 harg4 arg5 harg5 arg6 harg6 arg7 harg7 arg8 harg8 arg9 harg9 arg10 harg10 arg11 harg11
        hc0 x0 x1 x2 x3 x4 x5 x6 x7).1
      = piecesO arg2 harg2 arg3 harg3 arg4 harg4 arg5 harg5 arg6 harg6 arg7 harg7 arg8 harg8 arg9 harg9 x0 x1 x2 x3 x4 x5 x6 x7
          (stateA arg3 harg3 arg4 harg4 arg5 harg5 arg6 harg6 arg7 harg7 arg11 x1 x2 x3 x4 x5) := by
  chain_rfl

/-- A first step's state pieces. -/
theorem spieces_A (hc0 : cond0_0 i) :
    (kernelRun0_A (F := F) c i arg2 harg2 arg3 harg3 arg4 harg4 arg5 harg5 arg6 harg6 arg7 harg7 arg8 harg8 arg9 harg9 arg10 harg10 arg11 harg11
        hc0 x0 x1 x2 x3 x4 x5 x6 x7).2.1
      = piecesA arg3 harg3 arg4 harg4 arg5 harg5 arg6 harg6 arg7 harg7 arg11 x1 x2 x3 x4 x5 4 le_rfl := by
  chain_rfl

/-- Every head's first state is zero. -/
theorem stateA_eq (h : Fin 4) :
    stateA arg3 harg3 arg4 harg4 arg5 harg5 arg6 harg6 arg7 harg7 arg11 x1 x2 x3 x4 x5 h = fun _ => Scalar.ofBits .f32 0x00000000#32 := by
  funext x
  rw [stateA, piecesA_eq]
  show arg11.view.read (Elt F) (arg11.view.writes (Elt F) arg11.view.junk (_ ++ [zeroS])) ((rectS h).emb x) = _
  rw [View.writes_append]
  refine (View.read_tilePieces_miss arg11.view _ S1x128x256.size offS inS _ h.val h.isLt.le _ (0 : Fin 3) ?_).trans ?_
  · intro h' hlt
    refine Or.inr ?_
    show h'.val + 1 ≤ h.val + 1 * (x 0).val
    omega
  · refine (View.read_writes_cons_unit_of_mem (s := S4x128x256) arg11.view _ _ _ [] _ ((rectS h).emb x) rfl fun a => ?_).trans ?_
    · match a with
      | ⟨0, _⟩ => exact (Nat.zero_add _).symm
      | ⟨1, _⟩ => exact (Nat.zero_add _).symm
      | ⟨2, _⟩ => exact (Nat.zero_add _).symm
    · rfl

/-- Reading a step's output block at a place of head `h`. -/
theorem read_piecesO (V : View sig .tc .vmem S1024x1024 .bf16) (f : V.ty.Contents (Elt F)) (s : Fin 4 → Vec F S1x128x256 .f32) (h : Fin 4)
    (a : Fin 1024) (b : Fin 256) (e : Fin 1024) (he : e.val = 256 * h.val + b.val) :
    V.read (Elt F) (V.writes (Elt F) f (piecesO arg2 harg2 arg3 harg3 arg4 harg4 arg5 harg5 arg6 harg6 arg7 harg7 arg8 harg8 arg9 harg9 x0 x1 x2 x3 x4 x5 x6 x7 s))
        (ix2 a e)
      = headL arg2 harg2 arg3 harg3 arg4 harg4 arg5 harg5 arg6 harg6 arg7 harg7 arg8 harg8 arg9 harg9 x0 x1 x2 x3 x4 x5 x6 x7 h (s h) (ix2 a b) := by
  refine (View.read_tilePieces V f S1024x256.size offO inR _ 4 le_rfl _ h h.isLt (ix2 a b) ?_ (1 : Fin 2) ?_)
  · intro ax
    match ax with
    | ⟨0, _⟩ => exact (Nat.zero_add _).symm
    | ⟨1, _⟩ => exact he
  · intro h' hne
    have : h'.val ≠ h.val := fun hh => hne (Fin.ext hh)
    show e.val < 256 * h'.val ∨ 256 * h'.val + 256 ≤ e.val
    omega

/-- Reading the state buffer at head `h`. -/
theorem read_piecesS (V : View sig .tc .vmem S4x128x256 .f32) (f : V.ty.Contents (Elt F)) (s : Fin 4 → Vec F S1x128x256 .f32) (h : Fin 4)
    (a : Fin 128) (b : Fin 256) :
    V.read (Elt F) (V.writes (Elt F) f (piecesS arg3 harg3 arg4 harg4 arg5 harg5 arg6 harg6 arg7 harg7 x1 x2 x3 x4 x5 s 4 le_rfl)) (ix3 h a b)
      = carryL arg3 harg3 arg4 harg4 arg5 harg5 arg6 harg6 arg7 harg7 x1 x2 x3 x4 x5 h (s h) (ix3 0 a b) := by
  refine (View.read_tilePieces V f S1x128x256.size offS inS _ 4 le_rfl _ h h.isLt (ix3 0 a b) ?_ (0 : Fin 3) ?_)
  · intro ax
    match ax with
    | ⟨0, _⟩ => rfl
    | ⟨1, _⟩ => exact (Nat.zero_add _).symm
    | ⟨2, _⟩ => exact (Nat.zero_add _).symm
  · intro h' hne
    have : h'.val ≠ h.val := fun hh => hne (Fin.ext hh)
    show h.val < h'.val ∨ h'.val + 1 ≤ h.val
    omega

end

/-! The same over the blocks themselves. -/

/-- Head `h`'s columns of a block of queries or keys. -/
def qkX {e : EltTy} (x : Vec F S1024x512 e) (h : Fin 4) : Vec F S1024x128 e :=
  fun j => x (ix2 (j 0) ⟨128 * h.val + (j 1).val, by have : (j 1).val < 128 := (j 1).isLt; omega⟩)

/-- Chunk `n` of head `h` of a block of values. -/
def vX (x : Vec F S1024x1024 .bf16) (h : Fin 4) (n : Fin 16) : Vec F S64x256 .bf16 :=
  fun j => x (ix2 ⟨64 * n.val + (j 0).val, by have : (j 0).val < 64 := (j 0).isLt; omega⟩ ⟨256 * h.val + (j 1).val, by have : (j 1).val < 256 := (j 1).isLt; omega⟩)

/-- Head `h`'s columns of the gate's weight. -/
def wX (x : Vec F S128x512 .f32) (h : Fin 4) : Vec F S128x128 .f32 :=
  fun j => x (ix2 (j 0) ⟨128 * h.val + (j 1).val, by have : (j 1).val < 128 := (j 1).isLt; omega⟩)

/-- Head `h`'s part of the gate's bias. -/
def bX (x : Vec F S1x512 .f32) (h : Fin 4) : Vec F S1x128 .f32 :=
  fun j => x (ix2 (j 0) ⟨128 * h.val + (j 1).val, by have : (j 1).val < 128 := (j 1).isLt; omega⟩)

/-- Head `h`'s columns of the output gate. -/
def rX (x : Vec F S1024x1024 .bf16) (h : Fin 4) : Vec F S1024x256 .bf16 :=
  fun j => x (ix2 (j 0) ⟨256 * h.val + (j 1).val, by have : (j 1).val < 256 := (j 1).isLt; omega⟩)

/-- Head `h`'s state. -/
def sX (x : Vec F S4x128x256 .f32) (h : Fin 4) : Vec F S1x128x256 .f32 :=
  fun j => x (ix3 h (j 1) (j 2))

/-- What head `h` stores of its output, from the step's blocks and the state carried in. -/
def headX (x0 x1 : Vec F S1024x512 .bf16) (x2 : Vec F S1024x1024 .bf16) (x3 : Vec F S1024x128 .f32) (x4 : Vec F S128x512 .f32)
    (x5 : Vec F S1x512 .f32) (x6 : Vec F S1024x1024 .bf16) (x7 : Vec F S1x256 .f32) (h : Fin 4) (s : Vec F S1x128x256 .f32) : FVec F S1024x256 .bf16 :=
  head (qkX x0 h) (qkX x1 h) x3 (wX x4 h) (bX x5 h) (vX x2 h) s x7 (rX x6 h)

/-- What head `h` stores of its state, from the step's blocks and the state carried in. -/
def carryX (x1 : Vec F S1024x512 .bf16) (x2 : Vec F S1024x1024 .bf16) (x3 : Vec F S1024x128 .f32) (x4 : Vec F S128x512 .f32)
    (x5 : Vec F S1x512 .f32) (h : Fin 4) (s : Vec F S1x128x256 .f32) : FVec F S1x128x256 .f32 :=
  carry (qkX x1 h) x3 (wX x4 h) (bX x5 h) (vX x2 h) s

section

variable (arg2 : Memref sig .tc .vmem S1024x512 .bf16) (harg2 : arg2.IsWhole) (arg3 : Memref sig .tc .vmem S1024x512 .bf16)
  (harg3 : arg3.IsWhole) (arg4 : Memref sig .tc .vmem S1024x1024 .bf16) (harg4 : arg4.IsWhole)
  (arg5 : Memref sig .tc .vmem S1024x128 .f32) (harg5 : arg5.IsWhole) (arg6 : Memref sig .tc .vmem S128x512 .f32)
  (harg6 : arg6.IsWhole) (arg7 : Memref sig .tc .vmem S1x512 .f32) (harg7 : arg7.IsWhole)
  (arg8 : Memref sig .tc .vmem S1024x1024 .bf16) (harg8 : arg8.IsWhole) (arg9 : Memref sig .tc .vmem S1x256 .f32)
  (harg9 : arg9.IsWhole) (arg10 : Memref sig .tc .vmem S1024x1024 .bf16) (harg10 : arg10.IsWhole)
  (arg11 : Memref sig .tc .vmem S4x128x256 .f32) (harg11 : arg11.IsWhole)
  (x0 x1 : Vec F S1024x512 .bf16) (x2 : Vec F S1024x1024 .bf16) (x3 : Vec F S1024x128 .f32) (x4 : Vec F S128x512 .f32)
  (x5 : Vec F S1x512 .f32) (x6 : Vec F S1024x1024 .bf16) (x7 : Vec F S1x256 .f32) (xs0 : Vec F S4x128x256 .f32)

/-- A load of a rectangle of a rank-two block, as a function of the block. -/
theorem ld2 {m n m' n' : ℕ} {e : EltTy} (arg : Memref sig .tc .vmem ⟨2, ![m, n]⟩ e) (harg : arg.IsWhole) (x : Vec F ⟨2, ![m, n]⟩ e) (o p : ℕ)
    (inb : ∀ a : Fin 2, (![o, p] : Fin 2 → ℕ) a + (![m', n'] : Fin 2 → ℕ) a ≤ (![m, n] : Fin 2 → ℕ) a) (y : Vec F ⟨2, ![m', n']⟩ e)
    (hy : ∀ (a : Fin m') (b : Fin n') (a' : Fin m) (b' : Fin n), a'.val = o + a.val → b'.val = p + b.val → y (ix2 a b) = x (ix2 a' b')) :
    arg.view.readAt (Elt F) (Rect.unit (s := ⟨2, ![m, n]⟩) ![o, p] ![m', n'] inb).toLoadRect (harg.unread x) = y := by
  funext j
  rw [harg.readAt_unread x]
  refine ((congrArg y (eq_ix2 j)).trans ((hy (j 0) (j 1) ((Rect.unit (s := ⟨2, ![m, n]⟩) ![o, p] ![m', n'] inb).emb j 0)
    ((Rect.unit (s := ⟨2, ![m, n]⟩) ![o, p] ![m', n'] inb).emb j 1) ?_ ?_).trans (congrArg x (eq_ix2 _).symm))).symm
  · show o + 1 * (j 0).val = o + (j 0).val
    omega
  · show p + 1 * (j 1).val = p + (j 1).val
    omega

/-- A head's output over its loads is that over the blocks. -/
theorem headL_eq (h : Fin 4) (s : Vec F S1x128x256 .f32) :
    headL arg2 harg2 arg3 harg3 arg4 harg4 arg5 harg5 arg6 harg6 arg7 harg7 arg8 harg8 arg9 harg9 x0 x1 x2 x3 x4 x5 x6 x7 h s
      = headX x0 x1 x2 x3 x4 x5 x6 x7 h s := by
  unfold headL headX
  congr 1
  · exact ld2 arg2 harg2 x0 _ _ (inQ h) (qkX x0 h) fun a b a' b' ha hb => congrArg x0 ((ix2_inj ..).2 ⟨Fin.ext (ha.trans (Nat.zero_add _)).symm, Fin.ext hb.symm⟩)
  · exact ld2 arg3 harg3 x1 _ _ (inQ h) (qkX x1 h) fun a b a' b' ha hb => congrArg x1 ((ix2_inj ..).2 ⟨Fin.ext (ha.trans (Nat.zero_add _)).symm, Fin.ext hb.symm⟩)
  · exact ld2 arg5 harg5 x3 _ _ inG x3 fun a b a' b' ha hb => congrArg x3 ((ix2_inj ..).2 ⟨Fin.ext (by omega), Fin.ext (by omega)⟩)
  · exact ld2 arg6 harg6 x4 _ _ (inW h) (wX x4 h) fun a b a' b' ha hb => congrArg x4 ((ix2_inj ..).2 ⟨Fin.ext (ha.trans (Nat.zero_add _)).symm, Fin.ext hb.symm⟩)
  · exact ld2 arg7 harg7 x5 _ _ (inB h) (bX x5 h) fun a b a' b' ha hb => congrArg x5 ((ix2_inj ..).2 ⟨Fin.ext (ha.trans (Nat.zero_add _)).symm, Fin.ext hb.symm⟩)
  · exact funext fun n => ld2 arg4 harg4 x2 _ _ (inV h n) (vX x2 h n) fun a b a' b' ha hb => congrArg x2 ((ix2_inj ..).2 ⟨Fin.ext ha.symm, Fin.ext hb.symm⟩)
  · exact ld2 arg9 harg9 x7 _ _ inN x7 fun a b a' b' ha hb => congrArg x7 ((ix2_inj ..).2 ⟨Fin.ext (by omega), Fin.ext (by omega)⟩)
  · exact ld2 arg8 harg8 x6 _ _ (inR h) (rX x6 h) fun a b a' b' ha hb => congrArg x6 ((ix2_inj ..).2 ⟨Fin.ext (ha.trans (Nat.zero_add _)).symm, Fin.ext hb.symm⟩)

/-- A head's state over its loads is that over the blocks. -/
theorem carryL_eq (h : Fin 4) (s : Vec F S1x128x256 .f32) :
    carryL arg3 harg3 arg4 harg4 arg5 harg5 arg6 harg6 arg7 harg7 x1 x2 x3 x4 x5 h s = carryX x1 x2 x3 x4 x5 h s := by
  unfold carryL carryX
  congr 1
  · exact ld2 arg3 harg3 x1 _ _ (inQ h) (qkX x1 h) fun a b a' b' ha hb => congrArg x1 ((ix2_inj ..).2 ⟨Fin.ext (ha.trans (Nat.zero_add _)).symm, Fin.ext hb.symm⟩)
  · exact ld2 arg5 harg5 x3 _ _ inG x3 fun a b a' b' ha hb => congrArg x3 ((ix2_inj ..).2 ⟨Fin.ext (by omega), Fin.ext (by omega)⟩)
  · exact ld2 arg6 harg6 x4 _ _ (inW h) (wX x4 h) fun a b a' b' ha hb => congrArg x4 ((ix2_inj ..).2 ⟨Fin.ext (ha.trans (Nat.zero_add _)).symm, Fin.ext hb.symm⟩)
  · exact ld2 arg7 harg7 x5 _ _ (inB h) (bX x5 h) fun a b a' b' ha hb => congrArg x5 ((ix2_inj ..).2 ⟨Fin.ext (ha.trans (Nat.zero_add _)).symm, Fin.ext hb.symm⟩)
  · exact funext fun n => ld2 arg4 harg4 x2 _ _ (inV h n) (vX x2 h n) fun a b a' b' ha hb => congrArg x2 ((ix2_inj ..).2 ⟨Fin.ext ha.symm, Fin.ext hb.symm⟩)

/-- A head's loaded state is that of the buffer. -/
theorem stateL_eq (h : Fin 4) : stateL arg11 harg11 xs0 h = sX xs0 h := by
  funext j
  rw [stateL, Memref.IsWhole.readAt_unread harg11 xs0]
  refine congrArg xs0 ((eq_ix3 _).trans ((ix3_inj ..).2 ⟨Fin.ext ?_, Fin.ext ?_, Fin.ext ?_⟩))
  · show h.val + 1 * (j 0).val = h.val
    have : (j 0).val < 1 := (j 0).isLt
    omega
  · show 0 + 1 * (j 1).val = (j 1).val
    omega
  · show 0 + 1 * (j 2).val = (j 2).val
    omega

variable (c : Dev nD) (i : grid0.Coords)

/-- The zero state. -/
abbrev zeroState : Vec F S1x128x256 .f32 := fun _ => Scalar.ofBits .f32 0x00000000#32

/-- What a later step leaves in its output block, at a place of head `h`. -/
theorem out_B (hc0 : ¬cond0_0 i) (h : Fin 4) (a : Fin 1024) (b : Fin 256) (e : Fin 1024) (he : e.val = 256 * h.val + b.val) :
    out0_B_8 (F := F) c i arg2 harg2 arg3 harg3 arg4 harg4 arg5 harg5 arg6 harg6 arg7 harg7 arg8 harg8 arg9 harg9 arg10 harg10 arg11 harg11
        hc0 x0 x1 x2 x3 x4 x5 x6 x7 xs0 (ix2 a e)
      = headX x0 x1 x2 x3 x4 x5 x6 x7 h (sX xs0 h) (ix2 a b) := by
  rw [out0_B_8, pieces_B, read_piecesO arg2 harg2 arg3 harg3 arg4 harg4 arg5 harg5 arg6 harg6 arg7 harg7 arg8 harg8 arg9 harg9 x0 x1 x2 x3 x4 x5 x6 x7
    _ _ _ h a b e he, headL_eq, stateL_eq]

/-- What a later step leaves of head `h`'s state. -/
theorem sout_B (hc0 : ¬cond0_0 i) (h : Fin 4) (a : Fin 128) (b : Fin 256) :
    sout0_B_0 (F := F) c i arg2 harg2 arg3 harg3 arg4 harg4 arg5 harg5 arg6 harg6 arg7 harg7 arg8 harg8 arg9 harg9 arg10 harg10 arg11 harg11
        hc0 x0 x1 x2 x3 x4 x5 x6 x7 xs0 (ix3 h a b)
      = carryX x1 x2 x3 x4 x5 h (sX xs0 h) (ix3 0 a b) := by
  rw [sout0_B_0, spieces_B, read_piecesS arg3 harg3 arg4 harg4 arg5 harg5 arg6 harg6 arg7 harg7 x1 x2 x3 x4 x5 _ _ _ h a b, carryL_eq, stateL_eq]

/-- What a first step leaves in its output block, at a place of head `h`. -/
theorem out_A (hc0 : cond0_0 i) (h : Fin 4) (a : Fin 1024) (b : Fin 256) (e : Fin 1024) (he : e.val = 256 * h.val + b.val) :
    out0_A_8 (F := F) c i arg2 harg2 arg3 harg3 arg4 harg4 arg5 harg5 arg6 harg6 arg7 harg7 arg8 harg8 arg9 harg9 arg10 harg10 arg11 harg11
        hc0 x0 x1 x2 x3 x4 x5 x6 x7 (ix2 a e)
      = headX x0 x1 x2 x3 x4 x5 x6 x7 h zeroState (ix2 a b) := by
  rw [out0_A_8, pieces_A, read_piecesO arg2 harg2 arg3 harg3 arg4 harg4 arg5 harg5 arg6 harg6 arg7 harg7 arg8 harg8 arg9 harg9 x0 x1 x2 x3 x4 x5 x6 x7
    _ _ _ h a b e he, headL_eq, stateA_eq]

/-- What a first step leaves of head `h`'s state. -/
theorem sout_A (hc0 : cond0_0 i) (h : Fin 4) (a : Fin 128) (b : Fin 256) :
    sout0_A_0 (F := F) c i arg2 harg2 arg3 harg3 arg4 harg4 arg5 harg5 arg6 harg6 arg7 harg7 arg8 harg8 arg9 harg9 arg10 harg10 arg11 harg11
        hc0 x0 x1 x2 x3 x4 x5 x6 x7 (ix3 h a b)
      = carryX x1 x2 x3 x4 x5 h zeroState (ix3 0 a b) := by
  rw [sout0_A_0, spieces_A, piecesA_eq, View.writes_append, read_piecesS arg3 harg3 arg4 harg4 arg5 harg5 arg6 harg6 arg7 harg7 x1 x2 x3 x4 x5 _ _ _ h a b,
    carryL_eq, stateA_eq]

end

end Cert.Gla.Kern

end
-- ==== Proof.KernVal.lean ====
module

public import proofs.«01_k».proof.Proof.Step
public import proofs.«01_k».proof.Proof.Spec

@[expose] public section

set_option maxRecDepth 16384

noncomputable section

/-! A step's blocks at an index: each is the model's. -/

namespace Cert.Gla.Kern

open Idealize.ShloMosaic Cert.KernelIdeal Cert.KernelIdeal.Gen Idealize.SL.Sem

/-- The last `w` terms of a running sum. -/
def win (f : ℕ → EReal) (w r : ℕ) : EReal := ∑ j ∈ Finset.range (min w (r + 1)), f (r - j)

theorem win_one (f : ℕ → EReal) (r : ℕ) : win f 1 r = f r := by
  unfold win
  rw [min_eq_left (by omega), Finset.sum_range_one, Nat.sub_zero]

/-- Twice as many terms: the last `w`, and the `w` before those. -/
theorem win_double (f : ℕ → EReal) (w r : ℕ) : win f w r + (if w ≤ r then win f w (r - w) else 0) = win f (2 * w) r := by
  unfold win
  by_cases h : w ≤ r
  · rw [if_pos h, min_eq_left (by omega), show min (2 * w) (r + 1) = w + min w (r - w + 1) by omega, Finset.sum_range_add]
    congr 1
    exact Finset.sum_congr rfl fun j _ => by rw [Nat.sub_sub]
  · rw [if_neg h, add_zero, show min (2 * w) (r + 1) = min w (r + 1) by omega]

/-- All the terms. -/
theorem win_all (f : ℕ → EReal) (w r : ℕ) (h : r < w) : win f w r = ∑ s ∈ Finset.range (r + 1), f s := by
  unfold win
  rw [min_eq_right (by omega), ← Finset.sum_range_reflect f]
  exact Finset.sum_congr rfl fun j _ => by rw [Nat.add_sub_cancel]

theorem ge_bit (sh : BitVec 32) (hs : sh = 1#32 ∨ sh = 2#32 ∨ sh = 4#32 ∨ sh = 8#32 ∨ sh = 16#32 ∨ sh = 32#32) : ∀ i : Fin 1024,
    IntOp.cmpi .sge (IntOp.andi (BitVec.ofNat 32 i.val) 63#32) sh = if sh.toNat ≤ i.val % 64 then 1#1 else 0#1 := by
  rcases hs with h | h | h | h | h | h <;> subst h <;> decide +kernel

theorem rollAdd_at (sh : BitVec 32) (hs : sh = 1#32 ∨ sh = 2#32 ∨ sh = 4#32 ∨ sh = 8#32 ∨ sh = 16#32 ∨ sh = 32#32) (z : FVec Ideal S1024x128 .f32)
    (d : Fin 128) (f : ℕ → ℕ → EReal) (hz : ∀ i : Fin 1024, z (ix2 i d) = win (f (i.val / 64)) sh.toNat (i.val % 64)) (i : Fin 1024) :
    rollAdd sh z (ix2 i d) = win (f (i.val / 64)) (2 * sh.toNat) (i.val % 64) := by
  rw [← win_double]
  have e : rollAdd sh z (ix2 i d) = z (ix2 i d) + Scalar.select (IntOp.cmpi .sge (IntOp.andi (BitVec.ofNat 32 i.val) 63#32) sh)
      (z (ix2 ⟨(i.val + 1024 - sh.toNat % 1024) % 1024, Nat.mod_lt _ (by decide)⟩ d)) 0 := by
    pointwise [rollAdd, rin]
  have hs64 : sh.toNat < 64 := by
    rcases hs with h | h | h | h | h | h <;> subst h <;> decide
  rw [e, ge_bit sh hs, hz i]
  congr 1
  by_cases h : sh.toNat ≤ i.val % 64
  · rw [if_pos h, if_pos h]
    show z _ = _
    have hi : (⟨(i.val + 1024 - sh.toNat % 1024) % 1024, Nat.mod_lt _ (by decide)⟩ : Fin 1024) = ⟨i.val - sh.toNat, by omega⟩ :=
      Fin.ext (by show (i.val + 1024 - sh.toNat % 1024) % 1024 = i.val - sh.toNat; omega)
    rw [hi, hz]
    show win (f ((i.val - sh.toNat) / 64)) _ ((i.val - sh.toNat) % 64) = _
    rw [show (i.val - sh.toNat) / 64 = i.val / 64 by omega, show (i.val - sh.toNat) % 64 = i.val % 64 - sh.toNat by omega]
  · rw [if_neg h, if_neg h]
    rfl

theorem logA_at (z : FVec Ideal S1024x128 .f32) (i : Fin 1024) (d : Fin 128) : logA z (ix2 i d) = Spec.logA (z (ix2 i d)) := by
  pointwise [logA, Spec.logA]

/-- The running log decay within each chunk. -/
theorem cum_at (gk : Vec Ideal S1024x128 .f32) (w : Vec Ideal S128x128 .f32) (b : Vec Ideal S1x128 .f32) (d : Fin 128) (la : ℕ → Fin 128 → EReal) (N : ℕ)
    (hz : ∀ i : Fin 1024, Spec.logA (zed gk w b (ix2 i d)) = la (64 * N + i.val) d) (i : Fin 1024) :
    cum gk w b (ix2 i d) = Spec.cum la (N + i.val / 64) (i.val % 64) d := by
  have h0 : ∀ i : Fin 1024, logA (zed gk w b) (ix2 i d) = win (fun s => la (64 * (N + i.val / 64) + s) d) 1 (i.val % 64) := fun i => by
    rw [logA_at, hz, win_one, show 64 * (N + i.val / 64) + i.val % 64 = 64 * N + i.val by omega]
  have h1 := rollAdd_at 1#32 (by decide) (logA (zed gk w b)) d (fun n s => la (64 * (N + n) + s) d) h0
  have h2 := rollAdd_at 2#32 (by decide) _ d (fun n s => la (64 * (N + n) + s) d) h1
  have h3 := rollAdd_at 4#32 (by decide) _ d (fun n s => la (64 * (N + n) + s) d) h2
  have h4 := rollAdd_at 8#32 (by decide) _ d (fun n s => la (64 * (N + n) + s) d) h3
  have h5 := rollAdd_at 16#32 (by decide) _ d (fun n s => la (64 * (N + n) + s) d) h4
  have h6 := rollAdd_at 32#32 (by decide) _ d (fun n s => la (64 * (N + n) + s) d) h5
  exact (h6 i).trans (win_all _ 64 _ (Nat.mod_lt _ (by decide)))

section

variable (B : FVec Ideal S1024x128 .f32) (la : ℕ → Fin 128 → EReal) (N : ℕ)
  (hB : ∀ (i : Fin 1024) (d : Fin 128), B (ix2 i d) = Spec.cum la (N + i.val / 64) (i.val % 64) d)
  (q k : Vec Ideal S1024x128 .bf16) (Q K : ℕ → Fin 128 → EReal)
  (hq : ∀ (i : Fin 1024) (d : Fin 128), q (ix2 i d) = Q (64 * N + i.val) d)
  (hk : ∀ (i : Fin 1024) (d : Fin 128), k (ix2 i d) = K (64 * N + i.val) d)
  (v : Fin 16 → Vec Ideal S64x256 .bf16) (V : ℕ → Fin 256 → EReal)
  (hv : ∀ (n : Fin 16) (r : Fin 64) (e : Fin 256), v n (ix2 r e) = V (64 * (N + n.val) + r.val) e)

theorem at_chunk (N i : ℕ) : 64 * N + i = 64 * (N + i / 64) + i % 64 := by omega

/-- A chunk's rows. -/
theorem row_at {f : ℕ → ℕ → Fin 128 → EReal} (x : FVec Ideal S1024x128 .bf16) (hx : ∀ (i : Fin 1024) (d : Fin 128), x (ix2 i d) = f (N + i.val / 64) (i.val % 64) d)
    (n : Fin 16) (r : Fin 64) (d : Fin 128) : row n x (ix2 r d) = f (N + n.val) r.val d := by
  have e : row n x (ix2 r d) = x (ix2 ⟨64 * n.val + r.val, by omega⟩ d) := by pointwise [row]
  rw [e, hx]
  show f (N + (64 * n.val + r.val) / 64) ((64 * n.val + r.val) % 64) d = _
  rw [show (64 * n.val + r.val) / 64 = n.val by omega, show (64 * n.val + r.val) % 64 = r.val by omega]

include hB

include hq in
theorem qg_at (i : Fin 1024) (d : Fin 128) : qg q B (ix2 i d) = Spec.qg Q la (N + i.val / 64) (i.val % 64) d := by
  have e : qg q B (ix2 i d) = q (ix2 i d) * Ideal.ofBits .f32 0x3DB504F3#32 * Ideal.exp (B (ix2 i d)) := by pointwise [qg]
  rw [e, hB, hq, at_chunk]
  rfl

include hk

theorem kg_at (i : Fin 1024) (d : Fin 128) : kg k B (ix2 i d) = Spec.kg K la (N + i.val / 64) (i.val % 64) d := by
  have e : kg k B (ix2 i d) = k (ix2 i d) * Ideal.exp (0 - B (ix2 i d)) := by pointwise [kg]
  rw [e, hB, hk, at_chunk, zero_sub]
  rfl

theorem kend_at (i : Fin 1024) (d : Fin 128) : kend k B (ix2 i d) = Spec.kend K la (N + i.val / 64) (i.val % 64) d := by
  have e : kend k B (ix2 i d) = k (ix2 i d) * Ideal.exp (B (ix2 ⟨i.val / 64 * 64 + 63, by omega⟩ d) - B (ix2 i d)) := by pointwise [kend, blast]
  rw [e, hB, hB, hk, at_chunk]
  show _ * Ideal.exp (Spec.cum la (N + (i.val / 64 * 64 + 63) / 64) ((i.val / 64 * 64 + 63) % 64) d - _) = _
  rw [show (i.val / 64 * 64 + 63) / 64 = i.val / 64 by omega, show (i.val / 64 * 64 + 63) % 64 = 63 by omega]
  rfl

omit hk in
theorem dcol_at (n : Fin 16) (d : Fin 128) : dcol n B (ix2 d 0) = Ideal.exp (Spec.cum la (N + n.val) 63 d) := by
  have e : dcol n B (ix2 d 0) = ∑ x : Fin 128, Scalar.select (IntOp.cmpi .eq (BitVec.ofNat 32 d.val) (BitVec.ofNat 32 x.val)) (Ideal.exp (B (ix2 ⟨n.val * 64 + 63, by omega⟩ x))) 0 := by
    pointwise [dcol, blast]
  have hm : ∀ d x : Fin 128, IntOp.cmpi .eq (BitVec.ofNat 32 d.val) (BitVec.ofNat 32 x.val) = if d = x then 1#1 else 0#1 := by decide +kernel
  rw [e, Finset.sum_eq_single d]
  · rw [hm, if_pos rfl, hB]
    show Ideal.exp (Spec.cum la (N + (n.val * 64 + 63) / 64) ((n.val * 64 + 63) % 64) d) = _
    rw [show (n.val * 64 + 63) / 64 = n.val by omega, show (n.val * 64 + 63) % 64 = 63 by omega]
  · intro x _ hx
    rw [hm, if_neg (fun h => hx h.symm)]
    rfl
  · intro h
    exact absurd (Finset.mem_univ d) h

include hv

theorem stateAt_at (s : FVec Ideal S128x256 .f32) (hs : ∀ d e, s (ix2 d e) = Spec.state K la V N d e) :
    ∀ (n : ℕ) (h : n ≤ 16) (d : Fin 128) (e : Fin 256), stateAt k B v s n h (ix2 d e) = Spec.state K la V (N + n) d e
  | 0, _, d, e => hs d e
  | n + 1, h, d, e => by
    have hn : ∀ (ke : FVec Ideal S64x128 .bf16) (u : Vec Ideal S64x256 .bf16) (s : FVec Ideal S128x256 .f32), next ⟨n, h⟩ B ke u s (ix2 d e)
        = dcol ⟨n, h⟩ B (ix2 d 0) * s (ix2 d e) + ∑ x, ke (ix2 x d) * u (ix2 x e) := by
      intro ke u s
      generalize hD : dcol ⟨n, h⟩ B = D
      unfold next
      rw [hD]
      pointwise
    show next ⟨n, h⟩ B (row ⟨n, h⟩ (kend k B)) (v ⟨n, h⟩) (stateAt k B v s n (Nat.le_of_succ_le h)) (ix2 d e) = _
    rw [hn, dcol_at B la N hB, stateAt_at s hs n]
    show _ = Ideal.exp (Spec.cum la (N + n) 63 d) * Spec.state K la V (N + n) d e + _
    congr 1
    refine Finset.sum_congr rfl fun r _ => ?_
    rw [row_at N (kend k B) (kend_at B la N hB k K hk) ⟨n, h⟩ r d, hv]
    rfl

include hq

theorem outAt_at (s : FVec Ideal S128x256 .f32) (hs : ∀ d e, s (ix2 d e) = Spec.state K la V N d e)
    (n : Fin 16) (r : Fin 64) (e : Fin 256) : outAt q k B v s n (ix2 r e) = Spec.out Q K la V (N + n.val) r.val e := by
  have ho : ∀ (qc kc : FVec Ideal S64x128 .bf16) (u : Vec Ideal S64x256 .bf16) (s : FVec Ideal S128x256 .f32), out qc kc u s (ix2 r e)
      = ∑ x : Fin 64, Scalar.select (IntOp.cmpi .sle (BitVec.ofNat 32 x.val) (BitVec.ofNat 32 r.val)) (∑ d, qc (ix2 r d) * kc (ix2 x d)) 0 * u (ix2 x e) + ∑ d, qc (ix2 r d) * s (ix2 d e) := by
    intro qc kc u s
    pointwise [out, intra]
  have hm : ∀ x r : Fin 64, IntOp.cmpi .sle (BitVec.ofNat 32 x.val) (BitVec.ofNat 32 r.val) = if x.val ≤ r.val then 1#1 else 0#1 := by decide +kernel
  unfold outAt
  rw [ho]
  have e1 : ∀ r d, row n (qg q B) (ix2 r d) = _ := row_at N (qg q B) (qg_at B la N hB q Q hq) n
  have e2 : ∀ r d, row n (kg k B) (ix2 r d) = _ := row_at N (kg k B) (kg_at B la N hB k K hk) n
  unfold Spec.out Spec.intra
  congr 1
  · refine Finset.sum_congr rfl fun x _ => ?_
    rw [hv, hm]
    congr 1
    by_cases hx : x.val ≤ r.val
    · rw [if_pos hx, if_pos hx]
      show (∑ d, row n (qg q B) (ix2 r d) * row n (kg k B) (ix2 x d)) = _
      exact Finset.sum_congr rfl fun d _ => by rw [e1, e2]
    · rw [if_neg hx, if_neg hx]
      rfl
  · exact Finset.sum_congr rfl fun d _ => by rw [e1, stateAt_at B la N hB k K hk v V hv s hs n.val]

end

/-- The outputs at an index: the chunk's. -/
theorem outs_at (q k : Vec Ideal S1024x128 .bf16) (b : FVec Ideal S1024x128 .f32) (v : Fin 16 → Vec Ideal S64x256 .bf16) (s : FVec Ideal S128x256 .f32)
    (i : Fin 1024) (e : Fin 256) : outs q k b v s (ix2 i e) = outAt q k b v s ⟨i.val / 64, by omega⟩ (ix2 ⟨i.val % 64, by omega⟩ e) := by
  unfold outs
  generalize outAt q k b v s = o
  exact concatenate_ofFn_apply (t := S1024x256) (s₁ := S64x256) 0 o
    concatenates_S64x256_S64x256_S64x256_S64x256_S64x256_S64x256_S64x256_S64x256_S64x256_S64x256_S64x256_S64x256_S64x256_S64x256_S64x256_S64x256_S1024x256_d0
    rfl 64 rfl (ix2 i e) ⟨i.val / 64, by omega⟩ rfl (ix2 ⟨i.val % 64, by omega⟩ e) rfl (fun a ha => by
      match a with
      | 0 => exact absurd rfl ha
      | 1 => rfl)

/-- The gate's preactivation: the high and low parts add to the product where the operands are finite, and the padding adds nothing. -/
theorem zed_at (gk : Vec Ideal S1024x128 .f32) (w : Vec Ideal S128x128 .f32) (b : Vec Ideal S1x128 .f32) (i : Fin 1024) (d : Fin 128)
    (hp : ∀ x : Fin 128, 16 ≤ x.val → w (ix2 x d) = (0 : EReal))
    (hg : ∀ x : Fin 128, x.val < 16 → (gk (ix2 i x) - gk (ix2 i x) : EReal) = 0)
    (hw : ∀ x : Fin 128, x.val < 16 → (w (ix2 x d) - w (ix2 x d) : EReal) = 0) :
    zed gk w b (ix2 i d) = ((∑ x : Fin 16, gk (ix2 i ⟨x.val, by omega⟩) * w (ix2 ⟨x.val, by omega⟩ d) : EReal)) + b (ix2 0 d) := by
  have e : zed gk w b (ix2 i d) = ((∑ x, gk (ix2 i x) * w (ix2 x d) : EReal)) + (∑ x, (gk (ix2 i x) - gk (ix2 i x)) * w (ix2 x d) : EReal)
      + (∑ x, gk (ix2 i x) * (w (ix2 x d) - w (ix2 x d)) : EReal) + b (ix2 0 d) := by
    pointwise [zed]
  have h2 : (∑ x, (gk (ix2 i x) - gk (ix2 i x)) * w (ix2 x d) : EReal) = 0 := Finset.sum_eq_zero fun x _ => by
    by_cases hx : x.val < 16
    · rw [hg x hx, zero_mul]
    · rw [hp x (by omega), mul_zero]
  have h3 : (∑ x, gk (ix2 i x) * (w (ix2 x d) - w (ix2 x d)) : EReal) = 0 := Finset.sum_eq_zero fun x _ => by
    by_cases hx : x.val < 16
    · rw [hw x hx, mul_zero]
    · rw [hp x (by omega), sub_zero, mul_zero]
  have h1 : (∑ x, gk (ix2 i x) * w (ix2 x d) : EReal) = ∑ x : Fin 16, gk (ix2 i ⟨x.val, by omega⟩) * w (ix2 ⟨x.val, by omega⟩ d) := by
    refine (Fin.sum_univ_add (a := 16) (b := 112) (fun x : Fin 128 => (gk (ix2 i x) * w (ix2 x d) : EReal))).trans ?_
    rw [Finset.sum_eq_zero (s := (Finset.univ : Finset (Fin 112))) (fun x _ => by
      rw [hp _ (by show 16 ≤ 16 + x.val; omega), mul_zero]), add_zero]
    rfl
  rw [e, h1, h2, h3, add_zero, add_zero]

/-- The norm at an index. -/
theorem fin_at (o : FVec Ideal S1024x256 .f32) (gn : Vec Ideal S1x256 .f32) (r : Vec Ideal S1024x256 .bf16) (i : Fin 1024) (e : Fin 256) :
    fin o gn r (ix2 i e) = o (ix2 i e) * Ideal.rsqrt (Ideal.div (∑ x, o (ix2 i x) * o (ix2 i x)) (Ideal.ofBits .f32 0x43800000#32)
      + Ideal.ofBits .f32 0x358637BD#32) * gn (ix2 0 e) * r (ix2 i e) := by
  pointwise [fin]

section

variable (q k : Vec Ideal S1024x128 .bf16) (gk : Vec Ideal S1024x128 .f32) (w : Vec Ideal S128x128 .f32) (b : Vec Ideal S1x128 .f32)
  (v : Fin 16 → Vec Ideal S64x256 .bf16) (s : Vec Ideal S1x128x256 .f32) (gn : Vec Ideal S1x256 .f32) (r : Vec Ideal S1024x256 .bf16)
  (Q K la : ℕ → Fin 128 → EReal) (V R : ℕ → Fin 256 → EReal) (G : Fin 256 → EReal) (N : ℕ)
  (hz : ∀ (i : Fin 1024) (d : Fin 128), Spec.logA (zed gk w b (ix2 i d)) = la (64 * N + i.val) d)
  (hq : ∀ (i : Fin 1024) (d : Fin 128), q (ix2 i d) = Q (64 * N + i.val) d)
  (hk : ∀ (i : Fin 1024) (d : Fin 128), k (ix2 i d) = K (64 * N + i.val) d)
  (hv : ∀ (n : Fin 16) (r : Fin 64) (e : Fin 256), v n (ix2 r e) = V (64 * (N + n.val) + r.val) e)
  (hs : ∀ d e, s (ix3 0 d e) = Spec.state K la V N d e)
  (hg : ∀ e, gn (ix2 0 e) = G e) (hr : ∀ (i : Fin 1024) (e : Fin 256), r (ix2 i e) = R (64 * N + i.val) e)

include hz hk hv hs

theorem start_at (d : Fin 128) (e : Fin 256) : shapeCast S128x256 s shapeCasts_S1x128x256_S128x256 (ix2 d e) = Spec.state K la V N d e := by
  rw [← hs]
  pointwise

/-- A head's state after a step: the model's, 16 chunks on. -/
theorem carry_at (d : Fin 128) (e : Fin 256) : carry k gk w b v s (ix3 0 d e) = Spec.state K la V (N + 16) d e := by
  have h := stateAt_at (cum gk w b) la N (fun i d => cum_at gk w b d la N (fun i => hz i d) i) k K hk v V hv
    (shapeCast S128x256 s shapeCasts_S1x128x256_S128x256) (start_at k gk w b v s K la V N hz hk hv hs) 16 le_rfl d e
  rw [← h]
  unfold carry
  generalize stateAt k (cum gk w b) v (shapeCast S128x256 s shapeCasts_S1x128x256_S128x256) 16 le_rfl = X
  pointwise

include hq hg hr

/-- A head's stored output in a step: the model's. -/
theorem head_at (i : Fin 1024) (e : Fin 256) : head q k gk w b v s gn r (ix2 i e) = Spec.fin Q K la V G R (N + i.val / 64) (i.val % 64) e := by
  have ho : ∀ x, outs q k (cum gk w b) v (shapeCast S128x256 s shapeCasts_S1x128x256_S128x256) (ix2 i x) = Spec.out Q K la V (N + i.val / 64) (i.val % 64) x := fun x => by
    rw [outs_at]
    exact outAt_at (cum gk w b) la N (fun i d => cum_at gk w b d la N (fun i => hz i d) i) q k Q K hq hk v V hv
      (shapeCast S128x256 s shapeCasts_S1x128x256_S128x256) (start_at k gk w b v s K la V N hz hk hv hs) _ _ x
  unfold head
  rw [fin_at, ho e, Finset.sum_congr rfl fun x _ => congrArg₂ (· * ·) (ho x) (ho x), hg, hr, at_chunk N i.val]
  rfl

end

end Cert.Gla.Kern

end
-- ==== Proof.KernBlk.lean ====
module

public import proofs.«01_k».proof.Proof.KernVal
public import proofs.«01_k».proof.Proof.Gen.KernelIdeal.Value
public import Idealize.ShloMosaic.Lib.StableHlo.RunRead

@[expose] public section

set_option maxRecDepth 16384

noncomputable section

/-! The kernel's blocks at an index, and its result. -/

namespace Cert.Gla.Kern

open Idealize.ShloMosaic Idealize.ShloMosaic.TcCoe Idealize.SL.Sem Cert.KernelIdeal Cert.KernelIdeal.Gen Cert.KernelIdeal.Value Pipeline

variable (m : (ℓ : Loc nD τ sig) → Buf (Elt Ideal) ℓ) (c : Dev nD)

abbrev M0 : FVec Ideal S32768x1024 .bf16 := m ((c.tc : Thread nD τ).loc main_arg0)
abbrev M1 : FVec Ideal S32768x1024 .bf16 := m ((c.tc : Thread nD τ).loc main_arg1)
abbrev M2 : FVec Ideal S32768x128 .f32 := m ((c.tc : Thread nD τ).loc main_arg2)
abbrev M3 : FVec Ideal S1x16x512 .f32 := m ((c.tc : Thread nD τ).loc main_arg3)
abbrev M4 : FVec Ideal S1x512 .f32 := m ((c.tc : Thread nD τ).loc main_arg4)
abbrev M5 : FVec Ideal S32768x1024 .bf16 := m ((c.tc : Thread nD τ).loc main_arg5)
abbrev M6 : FVec Ideal S1x256 .f32 := m ((c.tc : Thread nD τ).loc main_arg6)

theorem idx : ∀ t : Fin cfg0.N, win0_0.index t = ![t.val, 0] ∧ win0_1.index t = ![t.val, 1] ∧ win0_2.index t = ![t.val, 0] ∧ win0_3.index t = ![t.val, 0]
    ∧ win0_4.index t = ![0, 0] ∧ win0_5.index t = ![0, 0] ∧ win0_6.index t = ![t.val, 0] ∧ win0_7.index t = ![0, 0] ∧ t.val < 32 :=
  (by decide +kernel : ∀ t : Fin grid0.N, _)

/-- The batch a step is in. -/
def bat (t : Fin cfg0.N) : Fin 4 := ⟨t.val / 8, by have := (idx t).2.2.2.2.2.2.2.2; omega⟩

variable (t : Fin cfg0.N) (h : Fin 4)

theorem row_eq (i : Fin 1024) (hi : t.val * 1024 + i.val < 32768) : (⟨t.val * 1024 + i.val, hi⟩ : Fin 32768) = Spec.row (bat t) (64 * (16 * (t.val % 8)) + i.val) := by
  apply Fin.ext
  show t.val * 1024 + i.val = (t.val / 8 * 8192 + (64 * (16 * (t.val % 8)) + i.val)) % 32768
  omega

theorem q_at (i : Fin 1024) (d : Fin 128) : qkX (iblk m c 0 t) h (ix2 i d) = Spec.Q (M0 m c) (bat t) h (64 * (16 * (t.val % 8)) + i.val) d := by
  have hl := (idx t).2.2.2.2.2.2.2.2
  unfold Spec.Q
  rw [← row_eq t i (by omega)]
  unfold qkX
  blk_ext [iblk, V, idx t]

theorem k_at (i : Fin 1024) (d : Fin 128) : qkX (iblk m c 1 t) h (ix2 i d) = Spec.K (M0 m c) (bat t) h (64 * (16 * (t.val % 8)) + i.val) d := by
  have hl := (idx t).2.2.2.2.2.2.2.2
  unfold Spec.K
  rw [← row_eq t i (by omega)]
  unfold qkX
  blk_ext [iblk, V, idx t]

theorem v_at (n : Fin 16) (r : Fin 64) (e : Fin 256) : vX (iblk m c 2 t) h n (ix2 r e) = Spec.V (M1 m c) (bat t) h (64 * (16 * (t.val % 8) + n.val) + r.val) e := by
  have hl := (idx t).2.2.2.2.2.2.2.2
  unfold Spec.V Spec.colV
  have e : 64 * (16 * (t.val % 8) + n.val) + r.val = 64 * (16 * (t.val % 8)) + (⟨64 * n.val + r.val, by omega⟩ : Fin 1024).val := by
    show _ = 64 * (16 * (t.val % 8)) + (64 * n.val + r.val)
    omega
  rw [e, ← row_eq t _ (by dsimp only; omega)]
  unfold vX
  blk_ext [iblk, V, idx t]

theorem r_at (i : Fin 1024) (e : Fin 256) : rX (iblk m c 6 t) h (ix2 i e) = Spec.V (M5 m c) (bat t) h (64 * (16 * (t.val % 8)) + i.val) e := by
  have hl := (idx t).2.2.2.2.2.2.2.2
  unfold Spec.V Spec.colV
  rw [← row_eq t i (by omega)]
  unfold rX
  blk_ext [iblk, V, idx t]

theorem gk_at (i : Fin 1024) (x : Fin 128) : (show FVec Ideal S1024x128 .f32 from iblk m c 3 t) (ix2 i x) = M2 m c (ix2 (Spec.row (bat t) (64 * (16 * (t.val % 8)) + i.val)) x) := by
  have hl := (idx t).2.2.2.2.2.2.2.2
  rw [← row_eq t i (by omega)]
  blk_ext [iblk, V, idx t]

/-- The bias window. -/
theorem b_at (d : Fin 128) : bX (iblk m c 5 t) h (ix2 0 d) = M4 m c (ix2 0 (Spec.col h d)) := by
  have e5 : V m c main_v3 = shapeCast S1x512 (shapeCast S512 (M4 m c) shapeCasts_S1x512_S512) shapeCasts_S512_S1x512 := by
    simp only [V, List.flatten_cons, List.flatten_nil, List.append_nil, StableHlo.after_append]
    after_reads_simp
    rfl
  have e : ∀ j : Fin 512, (iblk m c 5 t : FVec Ideal S1x512 .f32) (ix2 0 j) = (V m c main_v3 : FVec Ideal S1x512 .f32) (ix2 0 j) := fun j => by
    blk_ext [iblk, idx t]
  unfold bX
  refine (e _).trans ?_
  rw [e5]
  pointwise [Spec.col]
  exact congrArg (M4 m c) ((ix2_inj _ _ _ _).2 ⟨rfl, Fin.ext (by show 128 * h.val + d.val = h.val * 128 + d.val; omega)⟩)

/-- The norm's weight. -/
theorem gn_at (e : Fin 256) : (iblk m c 7 t : FVec Ideal S1x256 .f32) (ix2 0 e) = M6 m c (ix2 0 e) := by
  have e5 : V m c main_v5 = shapeCast S1x256 (shapeCast S256 (M6 m c) shapeCasts_S1x256_S256) shapeCasts_S256_S1x256 := by
    simp only [V, List.flatten_cons, List.flatten_nil, List.append_nil, StableHlo.after_append]
    after_reads_simp
    rfl
  have e' : ∀ j : Fin 256, (iblk m c 7 t : FVec Ideal S1x256 .f32) (ix2 0 j) = (V m c main_v5 : FVec Ideal S1x256 .f32) (ix2 0 j) := fun j => by
    blk_ext [iblk, idx t]
  refine (e' _).trans ?_
  rw [e5]
  pointwise

/-- The gate's weight, padded below by zeros. -/
theorem w_at (x : Fin 128) (d : Fin 128) : wX (iblk m c 4 t) h (ix2 x d) = if hx : x.val < 16 then M3 m c (ix3 0 ⟨x.val, hx⟩ (Spec.col h d)) else (0 : EReal) := by
  have e5 : V m c main_v1 = pad S128x512 ![0, 0] ![112, 0] ![0, 0] (shapeCast S16x512 (M3 m c) shapeCasts_S1x16x512_S16x512) (sitofp .f32 (constantI S_ 32 0#32)) pads_S16x512_S128x512_01120_000 h_S_ := by
    simp only [V, List.flatten_cons, List.flatten_nil, List.append_nil, StableHlo.after_append]
    after_reads_simp
    rfl
  have e' : ∀ (x : Fin 128) (j : Fin 512), (iblk m c 4 t : FVec Ideal S128x512 .f32) (ix2 x j) = (V m c main_v1 : FVec Ideal S128x512 .f32) (ix2 x j) := fun x j => by
    blk_ext [iblk, idx t]
  unfold wX
  refine (e' _ _).trans ?_
  rw [e5]
  pointwise
  have z0 : FloatOps.sitofp (F := Ideal) FTy.f32 0#32 = (0 : EReal) := by
    show (((0#32 : BitVec 32).toInt : ℝ) : EReal) = 0
    simp
  by_cases hx : x.val < 16
  · rw [dif_pos hx, dif_pos ⟨hx, by omega⟩]
    exact congrArg (M3 m c) ((ix3_inj _ _ _ _ _ _).2 ⟨rfl, rfl, Fin.ext (by show 128 * h.val + d.val = h.val * 128 + d.val; omega)⟩)
  · rw [dif_neg hx, dif_neg (fun h => hx h.1), z0]

/-- The model's log decays for the step's batch. -/
abbrev la (b h : Fin 4) : ℕ → Fin 128 → EReal := Spec.LA (M2 m c) (M3 m c) (M4 m c) b h

variable (f2 : ∀ (p : Fin 32768) (x : Fin 16), M2 m c (ix2 p ⟨x.val, Spec.lt128 x⟩) - M2 m c (ix2 p ⟨x.val, Spec.lt128 x⟩) = 0)
  (f3 : ∀ (x : Fin 16) (j : Fin 512), M3 m c (ix3 0 x j) - M3 m c (ix3 0 x j) = 0)

include f2 f3

theorem z_at (i : Fin 1024) (d : Fin 128) : Spec.logA (zed (iblk m c 3 t) (wX (iblk m c 4 t) h) (bX (iblk m c 5 t) h) (ix2 i d))
    = la m c (bat t) h (64 * (16 * (t.val % 8)) + i.val) d := by
  have hw : ∀ x : Fin 16, wX (iblk m c 4 t) h (ix2 ⟨x.val, by omega⟩ d) = M3 m c (ix3 0 x (Spec.col h d)) := fun x =>
    (w_at m c t h ⟨x.val, by omega⟩ d).trans (dif_pos x.isLt)
  have hgk : ∀ x : Fin 16, (show FVec Ideal S1024x128 .f32 from iblk m c 3 t) (ix2 i ⟨x.val, by omega⟩) = _ := fun x => gk_at m c t i ⟨x.val, by omega⟩
  have e := zed_at (iblk m c 3 t) (wX (iblk m c 4 t) h) (bX (iblk m c 5 t) h) i d
    (fun x hx => (w_at m c t h x d).trans (dif_neg (by omega)))
    (fun x hx => by
      have e := hgk ⟨x.val, hx⟩
      exact (congrArg₂ (fun a b : EReal => a - b) e e).trans (f2 _ ⟨x.val, hx⟩))
    (fun x hx => by
      have e := hw ⟨x.val, hx⟩
      exact (congrArg₂ (fun a b : EReal => a - b) e e).trans (f3 ⟨x.val, hx⟩ _))
  refine congrArg Spec.logA (e.trans ?_)
  unfold Spec.Z
  refine congrArg₂ (· + ·) (Finset.sum_congr rfl fun x _ => congrArg₂ (· * ·) (hgk x) (hw x)) (b_at m c t h d)

/-- The model's state for a step's batch. -/
abbrev st (b h : Fin 4) : ℕ → Fin 128 → Fin 256 → EReal := Spec.state (Spec.K (M0 m c) b h) (la m c b h) (Spec.V (M1 m c) b h)

/-- A step's stored output, from the state carried in. -/
theorem headX_at (s : Vec Ideal S1x128x256 .f32) (hs : ∀ d e, s (ix3 0 d e) = st m c (bat t) h (16 * (t.val % 8)) d e) (i : Fin 1024) (e : Fin 256) :
    headX (iblk m c 0 t) (iblk m c 1 t) (iblk m c 2 t) (iblk m c 3 t) (iblk m c 4 t) (iblk m c 5 t) (iblk m c 6 t) (iblk m c 7 t) h s (ix2 i e)
      = Spec.res (M0 m c) (M1 m c) (M2 m c) (M3 m c) (M4 m c) (M5 m c) (M6 m c) (bat t) h (16 * (t.val % 8) + i.val / 64) (i.val % 64) e :=
  head_at _ _ _ _ _ _ s _ _ _ _ _ _ _ _ (16 * (t.val % 8)) (z_at m c t h f2 f3) (q_at m c t h) (k_at m c t h) (v_at m c t h) hs (gn_at m c t) (r_at m c t h) i e

/-- A step's stored state, from the state carried in. -/
theorem carryX_at (s : Vec Ideal S1x128x256 .f32) (hs : ∀ d e, s (ix3 0 d e) = st m c (bat t) h (16 * (t.val % 8)) d e) (d : Fin 128) (e : Fin 256) :
    carryX (iblk m c 1 t) (iblk m c 2 t) (iblk m c 3 t) (iblk m c 4 t) (iblk m c 5 t) h s (ix3 0 d e) = st m c (bat t) h (16 * (t.val % 8) + 16) d e :=
  carry_at _ _ _ _ _ s _ _ _ (16 * (t.val % 8)) (z_at m c t h f2 f3) (k_at m c t h) (v_at m c t h) hs d e

/-- A point's output block and state are the model's. -/
def Good (t : Fin cfg0.N) (o : Vec Ideal S1024x1024 .bf16 × Vec Ideal S4x128x256 .f32) : Prop :=
  (∀ (h : Fin 4) (a : Fin 1024) (b : Fin 256) (e : Fin 1024), e.val = 256 * h.val + b.val → o.1 (ix2 a e)
      = Spec.res (M0 m c) (M1 m c) (M2 m c) (M3 m c) (M4 m c) (M5 m c) (M6 m c) (bat t) h (16 * (t.val % 8) + a.val / 64) (a.val % 64) b)
    ∧ ∀ (h : Fin 4) (d : Fin 128) (e : Fin 256), o.2 (ix3 h d e) = st m c (bat t) h (16 * (t.val % 8) + 16) d e

/-- A first step of a batch, from the zero state. -/
theorem good_A (t : Fin cfg0.N) (h0 : t.val % 8 = 0) : Good m c t (outsAt0 m c t.val t.isLt) := by
  have hs : ∀ (h : Fin 4) d e, zeroState (F := Ideal) (ix3 0 d e) = st m c (bat t) h (16 * (t.val % 8)) d e := fun h d e => by
    rw [h0]
    show zeroState (F := Ideal) (ix3 0 d e) = 0
    unfold zeroState
    pointwise
  rw [outsAt0_A m c t h0]
  refine ⟨fun h a b e he => ?_, fun h d e => ?_⟩
  · dsimp only
    rw [out_A (h := h) (b := b) (he := he)]
    exact headX_at m c t h f2 f3 _ (hs h) a b
  · dsimp only
    rw [sout_A (h := h)]
    exact carryX_at m c t h f2 f3 _ (hs h) d e

/-- A later step of a batch, from the state the step before left. -/
theorem good_B (t : Fin cfg0.N) (h0 : ¬ t.val % 8 = 0)
    (hp : ∀ (h : Fin 4) (d : Fin 128) (e : Fin 256), (outsAt0 m c (t.val - 1) (by omega)).2 (ix3 h d e) = st m c (bat t) h (16 * (t.val % 8)) d e) :
    Good m c t (outsAt0 m c t.val t.isLt) := by
  have hs : ∀ (h : Fin 4) d e, sX (outsAt0 m c (t.val - 1) (by omega)).2 h (ix3 0 d e) = st m c (bat t) h (16 * (t.val % 8)) d e := hp
  rw [outsAt0_B m c t h0]
  refine ⟨fun h a b e he => ?_, fun h d e => ?_⟩
  · dsimp only
    rw [out_B (h := h) (b := b) (he := he)]
    exact headX_at m c t h f2 f3 _ (hs h) a b
  · dsimp only
    rw [sout_B (h := h)]
    exact carryX_at m c t h f2 f3 _ (hs h) d e

/-- What every point leaves in the output block and in the carried state: the model's. -/
theorem fold_at : ∀ (n : ℕ) (hn : n < cfg0.N), Good m c ⟨n, hn⟩ (outsAt0 m c n hn) := by
  intro n
  induction n with
  | zero => exact fun hn => good_A m c f2 f3 ⟨0, hn⟩ rfl
  | succ n ih =>
    intro hn
    by_cases h0 : (n + 1) % 8 = 0
    · exact good_A m c f2 f3 ⟨n + 1, hn⟩ h0
    · refine good_B m c f2 f3 ⟨n + 1, hn⟩ h0 fun h d e => ?_
      have hb : bat ⟨n + 1, hn⟩ = bat ⟨n, Nat.lt_of_succ_lt hn⟩ := Fin.ext (by show (n + 1) / 8 = n / 8; omega)
      show _ = st m c (bat ⟨n + 1, hn⟩) h (16 * ((n + 1) % 8)) d e
      rw [hb, show 16 * ((n + 1) % 8) = 16 * (n % 8) + 16 by omega]
      exact (ih (Nat.lt_of_succ_lt hn)).2 h d e

/-- The kernel's result at an index: the model's. -/
theorem G8_at (b h : Fin 4) (n : Fin 128) (r : Fin 64) (e : Fin 256) :
    (show FVec Ideal S32768x1024 .bf16 from G8 m c) (ix2 (Spec.row b (64 * n.val + r.val)) (Spec.colV h e))
      = Spec.res (M0 m c) (M1 m c) (M2 m c) (M3 m c) (M4 m c) (M5 m c) (M6 m c) b h n.val r.val e := by
  have hrow : (Spec.row b (64 * n.val + r.val)).val = b.val * 8192 + 64 * n.val + r.val := by
    show (b.val * 8192 + (64 * n.val + r.val)) % 32768 = _
    omega
  have hcol : (Spec.colV h e).val = h.val * 256 + e.val := rfl
  have hp : pt8Of (ix2 (Spec.row b (64 * n.val + r.val)) (Spec.colV h e)) = 8 * b.val + n.val / 16 := by
    show 1 * ((Spec.row b (64 * n.val + r.val)).val / 1024 - 0) + 1 * ((Spec.colV h e).val / 1024 - 0) = _
    rw [hrow, hcol]
    omega
  have hN : 8 * b.val + n.val / 16 < cfg0.N := lt_of_lt_of_eq (by omega) N_0.symm
  have hl : loc8Of (ix2 (Spec.row b (64 * n.val + r.val)) (Spec.colV h e)) = ix2 ⟨(64 * n.val + r.val) % 1024, Nat.mod_lt _ (by decide)⟩ (Spec.colV h e) := by
    funext a
    apply Fin.ext
    match a with
    | ⟨0, _⟩ => show (Spec.row b (64 * n.val + r.val)).val % 1024 = (64 * n.val + r.val) % 1024; omega
    | ⟨1, _⟩ => show (Spec.colV h e).val % 1024 = (Spec.colV h e).val; omega
  show G8 m c _ = _
  unfold G8
  rw [dif_pos (hp ▸ hN), hl, fold0_congr m c _ _ (8 * b.val + n.val / 16) (by omega) hp, ← outsAt0_sweep m c _ hN]
  refine ((fold_at m c f2 f3 _ hN).1 h ⟨(64 * n.val + r.val) % 1024, Nat.mod_lt _ (by decide)⟩ e (Spec.colV h e) (by rw [hcol]; omega)).trans ?_
  have hb : bat ⟨8 * b.val + n.val / 16, hN⟩ = b := Fin.ext (by show (8 * b.val + n.val / 16) / 8 = b.val; omega)
  rw [hb]
  show Spec.res _ _ _ _ _ _ _ b h (16 * ((8 * b.val + n.val / 16) % 8) + (64 * n.val + r.val) % 1024 / 64) ((64 * n.val + r.val) % 1024 % 64) e = _
  rw [show 16 * ((8 * b.val + n.val / 16) % 8) + (64 * n.val + r.val) % 1024 / 64 = n.val by omega, show (64 * n.val + r.val) % 1024 % 64 = r.val by omega]

end Cert.Gla.Kern

end
-- ==== Proof.Equal.lean ====
module

public import proofs.«01_k».proof.Proof.Pre
public import proofs.«01_k».proof.Proof.RefOut
public import proofs.«01_k».proof.Proof.KernBlk

@[expose] public section

set_option maxRecDepth 16384

noncomputable section

/-! The kernel and the reference, at arguments that agree, end with one result. -/

namespace Cert.Gla

open Idealize.ShloMosaic Idealize.ShloMosaic.TcCoe Idealize.ShloMosaic.StableHlo Idealize.SL.Sem Cert.ReferenceIdeal.Gen Cert.ReferenceIdeal.Value

/-- Every index of the result is a batch's, chunk's, row's, head's and feature's. -/
theorem split (i : Cert.KernelIdeal.S32768x1024.Idx) : ∃ (b h : Fin 4) (n : Fin 128) (r : Fin 64) (e : Fin 256),
    i = ix2 (Spec.row b (64 * n.val + r.val)) (Spec.colV h e) := by
  have h0 : (i 0).val < 32768 := (i 0).isLt
  have h1 : (i 1).val < 1024 := (i 1).isLt
  refine ⟨⟨(i 0).val / 8192, by omega⟩, ⟨(i 1).val / 256, by omega⟩, ⟨(i 0).val % 8192 / 64, by omega⟩, ⟨(i 0).val % 64, by omega⟩, ⟨(i 1).val % 256, by omega⟩, ?_⟩
  funext a
  apply Fin.ext
  match a with
  | ⟨0, _⟩ =>
    show (i 0).val = ((i 0).val / 8192 * 8192 + (64 * ((i 0).val % 8192 / 64) + (i 0).val % 64)) % 32768
    omega
  | ⟨1, _⟩ =>
    show (i 1).val = (i 1).val / 256 * 256 + (i 1).val % 256
    omega

/-- The reference's result is the kernel's. -/
theorem equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (f2 : ∀ (p : Fin 32768) (x : Fin 16), Kern.M2 m c (ix2 p ⟨x.val, Spec.lt128 x⟩) - Kern.M2 m c (ix2 p ⟨x.val, Spec.lt128 x⟩) = 0)
    (f3 : ∀ (x : Fin 16) (j : Fin 512), Kern.M3 m c (ix3 0 x j) - Kern.M3 m c (ix3 0 x j) = 0)
    (e0 : Ref.A0 m' c = Kern.M0 m c) (e1 : Ref.A1 m' c = Kern.M1 m c) (e2 : Ref.A2 m' c = Kern.M2 m c) (e3 : Ref.A3 m' c = Kern.M3 m c)
    (e4 : Ref.A4 m' c = Kern.M4 m c) (e5 : Ref.A5 m' c = Kern.M5 m c) (e6 : Ref.A6 m' c = Kern.M6 m c) :
    finalContents condOps preI bodyI postI 128 m' c (Proc.devRef .tc Cert.ReferenceIdeal.main_v75)
      = Cert.KernelIdeal.Value.G8 m c := by
  funext i
  obtain ⟨b, h, n, r, e, rfl⟩ := split i
  refine (Ref.final_at m' c b h n r e).trans (Eq.trans ?_ (Kern.G8_at m c f2 f3 b h n r e).symm)
  rw [e0, e1, e2, e3, e4, e5, e6]

end Cert.Gla

end
-- ==== Proof.InSpec.lean ====
module

public import Idealize.ShloMosaic.Lib.Pointwise

@[expose] public section

noncomputable section

/-! The input projection of the layer over the extended reals: norm, modulation, and the product with the weight. -/

namespace Cert.Inp.Spec

open Idealize.ShloMosaic

section

variable (x : (⟨3, ![4, 8192, 1024]⟩ : Shape).Idx → EReal) (nw : (⟨2, ![1, 1024]⟩ : Shape).Idx → EReal)
  (sc sh : (⟨2, ![4, 1024]⟩ : Shape).Idx → EReal) (w : (⟨3, ![1, 1024, 6672]⟩ : Shape).Idx → EReal)

/-- A position's normed and modulated entry. -/
def hid (b : Fin 4) (s : Fin 8192) (d : Fin 1024) : EReal :=
  x (ix3 b s d) * Ideal.rsqrt (Ideal.div (∑ e, x (ix3 b s e) * x (ix3 b s e)) (Ideal.ofBits .f32 0x44800000#32) + Ideal.ofBits .f32 0x358637BD#32)
      * nw (ix2 0 d) * (1 + sc (ix2 b d)) + sh (ix2 b d)

/-- A position's projection onto column `j`. -/
def proj (b : Fin 4) (s : Fin 8192) (j : Fin 6672) : EReal := ∑ d, hid x nw sc sh b s d * w (ix3 0 d j)

end

/-- Position `r` of block `n`. -/
def at256 (n : Fin 32) (r : Fin 256) : Fin 8192 := ⟨256 * n.val + r.val, by omega⟩

/-- Row `s` of batch `b`, among all rows. -/
def row (b : Fin 4) (s : Fin 8192) : Fin 32768 := ⟨8192 * b.val + s.val, by omega⟩

/-- The logistic function. -/
def sig (z : EReal) : EReal := Ideal.div 1 (1 + Ideal.exp (-z))

section

variable (P : Fin 4 → Fin 8192 → Fin 6672 → EReal)

/-- The block attention's queries, scaled so that the logits are in base 2. -/
def rq (b : Fin 4) (h : Fin 8) (d : Fin 64) (s : Fin 8192) : EReal := P b s ⟨64 * h.val + d.val, by omega⟩ * Ideal.ofBits .f32 0x3E38AA3B#32

/-- Its keys, beside their block's indicator. -/
def rk (b : Fin 4) (h : Fin 8) (n : Fin 32) (r : Fin 256) (l : Fin 128) : EReal :=
  if hl : l.val < 64 then P b (at256 n r) ⟨512 + (64 * h.val + l.val), by omega⟩ else if l.val = 64 + n.val then 1 else 0

/-- Its values, over a row of ones and rows of zeros. -/
def rv (b : Fin 4) (h : Fin 8) (n : Fin 32) (d : Fin 80) (r : Fin 256) : EReal :=
  if hd : d.val < 64 then P b (at256 n r) ⟨1024 + (64 * h.val + d.val), by omega⟩ else if d.val = 64 then 1 else 0

/-- The linear attention's queries and keys. -/
def rqk (b : Fin 4) (s : Fin 8192) (j : Fin 1024) : EReal := P b s ⟨1536 + j.val, by omega⟩

/-- Its values. -/
def rvb (b : Fin 4) (s : Fin 8192) (j : Fin 1024) : EReal := P b s ⟨2560 + j.val, by omega⟩

/-- Its low-rank gate, padded by zeros. -/
def rgk (b : Fin 4) (s : Fin 8192) (j : Fin 128) : EReal := if hj : j.val < 16 then P b s ⟨3584 + j.val, by omega⟩ else 0

/-- Its output gate. -/
def rr (b : Fin 4) (s : Fin 8192) (j : Fin 1024) : EReal := P b s ⟨3600 + j.val, by omega⟩ * sig (P b s ⟨3600 + j.val, by omega⟩)

/-- The two branches' gates. -/
def rg (b : Fin 4) (s : Fin 8192) (j : Fin 2048) : EReal := sig (P b s ⟨4624 + j.val, by omega⟩)

end

end Cert.Inp.Spec

end
-- ==== Proof.InKern.lean ====
module

public import proofs.«01_k».proof.Proof.InSpec
public import proofs.«01_k».proof.Proof.Gen.Kernel2Ideal.Frame
public import Idealize.ShloMosaic.Lib.Pointwise
public import Idealize.ShloMosaic.Lib.WholeRead
public import Idealize.ShloMosaic.Lib.WritesUnit
public import Idealize.ShloMosaic.Lib.Pipeline.ValueKit
public import Idealize.ShloMosaic.Lib.KernelVsHost

@[expose] public section

set_option maxRecDepth 16384

noncomputable section

/-! What one step of the input projection stores, head by head. -/

namespace Cert.Inp.Kern

open Idealize.ShloMosaic Cert.Kernel2Ideal Cert.Kernel2Ideal.Gen Idealize.SL.Sem

variable {F : FTy → Type} [FloatOps F]

theorem slQ : ∀ h : Fin 8, S512x512.Slices ![64 * h.val, 0] S64x512 := by decide
theorem slV : ∀ (h : Fin 8) (j : Fin 2), S512x512.Slices ![64 * h.val, 256 * j.val] S64x256 := by decide
theorem slT : ∀ p : Fin 4, S512x512.Slices ![0, 128 * p.val] S512x128 := by decide
theorem slK : ∀ j : Fin 2, S512x128.Slices ![256 * j.val, 0] S256x128 := by decide

/-- Head `h`'s queries, turned. -/
def qP (h : Fin 8) (v : FVec F S512x512 .f32) : FVec F S1x1x64x512 .bf16 :=
  shapeCast S1x1x64x512 (truncf .bf16 (extractStridedSlice S64x512 ![64 * h.val, 0] v (slQ h)) bitsLt_bf16_f32) shapeCasts_S64x512_S1x1x64x512

/-- Block `j` of head `h`'s values, turned. -/
def vP (h : Fin 8) (j : Fin 2) (v : FVec F S512x512 .f32) : FVec F S1x1x1x64x256 .bf16 :=
  shapeCast S1x1x1x64x256 (truncf .bf16 (extractStridedSlice S64x256 ![64 * h.val, 256 * j.val] v (slV h j)) bitsLt_bf16_f32) shapeCasts_S64x256_S1x1x1x64x256

/-- The rows under a block's values: ones, then zeros. -/
def oP : FVec F S1x1x1x16x256 .bf16 :=
  shapeCast S1x1x1x16x256 (truncf .bf16 (k0_pay6 (F := F)) bitsLt_bf16_f32) shapeCasts_S16x256_S1x1x1x16x256

/-- The 128 columns that start or end with head `h`'s keys, turned so that they start. -/
def kT (h : Fin 8) (v : FVec F S512x512 .f32) : FVec F S512x128 .f32 :=
  match h with
  | 0 => extractStridedSlice S512x128 ![0, 0] v (slT 0)
  | 1 => dynamicRotate 1 64#32 none (extractStridedSlice S512x128 ![0, 0] v (slT 0)) rotates_S512x128_d1
  | 2 => extractStridedSlice S512x128 ![0, 128] v (slT 1)
  | 3 => dynamicRotate 1 64#32 none (extractStridedSlice S512x128 ![0, 128] v (slT 1)) rotates_S512x128_d1
  | 4 => extractStridedSlice S512x128 ![0, 256] v (slT 2)
  | 5 => dynamicRotate 1 64#32 none (extractStridedSlice S512x128 ![0, 256] v (slT 2)) rotates_S512x128_d1
  | 6 => extractStridedSlice S512x128 ![0, 384] v (slT 3)
  | 7 => dynamicRotate 1 64#32 none (extractStridedSlice S512x128 ![0, 384] v (slT 3)) rotates_S512x128_d1

/-- The number of the step's first block within its batch. -/
def blk0 (g : BitVec 32) : BitVec 32 :=
  let n := Scalar.select (Scalar.cmpi .eq 16#32 0#32) 1#32 16#32
  let r := Scalar.remsi g n
  Scalar.muli (Scalar.select (Scalar.andi (Scalar.xori (Scalar.cmpi .slt r 0#32) (Scalar.cmpi .slt n 0#32)) (Scalar.cmpi .ne r 0#32)) (Scalar.addi r n) r) 2#32

/-- Block `j` of head `h`'s keys, beside the block's indicator. -/
def kP (j : Fin 2) (b : BitVec 32) (k : FVec F S512x128 .f32) : FVec F S1x1x1x256x128 .bf16 :=
  let lane : IVec S256x128 32 := iota .tc S256x128 32 [1] iota_S256x128_d1_w32
  shapeCast S1x1x1x256x128 (truncf .bf16 (select (cmpi .slt lane (broadcast S256x128 64#32)) (extractStridedSlice S256x128 ![256 * j.val, 0] k (slK j))
    (select (cmpi .eq lane (broadcast S256x128 (Scalar.addi (Scalar.addi 64#32 b) (BitVec.ofNat 32 j.val))))
      (broadcast S256x128 (Scalar.ofBits .f32 0x3F800000#32)) (broadcast S256x128 (Scalar.ofBits .f32 0x00000000#32)) : FVec F S256x128 .f32)) bitsLt_bf16_f32)
    shapeCasts_S256x128_S1x1x1x256x128

/-! What is stored, as pieces. -/

theorem inQ : ∀ (h : Fin 8) (a : Fin 4), (![0, h.val, 0, 0] : Fin 4 → ℕ) a + S1x1x64x512.size a ≤ S1x8x64x512.size a := by decide
theorem inK : ∀ (n : Fin 16) (a : Fin 5), (![0, n.val / 2, n.val % 2, 0, 0] : Fin 5 → ℕ) a + S1x1x1x256x128.size a ≤ S1x8x2x256x128.size a := by decide
theorem inV : ∀ (n : Fin 16) (a : Fin 5), (![0, n.val / 2, n.val % 2, 0, 0] : Fin 5 → ℕ) a + S1x1x1x64x256.size a ≤ S1x8x2x80x256.size a := by decide
theorem inO : ∀ (n : Fin 16) (a : Fin 5), (![0, n.val / 2, n.val % 2, 64, 0] : Fin 5 → ℕ) a + S1x1x1x16x256.size a ≤ S1x8x2x80x256.size a := by decide
theorem div2 (n : Fin 16) : n.val / 2 < 8 := by omega
theorem mod2 (n : Fin 16) : n.val % 2 < 2 := by omega

/-- Offsets of a head's queries. -/
abbrev offQ (h : Fin 8) : Fin 4 → ℕ := ![0, h.val, 0, 0]

/-- The pieces stored of the queries. -/
abbrev piecesQ (v : FVec F S512x512 .f32) : List (View.Piece (Elt F) S1x8x64x512 .bf16) :=
  View.tilePieces (s := S1x8x64x512) (e := .bf16) S1x1x64x512.size offQ inQ (fun h => qP h v) 8 le_rfl

/-- The pieces stored of the first `n` blocks of keys. -/
def piecesK (b : BitVec 32) (v : FVec F S512x512 .f32) : (n : ℕ) → n ≤ 16 → List (View.Piece (Elt F) S1x8x2x256x128 .bf16)
  | 0, _ => []
  | n + 1, hn => ⟨Rect.unit ![0, n / 2, n % 2, 0, 0] S1x1x1x256x128.size (inK ⟨n, hn⟩), kP ⟨n % 2, mod2 ⟨n, hn⟩⟩ b (kT ⟨n / 2, div2 ⟨n, hn⟩⟩ v)⟩
      :: piecesK b v n (Nat.le_of_succ_le hn)

/-- The pieces stored of the first `n` blocks of values. -/
def piecesV (v : FVec F S512x512 .f32) : (n : ℕ) → n ≤ 16 → List (View.Piece (Elt F) S1x8x2x80x256 .bf16)
  | 0, _ => []
  | n + 1, hn => ⟨Rect.unit ![0, n / 2, n % 2, 64, 0] S1x1x1x16x256.size (inO ⟨n, hn⟩), oP⟩
      :: ⟨Rect.unit ![0, n / 2, n % 2, 0, 0] S1x1x1x64x256.size (inV ⟨n, hn⟩), vP ⟨n / 2, div2 ⟨n, hn⟩⟩ ⟨n % 2, mod2 ⟨n, hn⟩⟩ v⟩
      :: piecesV v n (Nat.le_of_succ_le hn)

/-- Reading the queries' block at head `h`. -/
theorem read_piecesQ (V : View sig .tc .vmem S1x8x64x512 .bf16) (f : V.ty.Contents (Elt F)) (v : FVec F S512x512 .f32) (h : Fin 8) (d : Fin 64) (r : Fin 512) :
    V.read (Elt F) (V.writes (Elt F) f (piecesQ v)) (ix4 0 h d r) = qP h v (ix4 0 0 d r) := by
  refine (View.read_tilePieces V f S1x1x64x512.size offQ inQ _ 8 le_rfl _ h h.isLt (ix4 0 0 d r) ?_ (1 : Fin 4) ?_)
  · intro ax
    match ax with
    | ⟨0, _⟩ => rfl
    | ⟨1, _⟩ => rfl
    | ⟨2, _⟩ => exact (Nat.zero_add _).symm
    | ⟨3, _⟩ => exact (Nat.zero_add _).symm
  · intro h' hne
    have : h'.val ≠ h.val := fun hh => hne (Fin.ext hh)
    show h.val < h'.val ∨ h'.val + 1 ≤ h.val
    omega

/-- Reading the keys' block at head `h` and block `j`. -/
theorem read_piecesK (V : View sig .tc .vmem S1x8x2x256x128 .bf16) (f : V.ty.Contents (Elt F)) (b : BitVec 32) (v : FVec F S512x512 .f32) (h : Fin 8) (j : Fin 2)
    (r : Fin 256) (l : Fin 128) : ∀ (n : ℕ) (hn : n ≤ 16), 2 * h.val + j.val < n →
    V.read (Elt F) (V.writes (Elt F) f (piecesK b v n hn)) (ix5 0 h j r l) = kP j b (kT h v) (ix5 0 0 0 r l)
  | 0, _, hk => absurd hk (Nat.not_lt_zero _)
  | n + 1, hn, hk => by
    unfold piecesK
    by_cases e : 2 * h.val + j.val = n
    · have eh : (⟨n / 2, div2 ⟨n, hn⟩⟩ : Fin 8) = h := Fin.ext (by show n / 2 = h.val; omega)
      have ej : (⟨n % 2, mod2 ⟨n, hn⟩⟩ : Fin 2) = j := Fin.ext (by show n % 2 = j.val; omega)
      refine (View.read_writes_cons_unit_of_mem V f _ _ _ _ (ix5 0 0 0 r l) rfl ?_).trans ?_
      · intro ax
        match ax with
        | ⟨0, _⟩ => rfl
        | ⟨1, _⟩ => show h.val = n / 2 + 0; omega
        | ⟨2, _⟩ => show j.val = n % 2 + 0; omega
        | ⟨3, _⟩ => exact (Nat.zero_add _).symm
        | ⟨4, _⟩ => exact (Nat.zero_add _).symm
      · rw [eh, ej]
    · have step := read_piecesK V f b v h j r l n (Nat.le_of_succ_le hn) (by omega)
      by_cases eh : h.val = n / 2
      · refine (View.read_writes_cons_unit_of_not_mem V f _ _ _ _ rfl (2 : Fin 5) ?_).trans step
        show j.val < n % 2 ∨ n % 2 + 1 ≤ j.val
        omega
      · refine (View.read_writes_cons_unit_of_not_mem V f _ _ _ _ rfl (1 : Fin 5) ?_).trans step
        show h.val < n / 2 ∨ n / 2 + 1 ≤ h.val
        omega

/-- Reading the values' block at head `h` and block `j`: a row of values, or one of the rows under them. -/
theorem read_piecesV (V : View sig .tc .vmem S1x8x2x80x256 .bf16) (f : V.ty.Contents (Elt F)) (v : FVec F S512x512 .f32) (h : Fin 8) (j : Fin 2)
    (d : Fin 80) (r : Fin 256) : ∀ (n : ℕ) (hn : n ≤ 16), 2 * h.val + j.val < n →
    V.read (Elt F) (V.writes (Elt F) f (piecesV v n hn)) (ix5 0 h j d r)
      = if hd : d.val < 64 then vP h j v (ix5 0 0 0 ⟨d.val, hd⟩ r) else oP (ix5 0 0 0 ⟨d.val - 64, by omega⟩ r)
  | 0, _, hk => absurd hk (Nat.not_lt_zero _)
  | n + 1, hn, hk => by
    unfold piecesV
    by_cases e : 2 * h.val + j.val = n
    · have eh : (⟨n / 2, div2 ⟨n, hn⟩⟩ : Fin 8) = h := Fin.ext (by show n / 2 = h.val; omega)
      have ej : (⟨n % 2, mod2 ⟨n, hn⟩⟩ : Fin 2) = j := Fin.ext (by show n % 2 = j.val; omega)
      by_cases hd : d.val < 64
      · rw [dif_pos hd]
        refine (View.read_writes_cons_unit_of_not_mem V f _ _ _ _ rfl (3 : Fin 5) (Or.inl hd)).trans ?_
        refine (View.read_writes_cons_unit_of_mem V f _ _ _ _ (ix5 0 0 0 ⟨d.val, hd⟩ r) rfl ?_).trans ?_
        · intro ax
          match ax with
          | ⟨0, _⟩ => rfl
          | ⟨1, _⟩ => show h.val = n / 2 + 0; omega
          | ⟨2, _⟩ => show j.val = n % 2 + 0; omega
          | ⟨3, _⟩ => exact (Nat.zero_add _).symm
          | ⟨4, _⟩ => exact (Nat.zero_add _).symm
        · rw [eh, ej]
      · rw [dif_neg hd]
        refine View.read_writes_cons_unit_of_mem V f _ _ _ _ (ix5 0 0 0 ⟨d.val - 64, by omega⟩ r) rfl ?_
        intro ax
        match ax with
        | ⟨0, _⟩ => rfl
        | ⟨1, _⟩ => show h.val = n / 2 + 0; omega
        | ⟨2, _⟩ => show j.val = n % 2 + 0; omega
        | ⟨3, _⟩ => show d.val = 64 + (d.val - 64); omega
        | ⟨4, _⟩ => exact (Nat.zero_add _).symm
    · have step := read_piecesV V f v h j d r n (Nat.le_of_succ_le hn) (by omega)
      by_cases eh : h.val = n / 2
      · have hj : j.val < n % 2 ∨ n % 2 + 1 ≤ j.val := by omega
        exact ((View.read_writes_cons_unit_of_not_mem V f _ _ _ _ rfl (2 : Fin 5) hj).trans
          (View.read_writes_cons_unit_of_not_mem V f _ _ _ _ rfl (2 : Fin 5) hj)).trans step
      · have hh : h.val < n / 2 ∨ n / 2 + 1 ≤ h.val := by omega
        exact ((View.read_writes_cons_unit_of_not_mem V f _ _ _ _ rfl (1 : Fin 5) hh).trans
          (View.read_writes_cons_unit_of_not_mem V f _ _ _ _ rfl (1 : Fin 5) hh)).trans step

/-- Reading a block that one store fills. -/
theorem read_one {m n : ℕ} {e : EltTy} (V : View sig .tc .vmem ⟨2, ![m, n]⟩ e) (f : V.ty.Contents (Elt F))
    (inb : ∀ a : Fin 2, (![0, 0] : Fin 2 → ℕ) a + (![m, n] : Fin 2 → ℕ) a ≤ (![m, n] : Fin 2 → ℕ) a) (w : Vec F ⟨2, ![m, n]⟩ e) (a : Fin m) (b : Fin n) :
    V.read (Elt F) (V.writes (Elt F) f [⟨Rect.unit (s := ⟨2, ![m, n]⟩) ![0, 0] ![m, n] inb, w⟩]) (ix2 a b) = w (ix2 a b) := by
  refine View.read_writes_cons_unit_of_mem V f inb w [] _ (ix2 a b) rfl ?_
  intro ax
  match ax with
  | ⟨0, _⟩ => exact (Nat.zero_add _).symm
  | ⟨1, _⟩ => exact (Nat.zero_add _).symm

end Cert.Inp.Kern

end
-- ==== Proof.InStep.lean ====
module

public import proofs.«01_k».proof.Proof.InKern

@[expose] public section

set_option maxRecDepth 65536

noncomputable section

/-! What one step of the input projection stores, from its blocks. -/

namespace Cert.Inp.Kern

open Idealize.ShloMosaic Cert.Kernel2Ideal Cert.Kernel2Ideal.Gen Idealize.SL.Sem

variable {F : FTy → Type} [FloatOps F]

theorem inX : ∀ (a : Fin 2), (![0, 0] : Fin 2 → ℕ) a + S512x1024.size a ≤ S512x1024.size a := by decide
theorem inN : ∀ (a : Fin 2), (![0, 0] : Fin 2 → ℕ) a + S1x1024.size a ≤ S1x1024.size a := by decide
theorem inM : ∀ (a : Fin 3), (![0, 0, 0] : Fin 3 → ℕ) a + S1x1x1024.size a ≤ S1x1x1024.size a := by decide

/-- Columns `o` to `o + n` of the weight. -/
def cols (o n : ℕ) (hn : o + n ≤ 6784) (w : Vec F S1024x6784 .bf16) : Vec F ⟨2, ![1024, n]⟩ .bf16 :=
  fun j => w (ix2 (j 0) ⟨o + (j 1).val, by have : (j 1).val < n := (j 1).isLt; omega⟩)

/-- A load of a rank-two rectangle, as a function of the block. -/
theorem ld2 {m n m' n' : ℕ} {e : EltTy} (arg : Memref sig .tc .vmem ⟨2, ![m, n]⟩ e) (harg : arg.IsWhole) (x : Vec F ⟨2, ![m, n]⟩ e) (o p : ℕ)
    (inb : ∀ a : Fin 2, (![o, p] : Fin 2 → ℕ) a + (![m', n'] : Fin 2 → ℕ) a ≤ (![m, n] : Fin 2 → ℕ) a) (y : Vec F ⟨2, ![m', n']⟩ e)
    (hy : ∀ (a : Fin m') (b : Fin n') (a' : Fin m) (b' : Fin n), a'.val = o + a.val → b'.val = p + b.val → y (ix2 a b) = x (ix2 a' b')) :
    arg.view.readAt (Elt F) (Rect.unit (s := ⟨2, ![m, n]⟩) ![o, p] ![m', n'] inb).toLoadRect (harg.unread x) = y := by
  funext j
  rw [harg.readAt_unread x]
  refine ((congrArg y (eq_ix2 j)).trans ((hy (j 0) (j 1) ((Rect.unit (s := ⟨2, ![m, n]⟩) ![o, p] ![m', n'] inb).emb j 0)
    ((Rect.unit (s := ⟨2, ![m, n]⟩) ![o, p] ![m', n'] inb).emb j 1) ?_ ?_).trans (congrArg x (eq_ix2 _).symm))).symm
  · show o + 1 * (j 0).val = o + (j 0).val
    omega
  · show p + 1 * (j 1).val = p + (j 1).val
    omega

section

variable (c : Dev nD) (i : grid0.Coords) (arg1 : Memref sig .tc .vmem S512x1024 .f32) (harg1 : arg1.IsWhole)
  (arg2 : Memref sig .tc .vmem S1x1024 .f32) (harg2 : arg2.IsWhole) (arg3 : Memref sig .tc .vmem S1x1x1024 .f32) (harg3 : arg3.IsWhole)
  (arg4 : Memref sig .tc .vmem S1x1x1024 .f32) (harg4 : arg4.IsWhole) (arg5 : Memref sig .tc .vmem S1024x6784 .bf16) (harg5 : arg5.IsWhole)
  (arg6 : Memref sig .tc .vmem S1x8x64x512 .bf16) (harg6 : arg6.IsWhole) (arg7 : Memref sig .tc .vmem S1x8x2x256x128 .bf16) (harg7 : arg7.IsWhole)
  (arg8 : Memref sig .tc .vmem S1x8x2x80x256 .bf16) (harg8 : arg8.IsWhole) (arg9 : Memref sig .tc .vmem S512x1024 .bf16) (harg9 : arg9.IsWhole)
  (arg10 : Memref sig .tc .vmem S512x1024 .bf16) (harg10 : arg10.IsWhole) (arg11 : Memref sig .tc .vmem S512x128 .f32) (harg11 : arg11.IsWhole)
  (arg12 : Memref sig .tc .vmem S512x1024 .bf16) (harg12 : arg12.IsWhole) (arg13 : Memref sig .tc .vmem S512x2048 .bf16) (harg13 : arg13.IsWhole)
  (x0 : Vec F S512x1024 .f32) (x1 : Vec F S1x1024 .f32) (x2 x3 : Vec F S1x1x1024 .f32) (x4 : Vec F S1024x6784 .bf16)

/-- The step's loads: its rows, the norm's weight, the scale, the shift, and columns of the weight. -/
abbrev L0 : Vec F S512x1024 .f32 := arg1.view.readAt (Elt F) (Rect.unit (s := S512x1024) ![0, 0] S512x1024.size inX).toLoadRect (harg1.unread x0)
abbrev L1 : Vec F S1x1024 .f32 := arg2.view.readAt (Elt F) (Rect.unit (s := S1x1024) ![0, 0] S1x1024.size inN).toLoadRect (harg2.unread x1)
abbrev L2 : Vec F S1x1x1024 .f32 := arg3.view.readAt (Elt F) (Rect.unit (s := S1x1x1024) ![0, 0, 0] S1x1x1024.size inM).toLoadRect (harg3.unread x2)
abbrev L3 : Vec F S1x1x1024 .f32 := arg4.view.readAt (Elt F) (Rect.unit (s := S1x1x1024) ![0, 0, 0] S1x1x1024.size inM).toLoadRect (harg4.unread x3)
abbrev LW (o n : ℕ) (inb : ∀ a : Fin 2, (![0, o] : Fin 2 → ℕ) a + (![1024, n] : Fin 2 → ℕ) a ≤ S1024x6784.size a) : Vec F ⟨2, ![1024, n]⟩ .bf16 :=
  arg5.view.readAt (Elt F) (Rect.unit (s := S1024x6784) ![0, o] ![1024, n] inb).toLoadRect (harg5.unread x4)

theorem L0_eq : L0 arg1 harg1 x0 = x0 :=
  ld2 arg1 harg1 x0 0 0 inX x0 fun a b a' b' ha hb => congrArg x0 ((ix2_inj ..).2 ⟨Fin.ext (by omega), Fin.ext (by omega)⟩)

theorem L1_eq : L1 arg2 harg2 x1 = x1 :=
  ld2 arg2 harg2 x1 0 0 inN x1 fun a b a' b' ha hb => congrArg x1 ((ix2_inj ..).2 ⟨Fin.ext (by omega), Fin.ext (by omega)⟩)

theorem L2_eq : L2 arg3 harg3 x2 = x2 := by
  funext j
  unfold L2
  rw [harg3.readAt_unread x2]
  refine congrArg x2 (funext fun a => Fin.ext ?_)
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

theorem L3_eq : L3 arg4 harg4 x3 = x3 := L2_eq arg4 harg4 x3

theorem LW_eq (o n : ℕ) (inb : ∀ a : Fin 2, (![0, o] : Fin 2 → ℕ) a + (![1024, n] : Fin 2 → ℕ) a ≤ S1024x6784.size a) (hn : o + n ≤ 6784) :
    LW arg5 harg5 x4 o n inb = cols o n hn x4 :=
  ld2 arg5 harg5 x4 0 o inb (cols o n hn x4) fun a b a' b' ha hb => congrArg x4 ((ix2_inj ..).2 ⟨Fin.ext (by show a.val = a'.val; omega), Fin.ext (by show o + b.val = b'.val; omega)⟩)

/-- The step's normed and modulated rows. -/
abbrev HB : FVec F S512x1024 .bf16 := k0_pay2 x0 x1 x2 x3

/-- What the step leaves of the queries. -/
theorem out_q (h : Fin 8) (d : Fin 64) (r : Fin 512) :
    out0_A_5 c i arg1 harg1 arg2 harg2 arg3 harg3 arg4 harg4 arg5 harg5 arg6 harg6 arg7 harg7 arg8 harg8 arg9 harg9 arg10 harg10 arg11 harg11 arg12 harg12 arg13 harg13
      x0 x1 x2 x3 x4 (ix4 0 h d r) = qP h (k0_pay3 x0 x1 x2 x3 (cols 0 512 (by decide) x4)) (ix4 0 0 d r) := by
  have e : (kernelRun0_A (F := F) c i arg1 harg1 arg2 harg2 arg3 harg3 arg4 harg4 arg5 harg5 arg6 harg6 arg7 harg7 arg8 harg8 arg9 harg9 arg10 harg10 arg11 harg11 arg12 harg12 arg13 harg13
      x0 x1 x2 x3 x4).1 = piecesQ (k0_pay3 (L0 arg1 harg1 x0) (L1 arg2 harg2 x1) (L2 arg3 harg3 x2) (L3 arg4 harg4 x3) (LW arg5 harg5 x4 0 512 inb_S1024x6784_S1024x512_0_0)) := by
    chain_rfl
  unfold out0_A_5
  rw [e, L0_eq, L1_eq, L2_eq, L3_eq, LW_eq (hn := by decide)]
  exact read_piecesQ _ _ _ h d r

/-- What the step leaves of the keys. -/
theorem out_k (h : Fin 8) (j : Fin 2) (r : Fin 256) (l : Fin 128) :
    out0_A_6 c i arg1 harg1 arg2 harg2 arg3 harg3 arg4 harg4 arg5 harg5 arg6 harg6 arg7 harg7 arg8 harg8 arg9 harg9 arg10 harg10 arg11 harg11 arg12 harg12 arg13 harg13
      x0 x1 x2 x3 x4 (ix5 0 h j r l)
      = kP j (blk0 (BitVec.ofNat 32 (i 0).val)) (kT h (k0_pay5 (HB x0 x1 x2 x3) (cols 512 512 (by decide) x4))) (ix5 0 0 0 r l) := by
  have e : (kernelRun0_A (F := F) c i arg1 harg1 arg2 harg2 arg3 harg3 arg4 harg4 arg5 harg5 arg6 harg6 arg7 harg7 arg8 harg8 arg9 harg9 arg10 harg10 arg11 harg11 arg12 harg12 arg13 harg13
      x0 x1 x2 x3 x4).2.1 = piecesK (blk0 (BitVec.ofNat 32 (i 0).val)) (k0_pay5 (HB (L0 arg1 harg1 x0) (L1 arg2 harg2 x1) (L2 arg3 harg3 x2) (L3 arg4 harg4 x3))
        (LW arg5 harg5 x4 512 512 inb_S1024x6784_S1024x512_0_512)) 16 le_rfl := by
    chain_rfl
  unfold out0_A_6
  rw [e, L0_eq, L1_eq, L2_eq, L3_eq, LW_eq (hn := by decide)]
  exact read_piecesK _ _ _ _ h j r l 16 le_rfl (by omega)

/-- What the step leaves of the values. -/
theorem out_v (h : Fin 8) (j : Fin 2) (d : Fin 80) (r : Fin 256) :
    out0_A_7 c i arg1 harg1 arg2 harg2 arg3 harg3 arg4 harg4 arg5 harg5 arg6 harg6 arg7 harg7 arg8 harg8 arg9 harg9 arg10 harg10 arg11 harg11 arg12 harg12 arg13 harg13
      x0 x1 x2 x3 x4 (ix5 0 h j d r)
      = if hd : d.val < 64 then vP h j (k0_pay4 x0 x1 x2 x3 (cols 1024 512 (by decide) x4)) (ix5 0 0 0 ⟨d.val, hd⟩ r) else oP (ix5 0 0 0 ⟨d.val - 64, by omega⟩ r) := by
  have e : (kernelRun0_A (F := F) c i arg1 harg1 arg2 harg2 arg3 harg3 arg4 harg4 arg5 harg5 arg6 harg6 arg7 harg7 arg8 harg8 arg9 harg9 arg10 harg10 arg11 harg11 arg12 harg12 arg13 harg13
      x0 x1 x2 x3 x4).2.2.1 = piecesV (k0_pay4 (L0 arg1 harg1 x0) (L1 arg2 harg2 x1) (L2 arg3 harg3 x2) (L3 arg4 harg4 x3)
        (LW arg5 harg5 x4 1024 512 inb_S1024x6784_S1024x512_0_1024)) 16 le_rfl := by
    chain_rfl
  unfold out0_A_7
  rw [e, L0_eq, L1_eq, L2_eq, L3_eq, LW_eq (hn := by decide)]
  exact read_piecesV _ _ _ h j d r 16 le_rfl (by omega)

/-- What the step leaves of the other branch's queries and keys. -/
theorem out_qk (r : Fin 512) (j : Fin 1024) :
    out0_A_8 c i arg1 harg1 arg2 harg2 arg3 harg3 arg4 harg4 arg5 harg5 arg6 harg6 arg7 harg7 arg8 harg8 arg9 harg9 arg10 harg10 arg11 harg11 arg12 harg12 arg13 harg13
      x0 x1 x2 x3 x4 (ix2 r j) = k0_pay84 (HB x0 x1 x2 x3) (cols 1536 1024 (by decide) x4) (ix2 r j) := by
  have e : (kernelRun0_A (F := F) c i arg1 harg1 arg2 harg2 arg3 harg3 arg4 harg4 arg5 harg5 arg6 harg6 arg7 harg7 arg8 harg8 arg9 harg9 arg10 harg10 arg11 harg11 arg12 harg12 arg13 harg13
      x0 x1 x2 x3 x4).2.2.2.1 = [⟨Rect.unit (s := S512x1024) ![0, 0] S512x1024.size inX, k0_pay84 (HB (L0 arg1 harg1 x0) (L1 arg2 harg2 x1) (L2 arg3 harg3 x2) (L3 arg4 harg4 x3))
        (LW arg5 harg5 x4 1536 1024 inb_S1024x6784_S1024x1024_0_1536)⟩] := by
    chain_rfl
  unfold out0_A_8
  rw [e, L0_eq, L1_eq, L2_eq, L3_eq, LW_eq (hn := by decide)]
  exact read_one _ _ inX _ r j

/-- What the step leaves of the other branch's values. -/
theorem out_vb (r : Fin 512) (j : Fin 1024) :
    out0_A_9 c i arg1 harg1 arg2 harg2 arg3 harg3 arg4 harg4 arg5 harg5 arg6 harg6 arg7 harg7 arg8 harg8 arg9 harg9 arg10 harg10 arg11 harg11 arg12 harg12 arg13 harg13
      x0 x1 x2 x3 x4 (ix2 r j) = k0_pay85 (HB x0 x1 x2 x3) (cols 2560 1024 (by decide) x4) (ix2 r j) := by
  have e : (kernelRun0_A (F := F) c i arg1 harg1 arg2 harg2 arg3 harg3 arg4 harg4 arg5 harg5 arg6 harg6 arg7 harg7 arg8 harg8 arg9 harg9 arg10 harg10 arg11 harg11 arg12 harg12 arg13 harg13
      x0 x1 x2 x3 x4).2.2.2.2.1 = [⟨Rect.unit (s := S512x1024) ![0, 0] S512x1024.size inX, k0_pay85 (HB (L0 arg1 harg1 x0) (L1 arg2 harg2 x1) (L2 arg3 harg3 x2) (L3 arg4 harg4 x3))
        (LW arg5 harg5 x4 2560 1024 inb_S1024x6784_S1024x1024_0_2560)⟩] := by
    chain_rfl
  unfold out0_A_9
  rw [e, L0_eq, L1_eq, L2_eq, L3_eq, LW_eq (hn := by decide)]
  exact read_one _ _ inX _ r j

theorem inG : ∀ (a : Fin 2), (![0, 0] : Fin 2 → ℕ) a + S512x128.size a ≤ S512x128.size a := by decide
theorem inT : ∀ (a : Fin 2), (![0, 0] : Fin 2 → ℕ) a + S512x2048.size a ≤ S512x2048.size a := by decide

/-- What the step leaves of the other branch's low-rank gate. -/
theorem out_gk (r : Fin 512) (j : Fin 128) :
    out0_A_10 c i arg1 harg1 arg2 harg2 arg3 harg3 arg4 harg4 arg5 harg5 arg6 harg6 arg7 harg7 arg8 harg8 arg9 harg9 arg10 harg10 arg11 harg11 arg12 harg12 arg13 harg13
      x0 x1 x2 x3 x4 (ix2 r j) = k0_pay86 (HB x0 x1 x2 x3) (cols 3584 128 (by decide) x4) (ix2 r j) := by
  have e : (kernelRun0_A (F := F) c i arg1 harg1 arg2 harg2 arg3 harg3 arg4 harg4 arg5 harg5 arg6 harg6 arg7 harg7 arg8 harg8 arg9 harg9 arg10 harg10 arg11 harg11 arg12 harg12 arg13 harg13
      x0 x1 x2 x3 x4).2.2.2.2.2.1 = [⟨Rect.unit (s := S512x128) ![0, 0] S512x128.size inG, k0_pay86 (HB (L0 arg1 harg1 x0) (L1 arg2 harg2 x1) (L2 arg3 harg3 x2) (L3 arg4 harg4 x3))
        (LW arg5 harg5 x4 3584 128 inb_S1024x6784_S1024x128_0_3584)⟩] := by
    chain_rfl
  unfold out0_A_10
  rw [e, L0_eq, L1_eq, L2_eq, L3_eq, LW_eq (hn := by decide)]
  exact read_one _ _ inG _ r j

/-- What the step leaves of the output gate. -/
theorem out_r (r : Fin 512) (j : Fin 1024) :
    out0_A_11 c i arg1 harg1 arg2 harg2 arg3 harg3 arg4 harg4 arg5 harg5 arg6 harg6 arg7 harg7 arg8 harg8 arg9 harg9 arg10 harg10 arg11 harg11 arg12 harg12 arg13 harg13
      x0 x1 x2 x3 x4 (ix2 r j) = k0_pay87 (HB x0 x1 x2 x3) (cols 3712 1024 (by decide) x4) (ix2 r j) := by
  have e : (kernelRun0_A (F := F) c i arg1 harg1 arg2 harg2 arg3 harg3 arg4 harg4 arg5 harg5 arg6 harg6 arg7 harg7 arg8 harg8 arg9 harg9 arg10 harg10 arg11 harg11 arg12 harg12 arg13 harg13
      x0 x1 x2 x3 x4).2.2.2.2.2.2.1 = [⟨Rect.unit (s := S512x1024) ![0, 0] S512x1024.size inX, k0_pay87 (HB (L0 arg1 harg1 x0) (L1 arg2 harg2 x1) (L2 arg3 harg3 x2) (L3 arg4 harg4 x3))
        (LW arg5 harg5 x4 3712 1024 inb_S1024x6784_S1024x1024_0_3712)⟩] := by
    chain_rfl
  unfold out0_A_11
  rw [e, L0_eq, L1_eq, L2_eq, L3_eq, LW_eq (hn := by decide)]
  exact read_one _ _ inX _ r j

/-- What the step leaves of the two branches' gates. -/
theorem out_g (r : Fin 512) (j : Fin 2048) :
    out0_A_12 c i arg1 harg1 arg2 harg2 arg3 harg3 arg4 harg4 arg5 harg5 arg6 harg6 arg7 harg7 arg8 harg8 arg9 harg9 arg10 harg10 arg11 harg11 arg12 harg12 arg13 harg13
      x0 x1 x2 x3 x4 (ix2 r j) = k0_pay1 (k0_pay88 (HB x0 x1 x2 x3) (cols 4736 2048 (by decide) x4)) (ix2 r j) := by
  have e : (kernelRun0_A (F := F) c i arg1 harg1 arg2 harg2 arg3 harg3 arg4 harg4 arg5 harg5 arg6 harg6 arg7 harg7 arg8 harg8 arg9 harg9 arg10 harg10 arg11 harg11 arg12 harg12 arg13 harg13
      x0 x1 x2 x3 x4).2.2.2.2.2.2.2.val = [⟨Rect.unit (s := S512x2048) ![0, 0] S512x2048.size inT, k0_pay1 (k0_pay88 (HB (L0 arg1 harg1 x0) (L1 arg2 harg2 x1) (L2 arg3 harg3 x2) (L3 arg4 harg4 x3))
        (LW arg5 harg5 x4 4736 2048 inb_S1024x6784_S1024x2048_0_4736))⟩] := by
    chain_rfl
  unfold out0_A_12
  rw [e, L0_eq, L1_eq, L2_eq, L3_eq, LW_eq (hn := by decide)]
  exact read_one _ _ inT _ r j

end

end Cert.Inp.Kern

end
-- ==== Proof.InVal.lean ====
module

public import proofs.«01_k».proof.Proof.InStep

@[expose] public section

set_option maxRecDepth 16384

noncomputable section

/-! A step's stored arrays at an index, over the extended reals. -/

namespace Cert.Inp.Kern

open Idealize.ShloMosaic Cert.Kernel2Ideal Cert.Kernel2Ideal.Gen Idealize.SL.Sem

theorem qP_at (h : Fin 8) (v : FVec Ideal S512x512 .f32) (d : Fin 64) (r : Fin 512) :
    qP h v (ix4 0 0 d r) = v (ix2 ⟨64 * h.val + d.val, by omega⟩ r) := by
  pointwise [qP]

theorem vP_at (h : Fin 8) (j : Fin 2) (v : FVec Ideal S512x512 .f32) (d : Fin 64) (r : Fin 256) :
    vP h j v (ix5 0 0 0 d r) = v (ix2 ⟨64 * h.val + d.val, by omega⟩ ⟨256 * j.val + r.val, by omega⟩) := by
  pointwise [vP]

theorem oP_at (d : Fin 16) (r : Fin 256) : oP (F := Ideal) (ix5 0 0 0 d r) = if d.val = 0 then 1 else 0 := by
  have e : oP (F := Ideal) (ix5 0 0 0 d r) = Scalar.select (IntOp.cmpi .eq (BitVec.ofNat 32 d.val) 0#32) (1 : EReal) 0 := by
    pointwise [oP, k0_pay6]
  have hm : ∀ d : Fin 16, IntOp.cmpi .eq (BitVec.ofNat 32 d.val) 0#32 = if d.val = 0 then 1#1 else 0#1 := by decide +kernel
  rw [e, hm]
  split <;> rfl

/-- A tile of the keys' columns at an index. -/
theorem tile_at (p : Fin 4) (v : FVec Ideal S512x512 .f32) (r : Fin 512) (l : Fin 128) :
    extractStridedSlice S512x128 ![0, 128 * p.val] v (slT p) (ix2 r l) = v (ix2 r ⟨128 * p.val + l.val, by omega⟩) := by
  pointwise

theorem turn_at (x : FVec Ideal S512x128 .f32) (r : Fin 512) (l : Fin 64) :
    dynamicRotate 1 64#32 none x rotates_S512x128_d1 (ix2 r ⟨l.val, by omega⟩) = x (ix2 r ⟨64 + l.val, by omega⟩) := by
  have e : dynamicRotate 1 64#32 none x rotates_S512x128_d1 (ix2 r ⟨l.val, by omega⟩) = x (ix2 r ⟨(l.val + 128 - 64) % 128, Nat.mod_lt _ (by decide)⟩) := by
    pointwise
  exact e.trans (congrArg x ((ix2_inj ..).2 ⟨rfl, Fin.ext (by show (l.val + 128 - 64) % 128 = 64 + l.val; omega)⟩))

/-- The first 64 columns are head `h`'s keys. -/
theorem kT_at (h : Fin 8) (v : FVec Ideal S512x512 .f32) (r : Fin 512) (l : Fin 64) :
    kT h v (ix2 r ⟨l.val, by omega⟩) = v (ix2 r ⟨64 * h.val + l.val, by omega⟩) := by
  have ev : ∀ (a b : Fin 512), a.val = b.val → v (ix2 r a) = v (ix2 r b) := fun a b hab => by rw [Fin.ext hab]
  match h with
  | 0 => exact (tile_at 0 v r ⟨l.val, by omega⟩).trans (ev _ _ (by show 128 * 0 + l.val = 64 * 0 + l.val; omega))
  | 1 => exact ((turn_at _ r l).trans (tile_at 0 v r _)).trans (ev _ _ (by show 128 * 0 + (64 + l.val) = 64 * 1 + l.val; omega))
  | 2 => exact (tile_at 1 v r ⟨l.val, by omega⟩).trans (ev _ _ (by show 128 * 1 + l.val = 64 * 2 + l.val; omega))
  | 3 => exact ((turn_at _ r l).trans (tile_at 1 v r _)).trans (ev _ _ (by show 128 * 1 + (64 + l.val) = 64 * 3 + l.val; omega))
  | 4 => exact (tile_at 2 v r ⟨l.val, by omega⟩).trans (ev _ _ (by show 128 * 2 + l.val = 64 * 4 + l.val; omega))
  | 5 => exact ((turn_at _ r l).trans (tile_at 2 v r _)).trans (ev _ _ (by show 128 * 2 + (64 + l.val) = 64 * 5 + l.val; omega))
  | 6 => exact (tile_at 3 v r ⟨l.val, by omega⟩).trans (ev _ _ (by show 128 * 3 + l.val = 64 * 6 + l.val; omega))
  | 7 => exact ((turn_at _ r l).trans (tile_at 3 v r _)).trans (ev _ _ (by show 128 * 3 + (64 + l.val) = 64 * 7 + l.val; omega))

theorem lane_lt : ∀ l : Fin 128, IntOp.cmpi .slt (BitVec.ofNat 32 l.val) 64#32 = if l.val < 64 then 1#1 else 0#1 := by decide +kernel

theorem lane_eq : ∀ (g : Fin 64) (j : Fin 2) (l : Fin 128), IntOp.cmpi .eq (BitVec.ofNat 32 l.val) (Scalar.addi (Scalar.addi 64#32 (blk0 (BitVec.ofNat 32 g.val))) (BitVec.ofNat 32 j.val))
    = if l.val = 64 + (2 * (g.val % 16) + j.val) then 1#1 else 0#1 := by decide +kernel

/-- A block of keys beside its indicator, at an index. -/
theorem kP_at (h : Fin 8) (j : Fin 2) (g : Fin 64) (v : FVec Ideal S512x512 .f32) (r : Fin 256) (l : Fin 128) :
    kP j (blk0 (BitVec.ofNat 32 g.val)) (kT h v) (ix5 0 0 0 r l)
      = if hl : l.val < 64 then v (ix2 ⟨256 * j.val + r.val, by omega⟩ ⟨64 * h.val + l.val, by omega⟩)
        else if l.val = 64 + (2 * (g.val % 16) + j.val) then 1 else 0 := by
  have e : ∀ (b : BitVec 32) (k : FVec Ideal S512x128 .f32), kP j b k (ix5 0 0 0 r l)
      = Scalar.select (IntOp.cmpi .slt (BitVec.ofNat 32 l.val) 64#32) (k (ix2 ⟨256 * j.val + r.val, by omega⟩ l))
        (Scalar.select (IntOp.cmpi .eq (BitVec.ofNat 32 l.val) (Scalar.addi (Scalar.addi 64#32 b) (BitVec.ofNat 32 j.val))) (1 : EReal) 0) := by
    intro b k
    pointwise [kP]
  rw [e, lane_lt, lane_eq]
  by_cases hl : l.val < 64
  · rw [if_pos hl, dif_pos hl]
    exact kT_at h v ⟨256 * j.val + r.val, by omega⟩ ⟨l.val, hl⟩
  · rw [if_neg hl, dif_neg hl]
    show Scalar.select _ _ _ = _
    split <;> rfl

section

variable (x0 : Vec Ideal S512x1024 .f32) (x1 : Vec Ideal S1x1024 .f32) (x2 x3 : Vec Ideal S1x1x1024 .f32)

/-- The step's normed and modulated rows at an index. -/
theorem HB_at (r : Fin 512) (d : Fin 1024) : HB x0 x1 x2 x3 (ix2 r d)
    = x0 (ix2 r d) * Ideal.rsqrt (Ideal.div (∑ e, x0 (ix2 r e) * x0 (ix2 r e)) (Ideal.ofBits .f32 0x44800000#32) + Ideal.ofBits .f32 0x358637BD#32)
      * x1 (ix2 0 d) * (1 + x2 (ix3 0 0 d)) + x3 (ix3 0 0 d) := by
  pointwise [HB, k0_pay2]

theorem pay3_at (w : Vec Ideal S1024x512 .bf16) (a r : Fin 512) : k0_pay3 x0 x1 x2 x3 w (ix2 a r)
    = (∑ d, HB x0 x1 x2 x3 (ix2 r d) * w (ix2 d a)) * Ideal.ofBits .f32 0x3E38AA3B#32 := by
  show k0_pay3 x0 x1 x2 x3 w (ix2 a r) = (∑ d, k0_pay2 x0 x1 x2 x3 (ix2 r d) * w (ix2 d a)) * Ideal.ofBits .f32 0x3E38AA3B#32
  unfold k0_pay3
  generalize k0_pay2 x0 x1 x2 x3 = H
  pointwise

theorem pay4_at (w : Vec Ideal S1024x512 .bf16) (a r : Fin 512) : k0_pay4 x0 x1 x2 x3 w (ix2 a r) = ∑ d, HB x0 x1 x2 x3 (ix2 r d) * w (ix2 d a) := by
  show k0_pay4 x0 x1 x2 x3 w (ix2 a r) = ∑ d, k0_pay2 x0 x1 x2 x3 (ix2 r d) * w (ix2 d a)
  unfold k0_pay4
  generalize k0_pay2 x0 x1 x2 x3 = H
  pointwise

end

section

variable (H : FVec Ideal S512x1024 .bf16)

theorem pay5_at (w : Vec Ideal S1024x512 .bf16) (r a : Fin 512) : k0_pay5 H w (ix2 r a) = ∑ d, H (ix2 r d) * w (ix2 d a) := by
  pointwise [k0_pay5]

theorem pay84_at (w : Vec Ideal S1024x1024 .bf16) (r : Fin 512) (a : Fin 1024) : k0_pay84 H w (ix2 r a) = ∑ d, H (ix2 r d) * w (ix2 d a) := by
  pointwise [k0_pay84]

theorem pay85_at (w : Vec Ideal S1024x1024 .bf16) (r : Fin 512) (a : Fin 1024) : k0_pay85 H w (ix2 r a) = ∑ d, H (ix2 r d) * w (ix2 d a) := by
  pointwise [k0_pay85]

theorem pay86_at (w : Vec Ideal S1024x128 .bf16) (r : Fin 512) (a : Fin 128) : k0_pay86 H w (ix2 r a) = ∑ d, H (ix2 r d) * w (ix2 d a) := by
  pointwise [k0_pay86]

theorem pay87_at (w : Vec Ideal S1024x1024 .bf16) (r : Fin 512) (a : Fin 1024) : k0_pay87 H w (ix2 r a)
    = (∑ d, H (ix2 r d) * w (ix2 d a)) * Spec.sig (∑ d, H (ix2 r d) * w (ix2 d a)) := by
  have e : k0_pay87 H w (ix2 r a) = (∑ d, H (ix2 r d) * w (ix2 d a)) * Ideal.div 1 (1 + Ideal.exp (0 - ∑ d, H (ix2 r d) * w (ix2 d a))) := by
    pointwise [k0_pay87]
  rw [e, zero_sub]
  rfl

theorem pay88_at (w : Vec Ideal S1024x2048 .bf16) (r : Fin 512) (a : Fin 2048) : k0_pay1 (k0_pay88 H w) (ix2 r a)
    = Spec.sig (∑ d, H (ix2 r d) * w (ix2 d a)) := by
  have e : k0_pay1 (k0_pay88 H w) (ix2 r a) = Ideal.div 1 (1 + Ideal.exp (0 - ∑ d, H (ix2 r d) * w (ix2 d a))) := by
    pointwise [k0_pay1, k0_pay88]
  rw [e, zero_sub]
  rfl

end

end Cert.Inp.Kern

end
-- ==== Proof.InBlk.lean ====
module

public import proofs.«01_k».proof.Proof.InVal
public import proofs.«01_k».proof.Proof.Gen.Kernel2Ideal.Value
public import Idealize.ShloMosaic.Lib.StableHlo.RunRead

@[expose] public section

set_option maxRecDepth 16384

noncomputable section

/-! The input projection's blocks at an index. -/

namespace Cert.Inp.Kern

open Idealize.ShloMosaic Idealize.ShloMosaic.TcCoe Idealize.SL.Sem Cert.Kernel2Ideal Cert.Kernel2Ideal.Gen Cert.Kernel2Ideal.Value Pipeline

variable (m : (ℓ : Loc nD τ sig) → Buf (Elt Ideal) ℓ) (c : Dev nD)

abbrev M0 : FVec Ideal S4x8192x1024 .f32 := m ((c.tc : Thread nD τ).loc main_arg0)
abbrev M1 : FVec Ideal S1x1024 .f32 := m ((c.tc : Thread nD τ).loc main_arg1)
abbrev M2 : FVec Ideal S4x1024 .f32 := m ((c.tc : Thread nD τ).loc main_arg2)
abbrev M3 : FVec Ideal S4x1024 .f32 := m ((c.tc : Thread nD τ).loc main_arg3)
abbrev M4 : FVec Ideal S1x1024x6672 .f32 := m ((c.tc : Thread nD τ).loc main_arg4)

theorem idx : ∀ t : Fin cfg0.N, win0_0.index t = ![t.val, 0] ∧ win0_1.index t = ![0, 0] ∧ win0_2.index t = ![t.val / 16, 0, 0] ∧ win0_3.index t = ![t.val / 16, 0, 0]
    ∧ win0_4.index t = ![0, 0] ∧ t.val < 64 ∧ (grid0.coords t 0).val = t.val :=
  (by decide +kernel : ∀ t : Fin grid0.N, _)

theorem lt64 (t : Fin cfg0.N) : t.val < 64 := (idx t).2.2.2.2.2.1

/-- The batch a step is in. -/
def bat (t : Fin cfg0.N) : Fin 4 := ⟨t.val / 16, by have := lt64 t; omega⟩

/-- The position of a step's row within its batch. -/
def pos (t : Fin cfg0.N) (r : Fin 512) : Fin 8192 := ⟨512 * (t.val % 16) + r.val, by omega⟩

variable (t : Fin cfg0.N)

theorem x_at (r : Fin 512) (d : Fin 1024) : (iblk m c 0 t : FVec Ideal S512x1024 .f32) (ix2 r d) = M0 m c (ix3 (bat t) (pos t r) d) := by
  have hl := lt64 t
  have e5 : V m c main_v0 = shapeCast S32768x1024 (M0 m c) shapeCasts_S4x8192x1024_S32768x1024 := by
    simp only [V, List.flatten_cons, List.flatten_nil, List.append_nil, StableHlo.after_append]
    after_reads_simp
    rfl
  have e' : (iblk m c 0 t : FVec Ideal S512x1024 .f32) (ix2 r d) = (V m c main_v0 : FVec Ideal S32768x1024 .f32) (ix2 ⟨t.val * 512 + r.val, by omega⟩ d) := by
    blk_ext [iblk, idx t]
  refine e'.trans ?_
  rw [e5]
  pointwise
  refine congrArg (M0 m c) ((ix3_inj ..).2 ⟨Fin.ext ?_, Fin.ext ?_, rfl⟩)
  · show (t.val * 512 + r.val) / 8192 = t.val / 16
    omega
  · show (t.val * 512 + r.val) % 8192 = 512 * (t.val % 16) + r.val
    omega

theorem nw_at (d : Fin 1024) : (iblk m c 1 t : FVec Ideal S1x1024 .f32) (ix2 0 d) = M1 m c (ix2 0 d) := by
  have e5 : V m c main_v11 = shapeCast S1x1024 (shapeCast S1024 (M1 m c) shapeCasts_S1x1024_S1024) shapeCasts_S1024_S1x1024 := by
    simp only [V, List.flatten_cons, List.flatten_nil, List.append_nil, StableHlo.after_append]
    after_reads_simp
    rfl
  have e' : (iblk m c 1 t : FVec Ideal S1x1024 .f32) (ix2 0 d) = (V m c main_v11 : FVec Ideal S1x1024 .f32) (ix2 0 d) := by
    blk_ext [iblk, idx t]
  refine e'.trans ?_
  rw [e5]
  pointwise

theorem sc_at (d : Fin 1024) : (iblk m c 2 t : FVec Ideal S1x1x1024 .f32) (ix3 0 0 d) = M2 m c (ix2 (bat t) d) := by
  have hl := lt64 t
  have e5 : V m c main_v2 = shapeCast S4x1x1024 (M2 m c) shapeCasts_S4x1024_S4x1x1024 := by
    simp only [V, List.flatten_cons, List.flatten_nil, List.append_nil, StableHlo.after_append]
    after_reads_simp
    rfl
  have e' : (iblk m c 2 t : FVec Ideal S1x1x1024 .f32) (ix3 0 0 d) = (V m c main_v2 : FVec Ideal S4x1x1024 .f32) (ix3 (bat t) 0 d) := by
    unfold bat
    blk_ext [iblk, idx t]
  refine e'.trans ?_
  rw [e5]
  pointwise

theorem sh_at (d : Fin 1024) : (iblk m c 3 t : FVec Ideal S1x1x1024 .f32) (ix3 0 0 d) = M3 m c (ix2 (bat t) d) := by
  have hl := lt64 t
  have e5 : V m c main_v3 = shapeCast S4x1x1024 (M3 m c) shapeCasts_S4x1024_S4x1x1024 := by
    simp only [V, List.flatten_cons, List.flatten_nil, List.append_nil, StableHlo.after_append]
    after_reads_simp
    rfl
  have e' : (iblk m c 3 t : FVec Ideal S1x1x1024 .f32) (ix3 0 0 d) = (V m c main_v3 : FVec Ideal S4x1x1024 .f32) (ix3 (bat t) 0 d) := by
    unfold bat
    blk_ext [iblk, idx t]
  refine e'.trans ?_
  rw [e5]
  pointwise

/-- The weight's columns: up to 3600 they stand as they were, then 112 columns of zeros, then the rest. -/
theorem w_at (d : Fin 1024) (j : Fin 6784) : (iblk m c 4 t : FVec Ideal S1024x6784 .bf16) (ix2 d j)
    = if h : j.val < 3600 then M4 m c (ix3 0 d ⟨j.val, by omega⟩) else if h' : j.val < 3712 then (0 : EReal) else M4 m c (ix3 0 d ⟨j.val - 112, by omega⟩) := by
  have e5 : V m c main_v10 = concatenate S1024x6784 1
      [⟨S1024x3584, extractStridedSlice S1024x3584 ![0, 0] (truncf .bf16 (shapeCast S1024x6672 (M4 m c) shapeCasts_S1x1024x6672_S1024x6672) bitsLt_bf16_f32) slices_S1024x6672_S1024x3584_0_0⟩,
       ⟨S1024x128, pad S1024x128 ![0, 0] ![0, 112] ![0, 0] (extractStridedSlice S1024x16 ![0, 3584] (truncf .bf16 (shapeCast S1024x6672 (M4 m c) shapeCasts_S1x1024x6672_S1024x6672) bitsLt_bf16_f32) slices_S1024x6672_S1024x16_0_3584)
          (sitofp .bf16 (constantI S_ 32 0#32)) pads_S1024x16_S1024x128_000_01120 h_S_⟩,
       ⟨S1024x3072, extractStridedSlice S1024x3072 ![0, 3600] (truncf .bf16 (shapeCast S1024x6672 (M4 m c) shapeCasts_S1x1024x6672_S1024x6672) bitsLt_bf16_f32) slices_S1024x6672_S1024x3072_0_3600⟩]
      concatenates_S1024x3584_S1024x128_S1024x3072_S1024x6784_d1 := by
    simp only [V, List.flatten_cons, List.flatten_nil, List.append_nil, StableHlo.after_append]
    after_reads_simp
    rfl
  have e' : (iblk m c 4 t : FVec Ideal S1024x6784 .bf16) (ix2 d j) = (V m c main_v10 : FVec Ideal S1024x6784 .bf16) (ix2 d j) := by
    blk_ext [iblk, idx t]
  refine e'.trans ?_
  rw [e5]
  pointwise
  have z0 : FloatOps.sitofp (F := Ideal) FTy.bf16 0#32 = (0 : EReal) := by
    show (((0#32 : BitVec 32).toInt : ℝ) : EReal) = 0
    simp
  have eM : ∀ a b : Fin 6672, a.val = b.val → M4 m c (ix3 0 d a) = M4 m c (ix3 0 d b) := fun a b h => by rw [Fin.ext h]
  by_cases h1 : j.val < 3584
  · rw [dif_pos h1, dif_pos (by omega)]
  · rw [dif_neg h1]
    by_cases h2 : j.val - 3584 < 128
    · rw [dif_pos h2]
      by_cases h3 : j.val - 3584 < 16
      · rw [dif_pos h3, dif_pos (by omega)]
        exact eM _ _ (by show 3584 + (j.val - 3584) = j.val; omega)
      · rw [dif_neg h3, dif_neg (by omega), dif_pos (by omega), z0]
    · rw [dif_neg h2, dif_neg (by omega), dif_neg (by omega)]
      exact eM _ _ (by show 3600 + (j.val - 3584 - 128) = j.val - 112; omega)

/-- The model's entries and projections for the step's rows. -/
abbrev hid (b : Fin 4) (s : Fin 8192) (d : Fin 1024) : EReal := Spec.hid (M0 m c) (M1 m c) (M2 m c) (M3 m c) b s d
abbrev proj (b : Fin 4) (s : Fin 8192) (j : Fin 6672) : EReal := Spec.proj (M0 m c) (M1 m c) (M2 m c) (M3 m c) (M4 m c) b s j

/-- The step's normed and modulated rows are the model's. -/
abbrev HBt : FVec Ideal S512x1024 .bf16 := HB (iblk m c 0 t) (iblk m c 1 t) (iblk m c 2 t) (iblk m c 3 t)

theorem hid_at (r : Fin 512) (d : Fin 1024) : HBt m c t (ix2 r d) = hid m c (bat t) (pos t r) d := by
  refine (HB_at (iblk m c 0 t) (iblk m c 1 t) (iblk m c 2 t) (iblk m c 3 t) r d).trans ?_
  unfold hid Spec.hid
  have h0 : ∀ e, (iblk m c 0 t : FVec Ideal S512x1024 .f32) (ix2 r e) = _ := x_at m c t r
  rw [Finset.sum_congr rfl fun e _ => congrArg₂ (fun a b : EReal => a * b) (h0 e) (h0 e), h0, nw_at m c t d, sc_at m c t d, sh_at m c t d]

/-- A product with columns of the weight that stand as they were. -/
theorem low_at (o n : ℕ) (hn : o + n ≤ 6784) (r : Fin 512) (a : Fin n) (ha : o + a.val < 3600) :
    ∑ d, HBt m c t (ix2 r d) * cols o n hn (iblk m c 4 t : FVec Ideal S1024x6784 .bf16) (ix2 d a) = proj m c (bat t) (pos t r) ⟨o + a.val, by omega⟩ :=
  Finset.sum_congr rfl fun d _ => congrArg₂ (· * ·) (hid_at m c t r d) ((w_at m c t d ⟨o + a.val, by omega⟩).trans (dif_pos ha))

/-- A product with columns of zeros. -/
theorem mid_at (o n : ℕ) (hn : o + n ≤ 6784) (r : Fin 512) (a : Fin n) (ha : 3600 ≤ o + a.val) (hb : o + a.val < 3712) :
    ∑ d, HBt m c t (ix2 r d) * cols o n hn (iblk m c 4 t : FVec Ideal S1024x6784 .bf16) (ix2 d a) = 0 :=
  Finset.sum_eq_zero fun d _ => (congrArg (HBt m c t (ix2 r d) * ·) ((w_at m c t d ⟨o + a.val, by omega⟩).trans
    ((dif_neg (by show ¬ o + a.val < 3600; omega)).trans (dif_pos hb)))).trans (mul_zero _)

/-- A product with columns that stand 112 further on. -/
theorem high_at (o n : ℕ) (hn : o + n ≤ 6784) (r : Fin 512) (a : Fin n) (ha : 3712 ≤ o + a.val) :
    ∑ d, HBt m c t (ix2 r d) * cols o n hn (iblk m c 4 t : FVec Ideal S1024x6784 .bf16) (ix2 d a) = proj m c (bat t) (pos t r) ⟨o + a.val - 112, by omega⟩ :=
  Finset.sum_congr rfl fun d _ => congrArg₂ (· * ·) (hid_at m c t r d) ((w_at m c t d ⟨o + a.val, by omega⟩).trans
    ((dif_neg (by show ¬ o + a.val < 3600; omega)).trans (dif_neg (by show ¬ o + a.val < 3712; omega))))

end Cert.Inp.Kern

end
-- ==== Proof.InArr.lean ====
module

public import proofs.«01_k».proof.Proof.InBlk

@[expose] public section

set_option maxRecDepth 16384

noncomputable section

/-! The input projection's results at an index. -/

namespace Cert.Inp.Kern

open Idealize.ShloMosaic Idealize.ShloMosaic.TcCoe Idealize.SL.Sem Cert.Kernel2Ideal Cert.Kernel2Ideal.Gen Cert.Kernel2Ideal.Value Pipeline

variable (m : (ℓ : Loc nD τ sig) → Buf (Elt Ideal) ℓ) (c : Dev nD)

theorem odx : ∀ t : Fin cfg0.N, win0_5.index t = ![t.val / 16, 0, 0, t.val % 16] ∧ win0_6.index t = ![t.val / 16, 0, t.val % 16, 0, 0]
    ∧ win0_7.index t = ![t.val / 16, 0, t.val % 16, 0, 0] ∧ win0_8.index t = ![t.val, 0] ∧ win0_9.index t = ![t.val, 0] ∧ win0_10.index t = ![t.val, 0]
    ∧ win0_11.index t = ![t.val, 0] ∧ win0_12.index t = ![t.val, 0] ∧ (cfg0.win 5).flush t = true ∧ (cfg0.win 6).flush t = true
    ∧ (cfg0.win 7).flush t = true ∧ (cfg0.win 8).flush t = true ∧ (cfg0.win 9).flush t = true ∧ (cfg0.win 10).flush t = true
    ∧ (cfg0.win 11).flush t = true ∧ (cfg0.win 12).flush t = true :=
  (by decide +kernel : ∀ t : Fin grid0.N, _)

theorem row_eq (t : Fin cfg0.N) (r : Fin 512) : Spec.row (bat t) (pos t r) = ⟨t.val * 512 + r.val, by have := lt64 t; omega⟩ :=
  Fin.ext (by show 8192 * (t.val / 16) + (512 * (t.val % 16) + r.val) = t.val * 512 + r.val; omega)

variable (t : Fin cfg0.N)

theorem p_eq (r : Fin 512) (a b : Fin 6672) (h : a.val = b.val) : proj m c (bat t) (pos t r) a = proj m c (bat t) (pos t r) b := by rw [Fin.ext h]

/-- The linear attention's queries and keys. -/
theorem qk_out (r : Fin 512) (j : Fin 1024) : ((dats m 0 c).arrAt 8 cfg0.N : FVec Ideal S32768x1024 .bf16) (ix2 (Spec.row (bat t) (pos t r)) j)
    = Spec.rqk (proj m c) (bat t) (pos t r) j := by
  have hl := lt64 t
  have e := congrFun (blocks8 m c t (by simp only [odx t])) (ix2 r j)
  rw [flushed8_A] at e
  have e1 : ∀ A : FVec Ideal S32768x1024 .bf16, ((cfg0.win 8).blk t).view.read (Elt Ideal) A (ix2 r j) = A (ix2 (Spec.row (bat t) (pos t r)) j) := fun A => by
    rw [row_eq]
    blk_ext [odx t]
  have e2 : ∀ A : FVec Ideal S512x1024 .bf16, (cfg0.win 8).cut (grid0.coords t) A (ix2 r j) = A (ix2 r j) := fun A => by
    blk_ext [odx t]
  refine (e1 _).symm.trans (e.trans ((e2 _).trans ((out_qk (r := r) (j := j) ..).trans ((pay84_at _ _ r j).trans ?_))))
  exact low_at m c t 1536 1024 _ r j (by omega)

/-- Its values. -/
theorem vb_out (r : Fin 512) (j : Fin 1024) : ((dats m 0 c).arrAt 9 cfg0.N : FVec Ideal S32768x1024 .bf16) (ix2 (Spec.row (bat t) (pos t r)) j)
    = Spec.rvb (proj m c) (bat t) (pos t r) j := by
  have hl := lt64 t
  have e := congrFun (blocks9 m c t (by simp only [odx t])) (ix2 r j)
  rw [flushed9_A] at e
  have e1 : ∀ A : FVec Ideal S32768x1024 .bf16, ((cfg0.win 9).blk t).view.read (Elt Ideal) A (ix2 r j) = A (ix2 (Spec.row (bat t) (pos t r)) j) := fun A => by
    rw [row_eq]
    blk_ext [odx t]
  have e2 : ∀ A : FVec Ideal S512x1024 .bf16, (cfg0.win 9).cut (grid0.coords t) A (ix2 r j) = A (ix2 r j) := fun A => by
    blk_ext [odx t]
  refine (e1 _).symm.trans (e.trans ((e2 _).trans ((out_vb (r := r) (j := j) ..).trans ((pay85_at _ _ r j).trans ?_))))
  exact low_at m c t 2560 1024 _ r j (by omega)

/-- Its low-rank gate. -/
theorem gk_out (r : Fin 512) (j : Fin 128) : ((dats m 0 c).arrAt 10 cfg0.N : FVec Ideal S32768x128 .f32) (ix2 (Spec.row (bat t) (pos t r)) j)
    = Spec.rgk (proj m c) (bat t) (pos t r) j := by
  have hl := lt64 t
  have e := congrFun (blocks10 m c t (by simp only [odx t])) (ix2 r j)
  rw [flushed10_A] at e
  have e1 : ∀ A : FVec Ideal S32768x128 .f32, ((cfg0.win 10).blk t).view.read (Elt Ideal) A (ix2 r j) = A (ix2 (Spec.row (bat t) (pos t r)) j) := fun A => by
    rw [row_eq]
    blk_ext [odx t]
  have e2 : ∀ A : FVec Ideal S512x128 .f32, (cfg0.win 10).cut (grid0.coords t) A (ix2 r j) = A (ix2 r j) := fun A => by
    blk_ext [odx t]
  refine (e1 _).symm.trans (e.trans ((e2 _).trans ((out_gk (r := r) (j := j) ..).trans ((pay86_at _ _ r j).trans ?_))))
  unfold Spec.rgk
  by_cases hj : j.val < 16
  · rw [dif_pos hj]
    exact low_at m c t 3584 128 _ r j (by omega)
  · rw [dif_neg hj]
    exact mid_at m c t 3584 128 _ r j (by omega) (by omega)

/-- Its output gate. -/
theorem r_out (r : Fin 512) (j : Fin 1024) : ((dats m 0 c).arrAt 11 cfg0.N : FVec Ideal S32768x1024 .bf16) (ix2 (Spec.row (bat t) (pos t r)) j)
    = Spec.rr (proj m c) (bat t) (pos t r) j := by
  have hl := lt64 t
  have e := congrFun (blocks11 m c t (by simp only [odx t])) (ix2 r j)
  rw [flushed11_A] at e
  have e1 : ∀ A : FVec Ideal S32768x1024 .bf16, ((cfg0.win 11).blk t).view.read (Elt Ideal) A (ix2 r j) = A (ix2 (Spec.row (bat t) (pos t r)) j) := fun A => by
    rw [row_eq]
    blk_ext [odx t]
  have e2 : ∀ A : FVec Ideal S512x1024 .bf16, (cfg0.win 11).cut (grid0.coords t) A (ix2 r j) = A (ix2 r j) := fun A => by
    blk_ext [odx t]
  refine (e1 _).symm.trans (e.trans ((e2 _).trans ((out_r (r := r) (j := j) ..).trans ((pay87_at _ _ r j).trans ?_))))
  have e3 := (high_at m c t 3712 1024 (by decide) r j (by omega)).trans (p_eq m c t r _ ⟨3600 + j.val, by omega⟩ (by show 3712 + j.val - 112 = 3600 + j.val; omega))
  exact congrArg₂ (fun a b : EReal => a * b) e3 (congrArg Spec.sig e3)

/-- The two branches' gates. -/
theorem g_out (r : Fin 512) (j : Fin 2048) : ((dats m 0 c).arrAt 12 cfg0.N : FVec Ideal S32768x2048 .bf16) (ix2 (Spec.row (bat t) (pos t r)) j)
    = Spec.rg (proj m c) (bat t) (pos t r) j := by
  have hl := lt64 t
  have e := congrFun (blocks12 m c t (by simp only [odx t])) (ix2 r j)
  rw [flushed12_A] at e
  have e1 : ∀ A : FVec Ideal S32768x2048 .bf16, ((cfg0.win 12).blk t).view.read (Elt Ideal) A (ix2 r j) = A (ix2 (Spec.row (bat t) (pos t r)) j) := fun A => by
    rw [row_eq]
    blk_ext [odx t]
  have e2 : ∀ A : FVec Ideal S512x2048 .bf16, (cfg0.win 12).cut (grid0.coords t) A (ix2 r j) = A (ix2 r j) := fun A => by
    blk_ext [odx t]
  refine (e1 _).symm.trans (e.trans ((e2 _).trans ((out_g (r := r) (j := j) ..).trans ((pay88_at _ _ r j).trans ?_))))
  have e3 := (high_at m c t 4736 2048 (by decide) r j (by omega)).trans (p_eq m c t r _ ⟨4624 + j.val, by omega⟩ (by show 4736 + j.val - 112 = 4624 + j.val; omega))
  exact congrArg Spec.sig e3

/-- The block attention's queries. -/
theorem q_out (h : Fin 8) (d : Fin 64) (r : Fin 512) : ((dats m 0 c).arrAt 5 cfg0.N : FVec Ideal S4x8x64x8192 .bf16) (ix4 (bat t) h d (pos t r))
    = Spec.rq (proj m c) (bat t) h d (pos t r) := by
  have hl := lt64 t
  have e := congrFun (blocks5 m c t (by simp only [odx t])) (ix4 0 h d r)
  rw [flushed5_A] at e
  have e1 : ∀ A : FVec Ideal S4x8x64x8192 .bf16, ((cfg0.win 5).blk t).view.read (Elt Ideal) A (ix4 0 h d r) = A (ix4 (bat t) h d ⟨t.val % 16 * 512 + r.val, by omega⟩) := fun A => by
    unfold bat
    blk_ext [odx t]
  have ep : pos t r = ⟨t.val % 16 * 512 + r.val, by omega⟩ := Fin.ext (by show 512 * (t.val % 16) + r.val = t.val % 16 * 512 + r.val; omega)
  have e2 : ∀ A : FVec Ideal S1x8x64x512 .bf16, (cfg0.win 5).cut (grid0.coords t) A (ix4 0 h d r) = A (ix4 0 h d r) := fun A => by
    blk_ext [odx t]
  have e1' : ∀ A : FVec Ideal S4x8x64x8192 .bf16, ((cfg0.win 5).blk t).view.read (Elt Ideal) A (ix4 0 h d r) = A (ix4 (bat t) h d (pos t r)) := fun A => by
    rw [ep]
    exact e1 A
  refine (e1' _).symm.trans (e.trans ((e2 _).trans ((out_q (h := h) (d := d) (r := r) ..).trans ((qP_at h _ d r).trans ((pay3_at _ _ _ _ _ _ r).trans ?_)))))
  refine congrArg (fun a : EReal => a * _) ((low_at m c t 0 512 _ r ⟨64 * h.val + d.val, by omega⟩ (by dsimp only; omega)).trans (p_eq m c t r _ _ ?_))
  exact Nat.zero_add _

/-- The position of a row of a step's block. -/
def blk (t : Fin cfg0.N) (j : Fin 2) : Fin 32 := ⟨2 * (t.val % 16) + j.val, by omega⟩

theorem pos_eq (j : Fin 2) (r : Fin 256) : pos t ⟨256 * j.val + r.val, by omega⟩ = Spec.at256 (blk t j) r :=
  Fin.ext (by show 512 * (t.val % 16) + (256 * j.val + r.val) = 256 * (2 * (t.val % 16) + j.val) + r.val; omega)

/-- Its keys. -/
theorem k_out (h : Fin 8) (j : Fin 2) (r : Fin 256) (l : Fin 128) : ((dats m 0 c).arrAt 6 cfg0.N : FVec Ideal S4x8x32x256x128 .bf16) (ix5 (bat t) h (blk t j) r l)
    = Spec.rk (proj m c) (bat t) h (blk t j) r l := by
  have hl := lt64 t
  have e := congrFun (blocks6 m c t (by simp only [odx t])) (ix5 0 h j r l)
  rw [flushed6_A] at e
  have e1 : ∀ A : FVec Ideal S4x8x32x256x128 .bf16, ((cfg0.win 6).blk t).view.read (Elt Ideal) A (ix5 0 h j r l) = A (ix5 (bat t) h ⟨t.val % 16 * 2 + j.val, by omega⟩ r l) := fun A => by
    unfold bat
    blk_ext [odx t]
  have ep : blk t j = ⟨t.val % 16 * 2 + j.val, by omega⟩ := Fin.ext (by show 2 * (t.val % 16) + j.val = t.val % 16 * 2 + j.val; omega)
  have e1' : ∀ A : FVec Ideal S4x8x32x256x128 .bf16, ((cfg0.win 6).blk t).view.read (Elt Ideal) A (ix5 0 h j r l) = A (ix5 (bat t) h (blk t j) r l) := fun A => by
    rw [ep]
    exact e1 A
  have e2 : ∀ A : FVec Ideal S1x8x2x256x128 .bf16, (cfg0.win 6).cut (grid0.coords t) A (ix5 0 h j r l) = A (ix5 0 h j r l) := fun A => by
    blk_ext [odx t]
  refine (e1' _).symm.trans (e.trans ((e2 _).trans ((out_k (h := h) (j := j) (r := r) (l := l) ..).trans ?_)))
  rw [(idx t).2.2.2.2.2.2]
  refine (kP_at h j ⟨t.val, hl⟩ _ r l).trans ?_
  unfold Spec.rk
  by_cases hd : l.val < 64
  · rw [dif_pos hd, dif_pos hd, ← pos_eq]
    exact (pay5_at _ _ _ _).trans (low_at m c t 512 512 _ _ ⟨64 * h.val + l.val, by omega⟩ (by dsimp only; omega))
  · rw [dif_neg hd, dif_neg hd]
    rfl

/-- Its values. -/
theorem v_out (h : Fin 8) (j : Fin 2) (d : Fin 80) (r : Fin 256) : ((dats m 0 c).arrAt 7 cfg0.N : FVec Ideal S4x8x32x80x256 .bf16) (ix5 (bat t) h (blk t j) d r)
    = Spec.rv (proj m c) (bat t) h (blk t j) d r := by
  have hl := lt64 t
  have e := congrFun (blocks7 m c t (by simp only [odx t])) (ix5 0 h j d r)
  rw [flushed7_A] at e
  have e1 : ∀ A : FVec Ideal S4x8x32x80x256 .bf16, ((cfg0.win 7).blk t).view.read (Elt Ideal) A (ix5 0 h j d r) = A (ix5 (bat t) h ⟨t.val % 16 * 2 + j.val, by omega⟩ d r) := fun A => by
    unfold bat
    blk_ext [odx t]
  have ep : blk t j = ⟨t.val % 16 * 2 + j.val, by omega⟩ := Fin.ext (by show 2 * (t.val % 16) + j.val = t.val % 16 * 2 + j.val; omega)
  have e1' : ∀ A : FVec Ideal S4x8x32x80x256 .bf16, ((cfg0.win 7).blk t).view.read (Elt Ideal) A (ix5 0 h j d r) = A (ix5 (bat t) h (blk t j) d r) := fun A => by
    rw [ep]
    exact e1 A
  have e2 : ∀ A : FVec Ideal S1x8x2x80x256 .bf16, (cfg0.win 7).cut (grid0.coords t) A (ix5 0 h j d r) = A (ix5 0 h j d r) := fun A => by
    blk_ext [odx t]
  refine (e1' _).symm.trans (e.trans ((e2 _).trans ((out_v (h := h) (j := j) (d := d) (r := r) ..).trans ?_)))
  unfold Spec.rv
  by_cases hd : d.val < 64
  · rw [dif_pos hd, dif_pos hd, ← pos_eq]
    exact (vP_at h j _ _ _).trans ((pay4_at _ _ _ _ _ _ _).trans (low_at m c t 1024 512 _ _ ⟨64 * h.val + d.val, by omega⟩ (by dsimp only; omega)))
  · rw [dif_neg hd, dif_neg hd]
    refine (oP_at _ _).trans (if_congr ?_ rfl rfl)
    show d.val - 64 = 0 ↔ d.val = 64
    omega

/-- The step, and its row, at a position of a batch. -/
def stepOf (b : Fin 4) (s : Fin 8192) : Fin cfg0.N := ⟨16 * b.val + s.val / 512, lt_of_lt_of_eq (by omega) N_0.symm⟩
def rowOf (s : Fin 8192) : Fin 512 := ⟨s.val % 512, Nat.mod_lt _ (by decide)⟩

theorem bat_step (b : Fin 4) (s : Fin 8192) : bat (stepOf b s) = b := Fin.ext (by show (16 * b.val + s.val / 512) / 16 = b.val; omega)
theorem pos_step (b : Fin 4) (s : Fin 8192) : pos (stepOf b s) (rowOf s) = s :=
  Fin.ext (by show 512 * ((16 * b.val + s.val / 512) % 16) + s.val % 512 = s.val; omega)

/-- The step a block is in, and its place there. -/
def stepOf' (b : Fin 4) (n : Fin 32) : Fin cfg0.N := ⟨16 * b.val + n.val / 2, lt_of_lt_of_eq (by omega) N_0.symm⟩
def halfOf (n : Fin 32) : Fin 2 := ⟨n.val % 2, Nat.mod_lt _ (by decide)⟩
theorem bat_step' (b : Fin 4) (n : Fin 32) : bat (stepOf' b n) = b := Fin.ext (by show (16 * b.val + n.val / 2) / 16 = b.val; omega)
theorem blk_step' (b : Fin 4) (n : Fin 32) : blk (stepOf' b n) (halfOf n) = n :=
  Fin.ext (by show 2 * ((16 * b.val + n.val / 2) % 16) + n.val % 2 = n.val; omega)

end Cert.Inp.Kern

end
-- ==== Proof.InRef.lean ====
module

public import proofs.«01_k».proof.Proof.Gen.Reference2Ideal.Run
public import proofs.«01_k».proof.Proof.InSpec

@[expose] public section

set_option maxRecDepth 16384

noncomputable section

/-! The projection's reference: its arrays by name, and what each is at an index. -/

namespace Cert.Inp.Ref

open Idealize.ShloMosaic Idealize.ShloMosaic.TcCoe Idealize.SL.Sem Cert.Reference2Ideal Cert.Reference2Ideal.Gen

section

variable {F : FTy → Type} [FloatOps F]

/-- The normed and modulated rows. -/
def hs (a0 : FVec F S4x8192x1024 .f32) (a1 : FVec F S1x1024 .f32) (a2 a3 : FVec F S4x1024 .f32) : FVec F S4x8192x1024 .f32 :=
  addf (mulf (mulf (mulf a0 (broadcastInDim S4x8192x1024 ![0, 1, 2] bcast_S4x8192x1_S4x8192x1024_0_1_2
      (Host.rsqrt (addf (Host.divf (broadcastInDim S4x8192x1 ![0, 1] bcast_S4x8192_S4x8192x1_0_1
          (Host.reduceAdd (mulf a0 a0) (constant S_ .f32 0x00000000#32) reducesTo_S4x8192x1024_S4x8192_d2 h_S_))
        (broadcastInDim S4x8192x1 ![] bcast_S_S4x8192x1 (constant S_ .f32 0x44800000#32)))
        (broadcastInDim S4x8192x1 ![] bcast_S_S4x8192x1 (constant S_ .f32 0x358637BD#32))))))
      (broadcastInDim S4x8192x1024 ![0, 1, 2] bcast_S1x1x1024_S4x8192x1024_0_1_2 (broadcastInDim S1x1x1024 ![2] bcast_S1024_S1x1x1024_2
        (shapeCast S1024 a1 shapeCasts_S1x1024_S1024))))
      (broadcastInDim S4x8192x1024 ![0, 1, 2] bcast_S4x1x1024_S4x8192x1024_0_1_2 (addf (broadcastInDim S4x1x1024 ![] bcast_S_S4x1x1024 (constant S_ .f32 0x3F800000#32))
        (broadcastInDim S4x1x1024 ![0, 2] bcast_S4x1024_S4x1x1024_0_2 a2))))
    (broadcastInDim S4x8192x1024 ![0, 1, 2] bcast_S4x1x1024_S4x8192x1024_0_1_2 (broadcastInDim S4x1x1024 ![0, 2] bcast_S4x1024_S4x1x1024_0_2 a3))

/-- The rows' product with the weight. -/
def ys (a0 : FVec F S4x8192x1024 .f32) (a1 : FVec F S1x1024 .f32) (a2 a3 : FVec F S4x1024 .f32) (a4 : FVec F S1x1024x6672 .f32) : FVec F S4x8192x6672 .f32 :=
  Host.dotGeneral dot_S4x8192x1024_S1024x6672_S4x8192x6672_2_0_01_1_n_n none (hs a0 a1 a2 a3) (shapeCast S1024x6672 a4 shapeCasts_S1x1024x6672_S1024x6672)

/-- Columns split into heads. -/
def heads (y : FVec F S4x8192x512 .f32) : FVec F S4x8x8192x64 .f32 :=
  transpose S4x8x8192x64 [0, 2, 1, 3] (shapeCast S4x8192x8x64 y shapeCasts_S4x8192x512_S4x8192x8x64) transposes_S4x8192x8x64_S4x8x8192x64_0_2_1_3

/-- The block attention's queries. -/
def oq (y : FVec F S4x8192x6672 .f32) : FVec F S4x8x64x8192 .bf16 :=
  truncf .bf16 (transpose S4x8x64x8192 [0, 1, 3, 2] (mulf (heads (extractStridedSlice S4x8192x512 ![0, 0, 0] y slices_S4x8192x6672_S4x8192x512_0_0_0))
    (broadcastInDim S4x8x8192x64 ![] bcast_S_S4x8x8192x64 (constant S_ .f32 0x3E38AA3B#32))) transposes_S4x8x8192x64_S4x8x64x8192_0_1_3_2) bitsLt_bf16_f32

/-- The blocks' indicators. -/
def mark : FVec F S32x64 .f32 :=
  select (cmpi .eq (broadcastInDim S32x64 ![0, 1] bcast_S32x1_S32x64_0_1 (broadcastInDim S32x1 ![0] bcast_S32_S32x1_0 (iotaInDim S32 32 0)))
      (broadcastInDim S32x64 ![0, 1] bcast_S1x64_S32x64_0_1 (broadcastInDim S1x64 ![1] bcast_S64_S1x64_1 (iotaInDim S64 32 0))))
    (broadcastInDim S32x64 ![] bcast_S_S32x64 (constant S_ .f32 0x3F800000#32)) (broadcastInDim S32x64 ![] bcast_S_S32x64 (constant S_ .f32 0x00000000#32))

/-- Its keys. -/
def ok (y : FVec F S4x8192x6672 .f32) : FVec F S4x8x32x256x128 .bf16 :=
  truncf .bf16 (concatenate S4x8x32x256x128 4 [⟨S4x8x32x256x64, shapeCast S4x8x32x256x64
      (heads (extractStridedSlice S4x8192x512 ![0, 0, 512] y slices_S4x8192x6672_S4x8192x512_0_0_512)) shapeCasts_S4x8x8192x64_S4x8x32x256x64⟩,
    ⟨S4x8x32x256x64, broadcastInDim S4x8x32x256x64 ![0, 1, 2, 3, 4] bcast_S1x1x32x1x64_S4x8x32x256x64_0_1_2_3_4
      (broadcastInDim S1x1x32x1x64 ![2, 4] bcast_S32x64_S1x1x32x1x64_2_4 mark)⟩] concatenates_S4x8x32x256x64_S4x8x32x256x64_S4x8x32x256x128_d4) bitsLt_bf16_f32

/-- Its values. -/
def ov (y : FVec F S4x8192x6672 .f32) : FVec F S4x8x32x80x256 .bf16 :=
  truncf .bf16 (concatenate S4x8x32x80x256 3 [⟨S4x8x32x64x256, transpose S4x8x32x64x256 [0, 1, 2, 4, 3] (shapeCast S4x8x32x256x64
      (heads (extractStridedSlice S4x8192x512 ![0, 0, 1024] y slices_S4x8192x6672_S4x8192x512_0_0_1024)) shapeCasts_S4x8x8192x64_S4x8x32x256x64)
      transposes_S4x8x32x256x64_S4x8x32x64x256_0_1_2_4_3⟩,
    ⟨S4x8x32x1x256, broadcastInDim S4x8x32x1x256 ![] bcast_S_S4x8x32x1x256 (constant S_ .f32 0x3F800000#32)⟩,
    ⟨S4x8x32x15x256, broadcastInDim S4x8x32x15x256 ![] bcast_S_S4x8x32x15x256 (constant S_ .f32 0x00000000#32)⟩]
    concatenates_S4x8x32x64x256_S4x8x32x1x256_S4x8x32x15x256_S4x8x32x80x256_d3) bitsLt_bf16_f32

/-- The linear attention's queries and keys. -/
def oqk (y : FVec F S4x8192x6672 .f32) : FVec F S32768x1024 .bf16 :=
  truncf .bf16 (shapeCast S32768x1024 (concatenate S4x8192x1024 2
    [⟨S4x8192x512, extractStridedSlice S4x8192x512 ![0, 0, 1536] y slices_S4x8192x6672_S4x8192x512_0_0_1536⟩,
      ⟨S4x8192x512, extractStridedSlice S4x8192x512 ![0, 0, 2048] y slices_S4x8192x6672_S4x8192x512_0_0_2048⟩]
    concatenates_S4x8192x512_S4x8192x512_S4x8192x1024_d2) shapeCasts_S4x8192x1024_S32768x1024) bitsLt_bf16_f32

/-- Its values. -/
def ovb (y : FVec F S4x8192x6672 .f32) : FVec F S32768x1024 .bf16 :=
  truncf .bf16 (shapeCast S32768x1024 (extractStridedSlice S4x8192x1024 ![0, 0, 2560] y slices_S4x8192x6672_S4x8192x1024_0_0_2560)
    shapeCasts_S4x8192x1024_S32768x1024) bitsLt_bf16_f32

/-- Its low-rank gate. -/
def ogk (y : FVec F S4x8192x6672 .f32) : FVec F S32768x128 .f32 :=
  pad S32768x128 ![0, 0] ![0, 112] ![0, 0] (shapeCast S32768x16 (extractStridedSlice S4x8192x16 ![0, 0, 3584] y slices_S4x8192x6672_S4x8192x16_0_0_3584)
    shapeCasts_S4x8192x16_S32768x16) (sitofp .f32 (constantI S_ 32 0#32)) pads_S32768x16_S32768x128_000_01120 h_S_

/-- Its output gate. -/
def orr (y : FVec F S4x8192x6672 .f32) : FVec F S32768x1024 .bf16 :=
  let z : FVec F S4x8192x1024 .f32 := extractStridedSlice S4x8192x1024 ![0, 0, 3600] y slices_S4x8192x6672_S4x8192x1024_0_0_3600
  truncf .bf16 (shapeCast S32768x1024 (mulf z (Host.divf (broadcastInDim S4x8192x1024 ![] bcast_S_S4x8192x1024 (constant S_ .f32 0x3F800000#32))
    (addf (broadcastInDim S4x8192x1024 ![] bcast_S_S4x8192x1024 (constant S_ .f32 0x3F800000#32)) (Host.exp (Host.negf z)))))
    shapeCasts_S4x8192x1024_S32768x1024) bitsLt_bf16_f32

/-- The two branches' gates. -/
def og (y : FVec F S4x8192x6672 .f32) : FVec F S32768x2048 .bf16 :=
  truncf .bf16 (shapeCast S32768x2048 (Host.divf (broadcastInDim S4x8192x2048 ![] bcast_S_S4x8192x2048 (constant S_ .f32 0x3F800000#32))
    (addf (broadcastInDim S4x8192x2048 ![] bcast_S_S4x8192x2048 (constant S_ .f32 0x3F800000#32)) (Host.exp (Host.negf
      (extractStridedSlice S4x8192x2048 ![0, 0, 4624] y slices_S4x8192x6672_S4x8192x2048_0_0_4624)))))
    shapeCasts_S4x8192x2048_S32768x2048) bitsLt_bf16_f32

end

section

variable (a0 : FVec Ideal S4x8192x1024 .f32) (a1 : FVec Ideal S1x1024 .f32) (a2 a3 : FVec Ideal S4x1024 .f32) (a4 : FVec Ideal S1x1024x6672 .f32)

theorem hs_at (b : Fin 4) (s : Fin 8192) (d : Fin 1024) : hs a0 a1 a2 a3 (ix3 b s d) = Spec.hid a0 a1 a2 a3 b s d := by
  pointwise [hs, Spec.hid]

/-- The product at an index is the model's projection. -/
theorem ys_at (b : Fin 4) (s : Fin 8192) (j : Fin 6672) : ys a0 a1 a2 a3 a4 (ix3 b s j) = Spec.proj a0 a1 a2 a3 a4 b s j := by
  have e : ∀ h : FVec Ideal S4x8192x1024 .f32, Host.dotGeneral dot_S4x8192x1024_S1024x6672_S4x8192x6672_2_0_01_1_n_n none h
      (shapeCast S1024x6672 a4 shapeCasts_S1x1024x6672_S1024x6672) (ix3 b s j) = ∑ d : Fin 1024, h (ix3 b s d) * a4 (ix3 0 d j) := by
    intro h
    pointwise
  refine (e _).trans (Finset.sum_congr rfl fun d _ => ?_)
  rw [hs_at]

end

section

variable (y : FVec Ideal S4x8192x6672 .f32) (b : Fin 4) (s : Fin 8192)

/-- The product as a function of batch, position and column. -/
abbrev at3 : Fin 4 → Fin 8192 → Fin 6672 → EReal := fun b s j => y (ix3 b s j)

/-- Indices that agree in value have one entry. -/
theorem y_eq {b b' : Fin 4} {s s' : Fin 8192} {j j' : Fin 6672} (hb : b.val = b'.val) (hs : s.val = s'.val) (hj : j.val = j'.val) :
    y (ix3 b s j) = y (ix3 b' s' j') := by rw [Fin.ext hb, Fin.ext hs, Fin.ext hj]

theorem row_div : (Spec.row b s).val / 8192 = b.val := by show (8192 * b.val + s.val) / 8192 = b.val; omega
theorem row_mod : (Spec.row b s).val % 8192 = s.val := by show (8192 * b.val + s.val) % 8192 = s.val; omega

theorem oq_at (h : Fin 8) (d : Fin 64) : oq y (ix4 b h d s) = Spec.rq (at3 y) b h d s := by
  pointwise [oq, heads, Spec.rq]
  exact congrArg (fun a : EReal => a * _) (y_eq y rfl rfl (by show h.val * 64 + d.val = 64 * h.val + d.val; omega))

theorem mark_at (n : Fin 32) (l : Fin 64) : mark (F := Ideal) (ix2 n l) = if l.val = n.val then 1 else 0 := by
  have e : mark (F := Ideal) (ix2 n l) = Scalar.select (IntOp.cmpi .eq (BitVec.ofNat 32 n.val) (BitVec.ofNat 32 l.val)) (1 : EReal) 0 := by
    pointwise [mark]
  have hm : ∀ (n : Fin 32) (l : Fin 64), IntOp.cmpi .eq (BitVec.ofNat 32 n.val) (BitVec.ofNat 32 l.val) = if l.val = n.val then 1#1 else 0#1 := by decide +kernel
  rw [e, hm]
  split <;> rfl

theorem ok_at (h : Fin 8) (n : Fin 32) (r : Fin 256) (l : Fin 128) : ok y (ix5 b h n r l) = Spec.rk (at3 y) b h n r l := by
  pointwise [ok, heads, Spec.rk]
  by_cases hl : l.val < 64
  · rw [dif_pos hl, dif_pos hl]
    exact y_eq y rfl (by show n.val * 256 + r.val = 256 * n.val + r.val; omega) (by show 512 + (h.val * 64 + l.val) = 512 + (64 * h.val + l.val); omega)
  · rw [dif_neg hl, dif_neg hl, mark_at]
    exact if_congr (by show l.val - 64 = n.val ↔ l.val = 64 + n.val; omega) rfl rfl

theorem ov_at (h : Fin 8) (n : Fin 32) (d : Fin 80) (r : Fin 256) : ov y (ix5 b h n d r) = Spec.rv (at3 y) b h n d r := by
  pointwise [ov, heads, Spec.rv]
  by_cases hd : d.val < 64
  · rw [dif_pos hd, dif_pos hd]
    exact y_eq y rfl (by show n.val * 256 + r.val = 256 * n.val + r.val; omega) (by show 1024 + (h.val * 64 + d.val) = 1024 + (64 * h.val + d.val); omega)
  · rw [dif_neg hd, dif_neg hd, dite_eq_ite]
    exact if_congr (by omega) rfl rfl

theorem oqk_at (j : Fin 1024) : oqk y (ix2 (Spec.row b s) j) = Spec.rqk (at3 y) b s j := by
  pointwise [oqk, Spec.rqk]
  split
  · exact y_eq y (row_div b s) (row_mod b s) rfl
  · exact y_eq y (row_div b s) (row_mod b s) (by show 2048 + (j.val - 512) = 1536 + j.val; omega)

theorem ovb_at (j : Fin 1024) : ovb y (ix2 (Spec.row b s) j) = Spec.rvb (at3 y) b s j := by
  pointwise [ovb, Spec.rvb]
  exact y_eq y (row_div b s) (row_mod b s) rfl

theorem ogk_at (j : Fin 128) : ogk y (ix2 (Spec.row b s) j) = Spec.rgk (at3 y) b s j := by
  pointwise [ogk, Spec.rgk]
  by_cases hj : j.val < 16
  · rw [dif_pos hj, dif_pos hj]
    exact y_eq y (row_div b s) (row_mod b s) rfl
  · rw [dif_neg hj, dif_neg hj]
    show (((0#32).toInt : ℝ) : EReal) = 0
    simp

theorem orr_at (j : Fin 1024) : orr y (ix2 (Spec.row b s) j) = Spec.rr (at3 y) b s j := by
  pointwise [orr, Spec.rr, Spec.sig]
  rw [y_eq y (row_div b s) (row_mod b s) rfl]

theorem og_at (j : Fin 2048) : og y (ix2 (Spec.row b s) j) = Spec.rg (at3 y) b s j := by
  pointwise [og, Spec.rg, Spec.sig]
  rw [y_eq y (row_div b s) (row_mod b s) rfl]

/-- The product is the model's projection. -/
theorem at3_ys (a0 : FVec Ideal S4x8192x1024 .f32) (a1 : FVec Ideal S1x1024 .f32) (a2 a3 : FVec Ideal S4x1024 .f32) (a4 : FVec Ideal S1x1024x6672 .f32) :
    at3 (ys a0 a1 a2 a3 a4) = Spec.proj a0 a1 a2 a3 a4 := by
  funext b s j
  exact ys_at a0 a1 a2 a3 a4 b s j

end

section

variable {F : FTy → Type} [FloatOps F]

/-- The product of a launch's arguments. -/
abbrev Y (m : (ℓ : Loc nD τ sig) → Buf (Elt F) ℓ) (c : Dev nD) : FVec F S4x8192x6672 .f32 :=
  ys (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

set_option maxHeartbeats 4000000 in
/-- The reference ends with the eight arrays, its arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v62) = oq (Y m c) ∧ r.2.mem ((c.tc : Thread nD τ).loc main_v63) = ok (Y m c)
      ∧ r.2.mem ((c.tc : Thread nD τ).loc main_v64) = ov (Y m c) ∧ r.2.mem ((c.tc : Thread nD τ).loc main_v67) = oqk (Y m c)
      ∧ r.2.mem ((c.tc : Thread nD τ).loc main_v69) = ovb (Y m c) ∧ r.2.mem ((c.tc : Thread nD τ).loc main_v61) = ogk (Y m c)
      ∧ r.2.mem ((c.tc : Thread nD τ).loc main_v72) = orr (Y m c) ∧ r.2.mem ((c.tc : Thread nD τ).loc main_v80) = og (Y m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end

end Cert.Inp.Ref

end
-- ==== Proof.InEqual.lean ====
module

public import proofs.«01_k».proof.Proof.InArr
public import proofs.«01_k».proof.Proof.InRef

@[expose] public section

set_option maxRecDepth 16384

noncomputable section

/-! The projection's kernel and its reference, at arguments that agree, end with the same eight arrays. -/

namespace Cert.Inp

open Idealize.ShloMosaic Idealize.ShloMosaic.TcCoe Idealize.SL.Sem Cert.Kernel2Ideal Cert.Kernel2Ideal.Gen

/-- Every row is a position of a batch. -/
theorem rows {n : ℕ} (i : (⟨2, ![32768, n]⟩ : Shape).Idx) : ∃ (b : Fin 4) (s : Fin 8192) (j : Fin n), i = ix2 (Spec.row b s) j := by
  have h0 : (i 0).val < 32768 := (i 0).isLt
  refine ⟨⟨(i 0).val / 8192, by omega⟩, ⟨(i 0).val % 8192, by omega⟩, i 1, ?_⟩
  funext a
  apply Fin.ext
  match a with
  | ⟨0, _⟩ =>
    show (i 0).val = 8192 * ((i 0).val / 8192) + (i 0).val % 8192
    omega
  | ⟨1, _⟩ => rfl

variable (m : (ℓ : Loc nD τ sig) → Buf (Elt Ideal) ℓ)
  (m' : (ℓ : Loc Cert.Reference2Ideal.nD Cert.Reference2Ideal.τ Cert.Reference2Ideal.sig) → Buf (Elt Ideal) ℓ) (c : Dev nD)

/-- The arguments agree. -/
def Agree : Prop :=
  m' ((c.tc : Thread Cert.Reference2Ideal.nD Cert.Reference2Ideal.τ).loc Cert.Reference2Ideal.main_arg0) = m ((c.tc : Thread nD τ).loc main_arg0)
  ∧ m' ((c.tc : Thread Cert.Reference2Ideal.nD Cert.Reference2Ideal.τ).loc Cert.Reference2Ideal.main_arg1) = m ((c.tc : Thread nD τ).loc main_arg1)
  ∧ m' ((c.tc : Thread Cert.Reference2Ideal.nD Cert.Reference2Ideal.τ).loc Cert.Reference2Ideal.main_arg2) = m ((c.tc : Thread nD τ).loc main_arg2)
  ∧ m' ((c.tc : Thread Cert.Reference2Ideal.nD Cert.Reference2Ideal.τ).loc Cert.Reference2Ideal.main_arg3) = m ((c.tc : Thread nD τ).loc main_arg3)
  ∧ m' ((c.tc : Thread Cert.Reference2Ideal.nD Cert.Reference2Ideal.τ).loc Cert.Reference2Ideal.main_arg4) = m ((c.tc : Thread nD τ).loc main_arg4)

/-- The two projections are one. -/
theorem proj_eq (e : Agree m m' c) : Ref.at3 (Ref.Y m' c) = Kern.proj m c := by
  obtain ⟨e0, e1, e2, e3, e4⟩ := e
  show Ref.at3 (Ref.Y m' c) = Spec.proj (Kern.M0 m c) (Kern.M1 m c) (Kern.M2 m c) (Kern.M3 m c) (Kern.M4 m c)
  rw [← Ref.at3_ys]
  unfold Ref.Y
  rw [e0, e1, e2, e3, e4]

variable (e : Agree m m' c)
include e

theorem q_eq : Ref.oq (Ref.Y m' c) = ((dats m 0 c).arrAt 5 cfg0.N : FVec Ideal S4x8x64x8192 .bf16) := by
  funext i
  obtain ⟨b, h, d, s, rfl⟩ : ∃ (b : Fin 4) (h : Fin 8) (d : Fin 64) (s : Fin 8192), i = ix4 b h d s := ⟨i 0, i 1, i 2, i 3, eq_ix4 i⟩
  have k := Kern.q_out m c (Kern.stepOf b s) h d (Kern.rowOf s)
  rw [Kern.bat_step, Kern.pos_step] at k
  rw [k, Ref.oq_at, proj_eq m m' c e]

theorem k_eq : Ref.ok (Ref.Y m' c) = ((dats m 0 c).arrAt 6 cfg0.N : FVec Ideal S4x8x32x256x128 .bf16) := by
  funext i
  obtain ⟨b, h, n, r, l, rfl⟩ : ∃ (b : Fin 4) (h : Fin 8) (n : Fin 32) (r : Fin 256) (l : Fin 128), i = ix5 b h n r l :=
    ⟨i 0, i 1, i 2, i 3, i 4, eq_ix5 i⟩
  have k := Kern.k_out m c (Kern.stepOf' b n) h (Kern.halfOf n) r l
  rw [Kern.bat_step', Kern.blk_step'] at k
  rw [k, Ref.ok_at, proj_eq m m' c e]

theorem v_eq : Ref.ov (Ref.Y m' c) = ((dats m 0 c).arrAt 7 cfg0.N : FVec Ideal S4x8x32x80x256 .bf16) := by
  funext i
  obtain ⟨b, h, n, d, r, rfl⟩ : ∃ (b : Fin 4) (h : Fin 8) (n : Fin 32) (d : Fin 80) (r : Fin 256), i = ix5 b h n d r :=
    ⟨i 0, i 1, i 2, i 3, i 4, eq_ix5 i⟩
  have k := Kern.v_out m c (Kern.stepOf' b n) h (Kern.halfOf n) d r
  rw [Kern.bat_step', Kern.blk_step'] at k
  rw [k, Ref.ov_at, proj_eq m m' c e]

theorem qk_eq : Ref.oqk (Ref.Y m' c) = ((dats m 0 c).arrAt 8 cfg0.N : FVec Ideal S32768x1024 .bf16) := by
  funext i
  obtain ⟨b, s, j, rfl⟩ := rows i
  have k := Kern.qk_out m c (Kern.stepOf b s) (Kern.rowOf s) j
  rw [Kern.bat_step, Kern.pos_step] at k
  rw [k, Ref.oqk_at, proj_eq m m' c e]

theorem vb_eq : Ref.ovb (Ref.Y m' c) = ((dats m 0 c).arrAt 9 cfg0.N : FVec Ideal S32768x1024 .bf16) := by
  funext i
  obtain ⟨b, s, j, rfl⟩ := rows i
  have k := Kern.vb_out m c (Kern.stepOf b s) (Kern.rowOf s) j
  rw [Kern.bat_step, Kern.pos_step] at k
  rw [k, Ref.ovb_at, proj_eq m m' c e]

theorem gk_eq : Ref.ogk (Ref.Y m' c) = ((dats m 0 c).arrAt 10 cfg0.N : FVec Ideal S32768x128 .f32) := by
  funext i
  obtain ⟨b, s, j, rfl⟩ := rows i
  have k := Kern.gk_out m c (Kern.stepOf b s) (Kern.rowOf s) j
  rw [Kern.bat_step, Kern.pos_step] at k
  rw [k, Ref.ogk_at, proj_eq m m' c e]

theorem r_eq : Ref.orr (Ref.Y m' c) = ((dats m 0 c).arrAt 11 cfg0.N : FVec Ideal S32768x1024 .bf16) := by
  funext i
  obtain ⟨b, s, j, rfl⟩ := rows i
  have k := Kern.r_out m c (Kern.stepOf b s) (Kern.rowOf s) j
  rw [Kern.bat_step, Kern.pos_step] at k
  rw [k, Ref.orr_at, proj_eq m m' c e]

theorem g_eq : Ref.og (Ref.Y m' c) = ((dats m 0 c).arrAt 12 cfg0.N : FVec Ideal S32768x2048 .bf16) := by
  funext i
  obtain ⟨b, s, j, rfl⟩ := rows i
  have k := Kern.g_out m c (Kern.stepOf b s) (Kern.rowOf s) j
  rw [Kern.bat_step, Kern.pos_step] at k
  rw [k, Ref.og_at, proj_eq m m' c e]

end Cert.Inp

end
-- ==== Proof.ExFrame.lean ====
module

public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
-- ==== Proof.ExTab.lean ====
module

public import proofs.«01_k».proof.Proof.Gen.Pre_tables_ok
public import Idealize.ShloMosaic.Lib.Pointwise

@[expose] public section

set_option maxRecDepth 16384

noncomputable section

/-! The tables of blocks the host makes of the experts' counts of rows, and what the precondition says of them: each block's expert and each expert's successor are experts, at least
    one block is in use, and an expert's successor is the next block's expert wherever that one differs. -/

namespace Cert.Expert

open Idealize.ShloMosaic Cert.Pre_tables_ok Cert.Pre_tables_ok.Facts

/-- The tables agree. -/
structure Tabs (be : IVec S288 32) (nu : IVec S1 32) (nx : IVec S32 32) : Prop where
  hE : ∀ t : Fin 288, (be (ix1 t)).toNat < 32
  hU0 : 1 ≤ (nu (ix1 0)).toNat
  hU1 : (nu (ix1 0)).toNat ≤ 288
  hX : ∀ e : Fin 32, (nx (ix1 e)).toNat < 32
  step : ∀ (t : ℕ) (h : t + 1 < 288), t + 1 < (nu (ix1 0)).toNat → be (ix1 ⟨t + 1, h⟩) ≠ be (ix1 ⟨t, by omega⟩) →
    nx (ix1 ⟨(be (ix1 ⟨t, by omega⟩)).toNat, hE _⟩) = be (ix1 ⟨t + 1, h⟩)
  last : ∀ (t : ℕ) (h : t < 288), t + 1 = (nu (ix1 0)).toNat → nx (ix1 ⟨(be (ix1 ⟨t, h⟩)).toNat, hE _⟩) = be (ix1 ⟨t, h⟩)

theorem and_one (a b : BitVec 1) (h : a &&& b = 1#1) : a = 1#1 ∧ b = 1#1 := by revert a b; decide
theorem or_one (a b : BitVec 1) (h : a ||| b = 1#1) : a = 1#1 ∨ b = 1#1 := by revert a b; decide
theorem ofBool_one (b : Bool) (h : BitVec.ofBool b = 1#1) : b = true := by revert b; decide
theorem sge_one (a b : BitVec 32) (h : IntOp.cmpi .sge a b = 1#1) : b.toInt ≤ a.toInt := by
  have := ofBool_one _ h; simpa [BitVec.sle] using this
theorem sle_one (a b : BitVec 32) (h : IntOp.cmpi .sle a b = 1#1) : a.toInt ≤ b.toInt := by
  have := ofBool_one _ h; simpa [BitVec.sle] using this
theorem slt_one (a b : BitVec 32) (h : IntOp.cmpi .slt a b = 1#1) : a.toInt < b.toInt := by
  have := ofBool_one _ h; simpa [BitVec.slt] using this
theorem eq_one (a b : BitVec 32) (h : IntOp.cmpi .eq a b = 1#1) : a = b := by
  have := ofBool_one _ h; simpa using this
theorem ne_one (a b : BitVec 32) (h : IntOp.cmpi .ne a b = 1#1) : a ≠ b := by
  have := ofBool_one _ h; simpa using this

theorem range_toNat (a : BitVec 32) (n : ℕ) (h0 : (0 : Int) ≤ a.toInt) (h1 : a.toInt < n) : a.toNat < n := by
  rw [BitVec.toInt_eq_toNat_cond] at h0 h1
  split at h0 <;> omega

/-! ## The tables -/

section tables
variable [Facts] (n : IVec S32 32)

/-- Each expert's rows, in whole blocks. -/
def blocks : IVec S32 32 :=
  muli (fn_floor_divide (F := Ideal) (subi (addi n (broadcastInDim S32 ![] bcast_S_S32 (constantI S_ 32 512#32))) (broadcastInDim S32 ![] bcast_S_S32 (constantI S_ 32 1#32)))
    (constantI S_ 32 512#32)) (broadcastInDim S32 ![] bcast_S_S32 (constantI S_ 32 512#32))
/-- Where each expert's rows end. -/
def ends : IVec S32 32 := fn_cumsum (F := Ideal) (blocks n)
/-- Each block's expert. -/
def be : IVec S288 32 :=
  minsi (Host.reduce IntOp.addi (extui 32 (cmpi .sle (broadcastInDim S288x32 ![0, 1] bcast_S1x32_S288x32_0_1 (broadcastInDim S1x32 ![1] bcast_S32_S1x32_1 (ends n)))
      (broadcastInDim S288x32 ![0, 1] bcast_S288x1_S288x32_0_1 (broadcastInDim S288x1 ![0] bcast_S288_S288x1_0
        (muli (iotaInDim S288 32 0) (broadcastInDim S288 ![] bcast_S_S288 (constantI S_ 32 512#32)))))) natLt_1_32) (constantI S_ 32 0#32) reducesTo_S288x32_S288_d1 h_S_)
    (broadcastInDim S288 ![] bcast_S_S288 (constantI S_ 32 31#32))
/-- The number of blocks in use. -/
def nu : IVec S1 32 := fn_floor_divide_1 (F := Ideal) (extractStridedSlice S1 ![31] (ends n) slices_S32_S1_31) (constantI S_ 32 512#32)
/-- Which experts come after an expert and have rows. -/
def later : IVec S32x32 1 :=
  andi (cmpi .sgt (broadcastInDim S32x32 ![0, 1] bcast_S1x32_S32x32_0_1 (broadcastInDim S1x32 ![1] bcast_S32_S1x32_1 (iotaInDim S32 32 0)))
      (broadcastInDim S32x32 ![0, 1] bcast_S32x1_S32x32_0_1 (broadcastInDim S32x1 ![0] bcast_S32_S32x1_0 (iotaInDim S32 32 0))))
    (broadcastInDim S32x32 ![0, 1] bcast_S1x32_S32x32_0_1 (cmpi .sgt (broadcastInDim S1x32 ![1] bcast_S32_S1x32_1 (blocks n)) (broadcastInDim S1x32 ![] bcast_S_S1x32 (constantI S_ 32 0#32))))
/-- Each expert's successor. -/
def nx : IVec S32 32 :=
  fn_where (F := Ideal) (Host.reduce IntOp.ori (later n) (constantI S_ 1 0#1) reducesTo_S32x32_S32_d1 h_S_) (fn_argmax (F := Ideal) (later n)) (iotaInDim S32 32 0)

end tables

/-- The precondition's five arrays, of the tables. -/
abbrev agree (F : FTy → Type) [FloatOps F] [Facts] (a0 : IVec S288 32) (a1 : IVec S1 32) (a2 : IVec S32 32) : IVec S288 1 × IVec S1 1 × IVec S32 1 × IVec S287x32 1 × IVec S288x32 1 :=
  fn_part2 (F := F) a0 a1 a2 (broadcastInDim S1x32 ![1] bcast_S32_S1x32_1 (iotaInDim S32 32 0))

variable (F : FTy → Type) [FloatOps F] (a0 : IVec S288 32) (a1 : IVec S1 32) (a2 : IVec S32 32)

theorem dE [Facts] (h : (agree F a0 a1 a2).1 = fun _ => 1#1) (t : Fin 288) : (a0 (ix1 t)).toNat < 32 := by
  have e := congrFun h (ix1 t)
  unfold agree fn_part2 fn_part3 fn_part4 at e
  dsimp only at e
  have e' : (IntOp.cmpi .sge (a0 (ix1 t)) 0#32) &&& (IntOp.cmpi .slt (a0 (ix1 t)) 32#32) = 1#1 := by
    refine Eq.trans ?_ e
    pointwise
    rfl
  obtain ⟨h0, h1⟩ := and_one _ _ e'
  exact range_toNat _ 32 (sge_one _ _ h0) (slt_one _ _ h1)

theorem dU [Facts] (h : (agree F a0 a1 a2).2.1 = fun _ => 1#1) : 1 ≤ (a1 (ix1 0)).toNat ∧ (a1 (ix1 0)).toNat ≤ 288 := by
  have e := congrFun h (ix1 0)
  unfold agree fn_part2 fn_part3 fn_part4 at e
  dsimp only at e
  have e' : (IntOp.cmpi .sge (a1 (ix1 0)) 1#32) &&& (IntOp.cmpi .sle (a1 (ix1 0)) 288#32) = 1#1 := by
    refine Eq.trans ?_ e
    pointwise
    rfl
  obtain ⟨h0, h1⟩ := and_one _ _ e'
  have g0 := sge_one _ _ h0; have g1 := sle_one _ _ h1
  have k1 : (1#32).toInt = 1 := by decide
  have k2 : (288#32).toInt = 288 := by decide
  rw [k1] at g0; rw [k2] at g1
  rw [BitVec.toInt_eq_toNat_cond] at g0 g1
  split at g0 <;> omega

theorem dX [Facts] (h : (agree F a0 a1 a2).2.2.1 = fun _ => 1#1) (t : Fin 32) : (a2 (ix1 t)).toNat < 32 := by
  have e := congrFun h (ix1 t)
  unfold agree fn_part2 fn_part3 fn_part4 at e
  dsimp only at e
  have e' : (IntOp.cmpi .sge (a2 (ix1 t)) 0#32) &&& (IntOp.cmpi .slt (a2 (ix1 t)) 32#32) = 1#1 := by
    refine Eq.trans ?_ e
    pointwise
    rfl
  obtain ⟨h0, h1⟩ := and_one _ _ e'
  exact range_toNat _ 32 (sge_one _ _ h0) (slt_one _ _ h1)

theorem dS [Facts] (h : (agree F a0 a1 a2).2.2.2.1 = fun _ => 1#1) (t : Fin 287) (x : Fin 32) :
    ((IntOp.cmpi .sge (BitVec.ofNat 32 t.val + 1#32) (a1 (ix1 0)) ||| IntOp.cmpi .ne (a0 (ix1 ⟨t.val, by omega⟩)) (BitVec.ofNat 32 x.val))
      ||| IntOp.cmpi .eq (a0 (ix1 ⟨1 + t.val, by omega⟩)) (a0 (ix1 ⟨t.val, by omega⟩))) ||| IntOp.cmpi .eq (a2 (ix1 x)) (a0 (ix1 ⟨1 + t.val, by omega⟩)) = 1#1 := by
  refine Eq.trans ?_ (congrFun h (ix2 t x))
  unfold agree fn_part2 fn_part3 fn_part4
  dsimp only
  pointwise
  rfl

theorem dL [Facts] (h : (agree F a0 a1 a2).2.2.2.2 = fun _ => 1#1) (t : Fin 288) (x : Fin 32) :
    (IntOp.cmpi .ne (BitVec.ofNat 32 t.val + 1#32) (a1 (ix1 0)) ||| IntOp.cmpi .ne (a0 (ix1 t)) (BitVec.ofNat 32 x.val)) ||| IntOp.cmpi .eq (a2 (ix1 x)) (BitVec.ofNat 32 x.val) = 1#1 := by
  refine Eq.trans ?_ (congrFun h (ix2 t x))
  unfold agree fn_part2 fn_part3 fn_part4
  dsimp only
  pointwise
  rfl

/-- The five arrays all ones: the tables agree. -/
theorem tabs_of [Facts] (h : (agree F a0 a1 a2).1 = (fun _ => 1#1) ∧ (agree F a0 a1 a2).2.1 = (fun _ => 1#1)
    ∧ (agree F a0 a1 a2).2.2.1 = (fun _ => 1#1) ∧ (agree F a0 a1 a2).2.2.2.1 = (fun _ => 1#1)
    ∧ (agree F a0 a1 a2).2.2.2.2 = (fun _ => 1#1)) : Tabs a0 a1 a2 := by
  have hE := dE F a0 a1 a2 h.1
  have hU := dU F a0 a1 a2 h.2.1
  refine ⟨hE, hU.1, hU.2, dX F a0 a1 a2 h.2.2.1, ?_, ?_⟩
  · intro t ht hu hne
    have e := dS F a0 a1 a2 h.2.2.2.1 ⟨t, by omega⟩ ⟨_, hE ⟨t, by omega⟩⟩
    have h1 : (⟨1 + t, by omega⟩ : Fin 288) = ⟨t + 1, ht⟩ := Fin.ext (by simp; omega)
    dsimp only at e
    rw [h1] at e
    rcases or_one _ _ e with e | e
    · rcases or_one _ _ e with e | e
      · rcases or_one _ _ e with e | e
        · exfalso
          have g := sge_one _ _ e
          have k : (BitVec.ofNat 32 t + 1#32).toNat = t + 1 := by
            rw [BitVec.toNat_add, BitVec.toNat_ofNat]; simp; omega
          rw [BitVec.toInt_eq_toNat_cond, BitVec.toInt_eq_toNat_cond, k] at g
          have := hU.2
          split at g <;> split at g <;> omega
        · exfalso; refine ne_one _ _ e (BitVec.eq_of_toNat_eq ?_)
          rw [BitVec.toNat_ofNat]; exact (Nat.mod_eq_of_lt (by have := hE ⟨t, by omega⟩; omega)).symm
      · exact absurd (eq_one _ _ e) hne
    · exact eq_one _ _ e
  · intro t ht hu
    have e := dL F a0 a1 a2 h.2.2.2.2 ⟨t, ht⟩ ⟨_, hE ⟨t, ht⟩⟩
    dsimp only at e
    have hx : BitVec.ofNat 32 (a0 (ix1 ⟨t, ht⟩)).toNat = a0 (ix1 ⟨t, ht⟩) := BitVec.eq_of_toNat_eq (by
      rw [BitVec.toNat_ofNat]; exact Nat.mod_eq_of_lt (by have := hE ⟨t, ht⟩; omega))
    rw [hx] at e
    rcases or_one _ _ e with e | e
    · rcases or_one _ _ e with e | e
      · exfalso; refine ne_one _ _ e (BitVec.eq_of_toNat_eq ?_)
        rw [BitVec.toNat_add, BitVec.toNat_ofNat]; simp; omega
      · exact absurd rfl (ne_one _ _ e)
    · exact eq_one _ _ e

variable {F}

/-- The precondition is of the tables of the counts. -/
theorem fn_eq [Facts] (n : IVec S32 32) (b1 : FVec F S147456x1024 .f32) (b2 : FVec F S1x32x1024x1024 .f32) (b3 : FVec F S1x32x1024 .f32)
    (b4 : FVec F S1x32x1024x1024 .f32) (b5 : FVec F S1x32x1024 .f32) (b6 : FVec F S1x32x1024x1024 .f32) (b7 : FVec F S1x32x1024 .f32) :
    fn n b1 b2 b3 b4 b5 b6 b7 = agree F (be n) (nu n) (nx n) := by
  unfold fn fn_part1 agree be nu nx later ends blocks
  rfl

/-- The precondition: the tables of the counts agree. -/
theorem tabs [Facts] (n : IVec S32 32) (b1 : FVec F S147456x1024 .f32) (b2 : FVec F S1x32x1024x1024 .f32) (b3 : FVec F S1x32x1024 .f32)
    (b4 : FVec F S1x32x1024x1024 .f32) (b5 : FVec F S1x32x1024 .f32) (b6 : FVec F S1x32x1024x1024 .f32) (b7 : FVec F S1x32x1024 .f32)
    (h : (fn n b1 b2 b3 b4 b5 b6 b7).1 = (fun _ => 1#1) ∧ (fn n b1 b2 b3 b4 b5 b6 b7).2.1 = (fun _ => 1#1)
      ∧ (fn n b1 b2 b3 b4 b5 b6 b7).2.2.1 = (fun _ => 1#1) ∧ (fn n b1 b2 b3 b4 b5 b6 b7).2.2.2.1 = (fun _ => 1#1)
      ∧ (fn n b1 b2 b3 b4 b5 b6 b7).2.2.2.2 = (fun _ => 1#1)) : Tabs (be n) (nu n) (nx n) := by
  rw [fn_eq] at h
  exact tabs_of F (be n) (nu n) (nx n) h

end Cert.Expert

end
-- ==== Proof.ExTail.lean ====
module

public import proofs.«01_k».proof.Proof.ExFrame
public import Idealize.ShloMosaic.Lib.Pipeline.FrameBody
public import Idealize.ShloMosaic.Lib.Batch
public import Idealize.ShloMosaic.Lib.Ring
public import Idealize.ShloMosaic.Lib.Tactic

@[expose] public section

set_option maxRecDepth 65536

noncomputable section

namespace Cert.Kernel3Ideal.Expert

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- A buffer's contents on a core. -/
abbrev B (c : Dev nD) (b : Ref sig .tc) : Type := Buf (Elt F) ((c : Thread nD τ).loc b)

/-- A buffer of the call held whole at a share. -/
abbrev pt (c : Dev nD) (b : Ref sig .tc) (q : PosShare TreeShare) (f : B (F := F) c b) : sProp 𝕄 :=
  (Memref.whole b).view.loc (c : Thread nD τ) ↦{q} f

/-- Everything the body does after its transfers: the layer on a block, or the zeros past the last block in use. -/
def tail (i : grid0.Coords) (arg1 : Memref sig .tc .smem S288 .i32) (harg1 : arg1.IsWhole) (arg2 : Memref sig .tc .smem S1 .i32) (harg2 : arg2.IsWhole) (arg3 : Memref sig .tc .smem S32 .i32) (harg3 : arg3.IsWhole) (arg4 : Memref sig .tc .vmem S2048x128 .f32) (harg4 : arg4.IsWhole) (arg5 : Memref sig .tc .vmem S2048x128 .f32) (harg5 : arg5.IsWhole) (arg6 : Memref sig .tc .hbm S32x1024x1024 .f32) (harg6 : arg6.IsWhole) (arg7 : Memref sig .tc .hbm S32x1024x1024 .f32) (harg7 : arg7.IsWhole) (arg8 : Memref sig .tc .hbm S32x1024x1024 .f32) (harg8 : arg8.IsWhole) (arg9 : Memref sig .tc .vmem S1x3x1024 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S1024x1024 .f32) (harg12 : arg12.IsWhole) (arg13 : Memref sig .tc .vmem S1024x1024 .f32) (harg13 : arg13.IsWhole) (arg14 : Memref sig .tc .vmem S1024x1024 .f32) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1024x1024 .bf16) (harg17 : arg17.IsWhole) (arg18 : DmaSems sig S_) (v2 : BitVec 32) :
    Prog (TpuEff nD τ sig (Elt F) Λ₀ .tc) PUnit := do
  if k0_h4 : k0_cond4 i v2 = 1#1 then do
    let ⟨v57, v59⟩ : Σ' (v57 : FVec F S512x1024 .f32), FVec F S512x1024 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18
    let ⟨v90, v93, v98⟩ : Σ' (v90 : FVec F S512x512 .f32) (v93 : FVec F S512x512 .f32), FVec F S512x128 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v57 v59
    let v99 : Vec F S512x128 .f32 ← Prog.lift (.load arg10 (⟨![2, 0], S512x128.size, ![4, 1], inb_S2048x128_S512x128_2_0_s_4_1⟩ : LoadRect S2048x128) (View.loadsAt_vmem h_S512x128))
    Prog.lift (.store arg10 ⟨(⟨![2, 0], S512x128.size, ![4, 1], inb_S2048x128_S512x128_2_0_s_4_1⟩ : LoadRect S2048x128), spos_4_1⟩ v98 Finset.univ (View.stores_vmem_bits_univ h_S512x128 rfl) (.inl rfl))
    let v101 : Vec F S512x128 .f32 ← Prog.lift (.load arg10 (⟨![3, 0], S512x128.size, ![4, 1], inb_S2048x128_S512x128_3_0_s_4_1⟩ : LoadRect S2048x128) (View.loadsAt_vmem h_S512x128))
    Prog.lift (.store arg10 ⟨(⟨![3, 0], S512x128.size, ![4, 1], inb_S2048x128_S512x128_3_0_s_4_1⟩ : LoadRect S2048x128), spos_4_1⟩ (k0_pay4 v90) Finset.univ (View.stores_vmem_bits_univ h_S512x128 rfl) (.inl rfl))
    let v103 : Vec F S512x128 .f32 ← Prog.lift (.load arg11 (⟨![0, 0], S512x128.size, ![4, 1], inb_S2048x128_S512x128_0_0_s_4_1⟩ : LoadRect S2048x128) (View.loadsAt_vmem h_S512x128))
    Prog.lift (.store arg11 ⟨(⟨![0, 0], S512x128.size, ![4, 1], inb_S2048x128_S512x128_0_0_s_4_1⟩ : LoadRect S2048x128), spos_4_1⟩ (k0_pay5 v93) Finset.univ (View.stores_vmem_bits_univ h_S512x128 rfl) (.inl rfl))
    let v105 : Vec F S512x128 .f32 ← Prog.lift (.load arg11 (⟨![1, 0], S512x128.size, ![4, 1], inb_S2048x128_S512x128_1_0_s_4_1⟩ : LoadRect S2048x128) (View.loadsAt_vmem h_S512x128))
    Prog.lift (.store arg11 ⟨(⟨![1, 0], S512x128.size, ![4, 1], inb_S2048x128_S512x128_1_0_s_4_1⟩ : LoadRect S2048x128), spos_4_1⟩ (k0_pay6 v93) Finset.univ (View.stores_vmem_bits_univ h_S512x128 rfl) (.inl rfl))
    let v107 : Vec F S512x128 .f32 ← Prog.lift (.load arg11 (⟨![2, 0], S512x128.size, ![4, 1], inb_S2048x128_S512x128_2_0_s_4_1⟩ : LoadRect S2048x128) (View.loadsAt_vmem h_S512x128))
    Prog.lift (.store arg11 ⟨(⟨![2, 0], S512x128.size, ![4, 1], inb_S2048x128_S512x128_2_0_s_4_1⟩ : LoadRect S2048x128), spos_4_1⟩ (k0_pay7 v93) Finset.univ (View.stores_vmem_bits_univ h_S512x128 rfl) (.inl rfl))
    let v109 : Vec F S512x128 .f32 ← Prog.lift (.load arg11 (⟨![3, 0], S512x128.size, ![4, 1], inb_S2048x128_S512x128_3_0_s_4_1⟩ : LoadRect S2048x128) (View.loadsAt_vmem h_S512x128))
    Prog.lift (.store arg11 ⟨(⟨![3, 0], S512x128.size, ![4, 1], inb_S2048x128_S512x128_3_0_s_4_1⟩ : LoadRect S2048x128), spos_4_1⟩ (k0_pay8 v93) Finset.univ (View.stores_vmem_bits_univ h_S512x128 rfl) (.inl rfl))
    pure ⟨⟩
  else do
    pure ⟨⟩
  let v25 : Elt F .i32 ← smemLoad arg2 (Rect.unit (s := S1) ![0] S1.size inb_S1_S1_0) numel1_S1 rfl
  if k0_h5 : k0_cond5 i v25 = 1#1 then do
    let v30 : Vec F S2048x128 .f32 ← Prog.lift (.load arg10 (Rect.unit (s := S2048x128) ![0, 0] S2048x128.size inb_S2048x128_S2048x128_0_0).toLoadRect (View.loadsAt_vmem h_S2048x128))
    Prog.lift (.store arg10 (Rect.unit (s := S2048x128) ![0, 0] S2048x128.size inb_S2048x128_S2048x128_0_0) (k0_pay9 (F := F)) Finset.univ (View.stores_vmem_bits_univ h_S2048x128 rfl) (.inl rfl))
    let v32 : Vec F S2048x128 .f32 ← Prog.lift (.load arg11 (Rect.unit (s := S2048x128) ![0, 0] S2048x128.size inb_S2048x128_S2048x128_0_0).toLoadRect (View.loadsAt_vmem h_S2048x128))
    Prog.lift (.store arg11 (Rect.unit (s := S2048x128) ![0, 0] S2048x128.size inb_S2048x128_S2048x128_0_0) (k0_pay10 (F := F)) Finset.univ (View.stores_vmem_bits_univ h_S2048x128 rfl) (.inl rfl))
    pure ⟨⟩
  else do
    pure ⟨⟩
  pure ⟨⟩

/-- The tail on the call's own buffers. -/
abbrev tailAt (i : grid0.Coords) (arg4 : Memref sig .tc .vmem S2048x128 .f32) (harg4 : arg4.IsWhole) (arg5 : Memref sig .tc .vmem S2048x128 .f32) (harg5 : arg5.IsWhole) (arg9 : Memref sig .tc .vmem S1x3x1024 .f32) (harg9 : arg9.IsWhole)
    (arg10 : Memref sig .tc .vmem S2048x128 .f32) (harg10 : arg10.IsWhole) (arg11 : Memref sig .tc .vmem S2048x128 .f32) (harg11 : arg11.IsWhole) (v2 : BitVec 32) :
    Prog (TpuEff nD τ sig (Elt F) Λ₀ .tc) PUnit :=
  tail i (Memref.whole main_v25) (Memref.isWhole_whole _) (Memref.whole main_v27) (Memref.isWhole_whole _) (Memref.whole main_v41) (Memref.isWhole_whole _)
      arg4 harg4 arg5 harg5 (Memref.whole main_v44) (Memref.isWhole_whole _) (Memref.whole main_v46) (Memref.isWhole_whole _) (Memref.whole main_v48) (Memref.isWhole_whole _)
      arg9 harg9 arg10 harg10 arg11 harg11 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) cc0_scratch6 v2

/-- The body on the call's own buffers. -/
abbrev bodyAt (i : grid0.Coords) (arg4 : Memref sig .tc .vmem S2048x128 .f32) (harg4 : arg4.IsWhole) (arg5 : Memref sig .tc .vmem S2048x128 .f32) (harg5 : arg5.IsWhole) (arg9 : Memref sig .tc .vmem S1x3x1024 .f32) (harg9 : arg9.IsWhole)
    (arg10 : Memref sig .tc .vmem S2048x128 .f32) (harg10 : arg10.IsWhole) (arg11 : Memref sig .tc .vmem S2048x128 .f32) (harg11 : arg11.IsWhole) :
    Prog (TpuEff nD τ sig (Elt F) Λ₀ .tc) PUnit :=
  cc0_expert i (Memref.whole main_v25) (Memref.isWhole_whole _) (Memref.whole main_v27) (Memref.isWhole_whole _) (Memref.whole main_v41) (Memref.isWhole_whole _)
      arg4 harg4 arg5 harg5 (Memref.whole main_v44) (Memref.isWhole_whole _) (Memref.whole main_v46) (Memref.isWhole_whole _) (Memref.whole main_v48) (Memref.isWhole_whole _)
      arg9 harg9 arg10 harg10 arg11 harg11 (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) cc0_scratch6

/-- The words of the tables the body reads at a step: the block's expert, the block's before it, the count of blocks in
    use, and the expert whose weights are wanted after expert `e`. -/
abbrev wE (c : Dev nD) (i : grid0.Coords) (t0 : B (F := F) c main_v25) : BitVec 32 :=
  View.readAt (Elt F) (Memref.whole main_v25).view (Rect.unit (s := S288) (k0_off1 i) S1.size (k0_off1_inb i)).toLoadRect t0 (Shape.Idx.first (show 0 < S1.numel by decide))
abbrev wP (c : Dev nD) (i : grid0.Coords) (t0 : B (F := F) c main_v25) : BitVec 32 :=
  View.readAt (Elt F) (Memref.whole main_v25).view (Rect.unit (s := S288) (k0_off2 i) S1.size (k0_off2_inb i)).toLoadRect t0 (Shape.Idx.first (show 0 < S1.numel by decide))
abbrev wU (c : Dev nD) (t1 : B (F := F) c main_v27) : BitVec 32 :=
  View.readAt (Elt F) (Memref.whole main_v27).view (Rect.unit (s := S1) ![0] S1.size inb_S1_S1_0).toLoadRect t1 (Shape.Idx.first (by decide))
abbrev wN (c : Dev nD) (t2 : B (F := F) c main_v41) (e : BitVec 32) (h : ∀ a, (k0_off5 e) a + S1.size a ≤ S32.size a) : BitVec 32 :=
  View.readAt (Elt F) (Memref.whole main_v41).view (Rect.unit (s := S32) (k0_off5 e) S1.size h).toLoadRect t2 (Shape.Idx.first (show 0 < S1.numel by decide))

set_option maxHeartbeats 4000000 in
/-- Past the blocks in use, both results' blocks are filled with zeros. -/
theorem tail_off (c : Dev nD) (i : grid0.Coords) (q : PosShare TreeShare) (arg4 : Memref sig .tc .vmem S2048x128 .f32) (harg4 : arg4.IsWhole) (arg5 : Memref sig .tc .vmem S2048x128 .f32) (harg5 : arg5.IsWhole) (arg9 : Memref sig .tc .vmem S1x3x1024 .f32) (harg9 : arg9.IsWhole)
    (arg10 : Memref sig .tc .vmem S2048x128 .f32) (harg10 : arg10.IsWhole) (arg11 : Memref sig .tc .vmem S2048x128 .f32) (harg11 : arg11.IsWhole)
    (t1 : B (F := F) c main_v27) (hc4 : ¬ k0_cond4 i (wU c t1) = 1#1) (hc5 : k0_cond5 i (wU c t1) = 1#1)
    (K : PUnit → sProp 𝕄) :
    iprop(pt c main_v27 q t1 ∗ (∃ d, owns (c : Thread nD τ) arg10 fullShare d) ∗ (∃ d, owns (c : Thread nD τ) arg11 fullShare d)
        ∗ (iprop(pt c main_v27 q t1
            ∗ (∃ f, arg10.view.loc (c : Thread nD τ) ↦[arg10.view.set]{fullShare} arg10.view.writes (Elt F) f [⟨Rect.unit (s := S2048x128) ![0, 0] S2048x128.size inb_S2048x128_S2048x128_0_0, k0_pay9 (F := F)⟩])
            ∗ (∃ f, arg11.view.loc (c : Thread nD τ) ↦[arg11.view.set]{fullShare} arg11.view.writes (Elt F) f [⟨Rect.unit (s := S2048x128) ![0, 0] S2048x128.size inb_S2048x128_S2048x128_0_0, k0_pay10 (F := F)⟩])) -∗ K ⟨⟩))
      ⊢ wp frame (wpE (defs₀ (F := F)) Variants.none c none) Set.univ (tailAt i arg4 harg4 arg5 harg5 arg9 harg9 arg10 harg10 arg11 harg11 (wU c t1)) K := by
  unfold tailAt tail owns
  iintro ⟨Ht, ⟨%d10, %f10, -, H10⟩, ⟨%d11, %f11, -, H11⟩, Hk⟩
  sl_exec (disch := first | sl_exact hc4 | sl_exact hc5)
  sl_step
  iapply Hk
  isplitl [Ht]; · iexact Ht
  isplitl [H10]; · iexists _; iexact H10
  iexists _; iexact H11

set_option maxHeartbeats 8000000 in
/-- On a block in use: the pieces the layer writes into the two results' blocks. -/
def tail_on (c : Dev nD) (i : grid0.Coords) (q : PosShare TreeShare) (arg4 : Memref sig .tc .vmem S2048x128 .f32) (harg4 : arg4.IsWhole) (arg5 : Memref sig .tc .vmem S2048x128 .f32) (harg5 : arg5.IsWhole) (arg9 : Memref sig .tc .vmem S1x3x1024 .f32) (harg9 : arg9.IsWhole)
    (arg10 : Memref sig .tc .vmem S2048x128 .f32) (harg10 : arg10.IsWhole) (arg11 : Memref sig .tc .vmem S2048x128 .f32) (harg11 : arg11.IsWhole)
    (x4 x5 : Vec F S2048x128 .f32) (x9 : Vec F S1x3x1024 .f32)
    (s3 : B (F := F) c cc0_scratch3) (s4 : B (F := F) c cc0_scratch4) (s5 : B (F := F) c cc0_scratch5) :
    { L : List (View.Piece (Elt F) S2048x128 .f32) × List (View.Piece (Elt F) S2048x128 .f32) //
    ∀ (t1 : B (F := F) c main_v27) (hc4 : k0_cond4 i (wU c t1) = 1#1) (hc5 : ¬ k0_cond5 i (wU c t1) = 1#1) (K : PUnit → sProp 𝕄),
    iprop(pt c main_v27 q t1 ∗ owns (c : Thread nD τ) arg4 fullShare x4 ∗ owns (c : Thread nD τ) arg5 fullShare x5 ∗ owns (c : Thread nD τ) arg9 fullShare x9
        ∗ (∃ d, owns (c : Thread nD τ) arg10 fullShare d) ∗ (∃ d, owns (c : Thread nD τ) arg11 fullShare d)
        ∗ pt c cc0_scratch3 fullShare s3 ∗ pt c cc0_scratch4 fullShare s4 ∗ pt c cc0_scratch5 fullShare s5
        ∗ (iprop(pt c main_v27 q t1 ∗ owns (c : Thread nD τ) arg4 fullShare x4 ∗ owns (c : Thread nD τ) arg5 fullShare x5 ∗ owns (c : Thread nD τ) arg9 fullShare x9
            ∗ (∃ f, arg10.view.loc (c : Thread nD τ) ↦[arg10.view.set]{fullShare} arg10.view.writes (Elt F) f L.1)
            ∗ (∃ f, arg11.view.loc (c : Thread nD τ) ↦[arg11.view.set]{fullShare} arg11.view.writes (Elt F) f L.2)
            ∗ pt c cc0_scratch3 fullShare s3 ∗ pt c cc0_scratch4 fullShare s4 ∗ pt c cc0_scratch5 fullShare s5) -∗ K ⟨⟩))
      ⊢ wp frame (wpE (defs₀ (F := F)) Variants.none c none) Set.univ (tailAt i arg4 harg4 arg5 harg5 arg9 harg9 arg10 harg10 arg11 harg11 (wU c t1)) K } := by
  refine ⟨⟨?_, ?_⟩, fun t1 hc4 hc5 K => ?run⟩
  case run =>
  unfold tailAt tail owns
  simp only [k0_part1_eq_skeleton, k0_part2_eq_skeleton]
  iintro ⟨Ht, ⟨%f4, %hf4, H4⟩, ⟨%f5, %hf5, H5⟩, ⟨%f9, %hf9, H9⟩, ⟨%d10, %f10, -, H10⟩, ⟨%d11, %f11, -, H11⟩, Hs3, Hs4, Hs5, Hk⟩
  obtain rfl := harg4.eq_unread hf4; obtain rfl := harg5.eq_unread hf5; obtain rfl := harg9.eq_unread hf9
  sl_exec (disch := first | sl_exact hc4 | sl_exact hc5)
  sl_step
  iapply Hk
  isplitl [Ht]; · iexact Ht
  isplitl [H4]
  · iexists _; isplitr
    swap; · iexact H4
    ipureintro; exact harg4.read_unread _
  isplitl [H5]
  · iexists _; isplitr
    swap; · iexact H5
    ipureintro; exact harg5.read_unread _
  isplitl [H9]
  · iexists _; isplitr
    swap; · iexact H9
    ipureintro; exact harg9.read_unread _
  isplitl [H10]; · iexists _; iexact H10
  isplitl [H11]; · iexists _; iexact H11
  isplitl [Hs3]; · iexact Hs3
  isplitl [Hs4]; · iexact Hs4
  iexact Hs5

end Cert.Kernel3Ideal.Expert

end
-- ==== Proof.ExRun.lean ====
module

public import proofs.«01_k».proof.Proof.ExTail
public import Idealize.ShloMosaic.Lib.Pipeline.FrameBody
public import Idealize.ShloMosaic.Lib.Batch
public import Idealize.ShloMosaic.Lib.Ring
public import Idealize.ShloMosaic.Lib.Tactic
public import Idealize.ShloMosaic.Lib.VecWindow

@[expose] public section

set_option maxRecDepth 65536

noncomputable section

namespace Cert.Kernel3Ideal.Expert

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- One expert's matrix in the weights left in HBM, as the body's copies address it. -/
abbrev src (b : Memref sig .tc .hbm S32x1024x1024 .f32) (e : BitVec 32) (h : ∀ a, (k0_off3 e) a + S1x1024x1024.size a ≤ S32x1024x1024.size a) :
    Memref sig .tc .hbm S1024x1024 .f32 :=
  (b.slice (Rect.unit (s := S32x1024x1024) (k0_off3 e) S1x1024x1024.size h) (fun _ => rfl)).squeeze S1024x1024 squeezes_S1x1024x1024_S1024x1024

/-- A copy's delivery: the destination at the landed matrix, and the source view back. -/
abbrev dlv (c : Dev nD) (b : Memref sig .tc .hbm S32x1024x1024 .f32) (e : BitVec 32) (h : ∀ a, (k0_off3 e) a + S1x1024x1024.size a ≤ S32x1024x1024.size a)
    (d : Memref sig .tc .vmem S1024x1024 .f32) (fs : Buf (Elt F) (b.view.loc (c : Thread nD τ))) (fd : Buf (Elt F) (d.view.loc (c : Thread nD τ))) : sProp 𝕄 :=
  iprop((d.view.loc (c : Thread nD τ) ↦{fullShare} View.write (Elt F) d.view fd (ReadAs.same.apply ((src b e h).view.read (Elt F) fs)) Finset.univ)
    ∗ (b.view.loc (c : Thread nD τ) ↦[(src b e h).view.set]{fullShare} fs))

/-- The three copies of one expert's matrices, in issue order. -/
def deliv (c : Dev nD) (e : BitVec 32) (h : ∀ a, (k0_off3 e) a + S1x1024x1024.size a ≤ S32x1024x1024.size a)
    (f0 : B (F := F) c main_v44) (f1 : B (F := F) c main_v46) (f2 : B (F := F) c main_v48)
    (d0 : B (F := F) c cc0_scratch0) (d1 : B (F := F) c cc0_scratch1) (d2 : B (F := F) c cc0_scratch2) : Fin 3 → sProp 𝕄
  | 0 => dlv c (Memref.whole main_v44) e h (Memref.whole cc0_scratch0) f0 d0
  | 1 => dlv c (Memref.whole main_v46) e h (Memref.whole cc0_scratch1) f1 d1
  | 2 => dlv c (Memref.whole main_v48) e h (Memref.whole cc0_scratch2) f2 d2
instance deliv_storable (c : Dev nD) (e : BitVec 32) (h : ∀ a, (k0_off3 e) a + S1x1024x1024.size a ≤ S32x1024x1024.size a)
    (f0 : B (F := F) c main_v44) (f1 : B (F := F) c main_v46) (f2 : B (F := F) c main_v48)
    (d0 : B (F := F) c cc0_scratch0) (d1 : B (F := F) c cc0_scratch1) (d2 : B (F := F) c cc0_scratch2) (t : Fin 3) :
    Storable (upEmb : UEmb _ 𝕄) (deliv c e h f0 f1 f2 d0 d1 d2 t) := by
  fin_cases t <;> simp only [deliv] <;> infer_instance

/-- The rest of a weight array while one expert's matrix is out with a copy. -/
abbrev rest (c : Dev nD) (b : Memref sig .tc .hbm S32x1024x1024 .f32) (e : BitVec 32) (h : ∀ a, (k0_off3 e) a + S1x1024x1024.size a ≤ S32x1024x1024.size a) (f : Buf (Elt F) (b.view.loc (c : Thread nD τ))) : sProp 𝕄 :=
  b.view.loc (c : Thread nD τ) ↦[Finset.univ \ (src b e h).view.set]{fullShare} f

/-- The three copies of expert `e`'s matrices in flight. -/
def Fl (c : Dev nD) (e : BitVec 32) (h : ∀ a, (k0_off3 e) a + S1x1024x1024.size a ≤ S32x1024x1024.size a) (f0 : B (F := F) c main_v44) (f1 : B (F := F) c main_v46) (f2 : B (F := F) c main_v48) : sProp 𝕄 :=
  iprop((∃ d0 d1 d2, Transfers.Batch (countersEmb (U := Pipeline.UD sig nD τ)) (c : Thread nD τ) (SemLoc.dma (SemArray.sem cc0_scratch6)) () 131072 (deliv c e h f0 f1 f2 d0 d1 d2) 3 0)
    ∗ rest c (Memref.whole main_v44) e h f0 ∗ rest c (Memref.whole main_v46) e h f1 ∗ rest c (Memref.whole main_v48) e h f2)

/-- Nothing in flight. -/
def Idle (c : Dev nD) (f0 : B (F := F) c main_v44) (f1 : B (F := F) c main_v46) (f2 : B (F := F) c main_v48) : sProp 𝕄 :=
  iprop((∃ d, pt c cc0_scratch0 fullShare d) ∗ (∃ d, pt c cc0_scratch1 fullShare d) ∗ (∃ d, pt c cc0_scratch2 fullShare d)
    ∗ semVal ((c : Thread nD τ), SemLoc.dma (SemArray.sem cc0_scratch6)) 0
    ∗ pt c main_v44 fullShare f0 ∗ pt c main_v46 fullShare f1 ∗ pt c main_v48 fullShare f2)

/-- An expert's rounded matrices, as the three scratch buffers hold them. -/
def bf3 (c : Dev nD) (e : BitVec 32) (h : ∀ a, (k0_off3 e) a + S1x1024x1024.size a ≤ S32x1024x1024.size a) (f0 : B (F := F) c main_v44) : B (F := F) c cc0_scratch3 :=
  (Memref.isWhole_whole cc0_scratch3).unread (k0_pay1 ((src (Memref.whole main_v44) e h).view.read (Elt F) f0))
def bf4 (c : Dev nD) (e : BitVec 32) (h : ∀ a, (k0_off3 e) a + S1x1024x1024.size a ≤ S32x1024x1024.size a) (f1 : B (F := F) c main_v46) : B (F := F) c cc0_scratch4 :=
  (Memref.isWhole_whole cc0_scratch4).unread (k0_pay2 ((src (Memref.whole main_v46) e h).view.read (Elt F) f1))
def bf5 (c : Dev nD) (e : BitVec 32) (h : ∀ a, (k0_off3 e) a + S1x1024x1024.size a ≤ S32x1024x1024.size a) (f2 : B (F := F) c main_v48) : B (F := F) c cc0_scratch5 :=
  (Memref.isWhole_whole cc0_scratch5).unread (k0_pay3 ((src (Memref.whole main_v48) e h).view.read (Elt F) f2))
/-- The rounded matrices of expert `e` held in their buffers. -/
def Wts (c : Dev nD) (e : BitVec 32) (h : ∀ a, (k0_off3 e) a + S1x1024x1024.size a ≤ S32x1024x1024.size a) (f0 : B (F := F) c main_v44) (f1 : B (F := F) c main_v46) (f2 : B (F := F) c main_v48) : sProp 𝕄 :=
  iprop(pt c cc0_scratch3 fullShare (bf3 c e h f0) ∗ pt c cc0_scratch4 fullShare (bf4 c e h f1) ∗ pt c cc0_scratch5 fullShare (bf5 c e h f2))
/-- The three buffers at anything. -/
def Any (c : Dev nD) : sProp 𝕄 :=
  iprop((∃ d, pt (F := F) c cc0_scratch3 fullShare d) ∗ (∃ d, pt (F := F) c cc0_scratch4 fullShare d) ∗ (∃ d, pt (F := F) c cc0_scratch5 fullShare d))

theorem inb_of_lt (e : BitVec 32) (h : e.toNat < 32) : ∀ a, (k0_off3 e) a + S1x1024x1024.size a ≤ S32x1024x1024.size a := by
  intro a; fin_cases a <;> simp [k0_off3, S1x1024x1024, S32x1024x1024]; omega
theorem inb5_of_lt (e : BitVec 32) (h : e.toNat < 32) : ∀ a, (k0_off5 e) a + S1.size a ≤ S32.size a := by
  intro a; fin_cases a; simp [k0_off5, S1, S32, Scalar.indexCast]; omega
theorem chk1_of_lt (i : grid0.Coords) (e : BitVec 32) (h : e.toNat < 32) : k0_chk1 i e := ⟨fun _ => inb_of_lt e h, inb5_of_lt e h⟩
theorem chk2_of_lt (i : grid0.Coords) (e u p : BitVec 32) (h : e.toNat < 32) : k0_chk2 i e u p := fun _ => inb_of_lt e h
theorem chk3_of_lt (i : grid0.Coords) (e u p n : BitVec 32) (h : e.toNat < 32) : k0_chk3 i e u p n := fun _ => inb5_of_lt e h
theorem chk4_of_lt (i : grid0.Coords) (e u p n n' : BitVec 32) (h : n'.toNat < 32) : k0_chk4 i e u p n n' := fun _ => inb_of_lt n' h

theorem bf3_eq (c : Dev nD) (e : BitVec 32) (h : ∀ a, (k0_off3 e) a + S1x1024x1024.size a ≤ S32x1024x1024.size a) (f0 : B (F := F) c main_v44) (d : B (F := F) c cc0_scratch0) (s : B (F := F) c cc0_scratch3) :
    (Memref.whole cc0_scratch3).view.writes (Elt F) s
      [⟨Rect.unit (s := S1024x1024) ![0, 0] S1024x1024.size inb_S1024x1024_S1024x1024_0_0,
          k0_pay1 (View.readAt (Elt F) (Memref.whole cc0_scratch0).view (Rect.unit (s := S1024x1024) ![0, 0] S1024x1024.size inb_S1024x1024_S1024x1024_0_0).toLoadRect
            (View.write (Elt F) (Memref.whole cc0_scratch0).view d (ReadAs.same.apply ((src (Memref.whole main_v44) e h).view.read (Elt F) f0)) Finset.univ))⟩] = bf3 c e h f0 := by
  refine (Memref.isWhole_whole cc0_scratch3).eq_unread ?_
  refine (View.read_writes_full (s := S1024x1024) _ _ inb_S1024x1024_S1024x1024_0_0 _ _).trans ?_
  refine congrArg (k0_pay1 (F := F)) ?_
  refine (View.readAt_full (s := S1024x1024) _ _ inb_S1024x1024_S1024x1024_0_0).trans ?_
  exact View.read_write_univ _ _

theorem bf4_eq (c : Dev nD) (e : BitVec 32) (h : ∀ a, (k0_off3 e) a + S1x1024x1024.size a ≤ S32x1024x1024.size a) (f1 : B (F := F) c main_v46) (d : B (F := F) c cc0_scratch1) (s : B (F := F) c cc0_scratch4) :
    (Memref.whole cc0_scratch4).view.writes (Elt F) s
      [⟨Rect.unit (s := S1024x1024) ![0, 0] S1024x1024.size inb_S1024x1024_S1024x1024_0_0,
          k0_pay2 (View.readAt (Elt F) (Memref.whole cc0_scratch1).view (Rect.unit (s := S1024x1024) ![0, 0] S1024x1024.size inb_S1024x1024_S1024x1024_0_0).toLoadRect
            (View.write (Elt F) (Memref.whole cc0_scratch1).view d (ReadAs.same.apply ((src (Memref.whole main_v46) e h).view.read (Elt F) f1)) Finset.univ))⟩] = bf4 c e h f1 := by
  refine (Memref.isWhole_whole cc0_scratch4).eq_unread ?_
  refine (View.read_writes_full (s := S1024x1024) _ _ inb_S1024x1024_S1024x1024_0_0 _ _).trans ?_
  refine congrArg (k0_pay2 (F := F)) ?_
  refine (View.readAt_full (s := S1024x1024) _ _ inb_S1024x1024_S1024x1024_0_0).trans ?_
  exact View.read_write_univ _ _

theorem bf5_eq (c : Dev nD) (e : BitVec 32) (h : ∀ a, (k0_off3 e) a + S1x1024x1024.size a ≤ S32x1024x1024.size a) (f2 : B (F := F) c main_v48) (d : B (F := F) c cc0_scratch2) (s : B (F := F) c cc0_scratch5) :
    (Memref.whole cc0_scratch5).view.writes (Elt F) s
      [⟨Rect.unit (s := S1024x1024) ![0, 0] S1024x1024.size inb_S1024x1024_S1024x1024_0_0,
          k0_pay3 (View.readAt (Elt F) (Memref.whole cc0_scratch2).view (Rect.unit (s := S1024x1024) ![0, 0] S1024x1024.size inb_S1024x1024_S1024x1024_0_0).toLoadRect
            (View.write (Elt F) (Memref.whole cc0_scratch2).view d (ReadAs.same.apply ((src (Memref.whole main_v48) e h).view.read (Elt F) f2)) Finset.univ))⟩] = bf5 c e h f2 := by
  refine (Memref.isWhole_whole cc0_scratch5).eq_unread ?_
  refine (View.read_writes_full (s := S1024x1024) _ _ inb_S1024x1024_S1024x1024_0_0 _ _).trans ?_
  refine congrArg (k0_pay3 (F := F)) ?_
  refine (View.readAt_full (s := S1024x1024) _ _ inb_S1024x1024_S1024x1024_0_0).trans ?_
  exact View.read_write_univ _ _

set_option maxHeartbeats 4000000 in
/-- A step that copies and waits for nothing: straight to the tail. -/
theorem pre_skip (c : Dev nD) (i : grid0.Coords) (q : PosShare TreeShare) (arg4 : Memref sig .tc .vmem S2048x128 .f32) (harg4 : arg4.IsWhole) (arg5 : Memref sig .tc .vmem S2048x128 .f32) (harg5 : arg5.IsWhole) (arg9 : Memref sig .tc .vmem S1x3x1024 .f32) (harg9 : arg9.IsWhole)
    (arg10 : Memref sig .tc .vmem S2048x128 .f32) (harg10 : arg10.IsWhole) (arg11 : Memref sig .tc .vmem S2048x128 .f32) (harg11 : arg11.IsWhole)
    (t0 : B (F := F) c main_v25) (t1 : B (F := F) c main_v27) (t2 : B (F := F) c main_v41)
    (hE : (wE c i t0).toNat < 32) (hc1 : ¬ k0_cond1 i = 1#1) (hc2 : ¬ k0_cond2 i (wE c i t0) (wU c t1) (wP c i t0) = 1#1) (hc3 : ¬ k0_cond3 i (wE c i t0) (wU c t1) (wP c i t0) (wN c t2 (wE c i t0) (inb5_of_lt _ hE)) = 1#1)
    (K : PUnit → sProp 𝕄) :
    iprop(pt c main_v25 q t0 ∗ pt c main_v27 q t1 ∗ pt c main_v41 q t2
        ∗ (iprop(pt c main_v25 q t0 ∗ pt c main_v27 q t1 ∗ pt c main_v41 q t2) -∗
            wp frame (wpE (defs₀ (F := F)) Variants.none c none) Set.univ (tailAt i arg4 harg4 arg5 harg5 arg9 harg9 arg10 harg10 arg11 harg11 (wU c t1)) K))
      ⊢ wp frame (wpE (defs₀ (F := F)) Variants.none c none) Set.univ (bodyAt i arg4 harg4 arg5 harg5 arg9 harg9 arg10 harg10 arg11 harg11) K := by
  unfold bodyAt; simp only [cc0_expert_eq_skeleton]; unfold cc0_expert_skel
  have hk1 := chk1_of_lt i _ hE
  have hk2 := chk2_of_lt i (wE c i t0) (wU c t1) (wP c i t0) hE
  have hk3 := chk3_of_lt i (wE c i t0) (wU c t1) (wP c i t0) (wN c t2 (wE c i t0) (inb5_of_lt _ hE)) hE
  iintro ⟨H0, H1, H2, Hk⟩
  sl_exec (disch := first | sl_exact hk1 | sl_exact hk2 | sl_exact hk3 | sl_exact hc1 | sl_exact hc2 | sl_exact hc3)
  iapply Hk
  isplitl [H0]; · iexact H0
  isplitl [H1]; · iexact H1
  iexact H2

set_option maxHeartbeats 8000000 in
/-- An expert's first block after the first, its matrices the last to be used: wait for them and round them. -/
theorem pre_wait (c : Dev nD) (i : grid0.Coords) (q : PosShare TreeShare) (arg4 : Memref sig .tc .vmem S2048x128 .f32) (harg4 : arg4.IsWhole) (arg5 : Memref sig .tc .vmem S2048x128 .f32) (harg5 : arg5.IsWhole) (arg9 : Memref sig .tc .vmem S1x3x1024 .f32) (harg9 : arg9.IsWhole)
    (arg10 : Memref sig .tc .vmem S2048x128 .f32) (harg10 : arg10.IsWhole) (arg11 : Memref sig .tc .vmem S2048x128 .f32) (harg11 : arg11.IsWhole)
    (t0 : B (F := F) c main_v25) (t1 : B (F := F) c main_v27) (t2 : B (F := F) c main_v41)
    (hE : (wE c i t0).toNat < 32)
    (hc1 : ¬ k0_cond1 i = 1#1) (hc2 : k0_cond2 i (wE c i t0) (wU c t1) (wP c i t0) = 1#1)
    (hc3 : ¬ k0_cond3 i (wE c i t0) (wU c t1) (wP c i t0) (wN c t2 (wE c i t0) (inb5_of_lt _ hE)) = 1#1)
    (f0 : B (F := F) c main_v44) (f1 : B (F := F) c main_v46) (f2 : B (F := F) c main_v48) (W : Waits sig Unit) (K : PUnit → sProp 𝕄) :
    iprop(pt c main_v25 q t0 ∗ pt c main_v27 q t1 ∗ pt c main_v41 q t2
        ∗ Fl c (wE c i t0) (inb_of_lt _ hE) f0 f1 f2 ∗ Any c ∗ owes (c : Thread nD τ) 0 W
        ∗ (iprop(pt c main_v25 q t0 ∗ pt c main_v27 q t1 ∗ pt c main_v41 q t2
            ∗ Idle c f0 f1 f2 ∗ Wts c (wE c i t0) (inb_of_lt _ hE) f0 f1 f2 ∗ (∃ W', owes (c : Thread nD τ) 0 W')) -∗
            wp frame (wpE (defs₀ (F := F)) Variants.none c none) Set.univ (tailAt i arg4 harg4 arg5 harg5 arg9 harg9 arg10 harg10 arg11 harg11 (wU c t1)) K))
      ⊢ wp frame (wpE (defs₀ (F := F)) Variants.none c none) Set.univ (bodyAt i arg4 harg4 arg5 harg5 arg9 harg9 arg10 harg10 arg11 harg11) K := by
  unfold bodyAt; simp only [cc0_expert_eq_skeleton]; unfold cc0_expert_skel
  have hk1 := chk1_of_lt i _ hE
  unfold Fl Any
  iintro ⟨H0, H1, H2, ⟨⟨%d0, %d1, %d2, HB⟩, Hh0, Hh1, Hh2⟩, ⟨⟨%s3, HS3⟩, ⟨%s4, HS4⟩, ⟨%s5, HS5⟩⟩, HW, Hk⟩
  unfold deliv
  have hk2 := chk2_of_lt i (wE c i t0) (wU c t1) (wP c i t0) hE
  have hk3 := chk3_of_lt i (wE c i t0) (wU c t1) (wP c i t0) (wN c t2 (wE c i t0) (inb5_of_lt _ hE)) hE
  sl_exec (disch := first | sl_exact hk1 | sl_exact hk2 | sl_exact hk3 | sl_exact hc1 | sl_exact hc2 | sl_exact hc3)
  iapply Hk
  isplitl [H0]; · iexact H0
  isplitl [H1]; · iexact H1
  isplitl [H2]; · iexact H2
  isplitl [HB HB_dst0 HB_dst1 HB_dst2 Hh0 Hh1 Hh2]
  · try unfold Idle
    isplitl [HB_dst0]; · iexists _; iexact HB_dst0
    isplitl [HB_dst1]; · iexists _; iexact HB_dst1
    isplitl [HB_dst2]; · iexists _; iexact HB_dst2
    isplitl [HB]; · iexact HB
    isplitl [Hh0]; · iexact Hh0
    isplitl [Hh1]; · iexact Hh1
    iexact Hh2
  isplitl [HS3 HS4 HS5]
  · unfold Wts
    rw [← bf3_eq c _ _ f0 d0 s3, ← bf4_eq c _ _ f1 d1 s4, ← bf5_eq c _ _ f2 d2 s5]
    isplitl [HS3]; · iexact HS3
    isplitl [HS4]; · iexact HS4
    iexact HS5
  iexists _; iexact HW

set_option maxHeartbeats 8000000 in
/-- An expert's first block after the first: wait for its matrices, round them, start the next expert's copies. -/
theorem pre_wait_next (c : Dev nD) (i : grid0.Coords) (q : PosShare TreeShare) (arg4 : Memref sig .tc .vmem S2048x128 .f32) (harg4 : arg4.IsWhole) (arg5 : Memref sig .tc .vmem S2048x128 .f32) (harg5 : arg5.IsWhole) (arg9 : Memref sig .tc .vmem S1x3x1024 .f32) (harg9 : arg9.IsWhole)
    (arg10 : Memref sig .tc .vmem S2048x128 .f32) (harg10 : arg10.IsWhole) (arg11 : Memref sig .tc .vmem S2048x128 .f32) (harg11 : arg11.IsWhole)
    (t0 : B (F := F) c main_v25) (t1 : B (F := F) c main_v27) (t2 : B (F := F) c main_v41)
    (hE : (wE c i t0).toNat < 32) (hN : ((wN c t2 (wE c i t0) (inb5_of_lt _ hE))).toNat < 32)
    (hc1 : ¬ k0_cond1 i = 1#1) (hc2 : k0_cond2 i (wE c i t0) (wU c t1) (wP c i t0) = 1#1)
    (hc3 : k0_cond3 i (wE c i t0) (wU c t1) (wP c i t0) (wN c t2 (wE c i t0) (inb5_of_lt _ hE)) = 1#1)
    (f0 : B (F := F) c main_v44) (f1 : B (F := F) c main_v46) (f2 : B (F := F) c main_v48) (W : Waits sig Unit) (K : PUnit → sProp 𝕄) :
    iprop(pt c main_v25 q t0 ∗ pt c main_v27 q t1 ∗ pt c main_v41 q t2
        ∗ Fl c (wE c i t0) (inb_of_lt _ hE) f0 f1 f2 ∗ Any c ∗ owes (c : Thread nD τ) 0 W
        ∗ (iprop(pt c main_v25 q t0 ∗ pt c main_v27 q t1 ∗ pt c main_v41 q t2
            ∗ Fl c (wN c t2 (wE c i t0) (inb5_of_lt _ hE)) (inb_of_lt _ hN) f0 f1 f2 ∗ Wts c (wE c i t0) (inb_of_lt _ hE) f0 f1 f2 ∗ (∃ W', owes (c : Thread nD τ) 0 W')) -∗
            wp frame (wpE (defs₀ (F := F)) Variants.none c none) Set.univ (tailAt i arg4 harg4 arg5 harg5 arg9 harg9 arg10 harg10 arg11 harg11 (wU c t1)) K))
      ⊢ wp frame (wpE (defs₀ (F := F)) Variants.none c none) Set.univ (bodyAt i arg4 harg4 arg5 harg5 arg9 harg9 arg10 harg10 arg11 harg11) K := by
  unfold bodyAt; simp only [cc0_expert_eq_skeleton]; unfold cc0_expert_skel
  have hk1 := chk1_of_lt i _ hE
  unfold Fl Any
  iintro ⟨H0, H1, H2, ⟨⟨%d0, %d1, %d2, HB⟩, Hh0, Hh1, Hh2⟩, ⟨⟨%s3, HS3⟩, ⟨%s4, HS4⟩, ⟨%s5, HS5⟩⟩, HW, Hk⟩
  unfold deliv
  have hk2 := chk2_of_lt i (wE c i t0) (wU c t1) (wP c i t0) hE
  have hk3 := chk3_of_lt i (wE c i t0) (wU c t1) (wP c i t0) (wN c t2 (wE c i t0) (inb5_of_lt _ hE)) hE
  sl_exec (disch := first | sl_exact hk1 | sl_exact hk2 | sl_exact hk3 | sl_exact hc1 | sl_exact hc2 | sl_exact hc3)
  imod (Transfers.batch_alloc' (Lvl := ℕ) (countersEmb (U := Pipeline.UD sig nD τ)) (c : Thread nD τ) () 131072
      (deliv c (wN c t2 (wE c i t0) (inb5_of_lt _ hE)) (inb_of_lt _ hN) f0 f1 f2 (View.write (Elt F) (Memref.whole cc0_scratch0).view d0 (ReadAs.same.apply ((src (Memref.whole main_v44) (wE c i t0) (inb_of_lt _ hE)).view.read (Elt F) f0)) Finset.univ) (View.write (Elt F) (Memref.whole cc0_scratch1).view d1 (ReadAs.same.apply ((src (Memref.whole main_v46) (wE c i t0) (inb_of_lt _ hE)).view.read (Elt F) f1)) Finset.univ) (View.write (Elt F) (Memref.whole cc0_scratch2).view d2 (ReadAs.same.apply ((src (Memref.whole main_v48) (wE c i t0) (inb_of_lt _ hE)).view.read (Elt F) f2)) Finset.univ)) (sm := SemLoc.dma ⟨10, _⟩) (E := Set.univ)) $$ HB with HB
  unfold deliv
  have hk4 := chk4_of_lt i (wE c i t0) (wU c t1) (wP c i t0) (wN c t2 (wE c i t0) (inb5_of_lt _ hE)) _ hN
  sl_exec (disch := first | sl_exact hk4)
  iapply Hk
  isplitl [H0]; · iexact H0
  isplitl [H1]; · iexact H1
  isplitl [H2]; · iexact H2
  isplitl [HB Hh0 Hh1 Hh2]
  · try unfold Fl
    isplitl [HB]; · iexists _, _, _; iexact HB
    isplitl [Hh0]; · iexact Hh0
    isplitl [Hh1]; · iexact Hh1
    iexact Hh2
  isplitl [HS3 HS4 HS5]
  · unfold Wts
    rw [← bf3_eq c _ _ f0 d0 s3, ← bf4_eq c _ _ f1 d1 s4, ← bf5_eq c _ _ f2 d2 s5]
    isplitl [HS3]; · iexact HS3
    isplitl [HS4]; · iexact HS4
    iexact HS5
  iexists _; iexact HW

set_option maxHeartbeats 8000000 in
/-- The first block, one expert in use: copy its matrices, wait for them, round them. -/
theorem pre_start (c : Dev nD) (i : grid0.Coords) (q : PosShare TreeShare) (arg4 : Memref sig .tc .vmem S2048x128 .f32) (harg4 : arg4.IsWhole) (arg5 : Memref sig .tc .vmem S2048x128 .f32) (harg5 : arg5.IsWhole) (arg9 : Memref sig .tc .vmem S1x3x1024 .f32) (harg9 : arg9.IsWhole)
    (arg10 : Memref sig .tc .vmem S2048x128 .f32) (harg10 : arg10.IsWhole) (arg11 : Memref sig .tc .vmem S2048x128 .f32) (harg11 : arg11.IsWhole)
    (t0 : B (F := F) c main_v25) (t1 : B (F := F) c main_v27) (t2 : B (F := F) c main_v41)
    (hE : (wE c i t0).toNat < 32)
    (hc1 : k0_cond1 i = 1#1) (hc2 : k0_cond2 i (wE c i t0) (wU c t1) (wP c i t0) = 1#1)
    (hc3 : ¬ k0_cond3 i (wE c i t0) (wU c t1) (wP c i t0) (wN c t2 (wE c i t0) (inb5_of_lt _ hE)) = 1#1)
    (f0 : B (F := F) c main_v44) (f1 : B (F := F) c main_v46) (f2 : B (F := F) c main_v48) (W : Waits sig Unit) (K : PUnit → sProp 𝕄) :
    iprop(pt c main_v25 q t0 ∗ pt c main_v27 q t1 ∗ pt c main_v41 q t2
        ∗ Idle c f0 f1 f2 ∗ Any c ∗ owes (c : Thread nD τ) 0 W
        ∗ (iprop(pt c main_v25 q t0 ∗ pt c main_v27 q t1 ∗ pt c main_v41 q t2
            ∗ Idle c f0 f1 f2 ∗ Wts c (wE c i t0) (inb_of_lt _ hE) f0 f1 f2 ∗ (∃ W', owes (c : Thread nD τ) 0 W')) -∗
            wp frame (wpE (defs₀ (F := F)) Variants.none c none) Set.univ (tailAt i arg4 harg4 arg5 harg5 arg9 harg9 arg10 harg10 arg11 harg11 (wU c t1)) K))
      ⊢ wp frame (wpE (defs₀ (F := F)) Variants.none c none) Set.univ (bodyAt i arg4 harg4 arg5 harg5 arg9 harg9 arg10 harg10 arg11 harg11) K := by
  unfold bodyAt; simp only [cc0_expert_eq_skeleton]; unfold cc0_expert_skel
  have hk1 := chk1_of_lt i _ hE
  unfold Idle Any
  iintro ⟨H0, H1, H2, ⟨⟨%d0, Hd0⟩, ⟨%d1, Hd1⟩, ⟨%d2, Hd2⟩, HV, Hh0, Hh1, Hh2⟩, ⟨⟨%s3, HS3⟩, ⟨%s4, HS4⟩, ⟨%s5, HS5⟩⟩, HW, Hk⟩
  sl_exec (disch := first | sl_exact hk1 | sl_exact hc1)
  imod (Transfers.batch_alloc' (Lvl := ℕ) (countersEmb (U := Pipeline.UD sig nD τ)) (c : Thread nD τ) () 131072
      (deliv c (wE c i t0) (inb_of_lt _ hE) f0 f1 f2 d0 d1 d2) (sm := SemLoc.dma (SemArray.sem cc0_scratch6)) (E := Set.univ)) $$ HV with HB
  unfold deliv
  have hk2 := chk2_of_lt i (wE c i t0) (wU c t1) (wP c i t0) hE
  have hk3 := chk3_of_lt i (wE c i t0) (wU c t1) (wP c i t0) (wN c t2 (wE c i t0) (inb5_of_lt _ hE)) hE
  sl_exec (disch := first | sl_exact hk1 | sl_exact hk2 | sl_exact hk3 | sl_exact hc1 | sl_exact hc2 | sl_exact hc3)
  iapply Hk
  isplitl [H0]; · iexact H0
  isplitl [H1]; · iexact H1
  isplitl [H2]; · iexact H2
  isplitl [HB HB_dst0 HB_dst1 HB_dst2 Hh0 Hh1 Hh2]
  · try unfold Idle
    isplitl [HB_dst0]; · iexists _; iexact HB_dst0
    isplitl [HB_dst1]; · iexists _; iexact HB_dst1
    isplitl [HB_dst2]; · iexists _; iexact HB_dst2
    isplitl [HB]; · iexact HB
    isplitl [Hh0]; · iexact Hh0
    isplitl [Hh1]; · iexact Hh1
    iexact Hh2
  isplitl [HS3 HS4 HS5]
  · unfold Wts
    rw [← bf3_eq c _ _ f0 d0 s3, ← bf4_eq c _ _ f1 d1 s4, ← bf5_eq c _ _ f2 d2 s5]
    isplitl [HS3]; · iexact HS3
    isplitl [HS4]; · iexact HS4
    iexact HS5
  iexists _; iexact HW

set_option maxHeartbeats 8000000 in
/-- The first block: copy its expert's matrices, wait for them, round them, start the next expert's copies. -/
theorem pre_start_next (c : Dev nD) (i : grid0.Coords) (q : PosShare TreeShare) (arg4 : Memref sig .tc .vmem S2048x128 .f32) (harg4 : arg4.IsWhole) (arg5 : Memref sig .tc .vmem S2048x128 .f32) (harg5 : arg5.IsWhole) (arg9 : Memref sig .tc .vmem S1x3x1024 .f32) (harg9 : arg9.IsWhole)
    (arg10 : Memref sig .tc .vmem S2048x128 .f32) (harg10 : arg10.IsWhole) (arg11 : Memref sig .tc .vmem S2048x128 .f32) (harg11 : arg11.IsWhole)
    (t0 : B (F := F) c main_v25) (t1 : B (F := F) c main_v27) (t2 : B (F := F) c main_v41)
    (hE : (wE c i t0).toNat < 32) (hN : ((wN c t2 (wE c i t0) (inb5_of_lt _ hE))).toNat < 32)
    (hc1 : k0_cond1 i = 1#1) (hc2 : k0_cond2 i (wE c i t0) (wU c t1) (wP c i t0) = 1#1)
    (hc3 : k0_cond3 i (wE c i t0) (wU c t1) (wP c i t0) (wN c t2 (wE c i t0) (inb5_of_lt _ hE)) = 1#1)
    (f0 : B (F := F) c main_v44) (f1 : B (F := F) c main_v46) (f2 : B (F := F) c main_v48) (W : Waits sig Unit) (K : PUnit → sProp 𝕄) :
    iprop(pt c main_v25 q t0 ∗ pt c main_v27 q t1 ∗ pt c main_v41 q t2
        ∗ Idle c f0 f1 f2 ∗ Any c ∗ owes (c : Thread nD τ) 0 W
        ∗ (iprop(pt c main_v25 q t0 ∗ pt c main_v27 q t1 ∗ pt c main_v41 q t2
            ∗ Fl c (wN c t2 (wE c i t0) (inb5_of_lt _ hE)) (inb_of_lt _ hN) f0 f1 f2 ∗ Wts c (wE c i t0) (inb_of_lt _ hE) f0 f1 f2 ∗ (∃ W', owes (c : Thread nD τ) 0 W')) -∗
            wp frame (wpE (defs₀ (F := F)) Variants.none c none) Set.univ (tailAt i arg4 harg4 arg5 harg5 arg9 harg9 arg10 harg10 arg11 harg11 (wU c t1)) K))
      ⊢ wp frame (wpE (defs₀ (F := F)) Variants.none c none) Set.univ (bodyAt i arg4 harg4 arg5 harg5 arg9 harg9 arg10 harg10 arg11 harg11) K := by
  unfold bodyAt; simp only [cc0_expert_eq_skeleton]; unfold cc0_expert_skel
  have hk1 := chk1_of_lt i _ hE
  unfold Idle Any
  iintro ⟨H0, H1, H2, ⟨⟨%d0, Hd0⟩, ⟨%d1, Hd1⟩, ⟨%d2, Hd2⟩, HV, Hh0, Hh1, Hh2⟩, ⟨⟨%s3, HS3⟩, ⟨%s4, HS4⟩, ⟨%s5, HS5⟩⟩, HW, Hk⟩
  sl_exec (disch := first | sl_exact hk1 | sl_exact hc1)
  imod (Transfers.batch_alloc' (Lvl := ℕ) (countersEmb (U := Pipeline.UD sig nD τ)) (c : Thread nD τ) () 131072
      (deliv c (wE c i t0) (inb_of_lt _ hE) f0 f1 f2 d0 d1 d2) (sm := SemLoc.dma (SemArray.sem cc0_scratch6)) (E := Set.univ)) $$ HV with HB
  unfold deliv
  have hk2 := chk2_of_lt i (wE c i t0) (wU c t1) (wP c i t0) hE
  have hk3 := chk3_of_lt i (wE c i t0) (wU c t1) (wP c i t0) (wN c t2 (wE c i t0) (inb5_of_lt _ hE)) hE
  sl_exec (disch := first | sl_exact hk1 | sl_exact hk2 | sl_exact hk3 | sl_exact hc1 | sl_exact hc2 | sl_exact hc3)
  imod (Transfers.batch_alloc' (Lvl := ℕ) (countersEmb (U := Pipeline.UD sig nD τ)) (c : Thread nD τ) () 131072
      (deliv c (wN c t2 (wE c i t0) (inb5_of_lt _ hE)) (inb_of_lt _ hN) f0 f1 f2 (View.write (Elt F) (Memref.whole cc0_scratch0).view d0 (ReadAs.same.apply ((src (Memref.whole main_v44) (wE c i t0) (inb_of_lt _ hE)).view.read (Elt F) f0)) Finset.univ) (View.write (Elt F) (Memref.whole cc0_scratch1).view d1 (ReadAs.same.apply ((src (Memref.whole main_v46) (wE c i t0) (inb_of_lt _ hE)).view.read (Elt F) f1)) Finset.univ) (View.write (Elt F) (Memref.whole cc0_scratch2).view d2 (ReadAs.same.apply ((src (Memref.whole main_v48) (wE c i t0) (inb_of_lt _ hE)).view.read (Elt F) f2)) Finset.univ)) (sm := SemLoc.dma ⟨10, _⟩) (E := Set.univ)) $$ HB with HB
  unfold deliv
  have hk4 := chk4_of_lt i (wE c i t0) (wU c t1) (wP c i t0) (wN c t2 (wE c i t0) (inb5_of_lt _ hE)) _ hN
  sl_exec (disch := first | sl_exact hk4)
  iapply Hk
  isplitl [H0]; · iexact H0
  isplitl [H1]; · iexact H1
  isplitl [H2]; · iexact H2
  isplitl [HB Hh0 Hh1 Hh2]
  · try unfold Fl
    isplitl [HB]; · iexists _, _, _; iexact HB
    isplitl [Hh0]; · iexact Hh0
    isplitl [Hh1]; · iexact Hh1
    iexact Hh2
  isplitl [HS3 HS4 HS5]
  · unfold Wts
    rw [← bf3_eq c _ _ f0 d0 s3, ← bf4_eq c _ _ f1 d1 s4, ← bf5_eq c _ _ f2 d2 s5]
    isplitl [HS3]; · iexact HS3
    isplitl [HS4]; · iexact HS4
    iexact HS5
  iexists _; iexact HW

end Cert.Kernel3Ideal.Expert

end
-- ==== Proof.ExCond.lean ====
module

public import proofs.«01_k».proof.Proof.ExTab
public import proofs.«01_k».proof.Proof.ExRun

@[expose] public section

set_option maxRecDepth 65536

noncomputable section

/-! The body's branch conditions and the words it reads, in terms of the step and of the tables' entries. -/

namespace Cert.Kernel3Ideal.Expert

open Cert.Kernel3Ideal Cert.Kernel3Ideal.Gen
open Idealize.ShloMosaic Idealize.ShloMosaic.TcCoe
open Idealize.SL Idealize.SL.RA Idealize.SL.BI

variable {F : FTy → Type} [FloatOps F]

theorem ext_ne (b : BitVec 1) : Scalar.cmpi .ne (Scalar.extui b : BitVec 32) 0#32 = b := by revert b; decide
theorem ofBool_iff (b : Bool) : BitVec.ofBool b = 1#1 ↔ b = true := by revert b; decide
theorem or_iff (a b : BitVec 1) : Scalar.ori a b = 1#1 ↔ a = 1#1 ∨ b = 1#1 := by revert a b; decide
theorem and_iff (a b : BitVec 1) : Scalar.andi a b = 1#1 ↔ a = 1#1 ∧ b = 1#1 := by revert a b; decide
theorem ne_iff (a b : BitVec 32) : Scalar.cmpi .ne a b = 1#1 ↔ a ≠ b := by
  show BitVec.ofBool (a != b) = 1#1 ↔ _
  rw [ofBool_iff]; simp
theorem eq_iff (a b : BitVec 32) : Scalar.cmpi .eq a b = 1#1 ↔ a = b := by
  show BitVec.ofBool (a == b) = 1#1 ↔ _
  rw [ofBool_iff]; simp
theorem slt_iff (n : ℕ) (u : BitVec 32) (hn : n < 288) (hu : u.toNat ≤ 288) : Scalar.cmpi .slt (BitVec.ofNat 32 n) u = 1#1 ↔ n < u.toNat := by
  show BitVec.ofBool (BitVec.slt _ u) = 1#1 ↔ _
  rw [ofBool_iff, BitVec.slt, decide_eq_true_eq, BitVec.toInt_eq_toNat_cond, BitVec.toInt_eq_toNat_cond, BitVec.toNat_ofNat, Nat.mod_eq_of_lt (by omega)]
  split <;> split <;> omega
theorem sge_iff (n : ℕ) (u : BitVec 32) (hn : n < 288) (hu : u.toNat ≤ 288) : Scalar.cmpi .sge (BitVec.ofNat 32 n) u = 1#1 ↔ ¬ n < u.toNat := by
  show BitVec.ofBool (BitVec.sle u _) = 1#1 ↔ _
  rw [ofBool_iff, BitVec.sle, decide_eq_true_eq, BitVec.toInt_eq_toNat_cond, BitVec.toInt_eq_toNat_cond, BitVec.toNat_ofNat, Nat.mod_eq_of_lt (by omega)]
  split <;> split <;> omega
theorem zero_iff (n : ℕ) (hn : n < 288) : Scalar.cmpi .eq (BitVec.ofNat 32 n) 0#32 = 1#1 ↔ n = 0 := by
  rw [eq_iff]
  constructor
  · intro h
    have := congrArg BitVec.toNat h
    rw [BitVec.toNat_ofNat, Nat.mod_eq_of_lt (by omega)] at this
    exact this
  · rintro rfl; rfl

theorem i_lt (i : grid0.Coords) : (i 0).val < 288 := (i 0).isLt

theorem cond1_iff (i : grid0.Coords) : k0_cond1 i = 1#1 ↔ (i 0).val = 0 := by
  unfold k0_cond1; dsimp only; rw [ext_ne]; exact zero_iff _ (i_lt i)
theorem cond2_iff (i : grid0.Coords) (e u p : BitVec 32) (hu : u.toNat ≤ 288) :
    k0_cond2 i e u p = 1#1 ↔ (i 0).val < u.toNat ∧ ((i 0).val = 0 ∨ e ≠ p) := by
  unfold k0_cond2; dsimp only; rw [ext_ne, and_iff, or_iff, slt_iff _ _ (i_lt i) hu, zero_iff _ (i_lt i), ne_iff]
theorem cond3_iff (i : grid0.Coords) (e u p x : BitVec 32) (hu : u.toNat ≤ 288) :
    k0_cond3 i e u p x = 1#1 ↔ ((i 0).val < u.toNat ∧ ((i 0).val = 0 ∨ e ≠ p)) ∧ x ≠ e := by
  unfold k0_cond3; dsimp only; rw [ext_ne, and_iff, and_iff, or_iff, slt_iff _ _ (i_lt i) hu, zero_iff _ (i_lt i), ne_iff, ne_iff]
theorem cond4_iff (i : grid0.Coords) (u : BitVec 32) (hu : u.toNat ≤ 288) : k0_cond4 i u = 1#1 ↔ (i 0).val < u.toNat := by
  unfold k0_cond4; dsimp only; rw [ext_ne]; exact slt_iff _ _ (i_lt i) hu
theorem cond5_iff (i : grid0.Coords) (u : BitVec 32) (hu : u.toNat ≤ 288) : k0_cond5 i u = 1#1 ↔ ¬ (i 0).val < u.toNat := by
  unfold k0_cond5; dsimp only; rw [ext_ne]; exact sge_iff _ _ (i_lt i) hu

theorem wE_eq (c : Dev nD) (i : grid0.Coords) (t0 : B (F := F) c main_v25) : wE c i t0 = t0 (ix1 (i 0)) := by
  refine congrArg t0 ?_
  funext a
  match a with
  | ⟨0, _⟩ =>
    refine Fin.ext ?_
    have := i_lt i
    simp [View.readAt, View.emb, k0_off1, Scalar.indexCast, Rect.unit, Rect.toLoadRect]
    omega

theorem wP_eq (c : Dev nD) (i : grid0.Coords) (t0 : B (F := F) c main_v25) : wP c i t0 = t0 (ix1 ⟨(i 0).val - 1, by have := i_lt i; omega⟩) := by
  refine congrArg t0 ?_
  funext a
  match a with
  | ⟨0, _⟩ =>
    refine Fin.ext ?_
    have := i_lt i
    have hm : (Scalar.maxsi (Scalar.subi (BitVec.ofNat 32 (i 0).val) 1#32) 0#32).toNat = (i 0).val - 1 := by
      revert this; generalize (i 0).val = n; intro hn
      revert n; decide
    refine Eq.trans ?_ hm
    rfl
theorem wU_eq (c : Dev nD) (t1 : B (F := F) c main_v27) : wU c t1 = t1 (ix1 0) := by
  refine congrArg t1 ?_
  funext a
  match a with
  | ⟨0, _⟩ => rfl
theorem wN_eq (c : Dev nD) (t2 : B (F := F) c main_v41) (e : BitVec 32) (h : ∀ a, (k0_off5 e) a + S1.size a ≤ S32.size a) (he : e.toNat < 32) :
    wN c t2 e h = t2 (ix1 ⟨e.toNat, he⟩) := by
  refine congrArg t2 ?_
  funext a
  match a with
  | ⟨0, _⟩ => rfl

end Cert.Kernel3Ideal.Expert

end
-- ==== Proof.ExInv.lean ====
module

public import proofs.«01_k».proof.Proof.ExCond

@[expose] public section

set_option maxRecDepth 65536

noncomputable section

/-! What the call holds between two steps — the rounded matrices of the last block's expert, and either nothing in flight
    or the copies of the next expert's matrices — and that the first half of a step takes it to the next. -/

namespace Cert.Kernel3Ideal.Expert

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Expert (Tabs)

variable {F : FTy → Type} [FloatOps F]

local notation "𝕄" => MT nD τ sig Unit (Elt F) ℕ (Pipeline.UD sig nD τ) ℕ

/-- The expert of block `n`. -/
def Et {c : Dev nD} (t0 : B (F := F) c main_v25) (n : ℕ) : BitVec 32 := t0 (ix1 ⟨min n 287, by omega⟩)
/-- How many blocks are in use. -/
def nuN {c : Dev nD} (t1 : B (F := F) c main_v27) : ℕ := BitVec.toNat (t1 (ix1 0))
/-- The expert wanted after expert `e`. -/
def Xt {c : Dev nD} (t2 : B (F := F) c main_v41) (e : BitVec 32) : BitVec 32 := if h : e.toNat < 32 then t2 (ix1 ⟨e.toNat, h⟩) else 0

/-- The copies of an expert's matrices in flight, for an expert there is. -/
def FlX (c : Dev nD) (f0 : B (F := F) c main_v44) (f1 : B (F := F) c main_v46) (f2 : B (F := F) c main_v48) (e : BitVec 32) : sProp 𝕄 :=
  if h : e.toNat < 32 then Fl c e (inb_of_lt e h) f0 f1 f2 else iprop(emp)
/-- Its rounded matrices held, for an expert there is. -/
def WtsX (c : Dev nD) (f0 : B (F := F) c main_v44) (f1 : B (F := F) c main_v46) (f2 : B (F := F) c main_v48) (e : BitVec 32) : sProp 𝕄 :=
  if h : e.toNat < 32 then Wts c e (inb_of_lt e h) f0 f1 f2 else iprop(emp)
theorem FlX_eq (c : Dev nD) (f0 : B (F := F) c main_v44) (f1 : B (F := F) c main_v46) (f2 : B (F := F) c main_v48) (e e' : BitVec 32) (he : e = e') (h : e.toNat < 32) (hh) :
    Fl c e hh f0 f1 f2 = FlX c f0 f1 f2 e' := by
  subst he; unfold FlX; rw [dif_pos h]
theorem WtsX_eq (c : Dev nD) (f0 : B (F := F) c main_v44) (f1 : B (F := F) c main_v46) (f2 : B (F := F) c main_v48) (e e' : BitVec 32) (he : e = e') (h : e.toNat < 32) (hh) :
    Wts c e hh f0 f1 f2 = WtsX c f0 f1 f2 e' := by
  subst he; unfold WtsX; rw [dif_pos h]

/-- What is under way once expert `e`'s matrices are rounded. -/
def Pend (c : Dev nD) (t2 : B (F := F) c main_v41) (f0 : B (F := F) c main_v44) (f1 : B (F := F) c main_v46) (f2 : B (F := F) c main_v48) (e : BitVec 32) : sProp 𝕄 :=
  if Xt t2 e = e then Idle c f0 f1 f2 else FlX c f0 f1 f2 (Xt t2 e)

/-- What is held before step `n`. -/
def Inv (c : Dev nD) (t0 : B (F := F) c main_v25) (t1 : B (F := F) c main_v27) (t2 : B (F := F) c main_v41)
    (f0 : B (F := F) c main_v44) (f1 : B (F := F) c main_v46) (f2 : B (F := F) c main_v48) (n : ℕ) : sProp 𝕄 :=
  if n = 0 then iprop(Any c ∗ Idle c f0 f1 f2)
  else iprop(WtsX c f0 f1 f2 (Et t0 (min n (nuN t1) - 1)) ∗ Pend c t2 f0 f1 f2 (Et t0 (min n (nuN t1) - 1)))

section facts
variable {c : Dev nD} {t0 : B (F := F) c main_v25} {t1 : B (F := F) c main_v27} {t2 : B (F := F) c main_v41} (hT : Tabs t0 t1 t2)
include hT

theorem Et_lt (n : ℕ) : (Et t0 n).toNat < 32 := hT.hE _
theorem Xt_lt (n : ℕ) : (Xt t2 (Et t0 n)).toNat < 32 := by
  unfold Xt; rw [dif_pos (Et_lt hT n)]; exact hT.hX _
theorem nu_pos : 1 ≤ nuN t1 := hT.hU0
theorem nu_le : nuN t1 ≤ 288 := hT.hU1
theorem Xt_step (n : ℕ) (hn : 0 < n) (h : n < nuN t1) (hne : Et t0 n ≠ Et t0 (n - 1)) : Xt t2 (Et t0 (n - 1)) = Et t0 n := by
  have hu := nu_le hT
  have e1 : Et t0 n = t0 (ix1 ⟨(n - 1) + 1, by omega⟩) := congrArg t0 (congrArg ix1 (Fin.ext (by show min n 287 = n - 1 + 1; omega)))
  have e0 : Et t0 (n - 1) = t0 (ix1 ⟨n - 1, by omega⟩) := congrArg t0 (congrArg ix1 (Fin.ext (by show min (n - 1) 287 = n - 1; omega)))
  have := hT.step (n - 1) (by omega) (by show n - 1 + 1 < nuN t1; omega) (by rw [← e1, ← e0]; exact hne)
  rw [e1, ← this]
  unfold Xt; rw [dif_pos (Et_lt hT _)]
  exact congrArg t2 (congrArg ix1 (Fin.ext (congrArg BitVec.toNat e0)))
theorem Xt_last : Xt t2 (Et t0 (nuN t1 - 1)) = Et t0 (nuN t1 - 1) := by
  have hu := nu_le hT
  have hp := nu_pos hT
  have e0 : Et t0 (nuN t1 - 1) = t0 (ix1 ⟨nuN t1 - 1, by omega⟩) := congrArg t0 (congrArg ix1 (Fin.ext (by show min (nuN t1 - 1) 287 = nuN t1 - 1; omega)))
  have := hT.last (nuN t1 - 1) (by omega) (by show nuN t1 - 1 + 1 = nuN t1; omega)
  refine Eq.trans ?_ (this.trans e0.symm)
  unfold Xt; rw [dif_pos (Et_lt hT _)]
  exact congrArg t2 (congrArg ix1 (Fin.ext (congrArg BitVec.toNat e0)))
end facts

theorem Wts_any (c : Dev nD) (e : BitVec 32) (hh) (f0 : B (F := F) c main_v44) (f1 : B (F := F) c main_v46) (f2 : B (F := F) c main_v48) :
    Wts c e hh f0 f1 f2 ⊢ Any (F := F) c := by
  unfold Wts Any
  iintro ⟨H0, H1, H2⟩
  isplitl [H0]; · iexists _; iexact H0
  isplitl [H1]; · iexists _; iexact H1
  iexists _; iexact H2

/-- The end of the run holds everything back. -/
theorem inv_end (c : Dev nD) (t0 : B (F := F) c main_v25) (t1 : B (F := F) c main_v27) (t2 : B (F := F) c main_v41) (hT : Tabs t0 t1 t2)
    (f0 : B (F := F) c main_v44) (f1 : B (F := F) c main_v46) (f2 : B (F := F) c main_v48) :
    Inv c t0 t1 t2 f0 f1 f2 288 ⊢ iprop(Any c ∗ Idle c f0 f1 f2) := by
  unfold Inv Pend
  rw [if_neg (by decide), show min 288 (nuN t1) = nuN t1 from min_eq_right (nu_le hT), if_pos (Xt_last hT), ← WtsX_eq c f0 f1 f2 _ _ rfl (Et_lt hT _) (inb_of_lt _ (Et_lt hT _))]
  iintro ⟨HW, HI⟩
  isplitl [HW]; · iapply Wts_any $$ HW
  iexact HI

set_option maxHeartbeats 4000000 in
/-- The first half of a step: the waits, the rounding and the next copies, from what is held before it to what is held after. -/
theorem prefix_run (c : Dev nD) (i : grid0.Coords) (q : PosShare TreeShare) (arg4 : Memref sig .tc .vmem S2048x128 .f32) (harg4 : arg4.IsWhole) (arg5 : Memref sig .tc .vmem S2048x128 .f32) (harg5 : arg5.IsWhole) (arg9 : Memref sig .tc .vmem S1x3x1024 .f32) (harg9 : arg9.IsWhole)
    (arg10 : Memref sig .tc .vmem S2048x128 .f32) (harg10 : arg10.IsWhole) (arg11 : Memref sig .tc .vmem S2048x128 .f32) (harg11 : arg11.IsWhole)
    (t0 : B (F := F) c main_v25) (t1 : B (F := F) c main_v27) (t2 : B (F := F) c main_v41) (hT : Tabs t0 t1 t2)
    (f0 : B (F := F) c main_v44) (f1 : B (F := F) c main_v46) (f2 : B (F := F) c main_v48) (W : Waits sig Unit) (K : PUnit → sProp 𝕄) :
    iprop(pt c main_v25 q t0 ∗ pt c main_v27 q t1 ∗ pt c main_v41 q t2
        ∗ Inv c t0 t1 t2 f0 f1 f2 (i 0).val ∗ owes (c : Thread nD τ) 0 W
        ∗ (iprop(pt c main_v25 q t0 ∗ pt c main_v27 q t1 ∗ pt c main_v41 q t2
            ∗ Inv c t0 t1 t2 f0 f1 f2 ((i 0).val + 1) ∗ (∃ W', owes (c : Thread nD τ) 0 W')) -∗
            wp frame (wpE (defs₀ (F := F)) Variants.none c none) Set.univ (tailAt i arg4 harg4 arg5 harg5 arg9 harg9 arg10 harg10 arg11 harg11 (wU c t1)) K))
      ⊢ wp frame (wpE (defs₀ (F := F)) Variants.none c none) Set.univ (bodyAt i arg4 harg4 arg5 harg5 arg9 harg9 arg10 harg10 arg11 harg11) K := by
  have hi := i_lt i
  have hu := nu_le hT
  have hp := nu_pos hT
  have hwE : wE c i t0 = Et t0 (i 0).val := (wE_eq c i t0).trans (congrArg t0 (congrArg ix1 (Fin.ext (by show (i 0).val = min (i 0).val 287; omega))))
  have hwP : wP c i t0 = Et t0 ((i 0).val - 1) := (wP_eq c i t0).trans (congrArg t0 (congrArg ix1 (Fin.ext (by show (i 0).val - 1 = min ((i 0).val - 1) 287; omega))))
  have hwU : (wU c t1).toNat = nuN t1 := congrArg BitVec.toNat (wU_eq c t1)
  have hE : (wE c i t0).toNat < 32 := by rw [hwE]; exact Et_lt hT _
  have hwN : wN c t2 (wE c i t0) (inb5_of_lt _ hE) = Xt t2 (Et t0 (i 0).val) := by
    rw [wN_eq c t2 _ _ hE, ← hwE]; unfold Xt; rw [dif_pos hE]
  have hN : (wN c t2 (wE c i t0) (inb5_of_lt _ hE)).toNat < 32 := by rw [hwN]; exact Xt_lt hT _
  have c1 := cond1_iff i
  have c2 := cond2_iff i (wE c i t0) (wU c t1) (wP c i t0) (by rw [hwU]; exact hu)
  have c3 := cond3_iff i (wE c i t0) (wU c t1) (wP c i t0) (wN c t2 (wE c i t0) (inb5_of_lt _ hE)) (by rw [hwU]; exact hu)
  have eF := FlX_eq c f0 f1 f2 _ _ hwE hE (inb_of_lt _ hE)
  have eN := FlX_eq c f0 f1 f2 _ _ hwN hN (inb_of_lt _ hN)
  have eW := WtsX_eq c f0 f1 f2 _ _ hwE hE (inb_of_lt _ hE)
  rw [hwU] at c2 c3
  have h3 : (¬ k0_cond3 i (wE c i t0) (wU c t1) (wP c i t0) (wN c t2 (wE c i t0) (inb5_of_lt _ hE)) = 1#1) → k0_cond2 i (wE c i t0) (wU c t1) (wP c i t0) = 1#1 → Xt t2 (Et t0 (i 0).val) = Et t0 (i 0).val := by
    intro h h2
    by_contra hx
    exact h (c3.2 ⟨c2.1 h2, by rw [hwN, hwE]; exact hx⟩)
  have h3' : k0_cond3 i (wE c i t0) (wU c t1) (wP c i t0) (wN c t2 (wE c i t0) (inb5_of_lt _ hE)) = 1#1 → Xt t2 (Et t0 (i 0).val) ≠ Et t0 (i 0).val := by
    intro h
    have := (c3.1 h).2
    rwa [hwN, hwE] at this
  have hnext : (i 0).val < nuN t1 → Inv c t0 t1 t2 f0 f1 f2 ((i 0).val + 1) = iprop(WtsX c f0 f1 f2 (Et t0 (i 0).val) ∗ Pend c t2 f0 f1 f2 (Et t0 (i 0).val)) := by
    intro h
    unfold Inv
    rw [if_neg (by omega), show min ((i 0).val + 1) (nuN t1) - 1 = (i 0).val by omega]
  by_cases h0 : (i 0).val = 0
  · have hc1 := c1.2 h0
    have hc2 := c2.2 ⟨by omega, .inl h0⟩
    have hI : Inv c t0 t1 t2 f0 f1 f2 (i 0).val = iprop(Any c ∗ Idle c f0 f1 f2) := if_pos h0
    rw [hnext (by omega), hI]
    by_cases hc3 : k0_cond3 i (wE c i t0) (wU c t1) (wP c i t0) (wN c t2 (wE c i t0) (inb5_of_lt _ hE)) = 1#1
    · have R := pre_start_next c i q arg4 harg4 arg5 harg5 arg9 harg9 arg10 harg10 arg11 harg11 t0 t1 t2 hE hN hc1 hc2 hc3 f0 f1 f2 W K
      rw [eN, eW] at R
      rw [show Pend c t2 f0 f1 f2 (Et t0 (i 0).val) = FlX c f0 f1 f2 (Xt t2 (Et t0 (i 0).val)) from if_neg (h3' hc3)]
      iintro ⟨H0, H1, H2, ⟨HA, HI⟩, HO, Hk⟩
      iapply R
      isplitl [H0]; · iexact H0
      isplitl [H1]; · iexact H1
      isplitl [H2]; · iexact H2
      isplitl [HI]; · iexact HI
      isplitl [HA]; · iexact HA
      isplitl [HO]; · iexact HO
      iintro ⟨H0, H1, H2, HF, HW, HO⟩
      iapply Hk
      isplitl [H0]; · iexact H0
      isplitl [H1]; · iexact H1
      isplitl [H2]; · iexact H2
      isplitl [HF HW]
      · isplitl [HW]; · iexact HW
        iexact HF
      iexact HO
    · have R := pre_start c i q arg4 harg4 arg5 harg5 arg9 harg9 arg10 harg10 arg11 harg11 t0 t1 t2 hE hc1 hc2 hc3 f0 f1 f2 W K
      rw [eW] at R
      rw [show Pend c t2 f0 f1 f2 (Et t0 (i 0).val) = Idle c f0 f1 f2 from if_pos (h3 hc3 hc2)]
      iintro ⟨H0, H1, H2, ⟨HA, HI⟩, HO, Hk⟩
      iapply R
      isplitl [H0]; · iexact H0
      isplitl [H1]; · iexact H1
      isplitl [H2]; · iexact H2
      isplitl [HI]; · iexact HI
      isplitl [HA]; · iexact HA
      isplitl [HO]; · iexact HO
      iintro ⟨H0, H1, H2, HF, HW, HO⟩
      iapply Hk
      isplitl [H0]; · iexact H0
      isplitl [H1]; · iexact H1
      isplitl [H2]; · iexact H2
      isplitl [HF HW]
      · isplitl [HW]; · iexact HW
        iexact HF
      iexact HO
  · have hc1 := fun h => h0 (c1.1 h)
    by_cases hc2 : k0_cond2 i (wE c i t0) (wU c t1) (wP c i t0) = 1#1
    · have hlt := (c2.1 hc2).1
      have hne : Et t0 (i 0).val ≠ Et t0 ((i 0).val - 1) := by
        have := (c2.1 hc2).2.resolve_left h0
        rwa [hwE, hwP] at this
      have hx := Xt_step hT (i 0).val (by omega) hlt hne
      have hI : Inv c t0 t1 t2 f0 f1 f2 (i 0).val = iprop(Wts c (Et t0 ((i 0).val - 1)) (inb_of_lt _ (Et_lt hT _)) f0 f1 f2 ∗ FlX c f0 f1 f2 (Et t0 (i 0).val)) := by
        unfold Inv Pend
        rw [if_neg h0, show min (i 0).val (nuN t1) - 1 = (i 0).val - 1 by omega, if_neg (by rw [hx]; exact hne), hx, WtsX_eq c f0 f1 f2 _ _ rfl (Et_lt hT _)]
      rw [hnext hlt, hI]
      by_cases hc3 : k0_cond3 i (wE c i t0) (wU c t1) (wP c i t0) (wN c t2 (wE c i t0) (inb5_of_lt _ hE)) = 1#1
      · have R := pre_wait_next c i q arg4 harg4 arg5 harg5 arg9 harg9 arg10 harg10 arg11 harg11 t0 t1 t2 hE hN hc1 hc2 hc3 f0 f1 f2 W K
        rw [eN, eW, eF] at R
        rw [show Pend c t2 f0 f1 f2 (Et t0 (i 0).val) = FlX c f0 f1 f2 (Xt t2 (Et t0 (i 0).val)) from if_neg (h3' hc3)]
        iintro ⟨H0, H1, H2, ⟨HA, HI⟩, HO, Hk⟩
        ihave HA' := (Wts_any c _ _ f0 f1 f2) $$ HA
        iapply R
        isplitl [H0]; · iexact H0
        isplitl [H1]; · iexact H1
        isplitl [H2]; · iexact H2
        isplitl [HI]; · iexact HI
        isplitl [HA']; · iexact HA'
        isplitl [HO]; · iexact HO
        iintro ⟨H0, H1, H2, HF, HW, HO⟩
        iapply Hk
        isplitl [H0]; · iexact H0
        isplitl [H1]; · iexact H1
        isplitl [H2]; · iexact H2
        isplitl [HF HW]
        · isplitl [HW]; · iexact HW
          iexact HF
        iexact HO
      · have R := pre_wait c i q arg4 harg4 arg5 harg5 arg9 harg9 arg10 harg10 arg11 harg11 t0 t1 t2 hE hc1 hc2 hc3 f0 f1 f2 W K
        rw [eW, eF] at R
        rw [show Pend c t2 f0 f1 f2 (Et t0 (i 0).val) = Idle c f0 f1 f2 from if_pos (h3 hc3 hc2)]
        iintro ⟨H0, H1, H2, ⟨HA, HI⟩, HO, Hk⟩
        ihave HA' := (Wts_any c _ _ f0 f1 f2) $$ HA
        iapply R
        isplitl [H0]; · iexact H0
        isplitl [H1]; · iexact H1
        isplitl [H2]; · iexact H2
        isplitl [HI]; · iexact HI
        isplitl [HA']; · iexact HA'
        isplitl [HO]; · iexact HO
        iintro ⟨H0, H1, H2, HF, HW, HO⟩
        iapply Hk
        isplitl [H0]; · iexact H0
        isplitl [H1]; · iexact H1
        isplitl [H2]; · iexact H2
        isplitl [HF HW]
        · isplitl [HW]; · iexact HW
          iexact HF
        iexact HO
    · have hc3 : ¬ k0_cond3 i (wE c i t0) (wU c t1) (wP c i t0) (wN c t2 (wE c i t0) (inb5_of_lt _ hE)) = 1#1 := fun h => hc2 (c2.2 (c3.1 h).1)
      have hI : Inv c t0 t1 t2 f0 f1 f2 ((i 0).val + 1) = Inv c t0 t1 t2 f0 f1 f2 (i 0).val := by
        have : Et t0 (min ((i 0).val + 1) (nuN t1) - 1) = Et t0 (min (i 0).val (nuN t1) - 1) := by
          by_cases hlt : (i 0).val < nuN t1
          · rw [show min ((i 0).val + 1) (nuN t1) - 1 = (i 0).val by omega, show min (i 0).val (nuN t1) - 1 = (i 0).val - 1 by omega]
            by_contra hne
            exact hc2 (c2.2 ⟨hlt, .inr (by rw [hwE, hwP]; exact hne)⟩)
          · rw [show min ((i 0).val + 1) (nuN t1) - 1 = min (i 0).val (nuN t1) - 1 by omega]
        unfold Inv
        rw [if_neg h0, if_neg (by omega), this]
      rw [hI]
      have R := pre_skip c i q arg4 harg4 arg5 harg5 arg9 harg9 arg10 harg10 arg11 harg11 t0 t1 t2 hE hc1 hc2 hc3 K
      iintro ⟨H0, H1, H2, HI, HO, Hk⟩
      iapply R
      isplitl [H0]; · iexact H0
      isplitl [H1]; · iexact H1
      isplitl [H2]; · iexact H2
      iintro ⟨H0, H1, H2⟩
      iapply Hk
      isplitl [H0]; · iexact H0
      isplitl [H1]; · iexact H1
      isplitl [H2]; · iexact H2
      isplitl [HI]; · iexact HI
      iexists _; iexact HO

end Cert.Kernel3Ideal.Expert

end
-- ==== Proof.ExOut.lean ====
module

public import proofs.«01_k».proof.Proof.ExTail
public import Idealize.ShloMosaic.Lib.WholeRead
public import Idealize.ShloMosaic.Lib.VecWindow
public import Idealize.ShloMosaic.Lib.Pointwise

@[expose] public section

set_option maxRecDepth 65536

noncomputable section

/-! What a block in use leaves in the two results' buffers: the layer's block, its columns laid out in slabs of 128,
    four rows of a slab for one row of the block. -/

namespace Cert.Kernel3Ideal.Expert

open Cert.Kernel3Ideal Cert.Kernel3Ideal.Gen
open Idealize.ShloMosaic Idealize.ShloMosaic.TcCoe Idealize.ShloMosaic.Tactic
open Idealize.SL Idealize.SL.RA Idealize.SL.BI

variable {F : FTy → Type} [FloatOps F]

abbrev R0 : LoadRect S2048x128 := ⟨![0, 0], S512x128.size, ![4, 1], inb_S2048x128_S512x128_0_0_s_4_1⟩
abbrev R1 : LoadRect S2048x128 := ⟨![1, 0], S512x128.size, ![4, 1], inb_S2048x128_S512x128_1_0_s_4_1⟩
abbrev R2 : LoadRect S2048x128 := ⟨![2, 0], S512x128.size, ![4, 1], inb_S2048x128_S512x128_2_0_s_4_1⟩
abbrev R3 : LoadRect S2048x128 := ⟨![3, 0], S512x128.size, ![4, 1], inb_S2048x128_S512x128_3_0_s_4_1⟩
abbrev U0 : LoadRect S1x3x1024 := (Rect.unit (s := S1x3x1024) ![0, 0, 0] S1x1x1024.size inb_S1x3x1024_S1x1x1024_0_0_0).toLoadRect
abbrev U1 : LoadRect S1x3x1024 := (Rect.unit (s := S1x3x1024) ![0, 1, 0] S1x1x1024.size inb_S1x3x1024_S1x1x1024_0_1_0).toLoadRect
abbrev U2 : LoadRect S1x3x1024 := (Rect.unit (s := S1x3x1024) ![0, 2, 0] S1x1x1024.size inb_S1x3x1024_S1x1x1024_0_2_0).toLoadRect

/-- A window's entries under a rectangle. -/
abbrev gat {s : Shape} {e : EltTy} (x : Vec F s e) (R : LoadRect s) : R.shape.Idx → Elt F e := fun j => x (R.idx j)

/-- The layer on one block: its two input slabs, its expert's bias rows and rounded matrices. -/
def lay (x4 x5 : Vec F S2048x128 .f32) (x9 : Vec F S1x3x1024 .f32) (w3 w4 w5 : Vec F S1024x1024 .bf16) : FVec F S512x1024 .f32 :=
  k0_pay14
    (k0_pay12 (gat x4 R0) (gat x4 R1) (gat x4 R2) (gat x4 R3) (gat x5 R0) (gat x5 R1) (gat x5 R2) (gat x5 R3) w3 (gat x9 U0))
    (k0_pay13 (gat x4 R0) (gat x4 R1) (gat x4 R2) (gat x4 R3) (gat x5 R0) (gat x5 R1) (gat x5 R2) (gat x5 R3) w4) (gat x9 U1) w5 (gat x9 U2)

/-- A scratch buffer's matrix, as the body loads it. -/
abbrev ld3 {c : Dev nD} (s3 : B (F := F) c cc0_scratch3) : Vec F S1024x1024 .bf16 :=
  View.readAt (Elt F) (Memref.whole cc0_scratch3).view (Rect.unit (s := S1024x1024) ![0, 0] S1024x1024.size inb_S1024x1024_S1024x1024_0_0).toLoadRect s3
abbrev ld4 {c : Dev nD} (s4 : B (F := F) c cc0_scratch4) : Vec F S1024x1024 .bf16 :=
  View.readAt (Elt F) (Memref.whole cc0_scratch4).view (Rect.unit (s := S1024x1024) ![0, 0] S1024x1024.size inb_S1024x1024_S1024x1024_0_0).toLoadRect s4
abbrev ld5 {c : Dev nD} (s5 : B (F := F) c cc0_scratch5) : Vec F S1024x1024 .bf16 :=
  View.readAt (Elt F) (Memref.whole cc0_scratch5).view (Rect.unit (s := S1024x1024) ![0, 0] S1024x1024.size inb_S1024x1024_S1024x1024_0_0).toLoadRect s5

/-- The block's first and second halves of columns, rounded, as slabs. -/
def outA (L : FVec F S512x1024 .f32) : Vec F S2048x128 .f32 := fun y =>
  (extf .f32 (truncf .bf16 L bitsLt_bf16_f32) bitsLt_bf16_f32 : FVec F S512x1024 .f32)
    (ix2 (⟨(y 0).val / 4, by have : (y 0).val < 2048 := (y 0).isLt; omega⟩ : Fin 512)
      (⟨128 * ((y 0).val % 4) + (y 1).val, by have : (y 1).val < 128 := (y 1).isLt; omega⟩ : Fin 1024))
def outB (L : FVec F S512x1024 .f32) : Vec F S2048x128 .f32 := fun y =>
  (extf .f32 (truncf .bf16 L bitsLt_bf16_f32) bitsLt_bf16_f32 : FVec F S512x1024 .f32)
    (ix2 (⟨(y 0).val / 4, by have : (y 0).val < 2048 := (y 0).isLt; omega⟩ : Fin 512)
      (⟨512 + 128 * ((y 0).val % 4) + (y 1).val, by have : (y 1).val < 128 := (y 1).isLt; omega⟩ : Fin 1024))

section
variable (c : Dev nD) (i : grid0.Coords) (q : PosShare TreeShare) (arg4 : Memref sig .tc .vmem S2048x128 .f32) (harg4 : arg4.IsWhole) (arg5 : Memref sig .tc .vmem S2048x128 .f32) (harg5 : arg5.IsWhole) (arg9 : Memref sig .tc .vmem S1x3x1024 .f32) (harg9 : arg9.IsWhole)
    (arg10 : Memref sig .tc .vmem S2048x128 .f32) (harg10 : arg10.IsWhole) (arg11 : Memref sig .tc .vmem S2048x128 .f32) (harg11 : arg11.IsWhole)
    (x4 x5 : Vec F S2048x128 .f32) (x9 : Vec F S1x3x1024 .f32)
    (s3 : B (F := F) c cc0_scratch3) (s4 : B (F := F) c cc0_scratch4) (s5 : B (F := F) c cc0_scratch5)

/-- The layer as the run's pieces spell it. -/
def layR : FVec F S512x1024 .f32 :=
  k0_pay14
    (k0_pay12 (View.readAt (Elt F) arg4.view R0 (harg4.unread x4)) (View.readAt (Elt F) arg4.view R1 (harg4.unread x4)) (View.readAt (Elt F) arg4.view R2 (harg4.unread x4)) (View.readAt (Elt F) arg4.view R3 (harg4.unread x4))
      (View.readAt (Elt F) arg5.view R0 (harg5.unread x5)) (View.readAt (Elt F) arg5.view R1 (harg5.unread x5)) (View.readAt (Elt F) arg5.view R2 (harg5.unread x5)) (View.readAt (Elt F) arg5.view R3 (harg5.unread x5))
      (ld3 s3) (View.readAt (Elt F) arg9.view U0 (harg9.unread x9)))
    (k0_pay13 (View.readAt (Elt F) arg4.view R0 (harg4.unread x4)) (View.readAt (Elt F) arg4.view R1 (harg4.unread x4)) (View.readAt (Elt F) arg4.view R2 (harg4.unread x4)) (View.readAt (Elt F) arg4.view R3 (harg4.unread x4))
      (View.readAt (Elt F) arg5.view R0 (harg5.unread x5)) (View.readAt (Elt F) arg5.view R1 (harg5.unread x5)) (View.readAt (Elt F) arg5.view R2 (harg5.unread x5)) (View.readAt (Elt F) arg5.view R3 (harg5.unread x5))
      (ld4 s4)) (View.readAt (Elt F) arg9.view U1 (harg9.unread x9)) (ld5 s5) (View.readAt (Elt F) arg9.view U2 (harg9.unread x9))

theorem layR_eq : layR c arg4 harg4 arg5 harg5 arg9 harg9 x4 x5 x9 s3 s4 s5 = lay x4 x5 x9 (ld3 s3) (ld4 s4) (ld5 s5) := by
  have h4 : ∀ R : LoadRect S2048x128, View.readAt (Elt F) arg4.view R (harg4.unread x4) = gat x4 R := fun R => funext fun j => harg4.readAt_unread x4 R j
  have h5 : ∀ R : LoadRect S2048x128, View.readAt (Elt F) arg5.view R (harg5.unread x5) = gat x5 R := fun R => funext fun j => harg5.readAt_unread x5 R j
  have h9 : ∀ R : LoadRect S1x3x1024, View.readAt (Elt F) arg9.view R (harg9.unread x9) = gat x9 R := fun R => funext fun j => harg9.readAt_unread x9 R j
  unfold layR lay
  rw [h4, h4, h4, h4, h5, h5, h5, h5, h9, h9, h9]

/-- The two halves of the rounded layer, as the pieces' payloads slice them. -/
def half0 (L : FVec F S512x1024 .f32) : FVec F S512x512 .f32 :=
  extf .f32 (truncf .bf16 (extractStridedSlice S512x512 ![0, 0] L slices_S512x1024_o0_0_S512x512) bitsLt_bf16_f32) bitsLt_bf16_f32
def half1 (L : FVec F S512x1024 .f32) : FVec F S512x512 .f32 :=
  extf .f32 (truncf .bf16 (extractStridedSlice S512x512 ![0, 512] L slices_S512x1024_o0_512_S512x512) bitsLt_bf16_f32) bitsLt_bf16_f32

/-- Four pieces, one for each slab of 128 columns of a half. -/
abbrev four (H : FVec F S512x512 .f32) : List (View.Piece (Elt F) S2048x128 .f32) :=
  [⟨⟨R3, spos_4_1⟩, k0_pay4 H⟩,
   ⟨⟨R2, spos_4_1⟩, k0_pay7 H⟩,
   ⟨⟨R1, spos_4_1⟩, k0_pay6 H⟩,
   ⟨⟨R0, spos_4_1⟩, k0_pay5 H⟩]

theorem pieces_eq : (tail_on c i q arg4 harg4 arg5 harg5 arg9 harg9 arg10 harg10 arg11 harg11 x4 x5 x9 s3 s4 s5).1
    = (four (half0 (layR c arg4 harg4 arg5 harg5 arg9 harg9 x4 x5 x9 s3 s4 s5)), four (half1 (layR c arg4 harg4 arg5 harg5 arg9 harg9 x4 x5 x9 s3 s4 s5))) := rfl
end

theorem four_cover (H : FVec F S512x512 .f32) (y : S2048x128.Idx) : ∃ p ∈ four H, y ∈ p.1.set := by
  have h0 : (y 0).val < 2048 := (y 0).isLt
  have h1 : (y 1).val < 128 := (y 1).isLt
  have hm : (y 0).val % 4 = 0 ∨ (y 0).val % 4 = 1 ∨ (y 0).val % 4 = 2 ∨ (y 0).val % 4 = 3 := by omega
  rcases hm with h | h | h | h
  · refine ⟨⟨⟨R0, spos_4_1⟩, k0_pay5 H⟩, by simp, (LoadRect.mem_set _).mpr fun a => ?_⟩
    fin_cases a
    · exact ⟨(y 0).val / 4, by show _ < 512; omega, by show (y 0).val = 0 + 4 * ((y 0).val / 4); omega⟩
    · exact ⟨(y 1).val, h1, by show (y 1).val = 0 + 1 * (y 1).val; omega⟩
  · refine ⟨⟨⟨R1, spos_4_1⟩, k0_pay6 H⟩, by simp, (LoadRect.mem_set _).mpr fun a => ?_⟩
    fin_cases a
    · exact ⟨(y 0).val / 4, by show _ < 512; omega, by show (y 0).val = 1 + 4 * ((y 0).val / 4); omega⟩
    · exact ⟨(y 1).val, h1, by show (y 1).val = 0 + 1 * (y 1).val; omega⟩
  · refine ⟨⟨⟨R2, spos_4_1⟩, k0_pay7 H⟩, by simp, (LoadRect.mem_set _).mpr fun a => ?_⟩
    fin_cases a
    · exact ⟨(y 0).val / 4, by show _ < 512; omega, by show (y 0).val = 2 + 4 * ((y 0).val / 4); omega⟩
    · exact ⟨(y 1).val, h1, by show (y 1).val = 0 + 1 * (y 1).val; omega⟩
  · refine ⟨⟨⟨R3, spos_4_1⟩, k0_pay4 H⟩, by simp, (LoadRect.mem_set _).mpr fun a => ?_⟩
    fin_cases a
    · exact ⟨(y 0).val / 4, by show _ < 512; omega, by show (y 0).val = 3 + 4 * ((y 0).val / 4); omega⟩
    · exact ⟨(y 1).val, h1, by show (y 1).val = 0 + 1 * (y 1).val; omega⟩

/-- The four slabs of a half, read back. -/
def slabs (H : FVec F S512x512 .f32) : Vec F S2048x128 .f32 := fun y =>
  H (ix2 (⟨(y 0).val / 4, by have : (y 0).val < 2048 := (y 0).isLt; omega⟩ : Fin 512)
      (⟨128 * ((y 0).val % 4) + (y 1).val, by have : (y 1).val < 128 := (y 1).isLt; omega⟩ : Fin 512))

theorem four_slabs (H : FVec F S512x512 .f32) : ∀ p ∈ four H, ∀ x : p.1.shape.Idx, p.2 x = slabs H (p.1.emb x) := by
  intro p hp
  simp only [four, List.mem_cons, List.not_mem_nil, or_false] at hp
  rcases hp with rfl | rfl | rfl | rfl <;> intro x <;> refine congrArg H (funext fun a => Fin.ext ?_) <;>
    have h0 : (x 0).val < 512 := (x 0).isLt <;> have h1 : (x 1).val < 128 := (x 1).isLt <;> fin_cases a
  · show 0 + (x 0).val = (3 + 4 * (x 0).val) / 4; omega
  · show 384 + (x 1).val = 128 * ((3 + 4 * (x 0).val) % 4) + (0 + 1 * (x 1).val); omega
  · show 0 + (x 0).val = (2 + 4 * (x 0).val) / 4; omega
  · show 256 + (x 1).val = 128 * ((2 + 4 * (x 0).val) % 4) + (0 + 1 * (x 1).val); omega
  · show 0 + (x 0).val = (1 + 4 * (x 0).val) / 4; omega
  · show 128 + (x 1).val = 128 * ((1 + 4 * (x 0).val) % 4) + (0 + 1 * (x 1).val); omega
  · show 0 + (x 0).val = (0 + 4 * (x 0).val) / 4; omega
  · show 0 + (x 1).val = 128 * ((0 + 4 * (x 0).val) % 4) + (0 + 1 * (x 1).val); omega

theorem slabs_half0 (L : FVec F S512x1024 .f32) : slabs (half0 L) = outA L := by
  funext y
  refine congrArg (extf .f32 (truncf .bf16 L bitsLt_bf16_f32) bitsLt_bf16_f32 : FVec F S512x1024 .f32) (funext fun a => Fin.ext ?_)
  fin_cases a
  · show 0 + (y 0).val / 4 = (y 0).val / 4; omega
  · show 0 + (128 * ((y 0).val % 4) + (y 1).val) = 128 * ((y 0).val % 4) + (y 1).val; omega
theorem slabs_half1 (L : FVec F S512x1024 .f32) : slabs (half1 L) = outB L := by
  funext y
  refine congrArg (extf .f32 (truncf .bf16 L bitsLt_bf16_f32) bitsLt_bf16_f32 : FVec F S512x1024 .f32) (funext fun a => Fin.ext ?_)
  fin_cases a
  · show 0 + (y 0).val / 4 = (y 0).val / 4; omega
  · show 512 + (128 * ((y 0).val % 4) + (y 1).val) = 512 + 128 * ((y 0).val % 4) + (y 1).val; omega

/-- What the four pieces leave, through any view and over anything. -/
theorem read_four {κ : Kind} {sp : Space} (v : View sig κ sp S2048x128 .f32) (f : v.ty.Contents (Elt F)) (H : FVec F S512x512 .f32) :
    v.read (Elt F) (v.writes (Elt F) f (four H)) = slabs H :=
  funext fun y => View.read_writes_apply_of_pieces v f (slabs H) (four H) (four_slabs H) y (four_cover H y)

end Cert.Kernel3Ideal.Expert

end
-- ==== Proof.ExDat.lean ====
module

public import proofs.«01_k».proof.Proof.ExInv
public import proofs.«01_k».proof.Proof.ExOut
public import Idealize.ShloMosaic.Lib.StableHlo.RunLoop
public import Idealize.ShloMosaic.Lib.StableHlo.RunRead

@[expose] public section

set_option maxRecDepth 65536

noncomputable section

/-! The call as launched: the prefetched tables and their side condition, the blocks each step finds, what it leaves, and
    the run of the whole grid. -/

namespace Cert.Kernel3Ideal.Expert

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Expert (Tabs)

variable {F : FTy → Type} [FloatOps F]

local notation "𝕄" => MT nD τ sig Unit (Elt F) ℕ (Pipeline.UD sig nD τ) ℕ

/-! ## The region's entry -/

section entry
variable (m : (ℓ : Loc nD τ sig) → Buf (Elt F) ℓ)

/-- The host operations before the region, stretch by stretch. -/
abbrev hosts : List (List (HloOp τ sig (Elt F))) := [hostOps0, hostOps0_1, hostOps0_2, hostOps0_3, hostOps0_4, hostOps0_5, hostOps0_6, hostOps0_7, hostOps0_8, hostOps0_9]

/-- What the region finds in a buffer: the host operations' results over the launch contents. -/
def V (c : Dev nD) (b : Ref sig .tc) : B (F := F) c b := StableHlo.afterL hosts (fun b => m (c, b)) b

theorem hosts_sub : (hosts : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub⟩
theorem hosts_fresh : (hosts : List (List (HloOp τ sig (Elt F)))).Forall fun ops => ops.Forall fun op => op.fresh = ∅ := by
  simp only [List.Forall]; repeat' constructor

theorem V_eq : V m = fun (c : Dev nD) (b : Ref sig .tc) => StableHlo.after hosts.flatten (fun b => m (c, b)) b := by
  funext c b
  unfold V
  rw [StableHlo.afterL_eq_after_flatten]

theorem hmain (𝒱₀ : Variants) : Pipeline.HMainP (Ix := Unit) (Name := ℕ) (U := Pipeline.UD sig nD τ) (Lvl := ℕ) pcfgs 0 defs₀ 𝒱₀ m (main (F := F)) (V m) := by
  rw [V_eq]
  exact Pipeline.hmainP_prefixes pcfgs 0 defs₀ 𝒱₀ m main hosts hosts_sub hosts_fresh main_chain

set_option maxRecDepth 65536 in
theorem V_main_arg0 (c : Dev nD) : V m c main_arg0 = m ((c : Thread nD τ).loc main_arg0) := by
  simp only [V, hosts, StableHlo.afterL_cons, StableHlo.afterL_nil]
  after_reads_simp
set_option maxRecDepth 65536 in
theorem V_main_arg1 (c : Dev nD) : V m c main_arg1 = m ((c : Thread nD τ).loc main_arg1) := by
  simp only [V, hosts, StableHlo.afterL_cons, StableHlo.afterL_nil]
  after_reads_simp
set_option maxRecDepth 65536 in
theorem V_main_arg2 (c : Dev nD) : V m c main_arg2 = m ((c : Thread nD τ).loc main_arg2) := by
  simp only [V, hosts, StableHlo.afterL_cons, StableHlo.afterL_nil]
  after_reads_simp
set_option maxRecDepth 65536 in
theorem V_main_arg3 (c : Dev nD) : V m c main_arg3 = m ((c : Thread nD τ).loc main_arg3) := by
  simp only [V, hosts, StableHlo.afterL_cons, StableHlo.afterL_nil]
  after_reads_simp
set_option maxRecDepth 65536 in
theorem V_main_arg4 (c : Dev nD) : V m c main_arg4 = m ((c : Thread nD τ).loc main_arg4) := by
  simp only [V, hosts, StableHlo.afterL_cons, StableHlo.afterL_nil]
  after_reads_simp
set_option maxRecDepth 65536 in
theorem V_main_arg5 (c : Dev nD) : V m c main_arg5 = m ((c : Thread nD τ).loc main_arg5) := by
  simp only [V, hosts, StableHlo.afterL_cons, StableHlo.afterL_nil]
  after_reads_simp
set_option maxRecDepth 65536 in
theorem V_main_arg6 (c : Dev nD) : V m c main_arg6 = m ((c : Thread nD τ).loc main_arg6) := by
  simp only [V, hosts, StableHlo.afterL_cons, StableHlo.afterL_nil]
  after_reads_simp
set_option maxRecDepth 65536 in
theorem V_main_arg7 (c : Dev nD) : V m c main_arg7 = m ((c : Thread nD τ).loc main_arg7) := by
  simp only [V, hosts, StableHlo.afterL_cons, StableHlo.afterL_nil]
  after_reads_simp

attribute [irreducible] V

/-- The three tables as the region finds them. -/
def tbl : pre0.Contents (Elt F) := fun j => V m (0 : Dev nD) (pre0.ref j)
theorem V_pre (c : Dev nD) (j : Fin 3) : V m c (pre0.ref j) = tbl m j := by
  obtain rfl : c = 0 := Subsingleton.elim _ _
  rfl

abbrev T0 (c : Dev nD) : B (F := F) c main_v25 := V m c main_v25
abbrev T1 (c : Dev nD) : B (F := F) c main_v27 := V m c main_v27
abbrev T2 (c : Dev nD) : B (F := F) c main_v41 := V m c main_v41
abbrev W0 (c : Dev nD) : B (F := F) c main_v44 := V m c main_v44
abbrev W1 (c : Dev nD) : B (F := F) c main_v46 := V m c main_v46
abbrev W2 (c : Dev nD) : B (F := F) c main_v48 := V m c main_v48

/-- What the precondition says of the tables. -/
abbrev Good : Prop := ∀ c : Dev nD, Tabs (T0 m c) (T1 m c) (T2 m c)

theorem at_nu : (tbl m).at 1 (Rect.unit (s := S1) ![0] S1.size inb_S1_S1_0) numel1_S1 = T1 m 0 (ix1 0) := by
  refine congrArg (tbl m 1) ?_
  funext a
  match a with
  | ⟨0, _⟩ => rfl
theorem at_be (i : grid0.Coords) : (tbl m).at 0 (Rect.unit (s := S288) (k0_off1 i) S1.size (k0_off1_inb i)) numel1_S1 = T0 m 0 (ix1 (i 0)) := by
  refine congrArg (tbl m 0) ?_
  funext a
  match a with
  | ⟨0, _⟩ =>
    refine Fin.ext ?_
    have := i_lt i
    have hm : (BitVec.ofNat 32 (i 0).val).toNat = (i 0).val := by simp; omega
    refine Eq.trans ?_ hm
    rfl
theorem atD_nu : (tbl m).atD 1 ![0] = T1 m 0 (ix1 0) := by
  unfold Pipeline.Prefetch.Contents.atD
  rw [dif_pos (by decide)]
  refine congrArg (tbl m 1) ?_
  funext a
  match a with
  | ⟨0, _⟩ => rfl

theorem clamp (n : ℕ) (u : BitVec 32) (hn : n < 288) (h0 : 1 ≤ u.toNat) (h1 : u.toNat ≤ 288) :
    (Scalar.minsi (BitVec.ofNat 32 n) (Scalar.subi u 1#32)).toNat = min n (u.toNat - 1) := by
  have e : Scalar.subi u 1#32 = BitVec.ofNat 32 (u.toNat - 1) := by
    apply BitVec.eq_of_toNat_eq
    simp [Scalar.subi, IntOp.subi, BitVec.toNat_sub]
    omega
  rw [e]
  have hk : u.toNat - 1 < 288 := by omega
  revert hk
  generalize u.toNat - 1 = k
  intro hk
  have hn' : (BitVec.ofNat 32 n).toInt = n := by
    rw [BitVec.toInt_eq_toNat_cond, BitVec.toNat_ofNat, Nat.mod_eq_of_lt (by omega)]; split <;> omega
  have hk' : (BitVec.ofNat 32 k).toInt = k := by
    rw [BitVec.toInt_eq_toNat_cond, BitVec.toNat_ofNat, Nat.mod_eq_of_lt (by omega)]; split <;> omega
  unfold Scalar.minsi IntOp.minsi
  simp only [BitVec.slt, BitVec.sle, hn', hk']
  split
  · rename_i h
    simp at h
    simp; omega
  · rename_i h
    simp at h
    simp; omega

variable {m}
theorem tr0 (hT : Good m) (i : grid0.Coords) : cc0_transform_0 inb_S1_S1_0 numel1_S1 (tbl m) i = ![min (i 0).val (nuN (T1 m 0) - 1), 0] := by
  unfold cc0_transform_0
  dsimp only
  rw [at_nu, clamp _ _ (i_lt i) (nu_pos (hT 0)) (nu_le (hT 0))]
  rfl
theorem tr1 (hT : Good m) (i : grid0.Coords) : cc0_transform_1 inb_S1_S1_0 numel1_S1 (tbl m) i = ![min (i 0).val (nuN (T1 m 0) - 1), 0] := by
  unfold cc0_transform_1
  dsimp only
  rw [at_nu, clamp _ _ (i_lt i) (nu_pos (hT 0)) (nu_le (hT 0))]
  rfl
theorem tr5 (i : grid0.Coords) : cc0_transform_5 k0_off1_inb numel1_S1 (tbl m) i = ![(T0 m 0 (ix1 (i 0))).toNat, 0, 0] := by
  refine Eq.trans ?_ (congrArg (fun w : BitVec 32 => (![w.toNat, 0, 0] : Fin 3 → ℕ)) (at_be m i))
  rfl

theorem ok_of (hT : Good m) : ok0 (tbl m) := by
  have hu := nu_le (hT 0)
  refine ⟨fun i => ⟨?_, .inl rfl⟩, fun i => ⟨?_, .inl rfl⟩, fun i => ⟨?_, .inl rfl⟩⟩
  · rw [tr0 hT]
    have := i_lt i
    intro a
    match a with
    | ⟨0, _⟩ => show (min (i 0).val (nuN (T1 m 0) - 1) + 1) * 2048 ≤ 589824; omega
    | ⟨1, _⟩ => show (0 + 1) * 128 ≤ 128; omega
  · rw [tr1 hT]
    have := i_lt i
    intro a
    match a with
    | ⟨0, _⟩ => show (min (i 0).val (nuN (T1 m 0) - 1) + 1) * 2048 ≤ 589824; omega
    | ⟨1, _⟩ => show (0 + 1) * 128 ≤ 128; omega
  · rw [tr5]
    have := (hT 0).hE (i 0)
    intro a
    match a with
    | ⟨0, _⟩ => show ((T0 m 0 (ix1 (i 0))).toNat + 1) * 1 ≤ 32; omega
    | ⟨1, _⟩ => show (0 + 1) * 3 ≤ 3; omega
    | ⟨2, _⟩ => show (0 + 1) * 1024 ≤ 1024; omega

end entry

/-! ## The steps' blocks and what they leave -/

section steps
variable (m : (ℓ : Loc nD τ sig) → Buf (Elt F) ℓ) (hT : Good m)

abbrev adm : (pcfg0 (F := F)).Adm := ⟨tbl m, ok_of hT⟩
abbrev cfgM : Cfg sig Λ₀ := cfg0 (adm m hT)

abbrev N : ℕ := grid0.N
theorem N_eq : grid0.N = 288 := by decide
theorem co (t : Fin (cfgM m hT).N) : (grid0.coords t 0).val = t.val := (by decide +kernel : ∀ t : Fin grid0.N, (grid0.coords t 0).val = t.val) t

abbrev ms0 (t : Fin (cfgM m hT).N) : Memref sig .tc .vmem S2048x128 .f32 := spec0_0.stage ((cfgM m hT).slots t 0)
abbrev ms1 (t : Fin (cfgM m hT).N) : Memref sig .tc .vmem S2048x128 .f32 := spec0_1.stage ((cfgM m hT).slots t 1)
abbrev ms2 (t : Fin (cfgM m hT).N) : Memref sig .tc .vmem S1x3x1024 .f32 := spec0_2.stage ((cfgM m hT).slots t 2)
abbrev ms3 (t : Fin (cfgM m hT).N) : Memref sig .tc .vmem S2048x128 .f32 := spec0_3.stage ((cfgM m hT).slots t 3)
abbrev ms4 (t : Fin (cfgM m hT).N) : Memref sig .tc .vmem S2048x128 .f32 := spec0_4.stage ((cfgM m hT).slots t 4)

/-- An array's block at a step, as the region finds it. -/
def iblk (c : Dev nD) (w : Fin (cfgM m hT).W) (t : Fin (cfgM m hT).N) : (((cfgM m hT).win w).xblock ((cfgM m hT).grid.coords t)).Idx → Elt F ((cfgM m hT).win w).elt :=
  (((cfgM m hT).win w).blk t).view.read (Elt F) (V m c (Pipeline.arrRef spec0 w))

/-- The layer on step `t`'s block. -/
def layAt (c : Dev nD) (t : Fin (cfgM m hT).N) : FVec F S512x1024 .f32 :=
  lay (iblk m hT c 0 t) (iblk m hT c 1 t) (iblk m hT c 2 t)
    (ld3 (bf3 c (Et (T0 m c) (grid0.coords t 0).val) (inb_of_lt _ (Et_lt (hT c) _)) (W0 m c)))
    (ld4 (bf4 c (Et (T0 m c) (grid0.coords t 0).val) (inb_of_lt _ (Et_lt (hT c) _)) (W1 m c)))
    (ld5 (bf5 c (Et (T0 m c) (grid0.coords t 0).val) (inb_of_lt _ (Et_lt (hT c) _)) (W2 m c)))
def outs3 (c : Dev nD) (t : Fin (cfgM m hT).N) : Vec F S2048x128 .f32 :=
  if (grid0.coords t 0).val < nuN (T1 m c) then outA (layAt m hT c t) else k0_pay9
def outs4 (c : Dev nD) (t : Fin (cfgM m hT).N) : Vec F S2048x128 .f32 :=
  if (grid0.coords t 0).val < nuN (T1 m c) then outB (layAt m hT c t) else k0_pay10

/-- The tables, held for the body to read. -/
abbrev Tab (c : Dev nD) : sProp 𝕄 :=
  iprop(pt c main_v25 fullShare.right (T0 m c) ∗ pt c main_v27 fullShare.right (T1 m c) ∗ pt c main_v41 fullShare.right (T2 m c))

def dats (_ : Fin 1) (c : Dev nD) : Dat τ (Elt F) Unit ℕ (Pipeline.UD sig nD τ) ℕ (cfgM m hT) c where
  A w := V m c (Pipeline.arrRef spec0 w)
  after w t := match w with
    | ⟨0, _⟩ => iblk m hT c 0 t
    | ⟨1, _⟩ => iblk m hT c 1 t
    | ⟨2, _⟩ => iblk m hT c 2 t
    | ⟨3, _⟩ => outs3 m hT c t
    | ⟨4, _⟩ => outs4 m hT c t
  Φ t := iprop(Tab m c ∗ (∃ r, prngReg c r) ∗ Inv c (T0 m c) (T1 m c) (T2 m c) (W0 m c) (W1 m c) (W2 m c) t.val)
  q _ := fullShare
  owed _ := 0

theorem A_eq (c : Dev nD) (w : Fin (cfgM m hT).W) : (dats m hT 0 c).A w = V m c (Pipeline.arrRef spec0 w) := by
  dsimp only [dats]
theorem after_0 (c : Dev nD) (t : Fin (cfgM m hT).N) : (dats m hT 0 c).after 0 t = iblk m hT c 0 t := rfl
theorem after_1 (c : Dev nD) (t : Fin (cfgM m hT).N) : (dats m hT 0 c).after 1 t = iblk m hT c 1 t := rfl
theorem after_2 (c : Dev nD) (t : Fin (cfgM m hT).N) : (dats m hT 0 c).after 2 t = iblk m hT c 2 t := rfl
attribute [local irreducible] layAt in
theorem after_3 (c : Dev nD) (t : Fin (cfgM m hT).N) : (dats m hT 0 c).after 3 t = outs3 m hT c t := by
  exact rfl
attribute [local irreducible] layAt in
theorem after_4 (c : Dev nD) (t : Fin (cfgM m hT).N) : (dats m hT 0 c).after 4 t = outs4 m hT c t := by
  exact rfl

theorem before_0 (c : Dev nD) (t : Fin (cfgM m hT).N) (d) : (dats m hT 0 c).before 0 t d = iblk m hT c 0 t :=
  ((dats m hT 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m hT).N) (d) : (dats m hT 0 c).before 1 t d = iblk m hT c 1 t :=
  ((dats m hT 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgM m hT).N) (d) : (dats m hT 0 c).before 2 t d = iblk m hT c 2 t :=
  ((dats m hT 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

theorem idle_aux (i : grid0.Coords) (u : BitVec 32) (h : u.toNat ≤ 288) : (!(k0_cond4 i u == 1#1) && !(k0_cond5 i u == 1#1)) = false := by
  by_cases h' : (i 0).val < u.toNat
  · rw [(cond4_iff _ _ h).2 h']; rfl
  · rw [(cond5_iff _ _ h).2 h']; simp
theorem idle0_3 (hT : Good m) (i : grid0.Coords) : idle0 (tbl m) 3 i = false :=
  idle_aux i ((tbl m).atD 1 ![0]) (by rw [show (tbl m).atD 1 ![0] = _ from atD_nu m]; exact nu_le (hT 0))
theorem idle_gen3 (a : (pcfg0 (F := F)).Adm) (i : grid0.Coords) (h : idle0 a.1 3 i = false) : (cfg0 a).idle 3 i = false := h
theorem idle_gen4 (a : (pcfg0 (F := F)).Adm) (i : grid0.Coords) (h : idle0 a.1 3 i = false) : (cfg0 a).idle 4 i = false := h
theorem idle_3 (t : Fin (cfgM m hT).N) : (cfgM m hT).idle 3 ((cfgM m hT).grid.coords t) = false := idle_gen3 (adm m hT) _ (idle0_3 m hT _)
theorem idle_4 (t : Fin (cfgM m hT).N) : (cfgM m hT).idle 4 ((cfgM m hT).grid.coords t) = false := idle_gen4 (adm m hT) _ (idle0_3 m hT _)

end steps

end Cert.Kernel3Ideal.Expert

end
-- ==== Proof.ExLaunch.lean ====
module

public import proofs.«01_k».proof.Proof.ExDat

@[expose] public section

set_option maxRecDepth 65536

noncomputable section

/-! A step of the grid keeps the invariant and leaves the blocks said of it; so the whole grid runs, and its arguments are
    as launched. -/

namespace Cert.Kernel3Ideal.Expert

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Expert (Tabs)

variable {F : FTy → Type} [FloatOps F]

local notation "𝕄" => MT nD τ sig Unit (Elt F) ℕ (Pipeline.UD sig nD τ) ℕ

/-- The second half of a step: the blocks left, whichever side of the last block in use it is on. -/
theorem tail_run (c : Dev nD) (i : grid0.Coords) (q : PosShare TreeShare) (arg4 : Memref sig .tc .vmem S2048x128 .f32) (harg4 : arg4.IsWhole) (arg5 : Memref sig .tc .vmem S2048x128 .f32) (harg5 : arg5.IsWhole) (arg9 : Memref sig .tc .vmem S1x3x1024 .f32) (harg9 : arg9.IsWhole)
    (arg10 : Memref sig .tc .vmem S2048x128 .f32) (harg10 : arg10.IsWhole) (arg11 : Memref sig .tc .vmem S2048x128 .f32) (harg11 : arg11.IsWhole)
    (t0 : B (F := F) c main_v25) (t1 : B (F := F) c main_v27) (t2 : B (F := F) c main_v41) (hT : Tabs t0 t1 t2)
    (f0 : B (F := F) c main_v44) (f1 : B (F := F) c main_v46) (f2 : B (F := F) c main_v48)
    (x4 x5 : Vec F S2048x128 .f32) (x9 : Vec F S1x3x1024 .f32) (y3 y4 : Vec F S2048x128 .f32)
    (hy3 : y3 = if (i 0).val < nuN t1 then outA (lay x4 x5 x9 (ld3 (bf3 c (Et t0 (i 0).val) (inb_of_lt _ (Et_lt hT _)) f0)) (ld4 (bf4 c (Et t0 (i 0).val) (inb_of_lt _ (Et_lt hT _)) f1)) (ld5 (bf5 c (Et t0 (i 0).val) (inb_of_lt _ (Et_lt hT _)) f2))) else k0_pay9)
    (hy4 : y4 = if (i 0).val < nuN t1 then outB (lay x4 x5 x9 (ld3 (bf3 c (Et t0 (i 0).val) (inb_of_lt _ (Et_lt hT _)) f0)) (ld4 (bf4 c (Et t0 (i 0).val) (inb_of_lt _ (Et_lt hT _)) f1)) (ld5 (bf5 c (Et t0 (i 0).val) (inb_of_lt _ (Et_lt hT _)) f2))) else k0_pay10)
    (K : PUnit → sProp 𝕄) :
    iprop(pt c main_v27 q t1 ∗ owns (c : Thread nD τ) arg4 fullShare x4 ∗ owns (c : Thread nD τ) arg5 fullShare x5 ∗ owns (c : Thread nD τ) arg9 fullShare x9
        ∗ (∃ d, owns (c : Thread nD τ) arg10 fullShare d) ∗ (∃ d, owns (c : Thread nD τ) arg11 fullShare d)
        ∗ Inv c t0 t1 t2 f0 f1 f2 ((i 0).val + 1)
        ∗ (iprop(pt c main_v27 q t1 ∗ owns (c : Thread nD τ) arg4 fullShare x4 ∗ owns (c : Thread nD τ) arg5 fullShare x5 ∗ owns (c : Thread nD τ) arg9 fullShare x9
            ∗ owns (c : Thread nD τ) arg10 fullShare y3 ∗ owns (c : Thread nD τ) arg11 fullShare y4
            ∗ Inv c t0 t1 t2 f0 f1 f2 ((i 0).val + 1)) -∗ K ⟨⟩))
      ⊢ wp frame (wpE (defs₀ (F := F)) Variants.none c none) Set.univ (tailAt i arg4 harg4 arg5 harg5 arg9 harg9 arg10 harg10 arg11 harg11 (wU c t1)) K := by
  have hu := nu_le hT
  have hw : (wU c t1).toNat = nuN t1 := congrArg BitVec.toNat (wU_eq c t1)
  have c4 := cond4_iff i (wU c t1) (by rw [hw]; exact hu)
  have c5 := cond5_iff i (wU c t1) (by rw [hw]; exact hu)
  rw [hw] at c4 c5
  by_cases h : (i 0).val < nuN t1
  · rw [if_pos h] at hy3 hy4
    have hI : Inv c t0 t1 t2 f0 f1 f2 ((i 0).val + 1) = iprop(Wts c (Et t0 (i 0).val) (inb_of_lt _ (Et_lt hT _)) f0 f1 f2 ∗ Pend c t2 f0 f1 f2 (Et t0 (i 0).val)) := by
      unfold Inv
      rw [if_neg (by omega), show min ((i 0).val + 1) (nuN t1) - 1 = (i 0).val by omega, WtsX_eq c f0 f1 f2 _ _ rfl (Et_lt hT _)]
    have R := (tail_on c i q arg4 harg4 arg5 harg5 arg9 harg9 arg10 harg10 arg11 harg11 x4 x5 x9
      (bf3 c (Et t0 (i 0).val) (inb_of_lt _ (Et_lt hT _)) f0) (bf4 c (Et t0 (i 0).val) (inb_of_lt _ (Et_lt hT _)) f1) (bf5 c (Et t0 (i 0).val) (inb_of_lt _ (Et_lt hT _)) f2)).2 t1 (c4.2 h) (fun h' => c5.1 h' h) K
    rw [pieces_eq, layR_eq] at R
    rw [hI]
    unfold Wts
    iintro ⟨H1, H4, H5, H9, H10, H11, ⟨⟨Hs3, Hs4, Hs5⟩, HP⟩, Hk⟩
    iapply R
    isplitl [H1]; · iexact H1
    isplitl [H4]; · iexact H4
    isplitl [H5]; · iexact H5
    isplitl [H9]; · iexact H9
    isplitl [H10]; · iexact H10
    isplitl [H11]; · iexact H11
    isplitl [Hs3]; · iexact Hs3
    isplitl [Hs4]; · iexact Hs4
    isplitl [Hs5]; · iexact Hs5
    iintro ⟨H1, H4, H5, H9, ⟨%g10, H10⟩, ⟨%g11, H11⟩, Hs3, Hs4, Hs5⟩
    iapply Hk
    isplitl [H1]; · iexact H1
    isplitl [H4]; · iexact H4
    isplitl [H5]; · iexact H5
    isplitl [H9]; · iexact H9
    isplitl [H10]
    · unfold owns; iexists _; isplitr; swap; · iexact H10
      ipureintro; exact (read_four _ _ _).trans ((slabs_half0 _).trans hy3.symm)
    isplitl [H11]
    · unfold owns; iexists _; isplitr; swap; · iexact H11
      ipureintro; exact (read_four _ _ _).trans ((slabs_half1 _).trans hy4.symm)
    isplitl [Hs3 Hs4 Hs5]
    · isplitl [Hs3]; · iexact Hs3
      isplitl [Hs4]; · iexact Hs4
      iexact Hs5
    iexact HP
  · rw [if_neg h] at hy3 hy4
    have R := tail_off c i q arg4 harg4 arg5 harg5 arg9 harg9 arg10 harg10 arg11 harg11 t1 (fun h' => h (c4.1 h')) (c5.2 h) K
    iintro ⟨H1, H4, H5, H9, H10, H11, HI, Hk⟩
    iapply R
    isplitl [H1]; · iexact H1
    isplitl [H10]; · iexact H10
    isplitl [H11]; · iexact H11
    iintro ⟨H1, ⟨%g10, H10⟩, ⟨%g11, H11⟩⟩
    iapply Hk
    isplitl [H1]; · iexact H1
    isplitl [H4]; · iexact H4
    isplitl [H5]; · iexact H5
    isplitl [H9]; · iexact H9
    isplitl [H10]
    · unfold owns; iexists _; isplitr; swap; · iexact H10
      ipureintro; exact (View.read_writes_full _ _ _ _ _).trans hy3.symm
    isplitl [H11]
    · unfold owns; iexists _; isplitr; swap; · iexact H11
      ipureintro; exact (View.read_writes_full _ _ _ _ _).trans hy4.symm
    iexact HI

/-! ## The obligation, at any admissible tables -/

section gen
variable (a : (pcfg0 (F := F)).Adm)

/-- The body at a step, on its staging buffers. -/
abbrev bodyG (t : Fin (cfg0 a).N) : Prog (TpuEff nD τ sig (Elt F) Λ₀ .tc) PUnit :=
  bodyAt (grid0.coords t) (spec0_0.stage ((cfg0 a).slots t 0)) (hstage0_0 (((cfg0 a).slots t 0).cast nbuf0_0)) (spec0_1.stage ((cfg0 a).slots t 1)) (hstage0_1 (((cfg0 a).slots t 1).cast nbuf0_1))
    (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

theorem defs₀_row (t : Fin (cfg0 a).N) : (defs₀ (F := F)) .tc (cfg0 a).body ((cfg0 a).bodyArgs t ((cfg0 a).slots t)) = bodyG a t := by
  unfold defs₀; rw [Defs.onTc_tc]

theorem obligation_of (c : Dev nD) (dat : Dat τ (Elt F) Unit ℕ (Pipeline.UD sig nD τ) ℕ (cfg0 a) c)
    (h3 : ∀ t : Fin (cfg0 a).N, (cfg0 a).idle 3 ((cfg0 a).grid.coords t) = false) (h4 : ∀ t : Fin (cfg0 a).N, (cfg0 a).idle 4 ((cfg0 a).grid.coords t) = false)
    (h : ∀ t : Fin (cfg0 a).N,
      iprop(dat.Φ t.castSucc ∗ dat.owesAt () t.castSucc
        ∗ (∃ d, owns (c : Thread nD τ) (spec0_0.stage ((cfg0 a).slots t 0)) fullShare (dat.before 0 t d))
        ∗ (∃ d, owns (c : Thread nD τ) (spec0_1.stage ((cfg0 a).slots t 1)) fullShare (dat.before 1 t d))
        ∗ (∃ d, owns (c : Thread nD τ) (spec0_2.stage ((cfg0 a).slots t 2)) fullShare (dat.before 2 t d))
        ∗ (∃ d, owns (c : Thread nD τ) (spec0_3.stage ((cfg0 a).slots t 3)) fullShare (dat.before 3 t d))
        ∗ (∃ d, owns (c : Thread nD τ) (spec0_4.stage ((cfg0 a).slots t 4)) fullShare (dat.before 4 t d)))
      ⊢ wp frame (wpE (defs₀ (F := F)) Variants.none c none) Set.univ (bodyG a t) (fun _ =>
        iprop(dat.Φ t.succ ∗ dat.owesAt () t.succ
          ∗ owns (c : Thread nD τ) (spec0_0.stage ((cfg0 a).slots t 0)) fullShare (dat.after 0 t)
          ∗ owns (c : Thread nD τ) (spec0_1.stage ((cfg0 a).slots t 1)) fullShare (dat.after 1 t)
          ∗ owns (c : Thread nD τ) (spec0_2.stage ((cfg0 a).slots t 2)) fullShare (dat.after 2 t)
          ∗ owns (c : Thread nD τ) (spec0_3.stage ((cfg0 a).slots t 3)) fullShare (dat.after 3 t)
          ∗ owns (c : Thread nD τ) (spec0_4.stage ((cfg0 a).slots t 4)) fullShare (dat.after 4 t)))) :
    BodyObligation dat defs₀ Variants.none () Set.univ := fun t => by
  rw [bigSep_W0, bigSep_W0, defs₀_row]
  refine triple_restated (h t) rfl .rfl fun _ => ?_
  have e3 : idle0 a.1 3 ((pcfg0.gridAt a.1).coords t) = false := h3 t
  dsimp only
  rw [e3]

end gen

section steps
variable (m : (ℓ : Loc nD τ sig) → Buf (Elt F) ℓ) (hT : Good m)

def bodyPre (c : Dev nD) (t : Fin (cfgM m hT).N) : sProp 𝕄 :=
  iprop((dats m hT 0 c).Φ t.castSucc ∗ (dats m hT 0 c).owesAt () t.castSucc
    ∗ (∃ d, owns (c : Thread nD τ) (ms0 m hT t) fullShare ((dats m hT 0 c).before 0 t d))
    ∗ (∃ d, owns (c : Thread nD τ) (ms1 m hT t) fullShare ((dats m hT 0 c).before 1 t d))
    ∗ (∃ d, owns (c : Thread nD τ) (ms2 m hT t) fullShare ((dats m hT 0 c).before 2 t d))
    ∗ (∃ d, owns (c : Thread nD τ) (ms3 m hT t) fullShare ((dats m hT 0 c).before 3 t d))
    ∗ (∃ d, owns (c : Thread nD τ) (ms4 m hT t) fullShare ((dats m hT 0 c).before 4 t d)))
def bodyPost (c : Dev nD) (t : Fin (cfgM m hT).N) : sProp 𝕄 :=
  iprop((dats m hT 0 c).Φ t.succ ∗ (dats m hT 0 c).owesAt () t.succ
    ∗ owns (c : Thread nD τ) (ms0 m hT t) fullShare ((dats m hT 0 c).after 0 t)
    ∗ owns (c : Thread nD τ) (ms1 m hT t) fullShare ((dats m hT 0 c).after 1 t)
    ∗ owns (c : Thread nD τ) (ms2 m hT t) fullShare ((dats m hT 0 c).after 2 t)
    ∗ owns (c : Thread nD τ) (ms3 m hT t) fullShare ((dats m hT 0 c).after 3 t)
    ∗ owns (c : Thread nD τ) (ms4 m hT t) fullShare ((dats m hT 0 c).after 4 t))

abbrev bodyM (t : Fin (cfgM m hT).N) : Prog (TpuEff nD τ sig (Elt F) Λ₀ .tc) PUnit := bodyG (adm m hT) t

set_option maxHeartbeats 4000000 in
theorem sound_body (c : Dev nD) (t : Fin (cfgM m hT).N) :
    bodyPre m hT c t ⊢ wp frame (wpE (defs₀ (F := F)) Variants.none c none) Set.univ (bodyM m hT t) (fun _ => bodyPost m hT c t) := by
  have e0 : (dats m hT 0 c).Φ t.castSucc = iprop(Tab m c ∗ (∃ r, prngReg c r) ∗ Inv c (T0 m c) (T1 m c) (T2 m c) (W0 m c) (W1 m c) (W2 m c) (grid0.coords t 0).val) := by
    rw [co m hT t]; rfl
  have e1 : (dats m hT 0 c).Φ t.succ = iprop(Tab m c ∗ (∃ r, prngReg c r) ∗ Inv c (T0 m c) (T1 m c) (T2 m c) (W0 m c) (W1 m c) (W2 m c) ((grid0.coords t 0).val + 1)) := by
    rw [co m hT t]; rfl
  unfold bodyPre bodyPost
  simp only [before_0, before_1, before_2]
  rw [e0, e1, after_0, after_1, after_2, after_3, after_4]
  unfold Dat.owesAt Pipeline.owesWithin
  rw [show (dats m hT 0 c).owed t.castSucc = 0 from rfl, show (dats m hT 0 c).owed t.succ = 0 from rfl]
  iintro ⟨⟨⟨Ht0, Ht1, Ht2⟩, Hg, HI⟩, ⟨%W, -, HW⟩, ⟨%d0, H0⟩, ⟨%d1, H1⟩, ⟨%d2, H2⟩, ⟨%d3, H3⟩, ⟨%d4, H4⟩⟩
  iapply (prefix_run c (grid0.coords t) fullShare.right (ms0 m hT t) _ (ms1 m hT t) _ (ms2 m hT t) _ (ms3 m hT t) _ (ms4 m hT t) _ (T0 m c) (T1 m c) (T2 m c) (hT c) (W0 m c) (W1 m c) (W2 m c) W _)
  isplitl [Ht0]; · iexact Ht0
  isplitl [Ht1]; · iexact Ht1
  isplitl [Ht2]; · iexact Ht2
  isplitl [HI]; · iexact HI
  isplitl [HW]; · iexact HW
  iintro ⟨Ht0, Ht1, Ht2, HI, ⟨%W', HW'⟩⟩
  iapply (tail_run c (grid0.coords t) fullShare.right (ms0 m hT t) _ (ms1 m hT t) _ (ms2 m hT t) _ (ms3 m hT t) _ (ms4 m hT t) _ (T0 m c) (T1 m c) (T2 m c) (hT c) (W0 m c) (W1 m c) (W2 m c)
    (iblk m hT c 0 t) (iblk m hT c 1 t) (iblk m hT c 2 t) (outs3 m hT c t) (outs4 m hT c t) rfl rfl _)
  isplitl [Ht1]; · iexact Ht1
  isplitl [H0]; · iexact H0
  isplitl [H1]; · iexact H1
  isplitl [H2]; · iexact H2
  isplitl [H3]; · iexists _; iexact H3
  isplitl [H4]; · iexists _; iexact H4
  isplitl [HI]; · iexact HI
  iintro ⟨Ht1, H0, H1, H2, H3, H4, HI⟩
  isplitl [Ht0 Ht1 Ht2 Hg HI]
  · isplitl [Ht0 Ht1 Ht2]
    · isplitl [Ht0]; · iexact Ht0
      isplitl [Ht1]; · iexact Ht1
      iexact Ht2
    isplitl [Hg]; · iexact Hg
    iexact HI
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

theorem body_obligation (c : Dev nD) : BodyObligation (dats m hT 0 c) defs₀ Variants.none () Set.univ :=
  obligation_of (adm m hT) c (dats m hT 0 c) (fun t => idle_3 m hT t) (fun t => idle_4 m hT t) (fun t => sound_body m hT c t)

end steps

end Cert.Kernel3Ideal.Expert

end
-- ==== Proof.ExMain.lean ====
module

public import proofs.«01_k».proof.Proof.ExLaunch

@[expose] public section

set_option maxRecDepth 65536

noncomputable section

/-! The whole grid, launched: the arguments as they were, and the two results in the blocks each step left. -/

namespace Cert.Kernel3Ideal.Expert

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Expert (Tabs)

variable {F : FTy → Type} [FloatOps F]

local notation "𝕄" => MT nD τ sig Unit (Elt F) ℕ (Pipeline.UD sig nD τ) ℕ

abbrev osem0 : Fin 1 → SemLoc sig := fun j => (![SemLoc.dma ⟨10, by decide⟩] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma (SemArray.sem cc0_scratch6)) 0 := by
  rw [Pipeline.ownSems0_eq_of_list c osem0 [0] (by decide) (by decide)]; rfl

/-- The matrices the body's copies read. -/
def H0 : Finset (Ref sig .tc) := {main_v44, main_v46, main_v48}
theorem H0_sub : H0 ⊆ Pipeline.restRefsP sig pre0 spec0 := by decide
theorem hbmPts0_eq (V : (c : Dev nD) → (b : Ref sig .tc) → Buf (Elt F) ((c.tc : Thread nD τ).loc b)) (c : Dev nD) :
    (bigSep H0 (fun b => ((c : Thread nD τ).loc b) ↦{fullShare} V c b) : sProp 𝕄)
      = iprop(pt c main_v44 fullShare (V c main_v44) ∗ pt c main_v46 fullShare (V c main_v46) ∗ pt c main_v48 fullShare (V c main_v48)) := by
  rw [BI.bigSep_eq_bigSepL_of_eq [main_v44, main_v46, main_v48] (by decide) (by decide)]; rfl

theorem PhiD_eq (V : (c : Dev nD) → (b : Ref sig .tc) → Buf (Elt F) ((c.tc : Thread nD τ).loc b)) (c : Dev nD) :
    (Pipeline.ΦD osem0 spec0 H0 V c : sProp 𝕄)
      = iprop(((∃ f, pt c cc0_scratch0 fullShare f) ∗ (∃ f, pt c cc0_scratch1 fullShare f) ∗ (∃ f, pt c cc0_scratch2 fullShare f)
            ∗ (∃ f, pt c cc0_scratch3 fullShare f) ∗ (∃ f, pt c cc0_scratch4 fullShare f) ∗ (∃ f, pt c cc0_scratch5 fullShare f))
          ∗ (∃ r, prngReg c r)
          ∗ semVal ((c : Thread nD τ), SemLoc.dma (SemArray.sem cc0_scratch6)) 0
          ∗ (pt c main_v44 fullShare (V c main_v44) ∗ pt c main_v46 fullShare (V c main_v46) ∗ pt c main_v48 fullShare (V c main_v48))) := by
  rw [Pipeline.ΦD_eq, scopedRest0_eq, ownSems00_eq, hbmPts0_eq]

theorem PhiT_eq (pf : pre0.Contents (Elt F)) (c : Dev nD) :
    (Pipeline.ΦT pre0 pf c : sProp 𝕄)
      = iprop(pt c main_v25 fullShare.right (pf 0) ∗ pt c main_v27 fullShare.right (pf 1) ∗ pt c main_v41 fullShare.right (pf 2)) := by
  unfold Pipeline.ΦT Pipeline.prefHeld
  rw [show (Finset.univ : Finset (Fin 3)) = insert 0 (insert 1 {2}) from by decide, bigSep_insert (by decide), bigSep_insert (by decide), bigSep_singleton]; rfl

section run
variable (m : (ℓ : Loc nD τ sig) → Buf (Elt F) ℓ) (hT : Good m)

theorem start (c : Dev nD) : iprop(Pipeline.ΦD osem0 spec0 H0 (V m) c ∗ Pipeline.ΦT pre0 (tbl m) c)
    ⊢ iprop(Tab m c ∗ (∃ r, prngReg c r) ∗ Inv c (T0 m c) (T1 m c) (T2 m c) (W0 m c) (W1 m c) (W2 m c) 0) := by
  rw [PhiD_eq, PhiT_eq]
  obtain rfl : c = 0 := Subsingleton.elim _ _
  unfold Inv Any Idle
  rw [if_pos rfl]
  iintro ⟨⟨⟨H0, H1, H2, H3, H4, H5⟩, Hg, Hs, Hm⟩, Ht⟩
  isplitl [Ht]; · iexact Ht
  isplitl [Hg]; · iexact Hg
  isplitl [H3 H4 H5]
  · isplitl [H3]; · iexact H3
    isplitl [H4]; · iexact H4
    iexact H5
  isplitl [H0]; · iexact H0
  isplitl [H1]; · iexact H1
  isplitl [H2]; · iexact H2
  isplitl [Hs]; · iexact Hs
  iexact Hm

include hT in
theorem finish (c : Dev nD) : iprop(Tab m c ∗ (∃ r, prngReg c r) ∗ Inv c (T0 m c) (T1 m c) (T2 m c) (W0 m c) (W1 m c) (W2 m c) 288)
    ⊢ Pipeline.ΦD osem0 spec0 H0 (V m) c := by
  rw [PhiD_eq]
  have E := inv_end c (T0 m c) (T1 m c) (T2 m c) (hT c) (W0 m c) (W1 m c) (W2 m c)
  unfold Any Idle at E
  iintro ⟨-, Hg, HI⟩
  ihave ⟨⟨H3, H4, H5⟩, H0, H1, H2, Hs, Hm⟩ := E $$ HI
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [Hg]; · iexact Hg
  isplitl [Hs]; · iexact Hs
  iexact Hm

variable (ρ : Dev nD → PrngReg)

set_option maxHeartbeats 4000000 in
set_option backward.isDefEq.respectTransparency.types false in
theorem run_main : θ_run defs (onTc (τ := τ) (main (F := F))) (s₀ m ρ) (fun r => Pipeline.FramePost (Pipeline.pin pcfgs (fun _ => adm m hT)) (dats m hT) 0 (V m) r ∧ r.2.sem = fun _ => 0) :=
  Pipeline.θ_run_frameP_dma (Q' := _) pcfgs (fun _ => adm m hT) (dats m hT) (0 : Fin 1) launch0 osem0 defs₀ Variants.none ownSemFacts0 H0 H0_sub m ρ main
    (hbody := fun c => (body_obligation m hT c).loose) (hshare := fun c => (dats m hT 0 c).share_full fun _ => rfl)
    (howed := fun _ _ => rfl) (V := V m) (hmain := hmain m Variants.none) (hA := A_eq m hT) (hpf := fun c k => V_pre m c k)
    (hin := fun c => start m c) (hout := fun c => finish m hT c)

end run

end Cert.Kernel3Ideal.Expert

end
-- ==== Proof.ExDone.lean ====
module

public import proofs.«01_k».proof.Proof.ExMain

@[expose] public section

set_option maxRecDepth 16384

noncomputable section

/-! The expert layers' call ends with its arguments as they were and every counter at zero. -/

namespace Cert.Kernel3Ideal.Expert

open Cert.Kernel3Ideal Cert.Kernel3Ideal.Gen
open Idealize.ShloMosaic Idealize.ShloMosaic.TcCoe Idealize.SL.Sem

variable {F : FTy → Type} [FloatOps F] (m : (ℓ : Loc nD τ sig) → Buf (Elt F) ℓ) (hT : Good m)

/-- A buffer outside the windows' arrays. -/
theorem rest0 (b : Ref sig .tc) (h1 : b.isScoped = false) (h2 : ∀ w, (spec0 w).arr.view.ref ≠ b) : b ∈ Pipeline.restRefs sig spec0 := Pipeline.mem_restRefs_of b h1 h2

/-- The arguments are where the launch has them. -/
theorem kept (r : PUnit × MemSt nD τ sig (Elt F)) (h : Pipeline.FramePost (Pipeline.pin pcfgs (fun _ => adm m hT)) (dats m hT) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨((h c).2 main_arg0 (rest0 main_arg0 (by decide) (by decide))).trans (V_main_arg0 m c),
    ((h c).2 main_arg1 (rest0 main_arg1 (by decide) (by decide))).trans (V_main_arg1 m c),
    ((h c).2 main_arg2 (rest0 main_arg2 (by decide) (by decide))).trans (V_main_arg2 m c),
    ((h c).2 main_arg3 (rest0 main_arg3 (by decide) (by decide))).trans (V_main_arg3 m c),
    ((h c).2 main_arg4 (rest0 main_arg4 (by decide) (by decide))).trans (V_main_arg4 m c),
    ((h c).2 main_arg5 (rest0 main_arg5 (by decide) (by decide))).trans (V_main_arg5 m c),
    ((h c).2 main_arg6 (rest0 main_arg6 (by decide) (by decide))).trans (V_main_arg6 m c),
    ((h c).2 main_arg7 (rest0 main_arg7 (by decide) (by decide))).trans (V_main_arg7 m c)⟩

include hT in
/-- The frame. -/
theorem frame (ρ : Dev nD → PrngReg) : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7))
    ∧ r.2.sem = fun _ => 0) :=
  (θ_run defs _ _).mono (fun r h => ⟨kept m hT r h.1, h.2⟩) (run_main m hT ρ)

end Cert.Kernel3Ideal.Expert

end
-- ==== Proof.ExSpec.lean ====
module

public import Idealize.ShloMosaic.Lib.Pointwise

@[expose] public section

noncomputable section

/-! An expert's layer on one row. -/

namespace Cert.Expert.Spec

open Idealize.ShloMosaic

abbrev lim : EReal := Ideal.ofBits .f32 0x40E00000#32
abbrev nlim : EReal := Ideal.ofBits .f32 0xC0E00000#32
abbrev alpha : EReal := Ideal.ofBits .f32 0x3FD9DB23#32

variable (x : Fin 1024 → EReal) (Wg Wu Wd : Fin 1024 → Fin 1024 → EReal) (bg bu bd : Fin 1024 → EReal)

/-- A row through a matrix and a bias. -/
def lin (W : Fin 1024 → Fin 1024 → EReal) (b : Fin 1024 → EReal) (d : Fin 1024) : EReal := (∑ k, x k * W k d) + b d
/-- The clamped gate. -/
def gate (d : Fin 1024) : EReal := min (lin x Wg bg d) lim
/-- The clamped input. -/
def up (d : Fin 1024) : EReal := min lim (max nlim (lin x Wu bu d))
/-- The two multiplied: the gate by its scaled sigmoid by the input and one. -/
def act (d : Fin 1024) : EReal :=
  gate x Wg bg d * Ideal.div 1 (1 + Ideal.exp (-(alpha * gate x Wg bg d))) * (up x Wu bu d + 1)
/-- The layer's row. -/
def y (j : Fin 1024) : EReal := lin (act x Wg Wu bg bu) Wd bd j

end Cert.Expert.Spec

end
-- ==== Proof.ExLay.lean ====
module

public import proofs.«01_k».proof.Proof.ExOut
public import proofs.«01_k».proof.Proof.ExSpec

@[expose] public section

set_option maxRecDepth 16384

noncomputable section

/-! The body's layer on a block, at an index. -/

namespace Cert.Kernel3Ideal.Expert

open Cert.Kernel3Ideal Cert.Kernel3Ideal.Gen
open Idealize.ShloMosaic Idealize.ShloMosaic.TcCoe
open Cert.Expert

section
variable (x4 x5 : Vec Ideal S2048x128 .f32) (x9 : Vec Ideal S1x3x1024 .f32) (w3 w4 w5 : Vec Ideal S1024x1024 .bf16)

/-- A row of the block's input, gathered from its slabs. -/
def xin (r : Fin 512) (k : Fin 1024) : EReal :=
  if h : k.val < 512 then x4 (ix2 ⟨4 * r.val + k.val / 128, by omega⟩ ⟨k.val % 128, by omega⟩)
  else x5 (ix2 ⟨4 * r.val + (k.val - 512) / 128, by omega⟩ ⟨k.val % 128, by omega⟩)

abbrev X11 : FVec Ideal S512x1024 .bf16 :=
  k0_pay11 (gat x4 R0) (gat x4 R1) (gat x4 R2) (gat x4 R3) (gat x5 R0) (gat x5 R1) (gat x5 R2) (gat x5 R3)

theorem pay12_at (a0 a1 a2 a3 a4 a5 a6 a7 : Vec Ideal S512x128 .f32) (w : Vec Ideal S1024x1024 .bf16) (b : Vec Ideal S1x1x1024 .f32) (r : Fin 512) (d : Fin 1024) :
    k0_pay12 a0 a1 a2 a3 a4 a5 a6 a7 w b (ix2 r d) = Spec.gate (fun k => k0_pay11 a0 a1 a2 a3 a4 a5 a6 a7 (ix2 r k)) (fun k d => w (ix2 k d)) (fun d => b (ix3 0 0 d)) d := by
  unfold k0_pay12
  generalize k0_pay11 a0 a1 a2 a3 a4 a5 a6 a7 = H
  unfold Spec.gate Spec.lin
  pointwise

theorem pay13_at (a0 a1 a2 a3 a4 a5 a6 a7 : Vec Ideal S512x128 .f32) (w : Vec Ideal S1024x1024 .bf16) (r : Fin 512) (d : Fin 1024) :
    k0_pay13 a0 a1 a2 a3 a4 a5 a6 a7 w (ix2 r d) = ∑ k, k0_pay11 a0 a1 a2 a3 a4 a5 a6 a7 (ix2 r k) * w (ix2 k d) := by
  unfold k0_pay13
  generalize k0_pay11 a0 a1 a2 a3 a4 a5 a6 a7 = H
  pointwise

theorem pay14_at (g u : FVec Ideal S512x1024 .f32) (b : Vec Ideal S1x1x1024 .f32) (w : Vec Ideal S1024x1024 .bf16) (b' : Vec Ideal S1x1x1024 .f32) (r : Fin 512) (j : Fin 1024) :
    k0_pay14 g u b w b' (ix2 r j)
      = (∑ d, g (ix2 r d) * Ideal.div 1 (1 + Ideal.exp (0 - Spec.alpha * g (ix2 r d))) * (min Spec.lim (max Spec.nlim (u (ix2 r d) + b (ix3 0 0 d))) + 1) * w (ix2 d j)) + b' (ix3 0 0 j) := by
  pointwise [k0_pay14]

theorem pay11_cases (a0 a1 a2 a3 a4 a5 a6 a7 : Vec Ideal S512x128 .f32) (r : Fin 512) (k : Fin 1024) : k0_pay11 a0 a1 a2 a3 a4 a5 a6 a7 (ix2 r k)
    = if h : k.val < 512 then
        if h1 : k.val < 128 then a0 (ix2 r ⟨k.val, h1⟩) else if h2 : k.val - 128 < 128 then a1 (ix2 r ⟨k.val - 128, h2⟩)
        else if h3 : k.val - 128 - 128 < 128 then a2 (ix2 r ⟨k.val - 128 - 128, h3⟩) else a3 (ix2 r ⟨k.val - 128 - 128 - 128, by omega⟩)
      else if h1 : k.val - 512 < 128 then a4 (ix2 r ⟨k.val - 512, h1⟩) else if h2 : k.val - 512 - 128 < 128 then a5 (ix2 r ⟨k.val - 512 - 128, h2⟩)
        else if h3 : k.val - 512 - 128 - 128 < 128 then a6 (ix2 r ⟨k.val - 512 - 128 - 128, h3⟩) else a7 (ix2 r ⟨k.val - 512 - 128 - 128 - 128, by omega⟩) := by
  pointwise [k0_pay11]

theorem gat_at (x : Vec Ideal S2048x128 .f32) (R : LoadRect S2048x128) (j : R.shape.Idx) (a : Fin 2048) (b : Fin 128) (ha : (R.idx j 0).val = a.val) (hb : (R.idx j 1).val = b.val) :
    gat x R j = x (ix2 a b) :=
  congrArg x (funext fun i => Fin.ext (match i with | ⟨0, _⟩ => ha | ⟨1, _⟩ => hb))

theorem pay11_at (r : Fin 512) (k : Fin 1024) : X11 x4 x5 (ix2 r k) = xin x4 x5 r k := by
  refine (pay11_cases _ _ _ _ _ _ _ _ r k).trans ?_
  unfold xin
  split
  · split
    · exact gat_at _ _ _ _ _ (by show 0 + 4 * r.val = 4 * r.val + k.val / 128; omega) (by show 0 + 1 * k.val = k.val % 128; omega)
    split
    · exact gat_at _ _ _ _ _ (by show 1 + 4 * r.val = 4 * r.val + k.val / 128; omega) (by show 0 + 1 * (k.val - 128) = k.val % 128; omega)
    split
    · exact gat_at _ _ _ _ _ (by show 2 + 4 * r.val = 4 * r.val + k.val / 128; omega) (by show 0 + 1 * (k.val - 128 - 128) = k.val % 128; omega)
    · exact gat_at _ _ _ _ _ (by show 3 + 4 * r.val = 4 * r.val + k.val / 128; omega) (by show 0 + 1 * (k.val - 128 - 128 - 128) = k.val % 128; omega)
  · split
    · exact gat_at _ _ _ _ _ (by show 0 + 4 * r.val = 4 * r.val + (k.val - 512) / 128; omega) (by show 0 + 1 * (k.val - 512) = k.val % 128; omega)
    split
    · exact gat_at _ _ _ _ _ (by show 1 + 4 * r.val = 4 * r.val + (k.val - 512) / 128; omega) (by show 0 + 1 * (k.val - 512 - 128) = k.val % 128; omega)
    split
    · exact gat_at _ _ _ _ _ (by show 2 + 4 * r.val = 4 * r.val + (k.val - 512) / 128; omega) (by show 0 + 1 * (k.val - 512 - 128 - 128) = k.val % 128; omega)
    · exact gat_at _ _ _ _ _ (by show 3 + 4 * r.val = 4 * r.val + (k.val - 512) / 128; omega) (by show 0 + 1 * (k.val - 512 - 128 - 128 - 128) = k.val % 128; omega)

/-- The layer's row of the gathered row. -/
theorem lay_at (r : Fin 512) (j : Fin 1024) : lay x4 x5 x9 w3 w4 w5 (ix2 r j)
    = Spec.y (xin x4 x5 r) (fun k d => w3 (ix2 k d)) (fun k d => w4 (ix2 k d)) (fun k d => w5 (ix2 k d))
      (fun d => x9 (ix3 0 0 d)) (fun d => x9 (ix3 0 1 d)) (fun d => x9 (ix3 0 2 d)) j := by
  have e0 : ∀ d, gat x9 U0 (ix3 0 0 d) = x9 (ix3 0 0 d) := fun d => congrArg x9 (by funext a; apply Fin.ext; match a with | ⟨0, _⟩ => rfl | ⟨1, _⟩ => rfl | ⟨2, _⟩ => show 0 + 1 * d.val = d.val; omega)
  have e1 : ∀ d, gat x9 U1 (ix3 0 0 d) = x9 (ix3 0 1 d) := fun d => congrArg x9 (by funext a; apply Fin.ext; match a with | ⟨0, _⟩ => rfl | ⟨1, _⟩ => rfl | ⟨2, _⟩ => show 0 + 1 * d.val = d.val; omega)
  have e2 : ∀ d, gat x9 U2 (ix3 0 0 d) = x9 (ix3 0 2 d) := fun d => congrArg x9 (by funext a; apply Fin.ext; match a with | ⟨0, _⟩ => rfl | ⟨1, _⟩ => rfl | ⟨2, _⟩ => show 0 + 1 * d.val = d.val; omega)
  unfold lay
  rw [pay14_at]
  simp only [pay12_at, pay13_at, pay11_at, zero_sub, e0, e1, e2]
  rfl

end

end Cert.Kernel3Ideal.Expert

end
-- ==== Proof.ExCell.lean ====
module

public import proofs.«01_k».proof.Proof.ExSpec

@[expose] public section

noncomputable section

/-! The experts' layers on all the blocks. -/

namespace Cert.Expert.Spec

open Idealize.ShloMosaic

/-- A block's expert. -/
def ex (be : Fin 288 → BitVec 32) (n : Fin 288) : Fin 32 := ⟨(be n).toNat % 32, Nat.mod_lt _ (by decide)⟩

theorem ex_eq (be : Fin 288 → BitVec 32) (n : Fin 288) (h : (be n).toNat < 32) : ex be n = ⟨(be n).toNat, h⟩ := Fin.ext (Nat.mod_eq_of_lt h)

/-- An entry of a block's result: its row through its block's expert, or zero where the block is not in use. -/
def cell (be : Fin 288 → BitVec 32) (nu : BitVec 32) (x : Fin 147456 → Fin 1024 → EReal) (Wg Wu Wd : Fin 32 → Fin 1024 → Fin 1024 → EReal)
    (bg bu bd : Fin 32 → Fin 1024 → EReal) (n : Fin 288) (r : Fin 512) (j : Fin 1024) : EReal :=
  if n.val < nu.toNat then
    y (x ⟨512 * n.val + r.val, by omega⟩) (Wg (ex be n)) (Wu (ex be n)) (Wd (ex be n)) (bg (ex be n)) (bu (ex be n)) (bd (ex be n)) j
  else 0

end Cert.Expert.Spec

end
-- ==== Proof.ExVal.lean ====
module

public import proofs.«01_k».proof.Proof.ExDat
public import proofs.«01_k».proof.Proof.ExLay
public import Idealize.ShloMosaic.Lib.StableHlo.RunRead
public import Idealize.ShloMosaic.Lib.Pipeline.Value
public import Idealize.ShloMosaic.Lib.ValueLayout
public import Idealize.ShloMosaic.Lib.Pipeline.ValueKit.Geometry

@[expose] public section

set_option maxRecDepth 16384

noncomputable section

/-! The arrays the expert call finds, and the blocks its steps read, at an index. -/

namespace Cert.Kernel3Ideal.Expert

open Cert.Kernel3Ideal Cert.Kernel3Ideal.Gen
open Idealize.ShloMosaic Idealize.ShloMosaic.TcCoe Idealize.SL.Sem
open Cert.Expert

section host
variable (m : (ℓ : Loc nD τ sig) → Buf (Elt Ideal) ℓ) (c : Dev nD)

abbrev M3 : FVec Ideal S147456x1024 .f32 := m ((c.tc : Thread nD τ).loc main_arg1)
abbrev M4 : FVec Ideal S1x32x1024x1024 .f32 := m ((c.tc : Thread nD τ).loc main_arg2)
abbrev M5 : FVec Ideal S1x32x1024 .f32 := m ((c.tc : Thread nD τ).loc main_arg3)
abbrev M6 : FVec Ideal S1x32x1024x1024 .f32 := m ((c.tc : Thread nD τ).loc main_arg4)
abbrev M7 : FVec Ideal S1x32x1024 .f32 := m ((c.tc : Thread nD τ).loc main_arg5)
abbrev M8 : FVec Ideal S1x32x1024x1024 .f32 := m ((c.tc : Thread nD τ).loc main_arg6)
abbrev M9 : FVec Ideal S1x32x1024 .f32 := m ((c.tc : Thread nD τ).loc main_arg7)

theorem lo_at (R : Fin 589824) (l : Fin 128) : (V m c main_v42 : FVec Ideal S589824x128 .f32) (ix2 R l)
    = M3 m c (ix2 ⟨R.val / 4, by omega⟩ ⟨128 * (R.val % 4) + l.val, by omega⟩) := by
  have e5 : V m c main_v42 = shapeCast S589824x128 (extf .f32 (truncf .bf16 (extractStridedSlice S147456x512 ![0, 0] (M3 m c) slices_S147456x1024_S147456x512_0_0)
      bitsLt_bf16_f32) bitsLt_bf16_f32 : FVec Ideal S147456x512 .f32) shapeCasts_S147456x512_S589824x128 := by
    simp only [V, hosts, StableHlo.afterL_cons, StableHlo.afterL_nil]
    after_reads_simp
    rfl
  rw [e5]
  pointwise
  refine congrArg (M3 m c) ((ix2_inj ..).2 ⟨Fin.ext ?_, Fin.ext ?_⟩)
  · simp only []
  · simp only []; omega

theorem hi_at (R : Fin 589824) (l : Fin 128) : (V m c main_v43 : FVec Ideal S589824x128 .f32) (ix2 R l)
    = M3 m c (ix2 ⟨R.val / 4, by omega⟩ ⟨512 + (128 * (R.val % 4) + l.val), by omega⟩) := by
  have e5 : V m c main_v43 = shapeCast S589824x128 (extf .f32 (truncf .bf16 (extractStridedSlice S147456x512 ![0, 512] (M3 m c) slices_S147456x1024_S147456x512_0_512)
      bitsLt_bf16_f32) bitsLt_bf16_f32 : FVec Ideal S147456x512 .f32) shapeCasts_S147456x512_S589824x128 := by
    simp only [V, hosts, StableHlo.afterL_cons, StableHlo.afterL_nil]
    after_reads_simp
    rfl
  rw [e5]
  pointwise
  refine congrArg (M3 m c) ((ix2_inj ..).2 ⟨Fin.ext ?_, Fin.ext ?_⟩)
  · simp only []
  · simp only []; omega

theorem wg_at (e : Fin 32) (k d : Fin 1024) : (V m c main_v44 : FVec Ideal S32x1024x1024 .f32) (ix3 e k d) = M4 m c (ix4 0 e k d) := by
  have e5 : V m c main_v44 = shapeCast S32x1024x1024 (M4 m c) shapeCasts_S1x32x1024x1024_S32x1024x1024 := by
    simp only [V, hosts, StableHlo.afterL_cons, StableHlo.afterL_nil]
    after_reads_simp
    rfl
  rw [e5]
  pointwise
theorem wu_at (e : Fin 32) (k d : Fin 1024) : (V m c main_v46 : FVec Ideal S32x1024x1024 .f32) (ix3 e k d) = M6 m c (ix4 0 e k d) := by
  have e5 : V m c main_v46 = shapeCast S32x1024x1024 (M6 m c) shapeCasts_S1x32x1024x1024_S32x1024x1024 := by
    simp only [V, hosts, StableHlo.afterL_cons, StableHlo.afterL_nil]
    after_reads_simp
    rfl
  rw [e5]
  pointwise
theorem wd_at (e : Fin 32) (k d : Fin 1024) : (V m c main_v48 : FVec Ideal S32x1024x1024 .f32) (ix3 e k d) = M8 m c (ix4 0 e k d) := by
  have e5 : V m c main_v48 = shapeCast S32x1024x1024 (M8 m c) shapeCasts_S1x32x1024x1024_S32x1024x1024 := by
    simp only [V, hosts, StableHlo.afterL_cons, StableHlo.afterL_nil]
    after_reads_simp
    rfl
  rw [e5]
  pointwise

abbrev row1 (b : FVec Ideal S1x32x1024 .f32) : FVec Ideal S32x1x1024 .f32 :=
  broadcastInDim S32x1x1024 ![0, 2] bcast_S32x1024_S32x1x1024_0_2 (shapeCast S32x1024 b shapeCasts_S1x32x1024_S32x1024)

theorem bias_eq : (V m c main_v53 : FVec Ideal S32x3x1024 .f32)
    = concatenate S32x3x1024 1 [⟨S32x1x1024, row1 (M5 m c)⟩, ⟨S32x1x1024, row1 (M7 m c)⟩, ⟨S32x1x1024, row1 (M9 m c)⟩]
        concatenates_S32x1x1024_S32x1x1024_S32x1x1024_S32x3x1024_d1 := by
  simp only [V, hosts, StableHlo.afterL_cons, StableHlo.afterL_nil]
  after_reads_simp
  rfl

theorem bg_at (e : Fin 32) (d : Fin 1024) : (V m c main_v53 : FVec Ideal S32x3x1024 .f32) (ix3 e 0 d) = M5 m c (ix3 0 e d) := by
  rw [bias_eq]
  pointwise
theorem bu_at (e : Fin 32) (d : Fin 1024) : (V m c main_v53 : FVec Ideal S32x3x1024 .f32) (ix3 e 1 d) = M7 m c (ix3 0 e d) := by
  rw [bias_eq]
  pointwise
theorem bd_at (e : Fin 32) (d : Fin 1024) : (V m c main_v53 : FVec Ideal S32x3x1024 .f32) (ix3 e 2 d) = M9 m c (ix3 0 e d) := by
  rw [bias_eq]
  pointwise

end host

/-! ## The blocks -/

section blocks
variable (c : Dev nD)

theorem full_idx (k d : Fin 1024) : (Rect.unit (s := S1024x1024) ![0, 0] S1024x1024.size inb_S1024x1024_S1024x1024_0_0).idx (ix2 k d) = ix2 k d := by
  funext a
  match a with
  | ⟨0, _⟩ => exact Fin.ext (by show 0 + 1 * k.val = k.val; omega)
  | ⟨1, _⟩ => exact Fin.ext (by show 0 + 1 * d.val = d.val; omega)

theorem mat_idx (e : BitVec 32) (h : ∀ a, (k0_off3 e) a + S1x1024x1024.size a ≤ S32x1024x1024.size a) (he : e.toNat < 32)
    (hq : S1024x1024.numel = S1x1024x1024.numel) (k d : Fin 1024) :
    (Rect.unit (s := S32x1024x1024) (k0_off3 e) S1x1024x1024.size h).idx (Shape.reshapeEquiv hq (ix2 k d)) = ix3 ⟨e.toNat, he⟩ k d := by
  have e1 : Shape.reshapeEquiv hq (ix2 k d) = ix3 0 k d := Idealize.ShloMosaic.ValueIdx.reshapeEquiv_ix2_1ab hq k d
  rw [e1]
  funext a
  match a with
  | ⟨0, _⟩ => exact Fin.ext (by show e.toNat + 1 * 0 = e.toNat; omega)
  | ⟨1, _⟩ => exact Fin.ext (by show 0 + 1 * k.val = k.val; omega)
  | ⟨2, _⟩ => exact Fin.ext (by show 0 + 1 * d.val = d.val; omega)

theorem gate_read (e : BitVec 32) (h) (he : e.toNat < 32) (f : FVec Ideal S32x1024x1024 .f32) (k d : Fin 1024) :
    ld3 (F := Ideal) (bf3 (F := Ideal) c e h f) (ix2 k d) = f (ix3 ⟨e.toNat, he⟩ k d) := by
  have e1 : ld3 (F := Ideal) (bf3 (F := Ideal) c e h f) (ix2 k d) = k0_pay1 (F := Ideal) ((src (Memref.whole main_v44) e h).view.read (Elt Ideal) f) (ix2 k d) := by
    unfold ld3 bf3
    rw [(Memref.isWhole_whole cc0_scratch3).readAt_unread]
    exact congrArg (k0_pay1 (F := Ideal) ((src (Memref.whole main_v44) e h).view.read (Elt Ideal) f)) (full_idx k d)
  have e2 : ∀ v : FVec Ideal S1024x1024 .f32, k0_pay1 (F := Ideal) v (ix2 k d) = v (ix2 k d) := fun v => by
    unfold k0_pay1
    pointwise
  rw [e1, e2]
  exact congrArg f (mat_idx e h he _ k d)

theorem up_read (e : BitVec 32) (h) (he : e.toNat < 32) (f : FVec Ideal S32x1024x1024 .f32) (k d : Fin 1024) :
    ld4 (F := Ideal) (bf4 (F := Ideal) c e h f) (ix2 k d) = f (ix3 ⟨e.toNat, he⟩ k d) := by
  have e1 : ld4 (F := Ideal) (bf4 (F := Ideal) c e h f) (ix2 k d) = k0_pay2 (F := Ideal) ((src (Memref.whole main_v46) e h).view.read (Elt Ideal) f) (ix2 k d) := by
    unfold ld4 bf4
    rw [(Memref.isWhole_whole cc0_scratch4).readAt_unread]
    exact congrArg (k0_pay2 (F := Ideal) ((src (Memref.whole main_v46) e h).view.read (Elt Ideal) f)) (full_idx k d)
  have e2 : ∀ v : FVec Ideal S1024x1024 .f32, k0_pay2 (F := Ideal) v (ix2 k d) = v (ix2 k d) := fun v => by
    unfold k0_pay2
    pointwise
  rw [e1, e2]
  exact congrArg f (mat_idx e h he _ k d)

theorem down_read (e : BitVec 32) (h) (he : e.toNat < 32) (f : FVec Ideal S32x1024x1024 .f32) (k d : Fin 1024) :
    ld5 (F := Ideal) (bf5 (F := Ideal) c e h f) (ix2 k d) = f (ix3 ⟨e.toNat, he⟩ k d) := by
  have e1 : ld5 (F := Ideal) (bf5 (F := Ideal) c e h f) (ix2 k d) = k0_pay3 (F := Ideal) ((src (Memref.whole main_v48) e h).view.read (Elt Ideal) f) (ix2 k d) := by
    unfold ld5 bf5
    rw [(Memref.isWhole_whole cc0_scratch5).readAt_unread]
    exact congrArg (k0_pay3 (F := Ideal) ((src (Memref.whole main_v48) e h).view.read (Elt Ideal) f)) (full_idx k d)
  have e2 : ∀ v : FVec Ideal S1024x1024 .f32, k0_pay3 (F := Ideal) v (ix2 k d) = v (ix2 k d) := fun v => by
    unfold k0_pay3
    pointwise
  rw [e1, e2]
  exact congrArg f (mat_idx e h he _ k d)

variable (a : (pcfg0 (F := Ideal)).Adm) (t : Fin (cfg0 a).N)

theorem blk0 (n : ℕ) (h : ((cfg0 a).win 0).index t = ![n, 0]) (hn : n < 288) (A : FVec Ideal S589824x128 .f32) (y : Fin 2048) (l : Fin 128) :
    ((((cfg0 a).win 0).blk t).view.read (Elt Ideal) A : FVec Ideal S2048x128 .f32) (ix2 y l) = A (ix2 ⟨n * 2048 + y.val, by omega⟩ l) := by
  blk_ext [h]
theorem blk1 (n : ℕ) (h : ((cfg0 a).win 1).index t = ![n, 0]) (hn : n < 288) (A : FVec Ideal S589824x128 .f32) (y : Fin 2048) (l : Fin 128) :
    ((((cfg0 a).win 1).blk t).view.read (Elt Ideal) A : FVec Ideal S2048x128 .f32) (ix2 y l) = A (ix2 ⟨n * 2048 + y.val, by omega⟩ l) := by
  blk_ext [h]
theorem blk2 (n : ℕ) (h : ((cfg0 a).win 2).index t = ![n, 0, 0]) (hn : n < 32) (A : FVec Ideal S32x3x1024 .f32) (s : Fin 3) (d : Fin 1024) :
    ((((cfg0 a).win 2).blk t).view.read (Elt Ideal) A : FVec Ideal S1x3x1024 .f32) (ix3 0 s d) = A (ix3 ⟨n, hn⟩ s d) := by
  blk_ext [h]

theorem index3 : ((cfg0 a).win 3).index t = ![t.val, 0] :=
  (by decide +kernel : ∀ t : Fin grid0.N, cc0_transform_6 (grid0.coords t) = ![t.val, 0]) t
theorem index4 : ((cfg0 a).win 4).index t = ![t.val, 0] :=
  (by decide +kernel : ∀ t : Fin grid0.N, cc0_transform_7 (grid0.coords t) = ![t.val, 0]) t
theorem flush3 : ((cfg0 a).win 3).flush t = true := by
  rw [Pipeline.Window.flush_eq_flushOf]
  exact (by decide +kernel : ∀ t : Fin grid0.N, Pipeline.Window.flushOf grid0 true cc0_transform_6 t = true) t
theorem flush4 : ((cfg0 a).win 4).flush t = true := by
  rw [Pipeline.Window.flush_eq_flushOf]
  exact (by decide +kernel : ∀ t : Fin grid0.N, Pipeline.Window.flushOf grid0 true cc0_transform_7 t = true) t

theorem lt288 : t.val < 288 := lt_of_lt_of_eq t.isLt (N_eq : grid0.N = 288)

theorem blk3 (A : FVec Ideal S589824x128 .f32) (y : Fin 2048) (l : Fin 128) :
    ((((cfg0 a).win 3).blk t).view.read (Elt Ideal) A : FVec Ideal S2048x128 .f32) (ix2 y l) = A (ix2 ⟨t.val * 2048 + y.val, by have := lt288 a t; omega⟩ l) := by
  blk_ext [index3 a t]
theorem blk4 (A : FVec Ideal S589824x128 .f32) (y : Fin 2048) (l : Fin 128) :
    ((((cfg0 a).win 4).blk t).view.read (Elt Ideal) A : FVec Ideal S2048x128 .f32) (ix2 y l) = A (ix2 ⟨t.val * 2048 + y.val, by have := lt288 a t; omega⟩ l) := by
  blk_ext [index4 a t]
theorem cut3 (A : FVec Ideal S2048x128 .f32) (y : Fin 2048) (l : Fin 128) :
    (((cfg0 a).win 3).cut (grid0.coords t) A : FVec Ideal S2048x128 .f32) (ix2 y l) = A (ix2 y l) := by
  blk_ext [index3 a t]
theorem cut4 (A : FVec Ideal S2048x128 .f32) (y : Fin 2048) (l : Fin 128) :
    (((cfg0 a).win 4).cut (grid0.coords t) A : FVec Ideal S2048x128 .f32) (ix2 y l) = A (ix2 y l) := by
  blk_ext [index4 a t]

end blocks

end Cert.Kernel3Ideal.Expert

end
-- ==== Proof.ExArr.lean ====
module

public import proofs.«01_k».proof.Proof.ExVal
public import proofs.«01_k».proof.Proof.ExCell

@[expose] public section

set_option maxRecDepth 16384

noncomputable section

/-! The expert call's two results at an index. -/

namespace Cert.Kernel3Ideal.Expert

open Cert.Kernel3Ideal Cert.Kernel3Ideal.Gen
open Idealize.ShloMosaic Idealize.ShloMosaic.TcCoe Idealize.SL.Sem
open Cert.Expert

/-- The layer, of what its blocks are at an index. -/
theorem lay_eq (x4 x5 : Vec Ideal S2048x128 .f32) (x9 : Vec Ideal S1x3x1024 .f32) (w3 w4 w5 : Vec Ideal S1024x1024 .bf16) (r : Fin 512) (j : Fin 1024)
    (x : Fin 1024 → EReal) (Wg Wu Wd : Fin 1024 → Fin 1024 → EReal) (bg bu bd : Fin 1024 → EReal)
    (hx : ∀ k, xin x4 x5 r k = x k) (hg : ∀ k d, w3 (ix2 k d) = Wg k d) (hu : ∀ k d, w4 (ix2 k d) = Wu k d) (hd : ∀ k d, w5 (ix2 k d) = Wd k d)
    (hbg : ∀ d, x9 (ix3 0 0 d) = bg d) (hbu : ∀ d, x9 (ix3 0 1 d) = bu d) (hbd : ∀ d, x9 (ix3 0 2 d) = bd d) :
    lay x4 x5 x9 w3 w4 w5 (ix2 r j) = Spec.y x Wg Wu Wd bg bu bd j := by
  rw [lay_at, show xin x4 x5 r = x from funext hx, show (fun k d => w3 (ix2 k d)) = Wg from funext fun k => funext (hg k),
    show (fun k d => w4 (ix2 k d)) = Wu from funext fun k => funext (hu k), show (fun k d => w5 (ix2 k d)) = Wd from funext fun k => funext (hd k),
    show (fun d => x9 (ix3 0 0 d)) = bg from funext hbg, show (fun d => x9 (ix3 0 1 d)) = bu from funext hbu, show (fun d => x9 (ix3 0 2 d)) = bd from funext hbd]

theorem xin_lo (x4 x5 : Vec Ideal S2048x128 .f32) (r : Fin 512) (k : Fin 1024) (hk : k.val < 512) :
    xin x4 x5 r k = x4 (ix2 ⟨4 * r.val + k.val / 128, by omega⟩ ⟨k.val % 128, by omega⟩) := dif_pos hk
theorem xin_hi (x4 x5 : Vec Ideal S2048x128 .f32) (r : Fin 512) (k : Fin 1024) (hk : ¬ k.val < 512) :
    xin x4 x5 r k = x5 (ix2 ⟨4 * r.val + (k.val - 512) / 128, by omega⟩ ⟨k.val % 128, by omega⟩) := dif_neg hk

theorem zero9 (y : Fin 2048) (l : Fin 128) : k0_pay9 (F := Ideal) (ix2 y l) = 0 := by
  pointwise [k0_pay9]
theorem zero10 (y : Fin 2048) (l : Fin 128) : k0_pay10 (F := Ideal) (ix2 y l) = 0 := by
  pointwise [k0_pay10]
theorem outA_at (L : FVec Ideal S512x1024 .f32) (y : Fin 2048) (l : Fin 128) : outA L (ix2 y l) = L (ix2 ⟨y.val / 4, by omega⟩ ⟨128 * (y.val % 4) + l.val, by omega⟩) := rfl
theorem outB_at (L : FVec Ideal S512x1024 .f32) (y : Fin 2048) (l : Fin 128) : outB L (ix2 y l) = L (ix2 ⟨y.val / 4, by omega⟩ ⟨512 + (128 * (y.val % 4) + l.val), by omega⟩) := by
  refine congrArg L ((ix2_inj ..).2 ⟨rfl, Fin.ext ?_⟩)
  show 512 + 128 * (y.val % 4) + l.val = 512 + (128 * (y.val % 4) + l.val)
  omega

variable (m : (ℓ : Loc nD τ sig) → Buf (Elt Ideal) ℓ) (hT : Good m) (c : Dev nD)

/-- An entry of the result, of the call's arguments. -/
abbrev cell (n : Fin 288) (r : Fin 512) (j : Fin 1024) : EReal :=
  Spec.cell (fun n => T0 m c (ix1 n)) (T1 m c (ix1 0)) (fun R k => M3 m c (ix2 R k)) (fun e k d => M4 m c (ix4 0 e k d)) (fun e k d => M6 m c (ix4 0 e k d))
    (fun e k d => M8 m c (ix4 0 e k d)) (fun e d => M5 m c (ix3 0 e d)) (fun e d => M7 m c (ix3 0 e d)) (fun e d => M9 m c (ix3 0 e d)) n r j

section step
variable (t : Fin (cfgM m hT).N)

/-- A step's number. -/
noncomputable def num : Fin 288 := ⟨t.val, lt288 _ t⟩

theorem index0 : ((cfgM m hT).win 0).index t = ![min (grid0.coords t 0).val (nuN (T1 m 0) - 1), 0] := tr0 hT (grid0.coords t)
theorem index1 : ((cfgM m hT).win 1).index t = ![min (grid0.coords t 0).val (nuN (T1 m 0) - 1), 0] := tr1 hT (grid0.coords t)
theorem index2 : ((cfgM m hT).win 2).index t = ![(T0 m 0 (ix1 (grid0.coords t 0))).toNat, 0, 0] := tr5 (grid0.coords t)

theorem be_t : T0 m c (ix1 (grid0.coords t 0)) = T0 m c (ix1 (num m hT t)) := congrArg (fun q => T0 m c (ix1 q)) (Fin.ext (co m hT t))
theorem Et_t : Et (T0 m c) (grid0.coords t 0).val = T0 m c (ix1 (num m hT t)) := by
  unfold Et
  refine congrArg (fun q => T0 m c (ix1 q)) (Fin.ext ?_)
  have h := co m hT t
  have h' := lt288 _ t
  show min (grid0.coords t 0).val 287 = t.val
  omega

theorem lay_t (hu : t.val < nuN (T1 m c)) (r : Fin 512) (j : Fin 1024) : layAt m hT c t (ix2 r j)
    = Spec.y (fun k => M3 m c (ix2 ⟨512 * t.val + r.val, by have := lt288 _ t; omega⟩ k))
        (fun k d => M4 m c (ix4 0 (Spec.ex (fun n => T0 m c (ix1 n)) (num m hT t)) k d)) (fun k d => M6 m c (ix4 0 (Spec.ex (fun n => T0 m c (ix1 n)) (num m hT t)) k d))
        (fun k d => M8 m c (ix4 0 (Spec.ex (fun n => T0 m c (ix1 n)) (num m hT t)) k d)) (fun d => M5 m c (ix3 0 (Spec.ex (fun n => T0 m c (ix1 n)) (num m hT t)) d))
        (fun d => M7 m c (ix3 0 (Spec.ex (fun n => T0 m c (ix1 n)) (num m hT t)) d)) (fun d => M9 m c (ix3 0 (Spec.ex (fun n => T0 m c (ix1 n)) (num m hT t)) d)) j := by
  obtain rfl : c = 0 := Subsingleton.elim _ _
  have hl := lt288 _ t
  have hco := co m hT t
  have hE : (T0 m 0 (ix1 (num m hT t))).toNat < 32 := (hT 0).hE _
  have hmin : min (grid0.coords t 0).val (nuN (T1 m 0) - 1) = t.val := by omega
  have hEt : (Et (T0 m 0) (grid0.coords t 0).val).toNat < 32 := by rw [Et_t]; exact hE
  have hex : (⟨(Et (T0 m 0) (grid0.coords t 0).val).toNat, hEt⟩ : Fin 32) = Spec.ex (fun n => T0 m 0 (ix1 n)) (num m hT t) := by
    rw [Spec.ex_eq (fun n => T0 m 0 (ix1 n)) (num m hT t) hE]
    exact Fin.ext (congrArg BitVec.toNat (Et_t m hT 0 t))
  have hi0 : ((cfgM m hT).win 0).index t = ![t.val, 0] := (index0 m hT t).trans (by rw [hmin])
  have hi1 : ((cfgM m hT).win 1).index t = ![t.val, 0] := (index1 m hT t).trans (by rw [hmin])
  have hi2 : ((cfgM m hT).win 2).index t = ![(T0 m 0 (ix1 (num m hT t))).toNat, 0, 0] := (index2 m hT t).trans (by rw [be_t m hT 0 t])
  have hb : ∀ (s : Fin 3) (d : Fin 1024), (iblk m hT 0 2 t : FVec Ideal S1x3x1024 .f32) (ix3 0 s d)
      = (V m 0 main_v53 : FVec Ideal S32x3x1024 .f32) (ix3 (Spec.ex (fun n => T0 m 0 (ix1 n)) (num m hT t)) s d) := fun s d => by
    rw [Spec.ex_eq (fun n => T0 m 0 (ix1 n)) (num m hT t) hE]
    exact blk2 (adm m hT) t _ hi2 hE (V m 0 main_v53) s d
  unfold layAt
  refine lay_eq _ _ _ _ _ _ r j _ _ _ _ _ _ _ ?_ ?_ ?_ ?_ ?_ ?_ ?_
  · intro k
    by_cases hk : k.val < 512
    · refine (xin_lo _ _ r k hk).trans ?_
      refine (blk0 (adm m hT) t _ hi0 hl (V m 0 main_v42) _ _).trans ((lo_at m 0 _ _).trans (congrArg (M3 m 0) ((ix2_inj ..).2 ⟨Fin.ext ?_, Fin.ext ?_⟩)))
      · show (t.val * 2048 + (4 * r.val + k.val / 128)) / 4 = 512 * t.val + r.val
        omega
      · show 128 * ((t.val * 2048 + (4 * r.val + k.val / 128)) % 4) + k.val % 128 = k.val
        omega
    · refine (xin_hi _ _ r k hk).trans ?_
      refine (blk1 (adm m hT) t _ hi1 hl (V m 0 main_v43) _ _).trans ((hi_at m 0 _ _).trans (congrArg (M3 m 0) ((ix2_inj ..).2 ⟨Fin.ext ?_, Fin.ext ?_⟩)))
      · show (t.val * 2048 + (4 * r.val + (k.val - 512) / 128)) / 4 = 512 * t.val + r.val
        omega
      · show 512 + (128 * ((t.val * 2048 + (4 * r.val + (k.val - 512) / 128)) % 4) + k.val % 128) = k.val
        omega
  · intro k d
    rw [← hex]
    exact (gate_read 0 _ _ hEt (V m 0 main_v44) k d).trans (wg_at m 0 _ k d)
  · intro k d
    rw [← hex]
    exact (up_read 0 _ _ hEt (V m 0 main_v46) k d).trans (wu_at m 0 _ k d)
  · intro k d
    rw [← hex]
    exact (down_read 0 _ _ hEt (V m 0 main_v48) k d).trans (wd_at m 0 _ k d)
  · intro d
    exact (hb 0 d).trans (bg_at m 0 _ d)
  · intro d
    exact (hb 1 d).trans (bu_at m 0 _ d)
  · intro d
    exact (hb 2 d).trans (bd_at m 0 _ d)

theorem outs3_at (y : Fin 2048) (l : Fin 128) : outs3 m hT c t (ix2 y l)
    = cell m c (num m hT t) ⟨y.val / 4, by omega⟩ ⟨128 * (y.val % 4) + l.val, by omega⟩ := by
  have hco := co m hT t
  unfold outs3 cell Spec.cell
  by_cases h : t.val < nuN (T1 m c)
  · rw [if_pos (by rw [hco]; exact h), if_pos (show (num m hT t).val < BitVec.toNat (T1 m c (ix1 0)) from h), outA_at, lay_t m hT c t h]
    rfl
  · rw [if_neg (by rw [hco]; exact h), if_neg (show ¬ (num m hT t).val < BitVec.toNat (T1 m c (ix1 0)) from h), zero9]

theorem outs4_at (y : Fin 2048) (l : Fin 128) : outs4 m hT c t (ix2 y l)
    = cell m c (num m hT t) ⟨y.val / 4, by omega⟩ ⟨512 + (128 * (y.val % 4) + l.val), by omega⟩ := by
  have hco := co m hT t
  unfold outs4 cell Spec.cell
  by_cases h : t.val < nuN (T1 m c)
  · rw [if_pos (by rw [hco]; exact h), if_pos (show (num m hT t).val < BitVec.toNat (T1 m c (ix1 0)) from h), outB_at, lay_t m hT c t h]
    rfl
  · rw [if_neg (by rw [hco]; exact h), if_neg (show ¬ (num m hT t).val < BitVec.toNat (T1 m c (ix1 0)) from h), zero10]

theorem flushed3 : (dats m hT 0 c).flushed 3 t = ((cfgM m hT).win 3).cut (grid0.coords t) (outs3 m hT c t) := by
  show ((cfgM m hT).win 3).cut (grid0.coords t) ((dats m hT 0 c).after 3 t) = _
  rw [after_3]
theorem flushed4 : (dats m hT 0 c).flushed 4 t = ((cfgM m hT).win 4).cut (grid0.coords t) (outs4 m hT c t) := by
  show ((cfgM m hT).win 4).cut (grid0.coords t) ((dats m hT 0 c).after 4 t) = _
  rw [after_4]

end step

theorem inj3 (a : (pcfg0 (F := Ideal)).Adm) (t t' : Fin (cfg0 a).N) (h : ((cfg0 a).win 3).index t = ((cfg0 a).win 3).index t') : t = t' := by
  rw [index3, index3] at h
  exact Fin.ext (congrFun h 0)
theorem inj4 (a : (pcfg0 (F := Ideal)).Adm) (t t' : Fin (cfg0 a).N) (h : ((cfg0 a).win 4).index t = ((cfg0 a).win 4).index t') : t = t' := by
  rw [index4, index4] at h
  exact Fin.ext (congrFun h 0)

theorem blocks3 (t : Fin (cfgM m hT).N) : (((cfgM m hT).win 3).blk t).view.read (Elt Ideal) ((dats m hT 0 c).arrAt 3 (cfgM m hT).N) = (dats m hT 0 c).flushed 3 t :=
  (dats m hT 0 c).read_blk_arrAt_eq_flushed 3 (fun t t' _ _ hne => ((cfgM m hT).win 3).disjoint_blk fun h => hne (inj3 _ t t' h)) (cfgM m hT).N t t.isLt (flush3 _ t)
theorem blocks4 (t : Fin (cfgM m hT).N) : (((cfgM m hT).win 4).blk t).view.read (Elt Ideal) ((dats m hT 0 c).arrAt 4 (cfgM m hT).N) = (dats m hT 0 c).flushed 4 t :=
  (dats m hT 0 c).read_blk_arrAt_eq_flushed 4 (fun t t' _ _ hne => ((cfgM m hT).win 4).disjoint_blk fun h => hne (inj4 _ t t' h)) (cfgM m hT).N t t.isLt (flush4 _ t)

/-- The step that writes a row. -/
noncomputable def stepOf (R : Fin 589824) : Fin (cfgM m hT).N := ⟨R.val / 2048, lt_of_lt_of_eq (by omega : R.val / 2048 < 288) (N_eq : grid0.N = 288).symm⟩

theorem split (R : Fin 589824) (h : (stepOf m hT R).val * 2048 + R.val % 2048 < 589824) : (⟨(stepOf m hT R).val * 2048 + R.val % 2048, h⟩ : Fin 589824) = R :=
  Fin.ext (by show R.val / 2048 * 2048 + R.val % 2048 = R.val; omega)

/-- The first result. -/
theorem res0 (R : Fin 589824) (l : Fin 128) : ((dats m hT 0 c).arrAt 3 (cfgM m hT).N : FVec Ideal S589824x128 .f32) (ix2 R l)
    = cell m c ⟨R.val / 2048, by omega⟩ ⟨R.val / 4 % 512, by omega⟩ ⟨128 * (R.val % 4) + l.val, by omega⟩ := by
  have e := congrFun (blocks3 m hT c (stepOf m hT R)) (ix2 ⟨R.val % 2048, by omega⟩ l)
  rw [flushed3] at e
  refine (congrArg (fun q => ((dats m hT 0 c).arrAt 3 (cfgM m hT).N : FVec Ideal S589824x128 .f32) (ix2 q l)) (split m hT R _).symm).trans
    ((blk3 (adm m hT) (stepOf m hT R) _ _ _).symm.trans (e.trans ((cut3 (adm m hT) (stepOf m hT R) _ _ _).trans ((outs3_at m hT c _ _ _).trans ?_))))
  have e1 : (⟨R.val % 2048 / 4, by omega⟩ : Fin 512) = ⟨R.val / 4 % 512, by omega⟩ := Fin.ext (by show R.val % 2048 / 4 = R.val / 4 % 512; omega)
  have e2 : (⟨128 * (R.val % 2048 % 4) + l.val, by omega⟩ : Fin 1024) = ⟨128 * (R.val % 4) + l.val, by omega⟩ := Fin.ext (by show 128 * (R.val % 2048 % 4) + l.val = 128 * (R.val % 4) + l.val; omega)
  exact congrArg₂ (fun a b => cell m c ⟨R.val / 2048, by omega⟩ a b) e1 e2

/-- The second. -/
theorem res1 (R : Fin 589824) (l : Fin 128) : ((dats m hT 0 c).arrAt 4 (cfgM m hT).N : FVec Ideal S589824x128 .f32) (ix2 R l)
    = cell m c ⟨R.val / 2048, by omega⟩ ⟨R.val / 4 % 512, by omega⟩ ⟨512 + (128 * (R.val % 4) + l.val), by omega⟩ := by
  have e := congrFun (blocks4 m hT c (stepOf m hT R)) (ix2 ⟨R.val % 2048, by omega⟩ l)
  rw [flushed4] at e
  refine (congrArg (fun q => ((dats m hT 0 c).arrAt 4 (cfgM m hT).N : FVec Ideal S589824x128 .f32) (ix2 q l)) (split m hT R _).symm).trans
    ((blk4 (adm m hT) (stepOf m hT R) _ _ _).symm.trans (e.trans ((cut4 (adm m hT) (stepOf m hT R) _ _ _).trans ((outs4_at m hT c _ _ _).trans ?_))))
  have e1 : (⟨R.val % 2048 / 4, by omega⟩ : Fin 512) = ⟨R.val / 4 % 512, by omega⟩ := Fin.ext (by show R.val % 2048 / 4 = R.val / 4 % 512; omega)
  have e2 : (⟨512 + (128 * (R.val % 2048 % 4) + l.val), by omega⟩ : Fin 1024) = ⟨512 + (128 * (R.val % 4) + l.val), by omega⟩ :=
    Fin.ext (by show 512 + (128 * (R.val % 2048 % 4) + l.val) = 512 + (128 * (R.val % 4) + l.val); omega)
  exact congrArg₂ (fun a b => cell m c ⟨R.val / 2048, by omega⟩ a b) e1 e2

end Cert.Kernel3Ideal.Expert

end
-- ==== Proof.ExRefAt.lean ====
module

public import proofs.«01_k».proof.Proof.Gen.Reference3Ideal.Run
public import proofs.«01_k».proof.Proof.Gen.Reference3Ideal.Step
public import proofs.«01_k».proof.Proof.ExSpec
public import Idealize.ShloMosaic.Lib.DynamicIndex
public import Idealize.ShloMosaic.Lib.Pipeline.Value

@[expose] public section

set_option maxRecDepth 16384

noncomputable section

/-! The expert reference's trip at an index. -/

namespace Cert.Expert.Ref

open Idealize.ShloMosaic Idealize.ShloMosaic.TcCoe Idealize.ShloMosaic.StableHlo Idealize.SL.Sem Cert.Reference3Ideal Cert.Reference3Ideal.Gen Cert.Reference3Ideal.Step

/-- A trip's number, as an integer. -/
theorem num_toInt (k : ℕ) (hk : k < 288) : (BitVec.ofNat 32 k).toInt = (k : ℤ) := by
  rw [BitVec.toInt_eq_toNat_of_lt] <;> rw [BitVec.toNat_ofNat] <;> omega

theorem small_toInt (b : BitVec 32) (hb : b.toNat < 32) : b.toInt = (b.toNat : ℤ) := BitVec.toInt_eq_toNat_of_lt (by omega)

theorem slices3 (a n p k : ℕ) (hk : k < a) : (⟨3, ![a, n, p]⟩ : Shape).Slices (![k, 0, 0] : Fin 3 → ℕ) ⟨3, ![1, n, p]⟩ :=
  ⟨rfl, fun i =>
    match i with
    | 0 => hk
    | 1 => by show 0 + n ≤ n; omega
    | 2 => by show 0 + p ≤ p; omega⟩
theorem slices2 (a n k : ℕ) (hk : k < a) : (⟨2, ![a, n]⟩ : Shape).Slices (![k, 0] : Fin 2 → ℕ) ⟨2, ![1, n]⟩ :=
  ⟨rfl, fun i =>
    match i with
    | 0 => hk
    | 1 => by show 0 + n ≤ n; omega⟩
theorem slices1 (a k : ℕ) (hk : k < a) : (⟨1, ![a]⟩ : Shape).Slices (![k] : Fin 1 → ℕ) ⟨1, ![1]⟩ :=
  ⟨rfl, fun i =>
    match i with
    | 0 => hk⟩

/-! ## The operations a trip makes, with their slices at a place -/

/-- A row of the block. -/
theorem x_at (X : FVec Ideal S288x512x1024 .f32) (k : ℕ) (hk : k < 288) (s3 : Fin 3 → ℤ) (h3 : ∀ i, s3 i = (((![k, 0, 0] : Fin 3 → ℕ) i : ℕ) : ℤ)) (r : Fin 512) (d : Fin 1024) :
    shapeCast S512x1024 (Host.dynamicSlice S1x512x1024 X s3 sliceFits_S288x512x1024_S1x512x1024) shapeCasts_S1x512x1024_S512x1024 (ix2 r d) = X (ix3 ⟨k, hk⟩ r d) := by
  rw [Host.dynamicSlice_eq_extractStridedSlice S1x512x1024 X s3 (![k, 0, 0] : Fin 3 → ℕ) _ (slices3 288 512 1024 k hk) h3]
  pointwise

/-- The block's expert. -/
theorem be_at (X : IVec S288 32) (k : ℕ) (hk : k < 288) (s1 : Fin 1 → ℤ) (h1 : ∀ i, s1 i = (((![k] : Fin 1 → ℕ) i : ℕ) : ℤ)) :
    shapeCast S_ (Host.dynamicSlice S1 X s1 sliceFits_S288_S1) shapeCasts_S1_S_ (Shape.Idx.first h_S_) = X (ix1 ⟨k, hk⟩) := by
  rw [Host.dynamicSlice_eq_extractStridedSlice S1 X s1 (![k] : Fin 1 → ℕ) _ (slices1 288 k hk) h1]
  refine congrArg X ?_
  funext a
  match a with
  | ⟨0, _⟩ => exact Fin.ext ((fun q => by omega : ∀ q : Fin 1, k + q.val = k) _)

/-- Whether the block is in use. -/
theorem bit_at (X : IVec S288 1) (k : ℕ) (hk : k < 288) (s1 : Fin 1 → ℤ) (h1 : ∀ i, s1 i = (((![k] : Fin 1 → ℕ) i : ℕ) : ℤ)) :
    shapeCast S_ (Host.dynamicSlice S1 X s1 sliceFits_S288_S1) shapeCasts_S1_S_ (Shape.Idx.first h_S_) = X (ix1 ⟨k, hk⟩) := by
  rw [Host.dynamicSlice_eq_extractStridedSlice S1 X s1 (![k] : Fin 1 → ℕ) _ (slices1 288 k hk) h1]
  refine congrArg X ?_
  funext a
  match a with
  | ⟨0, _⟩ => exact Fin.ext ((fun q => by omega : ∀ q : Fin 1, k + q.val = k) _)

/-- A choice by one bit. -/
theorem keep_at (p : IVec S_ 1) (A B : FVec Ideal S512x1024 .f32) (r : Fin 512) (j : Fin 1024) :
    select (broadcastInDim S512x1024 ![] bcast_S_S512x1024 p) A B (ix2 r j) = if p (Shape.Idx.first h_S_) = 1#1 then A (ix2 r j) else B (ix2 r j) := by
  have e : broadcastInDim S512x1024 ![] bcast_S_S512x1024 p (ix2 r j) = p (Shape.Idx.first h_S_) := congrArg p (funext fun a => a.elim0)
  show (if broadcastInDim S512x1024 ![] bcast_S_S512x1024 p (ix2 r j) = 1#1 then _ else _) = _
  rw [e]

/-- A product by one of the matrices. -/
theorem dot_at (W : FVec Ideal S32x1024x1024 .f32) (e : ℕ) (he : e < 32) (s3 : Fin 3 → ℤ) (h3 : ∀ i, s3 i = (((![e, 0, 0] : Fin 3 → ℕ) i : ℕ) : ℤ))
    (X : FVec Ideal S512x1024 .f32) (r : Fin 512) (d : Fin 1024) :
    Host.dotGeneral dot_S512x1024_S1024x1024_S512x1024_1_0_0_1_n_n none X
        (shapeCast S1024x1024 (Host.dynamicSlice S1x1024x1024 W s3 sliceFits_S32x1024x1024_S1x1024x1024) shapeCasts_S1x1024x1024_S1024x1024) (ix2 r d)
      = ∑ k, X (ix2 r k) * W (ix3 ⟨e, he⟩ k d) := by
  rw [Host.dynamicSlice_eq_extractStridedSlice S1x1024x1024 W s3 (![e, 0, 0] : Fin 3 → ℕ) _ (slices3 32 1024 1024 e he) h3]
  pointwise

/-- One of the bias rows. -/
theorem bias_at (b : FVec Ideal S32x1024 .f32) (e : ℕ) (he : e < 32) (s2 : Fin 2 → ℤ) (h2 : ∀ i, s2 i = (((![e, 0] : Fin 2 → ℕ) i : ℕ) : ℤ)) (r : Fin 512) (d : Fin 1024) :
    broadcastInDim S512x1024 ![0, 1] bcast_S1x1024_S512x1024_0_1 (broadcastInDim S1x1024 ![1] bcast_S1024_S1x1024_1
        (shapeCast S1024 (Host.dynamicSlice S1x1024 b s2 sliceFits_S32x1024_S1x1024) shapeCasts_S1x1024_S1024)) (ix2 r d)
      = b (ix2 ⟨e, he⟩ d) := by
  rw [Host.dynamicSlice_eq_extractStridedSlice S1x1024 b s2 (![e, 0] : Fin 2 → ℕ) _ (slices2 32 1024 e he) h2]
  pointwise

/-- An update of one block at `k`, at an index. -/
theorem put_at (X : FVec Ideal S288x512x1024 .f32) (u : FVec Ideal S1x512x1024 .f32)
    (k : ℕ) (hk : k < 288) (s3 : Fin 3 → ℤ) (h3 : ∀ i, s3 i = (((![k, 0, 0] : Fin 3 → ℕ) i : ℕ) : ℤ)) (n : Fin 288) (r : Fin 512) (j : Fin 1024) :
    Host.dynamicUpdateSlice X u s3 updateFits_S288x512x1024_S1x512x1024 (ix3 n r j)
      = if n.val = k then u (ix3 0 r j) else X (ix3 n r j) := by
  have hcl : ∀ a : Fin 3, Host.clampedStart S288x512x1024 S1x512x1024 rfl s3 a = (![k, 0, 0] : Fin 3 → ℕ) a := fun a =>
    Host.clampedStart_of_le (s := S288x512x1024) (t := S1x512x1024) rfl s3 a _ (h3 a) ((slices3 288 512 1024 k hk).2 a)
  rw [Host.dynamicUpdateSlice_apply]
  by_cases hn : n.val = k
  · rw [dif_pos, if_pos hn]
    · refine congrArg u ((Shape.Idx.norm3 _).trans ((ix3_inj _ _ _ _ _ _).2 ⟨Fin.ext ?_, Fin.ext ?_, Fin.ext ?_⟩))
      · show n.val - Host.clampedStart S288x512x1024 S1x512x1024 rfl s3 0 = 0
        rw [hcl 0]
        show n.val - k = 0
        omega
      · show r.val - Host.clampedStart S288x512x1024 S1x512x1024 rfl s3 1 = r.val
        rw [hcl 1]
        rfl
      · show j.val - Host.clampedStart S288x512x1024 S1x512x1024 rfl s3 2 = j.val
        rw [hcl 2]
        rfl
    · intro a
      rw [hcl a]
      match a with
      | 0 => show k ≤ n.val ∧ n.val < k + 1; omega
      | 1 => show 0 ≤ r.val ∧ r.val < 0 + 512; omega
      | 2 => show 0 ≤ j.val ∧ j.val < 0 + 1024; omega
  · rw [dif_neg, if_neg hn]
    intro hin
    have h0 := hin 0
    rw [hcl 0] at h0
    have h0' : k ≤ n.val ∧ n.val < k + 1 := h0
    omega

/-- An index that is not negative is itself, where a negative one would count from the end. -/
theorem wrap (v : IVec S_ 32) (i : S_.Idx) (h : (v i).toNat < 32) : select (cmpi .slt v (constantI S_ 32 0#32)) (addi v (constantI S_ 32 32#32)) v i = v i := by
  have hc : cmpi .slt v (constantI S_ 32 0#32) i = 0#1 := by
    show BitVec.ofBool ((v i).slt 0#32) = 0#1
    have : (v i).slt 0#32 = false := by
      rw [BitVec.slt, small_toInt _ h]
      simp
    rw [this]
    rfl
  show (if cmpi .slt v (constantI S_ 32 0#32) i = 1#1 then _ else _) = _
  rw [hc]
  rfl

/-! ## A trip -/

section trip
variable (s : State Ideal) (k : ℕ) (hk : k < 288) (hE : (s.main_v34_1 (ix1 ⟨k, hk⟩)).toNat < 32)

/-- The block's expert. -/
abbrev ex : ℕ := (s.main_v34_1 (ix1 ⟨k, hk⟩)).toNat
abbrev xr (r : Fin 512) (d : Fin 1024) : EReal := s.main_v34_0 (ix3 ⟨k, hk⟩ r d)
include hE

omit hE in
theorem b5_at : b5 k s (Shape.Idx.first h_S_) = s.main_v34_1 (ix1 ⟨k, hk⟩) := by
  unfold b5 b4
  exact be_at _ k hk _ fun i => match i with | 0 => num_toInt k hk

theorem b5_small : (b5 k s (Shape.Idx.first h_S_)).toNat < 32 := by rw [b5_at s k hk]; exact hE

theorem e_int (v : IVec S_ 32) (h : v = select (cmpi .slt (b5 k s) (constantI S_ 32 0#32)) (addi (b5 k s) (constantI S_ 32 32#32)) (b5 k s)) :
    (v (Shape.Idx.first h_S_)).toInt = (ex s k hk : ℤ) := by
  rw [h, wrap _ _ (b5_small s k hk hE), b5_at s k hk, small_toInt _ hE]

omit hE in
theorem b3_at (r : Fin 512) (d : Fin 1024) : b3 k s (ix2 r d) = xr s k hk r d := by
  unfold b3 b2
  exact x_at _ k hk _ (fun i => match i with | 0 => num_toInt k hk | 1 => rfl | 2 => rfl) r d

abbrev mat (W : FVec Ideal S32x1024x1024 .f32) (k' d : Fin 1024) : EReal := W (ix3 ⟨ex s k hk, hE⟩ k' d)
abbrev row (b : FVec Ideal S32x1024 .f32) (d : Fin 1024) : EReal := b (ix2 ⟨ex s k hk, hE⟩ d)

theorem b49_at (r : Fin 512) (d : Fin 1024) : b49 k s (ix2 r d) = Spec.lin (xr s k hk r) (mat s k hk hE s.main_v34_3) (row s k hk hE s.main_v34_4) d := by
  have e1 : b31 k s (ix2 r d) = ∑ k', b3 k s (ix2 r k') * s.main_v34_3 (ix3 ⟨ex s k hk, hE⟩ k' d) := by
    unfold b31 b30 b29
    exact dot_at _ _ hE _ (fun i => match i with | 0 => e_int s k hk hE (b12 k s) rfl | 1 => rfl | 2 => rfl) _ r d
  have e2 : b48 k s (ix2 r d) = s.main_v34_4 (ix2 ⟨ex s k hk, hE⟩ d) := by
    unfold b48 b47 b46 b45
    exact bias_at _ _ hE _ (fun i => match i with | 0 => e_int s k hk hE (b36 k s) rfl | 1 => rfl) r d
  show b31 k s (ix2 r d) + b48 k s (ix2 r d) = _
  rw [e1, e2]
  simp only [b3_at s k hk]
  rfl

theorem b94_at (r : Fin 512) (d : Fin 1024) : b94 k s (ix2 r d) = Spec.lin (xr s k hk r) (mat s k hk hE s.main_v34_5) (row s k hk hE s.main_v34_6) d := by
  have e1 : b76 k s (ix2 r d) = ∑ k', b3 k s (ix2 r k') * s.main_v34_5 (ix3 ⟨ex s k hk, hE⟩ k' d) := by
    unfold b76 b75 b74
    exact dot_at _ _ hE _ (fun i => match i with | 0 => e_int s k hk hE (b57 k s) rfl | 1 => rfl | 2 => rfl) _ r d
  have e2 : b93 k s (ix2 r d) = s.main_v34_6 (ix2 ⟨ex s k hk, hE⟩ d) := by
    unfold b93 b92 b91 b90
    exact bias_at _ _ hE _ (fun i => match i with | 0 => e_int s k hk hE (b81 k s) rfl | 1 => rfl) r d
  show b76 k s (ix2 r d) + b93 k s (ix2 r d) = _
  rw [e1, e2]
  simp only [b3_at s k hk]
  rfl

theorem b52_at (r : Fin 512) (d : Fin 1024) : b52 k s (ix2 r d) = Spec.gate (xr s k hk r) (mat s k hk hE s.main_v34_3) (row s k hk hE s.main_v34_4) d := by
  unfold Spec.gate
  rw [← b49_at s k hk hE r d]
  pointwise [b52, b51, b50]

theorem b102_at (r : Fin 512) (d : Fin 1024) : b102 k s (ix2 r d) = Spec.up (xr s k hk r) (mat s k hk hE s.main_v34_5) (row s k hk hE s.main_v34_6) d := by
  unfold Spec.up
  rw [← b94_at s k hk hE r d]
  pointwise [b102, b101, b100, b99, b98, b97, b96, b95]

theorem b118_at (r : Fin 512) (d : Fin 1024) : b118 k s (ix2 r d)
    = Spec.act (xr s k hk r) (mat s k hk hE s.main_v34_3) (mat s k hk hE s.main_v34_5) (row s k hk hE s.main_v34_4) (row s k hk hE s.main_v34_6) d := by
  unfold Spec.act
  rw [← b52_at s k hk hE r d, ← b102_at s k hk hE r d]
  pointwise [b118, b117, b116, b115, b114, b113, b112, b111, b110, b109, b108, b107, b106, b105, b104, b103]

theorem b160_at (r : Fin 512) (j : Fin 1024) : b160 k s (ix2 r j)
    = Spec.y (xr s k hk r) (mat s k hk hE s.main_v34_3) (mat s k hk hE s.main_v34_5) (mat s k hk hE s.main_v34_7)
        (row s k hk hE s.main_v34_4) (row s k hk hE s.main_v34_6) (row s k hk hE s.main_v34_8) j := by
  have e1 : b142 k s (ix2 r j) = ∑ k', b118 k s (ix2 r k') * s.main_v34_7 (ix3 ⟨ex s k hk, hE⟩ k' j) := by
    unfold b142 b141 b140
    exact dot_at _ _ hE _ (fun i => match i with | 0 => e_int s k hk hE (b123 k s) rfl | 1 => rfl | 2 => rfl) _ r j
  have e2 : b159 k s (ix2 r j) = s.main_v34_8 (ix2 ⟨ex s k hk, hE⟩ j) := by
    unfold b159 b158 b157 b156
    exact bias_at _ _ hE _ (fun i => match i with | 0 => e_int s k hk hE (b147 k s) rfl | 1 => rfl) r j
  show b142 k s (ix2 r j) + b159 k s (ix2 r j) = _
  rw [e1, e2]
  simp only [b118_at s k hk hE]
  rfl

omit hE in
theorem b7_at : b7 k s (Shape.Idx.first h_S_) = s.main_v34_2 (ix1 ⟨k, hk⟩) := by
  unfold b7 b6
  exact bit_at _ k hk _ fun i => match i with | 0 => num_toInt k hk

/-- A block's row at the trip's end: through its expert if the block is in use. -/
theorem b164_at (r : Fin 512) (j : Fin 1024) : b164 k s (ix2 r j)
    = if s.main_v34_2 (ix1 ⟨k, hk⟩) = 1#1 then Spec.y (xr s k hk r) (mat s k hk hE s.main_v34_3) (mat s k hk hE s.main_v34_5) (mat s k hk hE s.main_v34_7)
        (row s k hk hE s.main_v34_4) (row s k hk hE s.main_v34_6) (row s k hk hE s.main_v34_8) j else 0 := by
  rw [← b160_at s k hk hE r j, ← b7_at s k hk]
  have e : b163 k s (ix2 r j) = 0 := by
    pointwise [b163, b162, b161]
  rw [← e]
  unfold b164
  generalize b160 k s = A
  generalize b163 k s = B
  exact keep_at _ A B r j

theorem step_at (n : Fin 288) (r : Fin 512) (j : Fin 1024) : (step k s).main_v34_10 (ix3 n r j)
    = if n.val = k then (if s.main_v34_2 (ix1 ⟨k, hk⟩) = 1#1 then Spec.y (xr s k hk r) (mat s k hk hE s.main_v34_3) (mat s k hk hE s.main_v34_5) (mat s k hk hE s.main_v34_7)
        (row s k hk hE s.main_v34_4) (row s k hk hE s.main_v34_6) (row s k hk hE s.main_v34_8) j else 0)
      else s.main_v34_10 (ix3 n r j) := by
  rw [step_main_v34_10]
  unfold b168
  rw [put_at _ _ k hk _ (fun i => match i with | 0 => num_toInt k hk | 1 => rfl | 2 => rfl) n r j]
  have e : b165 k s (ix3 0 r j) = b164 k s (ix2 r j) := by
    unfold b165
    generalize b164 k s = B
    pointwise
  rw [e, b164_at s k hk hE r j]

end trip

/-! ## After the loop -/

section tail
variable (X : FVec Ideal S288x512x1024 .f32)

/-- The bit that says a block is in use. -/
theorem used_at (nu : IVec S1 32) (hu : (nu (ix1 0)).toNat ≤ 288) (n : Fin 288) :
    cmpi .slt (iotaInDim S288 32 0) (broadcastInDim S288 ![] bcast_S_S288 (shapeCast S_ nu shapeCasts_S1_S_)) (ix1 n) = 1#1
      ↔ n.val < (nu (ix1 0)).toNat := by
  have e : cmpi .slt (iotaInDim S288 32 0) (broadcastInDim S288 ![] bcast_S_S288 (shapeCast S_ nu shapeCasts_S1_S_)) (ix1 n)
      = IntOp.cmpi .slt (BitVec.ofNat 32 n.val) (nu (ix1 0)) := by
    pointwise
  have hn := n.isLt
  have h2 : (nu (ix1 0)).toInt = ((nu (ix1 0)).toNat : ℤ) := BitVec.toInt_eq_toNat_of_lt (by omega)
  rw [e]
  show BitVec.ofBool (decide ((BitVec.ofNat 32 n.val).toInt < (nu (ix1 0)).toInt)) = 1#1 ↔ _
  rw [num_toInt n.val hn, h2]
  by_cases h : n.val < (nu (ix1 0)).toNat
  · have : ((n.val : ℤ) < ((nu (ix1 0)).toNat : ℤ)) := by exact_mod_cast h
    simp [this, h]
  · have : ¬ ((n.val : ℤ) < ((nu (ix1 0)).toNat : ℤ)) := by exact_mod_cast h
    simp [this, h]

theorem lo_at (R : Fin 589824) (l : Fin 128) :
    shapeCast S589824x128 (extractStridedSlice S147456x512 ![0, 0] (shapeCast S147456x1024 X shapeCasts_S288x512x1024_S147456x1024) slices_S147456x1024_S147456x512_0_0)
        shapeCasts_S147456x512_S589824x128 (ix2 R l)
      = X (ix3 ⟨R.val / 2048, by omega⟩ ⟨R.val / 4 % 512, by omega⟩ ⟨128 * (R.val % 4) + l.val, by omega⟩) := by
  have e : ∀ Y : FVec Ideal S147456x1024 .f32, shapeCast S589824x128 (extractStridedSlice S147456x512 ![0, 0] Y slices_S147456x1024_S147456x512_0_0)
        shapeCasts_S147456x512_S589824x128 (ix2 R l) = Y (ix2 ⟨R.val / 4, by omega⟩ ⟨128 * (R.val % 4) + l.val, by omega⟩) := fun Y => by
    pointwise
    refine congrArg Y ((ix2_inj ..).2 ⟨Fin.ext ?_, Fin.ext ?_⟩)
    · simp only []
    · simp only []; omega
  rw [e]
  pointwise
  refine congrArg X ((ix3_inj ..).2 ⟨Fin.ext ?_, Fin.ext ?_, rfl⟩)
  · simp only []; omega
  · rfl

theorem hi_at (R : Fin 589824) (l : Fin 128) :
    shapeCast S589824x128 (extractStridedSlice S147456x512 ![0, 512] (shapeCast S147456x1024 X shapeCasts_S288x512x1024_S147456x1024) slices_S147456x1024_S147456x512_0_512)
        shapeCasts_S147456x512_S589824x128 (ix2 R l)
      = X (ix3 ⟨R.val / 2048, by omega⟩ ⟨R.val / 4 % 512, by omega⟩ ⟨512 + (128 * (R.val % 4) + l.val), by omega⟩) := by
  have e : ∀ Y : FVec Ideal S147456x1024 .f32, shapeCast S589824x128 (extractStridedSlice S147456x512 ![0, 512] Y slices_S147456x1024_S147456x512_0_512)
        shapeCasts_S147456x512_S589824x128 (ix2 R l) = Y (ix2 ⟨R.val / 4, by omega⟩ ⟨512 + (128 * (R.val % 4) + l.val), by omega⟩) := fun Y => by
    pointwise
    refine congrArg Y ((ix2_inj ..).2 ⟨Fin.ext ?_, Fin.ext ?_⟩)
    · simp only []
    · simp only []; omega
  rw [e]
  pointwise
  refine congrArg X ((ix3_inj ..).2 ⟨Fin.ext ?_, Fin.ext ?_, rfl⟩)
  · simp only []; omega
  · rfl

end tail

end Cert.Expert.Ref

end
-- ==== Proof.ExStep.lean ====
module

public import proofs.«01_k».proof.Proof.Gen.Reference3Ideal.Run
public import proofs.«01_k».proof.Proof.Gen.Reference3Ideal.Step

@[expose] public section

set_option maxRecDepth 16384

noncomputable section

/-! The expert reference's run over its trip: what the loop's buffers hold before each trip, and the two results. -/

namespace Cert.Expert.Ref

open Idealize.ShloMosaic Idealize.ShloMosaic.TcCoe Idealize.SL.Sem Idealize.ShloMosaic.StableHlo
open Cert.Reference3Ideal Cert.Reference3Ideal.Gen Cert.Reference3Ideal.Value
open Cert.Reference3Ideal.Step (State step init)

variable {F : FTy → Type} [FloatOps F]

variable (V0 : Valuation τ sig (Elt F)) (s : State F) (j : ℕ)

/-- The valuation holds the state, the set-up values and the trip's number. -/
structure Holds : Prop where
  f_10 : V0 (Proc.devRef .tc main_v34_10) = s.main_v34_10
  f_0 : V0 (Proc.devRef .tc main_v34_0) = s.main_v34_0
  f_1 : V0 (Proc.devRef .tc main_v34_1) = s.main_v34_1
  f_2 : V0 (Proc.devRef .tc main_v34_2) = s.main_v34_2
  f_3 : V0 (Proc.devRef .tc main_v34_3) = s.main_v34_3
  f_4 : V0 (Proc.devRef .tc main_v34_4) = s.main_v34_4
  f_5 : V0 (Proc.devRef .tc main_v34_5) = s.main_v34_5
  f_6 : V0 (Proc.devRef .tc main_v34_6) = s.main_v34_6
  f_7 : V0 (Proc.devRef .tc main_v34_7) = s.main_v34_7
  f_8 : V0 (Proc.devRef .tc main_v34_8) = s.main_v34_8
  n_9 : V0 (Proc.devRef .tc main_v34_9) = constantI S_ 32 (BitVec.ofNat 32 j)

variable {V0 s j}

theorem v40_eq (h : Holds V0 s j) : res_main_while0b_v40 V0 = Cert.Reference3Ideal.Step.b3 j s := by
  unfold res_main_while0b_v40
  rw [h.f_0, h.n_9]
  rfl
theorem v41_eq (h : Holds V0 s j) : res_main_while0b_v41 V0 = Cert.Reference3Ideal.Step.b5 j s := by
  unfold res_main_while0b_v41
  rw [h.f_1, h.n_9]
  rfl
theorem v67_eq (h : Holds V0 s j) : res_main_while0b_v67 V0 = Cert.Reference3Ideal.Step.b52 j s := by
  unfold res_main_while0b_v67
  rw [v40_eq h, v41_eq h, h.f_3, h.f_4]
  rfl
/-- One trip's step of the stacked results is `step`'s. -/
theorem step_10 (h : Holds V0 s j) : step_main_v34_10 V0 = (step j s).main_v34_10 := by
  unfold step_main_v34_10
  rw [v40_eq h, v41_eq h, v67_eq h, h.f_10, h.f_2, h.f_5, h.f_6, h.f_7, h.f_8, h.n_9]
  rfl
theorem step_9 (h : Holds V0 s j) : step_main_v34_9 V0 = constantI S_ 32 (BitVec.ofNat 32 (j + 1)) := by
  unfold step_main_v34_9
  rw [h.n_9]
  funext i
  show BitVec.ofNat 32 j + 1#32 = BitVec.ofNat 32 (j + 1)
  simp only [BitVec.ofNat_add]

theorem out_main_v38_holds (h : Holds V0 s j) : out_main_v38 V0 = Cert.Reference3Ideal.Step.R_main_v38 s := by
  unfold out_main_v38 Cert.Reference3Ideal.Step.R_main_v38
  rw [h.f_10]
  try rfl

theorem out_main_v39_holds (h : Holds V0 s j) : out_main_v39 V0 = Cert.Reference3Ideal.Step.R_main_v39 s := by
  unfold out_main_v39 Cert.Reference3Ideal.Step.R_main_v39
  rw [h.f_10]
  try rfl

/-- One trip keeps the valuation holding: `step` of the state, the same set-up values, the next number. -/
theorem holds_step (h : Holds V0 s j) : Holds (STEP V0) (step j s) (j + 1) where
  f_10 := (STEP_main_v34_10 V0).trans (step_10 h)
  n_9 := (STEP_main_v34_9 V0).trans (step_9 h)
  f_0 := (STEP_main_v34_0 V0).trans h.f_0
  f_1 := (STEP_main_v34_1 V0).trans h.f_1
  f_2 := (STEP_main_v34_2 V0).trans h.f_2
  f_3 := (STEP_main_v34_3 V0).trans h.f_3
  f_4 := (STEP_main_v34_4 V0).trans h.f_4
  f_5 := (STEP_main_v34_5 V0).trans h.f_5
  f_6 := (STEP_main_v34_6 V0).trans h.f_6
  f_7 := (STEP_main_v34_7 V0).trans h.f_7
  f_8 := (STEP_main_v34_8 V0).trans h.f_8

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 1000000 in
/-- What @main's operations before the loop leave: the set-up values, number 0, the initial state. -/
theorem entry_holds : Holds (entryContents preI m c) (initState m c) 0 := by
  constructor <;> simp only [entryContents, afterL_cons, afterL_nil] <;> after_reads_simp <;>
    (try dsimp only [initState, init, Cert.Reference3Ideal.Step.K_main_c, Cert.Reference3Ideal.Step.K_main_v6, Cert.Reference3Ideal.Step.K_main_c_0, Cert.Reference3Ideal.Step.K_main_v8, Cert.Reference3Ideal.Step.K_main_c_1, Cert.Reference3Ideal.Step.K_main_call0_v0, Cert.Reference3Ideal.Step.K_main_call0_v1, Cert.Reference3Ideal.Step.K_main_call0_v4, Cert.Reference3Ideal.Step.K_main_call0_v5, Cert.Reference3Ideal.Step.K_main_call0_v7, Cert.Reference3Ideal.Step.K_main_call0_c, Cert.Reference3Ideal.Step.K_main_call0_v9, Cert.Reference3Ideal.Step.K_main_call0_c_0, Cert.Reference3Ideal.Step.K_main_call0_v12, Cert.Reference3Ideal.Step.K_main_c_2, Cert.Reference3Ideal.Step.K_main_v11, Cert.Reference3Ideal.Step.K_main_call1_call0_c, Cert.Reference3Ideal.Step.K_main_call1_call0_v0, Cert.Reference3Ideal.Step.K_main_v15, Cert.Reference3Ideal.Step.K_main_c_3, Cert.Reference3Ideal.Step.K_main_v16, Cert.Reference3Ideal.Step.K_main_v17, Cert.Reference3Ideal.Step.K_main_v18, Cert.Reference3Ideal.Step.K_main_v20, Cert.Reference3Ideal.Step.K_main_c_4, Cert.Reference3Ideal.Step.K_main_c_5, Cert.Reference3Ideal.Step.K_main_v24, Cert.Reference3Ideal.Step.K_main_v26, Cert.Reference3Ideal.Step.K_main_c_6, Cert.Reference3Ideal.Step.K_main_call2_v0, Cert.Reference3Ideal.Step.K_main_call2_v1, Cert.Reference3Ideal.Step.K_main_call2_v4, Cert.Reference3Ideal.Step.K_main_call2_v5, Cert.Reference3Ideal.Step.K_main_call2_v7, Cert.Reference3Ideal.Step.K_main_call2_c, Cert.Reference3Ideal.Step.K_main_call2_v9, Cert.Reference3Ideal.Step.K_main_call2_c_0, Cert.Reference3Ideal.Step.K_main_call2_v12, Cert.Reference3Ideal.Step.K_main_cst, Cert.Reference3Ideal.Step.K_main_v33, Cert.Reference3Ideal.Step.K_main_c_7, Cert.Reference3Ideal.Step.A_main_v0, Cert.Reference3Ideal.Step.A_main_v1, Cert.Reference3Ideal.Step.A_main_v2, Cert.Reference3Ideal.Step.A_main_v3, Cert.Reference3Ideal.Step.A_main_v4, Cert.Reference3Ideal.Step.A_main_v5, Cert.Reference3Ideal.Step.A_main_v7, Cert.Reference3Ideal.Step.A_main_v9, Cert.Reference3Ideal.Step.A_main_call0_v2, Cert.Reference3Ideal.Step.A_main_call0_v3, Cert.Reference3Ideal.Step.A_main_call0_v6, Cert.Reference3Ideal.Step.A_main_call0_v8, Cert.Reference3Ideal.Step.A_main_call0_v10, Cert.Reference3Ideal.Step.A_main_call0_v11, Cert.Reference3Ideal.Step.A_main_call0_v13, Cert.Reference3Ideal.Step.A_main_v10, Cert.Reference3Ideal.Step.A_main_v12, Cert.Reference3Ideal.Step.A_main_v13, Cert.Reference3Ideal.Step.A_main_v14, Cert.Reference3Ideal.Step.A_main_v19, Cert.Reference3Ideal.Step.A_main_v21, Cert.Reference3Ideal.Step.A_main_v22, Cert.Reference3Ideal.Step.A_main_v23, Cert.Reference3Ideal.Step.A_main_v25, Cert.Reference3Ideal.Step.A_main_v27, Cert.Reference3Ideal.Step.A_main_call2_v2, Cert.Reference3Ideal.Step.A_main_call2_v3, Cert.Reference3Ideal.Step.A_main_call2_v6, Cert.Reference3Ideal.Step.A_main_call2_v8, Cert.Reference3Ideal.Step.A_main_call2_v10, Cert.Reference3Ideal.Step.A_main_call2_v11, Cert.Reference3Ideal.Step.A_main_call2_v13, Cert.Reference3Ideal.Step.A_main_v28, Cert.Reference3Ideal.Step.A_main_v29, Cert.Reference3Ideal.Step.A_main_v30, Cert.Reference3Ideal.Step.A_main_v31, Cert.Reference3Ideal.Step.A_main_v32]) <;>
    (try simp -implicitDefEqProofs only [StableHlo.TRef.toBuf, StableHlo.TRef.ofBuf, cast_cast, cast_eq]) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `Reference3Ideal` terminates with each result at its field of state
    number 288 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v38) = Cert.Reference3Ideal.Step.R_main_v38 (it c 288)
      ∧ r.2.mem ((c.tc : Thread nD τ).loc main_v39) = Cert.Reference3Ideal.Step.R_main_v39 (it c 288)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 288
    ⟨(h c).1.trans (out_main_v38_holds hk), (h c).2.1.trans (out_main_v39_holds hk), (h c).2.2⟩) (Value.run m ρ)

end Cert.Expert.Ref

end
-- ==== Proof.ExRefVal.lean ====
module

public import proofs.«01_k».proof.Proof.ExRefAt
public import proofs.«01_k».proof.Proof.ExCell
public import proofs.«01_k».proof.Proof.ExStep
public import proofs.«01_k».proof.Proof.ExTab

@[expose] public section

set_option maxRecDepth 16384

noncomputable section

/-! The expert reference's two results at an index. -/

namespace Cert.Expert.Ref

open Idealize.ShloMosaic Idealize.ShloMosaic.TcCoe Idealize.ShloMosaic.StableHlo Idealize.SL.Sem Cert.Reference3Ideal Cert.Reference3Ideal.Gen Cert.Reference3Ideal.Step

section loop
variable (s0 : State Ideal)

/-- The loop's states. -/
def it : ℕ → State Ideal
  | 0 => s0
  | n + 1 => step n (it n)

theorem it_0 (n : ℕ) : (it s0 n).main_v34_0 = s0.main_v34_0 := by
  induction n with
  | zero => rfl
  | succ n ih => exact ih
theorem it_1 (n : ℕ) : (it s0 n).main_v34_1 = s0.main_v34_1 := by
  induction n with
  | zero => rfl
  | succ n ih => exact ih
theorem it_2 (n : ℕ) : (it s0 n).main_v34_2 = s0.main_v34_2 := by
  induction n with
  | zero => rfl
  | succ n ih => exact ih
theorem it_3 (n : ℕ) : (it s0 n).main_v34_3 = s0.main_v34_3 := by
  induction n with
  | zero => rfl
  | succ n ih => exact ih
theorem it_4 (n : ℕ) : (it s0 n).main_v34_4 = s0.main_v34_4 := by
  induction n with
  | zero => rfl
  | succ n ih => exact ih
theorem it_5 (n : ℕ) : (it s0 n).main_v34_5 = s0.main_v34_5 := by
  induction n with
  | zero => rfl
  | succ n ih => exact ih
theorem it_6 (n : ℕ) : (it s0 n).main_v34_6 = s0.main_v34_6 := by
  induction n with
  | zero => rfl
  | succ n ih => exact ih
theorem it_7 (n : ℕ) : (it s0 n).main_v34_7 = s0.main_v34_7 := by
  induction n with
  | zero => rfl
  | succ n ih => exact ih
theorem it_8 (n : ℕ) : (it s0 n).main_v34_8 = s0.main_v34_8 := by
  induction n with
  | zero => rfl
  | succ n ih => exact ih

abbrev bes (n : Fin 288) : BitVec 32 := s0.main_v34_1 (ix1 n)
/-- A block's row through its expert. -/
abbrev yr (n : Fin 288) (r : Fin 512) (j : Fin 1024) : EReal :=
  Spec.y (fun k => s0.main_v34_0 (ix3 n r k)) (fun k d => s0.main_v34_3 (ix3 (Spec.ex (bes s0) n) k d)) (fun k d => s0.main_v34_5 (ix3 (Spec.ex (bes s0) n) k d))
    (fun k d => s0.main_v34_7 (ix3 (Spec.ex (bes s0) n) k d)) (fun d => s0.main_v34_4 (ix2 (Spec.ex (bes s0) n) d)) (fun d => s0.main_v34_6 (ix2 (Spec.ex (bes s0) n) d))
    (fun d => s0.main_v34_8 (ix2 (Spec.ex (bes s0) n) d)) j

theorem it_10 (hE : ∀ n : Fin 288, (s0.main_v34_1 (ix1 n)).toNat < 32) (k : ℕ) (hk : k ≤ 288) (n : Fin 288) (r : Fin 512) (j : Fin 1024) (hn : n.val < k) :
    (it s0 k).main_v34_10 (ix3 n r j) = if s0.main_v34_2 (ix1 n) = 1#1 then yr s0 n r j else 0 := by
  induction k with
  | zero => exact absurd hn (Nat.not_lt_zero _)
  | succ k ih =>
    have hk' : k < 288 := hk
    have hEk : ((it s0 k).main_v34_1 (ix1 ⟨k, hk'⟩)).toNat < 32 := by rw [it_1]; exact hE _
    have e := step_at (it s0 k) k hk' hEk n r j
    refine Eq.trans (show (it s0 (k + 1)).main_v34_10 (ix3 n r j) = (step k (it s0 k)).main_v34_10 (ix3 n r j) from rfl) (e.trans ?_)
    by_cases h : n.val = k
    · rw [if_pos h]
      obtain rfl : n = ⟨k, hk'⟩ := Fin.ext h
      unfold yr
      rw [Spec.ex_eq _ _ (hE _)]
      unfold xr mat row ex
      simp only [it_0, it_1, it_2, it_3, it_4, it_5, it_6, it_7, it_8]
    · rw [if_neg h]
      exact ih (by omega) (by omega)

end loop

section res
variable (m : (ℓ : Loc nD τ sig) → Buf (Elt Ideal) ℓ) (c : Dev nD)

abbrev C0 : IVec S32 32 := m ((c.tc : Thread nD τ).loc main_arg0)
abbrev N0 : IVec S288 32 := Cert.Expert.be (C0 m c)
abbrev N1 : IVec S1 32 := Cert.Expert.nu (C0 m c)
abbrev N3 : FVec Ideal S147456x1024 .f32 := m ((c.tc : Thread nD τ).loc main_arg1)
abbrev N4 : FVec Ideal S1x32x1024x1024 .f32 := m ((c.tc : Thread nD τ).loc main_arg2)
abbrev N5 : FVec Ideal S1x32x1024 .f32 := m ((c.tc : Thread nD τ).loc main_arg3)
abbrev N6 : FVec Ideal S1x32x1024x1024 .f32 := m ((c.tc : Thread nD τ).loc main_arg4)
abbrev N7 : FVec Ideal S1x32x1024 .f32 := m ((c.tc : Thread nD τ).loc main_arg5)
abbrev N8 : FVec Ideal S1x32x1024x1024 .f32 := m ((c.tc : Thread nD τ).loc main_arg6)
abbrev N9 : FVec Ideal S1x32x1024 .f32 := m ((c.tc : Thread nD τ).loc main_arg7)

/-- An entry of the result, of the reference's arguments. -/
abbrev cell (n : Fin 288) (r : Fin 512) (j : Fin 1024) : EReal :=
  Spec.cell (fun n => N0 m c (ix1 n)) (N1 m c (ix1 0)) (fun R k => N3 m c (ix2 R k)) (fun e k d => N4 m c (ix4 0 e k d)) (fun e k d => N6 m c (ix4 0 e k d))
    (fun e k d => N8 m c (ix4 0 e k d)) (fun e d => N5 m c (ix3 0 e d)) (fun e d => N7 m c (ix3 0 e d)) (fun e d => N9 m c (ix3 0 e d)) n r j

theorem x_in (X : FVec Ideal S147456x1024 .f32) (n : Fin 288) (r : Fin 512) (k : Fin 1024) :
    shapeCast S288x512x1024 X shapeCasts_S147456x1024_S288x512x1024 (ix3 n r k) = X (ix2 ⟨512 * n.val + r.val, by omega⟩ k) := by
  pointwise
  refine congrArg X ((ix2_inj ..).2 ⟨Fin.ext ?_, rfl⟩)
  show n.val * 512 + r.val = 512 * n.val + r.val
  omega
theorem w_in (W : FVec Ideal S1x32x1024x1024 .f32) (e : Fin 32) (k d : Fin 1024) :
    shapeCast S32x1024x1024 W shapeCasts_S1x32x1024x1024_S32x1024x1024 (ix3 e k d) = W (ix4 0 e k d) := by
  pointwise
theorem b_in (b : FVec Ideal S1x32x1024 .f32) (e : Fin 32) (d : Fin 1024) :
    shapeCast S32x1024 b shapeCasts_S1x32x1024_S32x1024 (ix2 e d) = b (ix3 0 e d) := by
  pointwise

abbrev s0 : State Ideal := initState m c

/-- The blocks' experts the reference makes of the counts. -/
theorem s0_be : ((s0 m c).main_v34_1 : IVec S288 32) = N0 m c := by
  dsimp only [s0, N0, initState, init, K_main_c, K_main_v6, K_main_c_0, K_main_v8, K_main_c_1, K_main_call0_v0, K_main_call0_v1, K_main_call0_v4, K_main_call0_v5, K_main_call0_v7, K_main_call0_c, K_main_call0_v9, K_main_call0_c_0, K_main_call0_v12, K_main_c_2, K_main_v11, K_main_call1_call0_c, K_main_call1_call0_v0, K_main_v15, K_main_c_3, K_main_v16, K_main_v17, K_main_v18, K_main_v20, K_main_c_4, K_main_c_5, K_main_v24, K_main_v26, K_main_c_6, K_main_call2_v0, K_main_call2_v1, K_main_call2_v4, K_main_call2_v5, K_main_call2_v7, K_main_call2_c, K_main_call2_v9, K_main_call2_c_0, K_main_call2_v12, K_main_cst, K_main_v33, K_main_c_7, A_main_v0, A_main_v1, A_main_v2, A_main_v3, A_main_v4, A_main_v5, A_main_v7, A_main_v9, A_main_call0_v2, A_main_call0_v3, A_main_call0_v6, A_main_call0_v8, A_main_call0_v10, A_main_call0_v11, A_main_call0_v13, A_main_v10, A_main_v12, A_main_v13, A_main_v14, A_main_v19, A_main_v21, A_main_v22, A_main_v23, A_main_v25, A_main_v27, A_main_call2_v2, A_main_call2_v3, A_main_call2_v6, A_main_call2_v8, A_main_call2_v10, A_main_call2_v11, A_main_call2_v13, A_main_v28, A_main_v29, A_main_v30, A_main_v31, A_main_v32,
    Cert.Expert.be, Cert.Expert.nu, Cert.Expert.ends, Cert.Expert.blocks, Cert.Pre_tables_ok.fn_floor_divide, Cert.Pre_tables_ok.fn_floor_divide_1, Cert.Pre_tables_ok.fn_cumsum]
  rfl
/-- The bits that say which blocks are in use. -/
theorem s0_used : ((s0 m c).main_v34_2 : IVec S288 1)
    = cmpi .slt (iotaInDim S288 32 0) (broadcastInDim S288 ![] bcast_S_S288 (shapeCast S_ (N1 m c) shapeCasts_S1_S_)) := by
  dsimp only [s0, N1, initState, init, K_main_c, K_main_v6, K_main_c_0, K_main_v8, K_main_c_1, K_main_call0_v0, K_main_call0_v1, K_main_call0_v4, K_main_call0_v5, K_main_call0_v7, K_main_call0_c, K_main_call0_v9, K_main_call0_c_0, K_main_call0_v12, K_main_c_2, K_main_v11, K_main_call1_call0_c, K_main_call1_call0_v0, K_main_v15, K_main_c_3, K_main_v16, K_main_v17, K_main_v18, K_main_v20, K_main_c_4, K_main_c_5, K_main_v24, K_main_v26, K_main_c_6, K_main_call2_v0, K_main_call2_v1, K_main_call2_v4, K_main_call2_v5, K_main_call2_v7, K_main_call2_c, K_main_call2_v9, K_main_call2_c_0, K_main_call2_v12, K_main_cst, K_main_v33, K_main_c_7, A_main_v0, A_main_v1, A_main_v2, A_main_v3, A_main_v4, A_main_v5, A_main_v7, A_main_v9, A_main_call0_v2, A_main_call0_v3, A_main_call0_v6, A_main_call0_v8, A_main_call0_v10, A_main_call0_v11, A_main_call0_v13, A_main_v10, A_main_v12, A_main_v13, A_main_v14, A_main_v19, A_main_v21, A_main_v22, A_main_v23, A_main_v25, A_main_v27, A_main_call2_v2, A_main_call2_v3, A_main_call2_v6, A_main_call2_v8, A_main_call2_v10, A_main_call2_v11, A_main_call2_v13, A_main_v28, A_main_v29, A_main_v30, A_main_v31, A_main_v32,
    Cert.Expert.be, Cert.Expert.nu, Cert.Expert.ends, Cert.Expert.blocks, Cert.Pre_tables_ok.fn_floor_divide, Cert.Pre_tables_ok.fn_floor_divide_1, Cert.Pre_tables_ok.fn_cumsum]
  rfl

theorem yr_eq (n : Fin 288) (r : Fin 512) (j : Fin 1024) (h : n.val < (N1 m c (ix1 0)).toNat) : yr (s0 m c) n r j = cell m c n r j := by
  unfold cell Spec.cell
  rw [if_pos h]
  unfold yr
  have e : bes (s0 m c) = fun n => N0 m c (ix1 n) := funext fun n => congrFun (s0_be m c) (ix1 n)
  rw [e]
  congr 1
  · exact funext fun k => x_in (N3 m c) n r k
  · exact funext fun k => funext fun d => w_in (N4 m c) _ k d
  · exact funext fun k => funext fun d => w_in (N6 m c) _ k d
  · exact funext fun k => funext fun d => w_in (N8 m c) _ k d
  · exact funext fun d => b_in (N5 m c) _ d
  · exact funext fun d => b_in (N7 m c) _ d
  · exact funext fun d => b_in (N9 m c) _ d

theorem all_at (hE : ∀ n : Fin 288, (N0 m c (ix1 n)).toNat < 32) (hu : (N1 m c (ix1 0)).toNat ≤ 288) (n : Fin 288) (r : Fin 512) (j : Fin 1024) :
    (it (s0 m c) 288).main_v34_10 (ix3 n r j) = cell m c n r j := by
  have hE' : ∀ n : Fin 288, ((s0 m c).main_v34_1 (ix1 n)).toNat < 32 := fun n => by rw [s0_be]; exact hE n
  rw [it_10 (s0 m c) hE' 288 le_rfl n r j n.isLt, s0_used]
  by_cases h : n.val < (N1 m c (ix1 0)).toNat
  · rw [if_pos ((used_at (N1 m c) hu n).2 h), yr_eq m c n r j h]
  · rw [if_neg (fun h' => h ((used_at (N1 m c) hu n).1 h'))]
    unfold cell Spec.cell
    rw [if_neg h]

/-- The first result. -/
theorem res0 (hE : ∀ n : Fin 288, (N0 m c (ix1 n)).toNat < 32) (hu : (N1 m c (ix1 0)).toNat ≤ 288) (R : Fin 589824) (l : Fin 128) :
    R_main_v38 (it (s0 m c) 288) (ix2 R l) = cell m c ⟨R.val / 2048, by omega⟩ ⟨R.val / 4 % 512, by omega⟩ ⟨128 * (R.val % 4) + l.val, by omega⟩ :=
  (lo_at (it (s0 m c) 288).main_v34_10 R l).trans (all_at m c hE hu _ _ _)

/-- The second. -/
theorem res1 (hE : ∀ n : Fin 288, (N0 m c (ix1 n)).toNat < 32) (hu : (N1 m c (ix1 0)).toNat ≤ 288) (R : Fin 589824) (l : Fin 128) :
    R_main_v39 (it (s0 m c) 288) (ix2 R l) = cell m c ⟨R.val / 2048, by omega⟩ ⟨R.val / 4 % 512, by omega⟩ ⟨512 + (128 * (R.val % 4) + l.val), by omega⟩ :=
  (hi_at (it (s0 m c) 288).main_v34_10 R l).trans (all_at m c hE hu _ _ _)

end res

end Cert.Expert.Ref

end
-- ==== Proof.ExHost.lean ====
module

public import proofs.«01_k».proof.Proof.ExTab
public import proofs.«01_k».proof.Proof.ExDat

@[expose] public section

set_option maxRecDepth 65536

noncomputable section

/-! The tables the host's operations before the region make are the tables of the counts. -/

namespace Cert.Kernel3Ideal.Expert

open Idealize.ShloMosaic Idealize.ShloMosaic.TcCoe Idealize.ShloMosaic.StableHlo Idealize.SL.Sem Cert.Kernel3Ideal Cert.Kernel3Ideal.Gen Cert.Pre_tables_ok

variable (m : (ℓ : Loc nD τ sig) → Buf (Elt Ideal) ℓ) (c : Dev nD)

/-- The experts' counts of rows. -/
abbrev cnt : IVec Cert.Pre_tables_ok.S32 32 := m ((c : Thread nD τ).loc main_arg0)

theorem V_be : (V m c main_v25 : IVec Cert.Pre_tables_ok.S288 32) = Cert.Expert.be (cnt m c) := by
  simp only [V, hosts, StableHlo.afterL_cons, StableHlo.afterL_nil]
  after_reads_simp
  simp -implicitDefEqProofs only [StableHlo.TRef.toBuf, StableHlo.TRef.ofBuf, cast_cast, cast_eq]
  dsimp only [Cert.Expert.be, Cert.Expert.nu, Cert.Expert.nx, Cert.Expert.later, Cert.Expert.ends, Cert.Expert.blocks, fn_floor_divide, fn_floor_divide_1, fn_cumsum, fn_where, fn_argmax]
  rfl

theorem V_nu : (V m c main_v27 : IVec Cert.Pre_tables_ok.S1 32) = Cert.Expert.nu (cnt m c) := by
  simp only [V, hosts, StableHlo.afterL_cons, StableHlo.afterL_nil]
  after_reads_simp
  simp -implicitDefEqProofs only [StableHlo.TRef.toBuf, StableHlo.TRef.ofBuf, cast_cast, cast_eq]
  dsimp only [Cert.Expert.be, Cert.Expert.nu, Cert.Expert.nx, Cert.Expert.later, Cert.Expert.ends, Cert.Expert.blocks, fn_floor_divide, fn_floor_divide_1, fn_cumsum, fn_where, fn_argmax]
  rfl

theorem V_nx : (V m c main_v41 : IVec Cert.Pre_tables_ok.S32 32) = Cert.Expert.nx (cnt m c) := by
  simp only [V, hosts, StableHlo.afterL_cons, StableHlo.afterL_nil]
  after_reads_simp
  simp -implicitDefEqProofs only [StableHlo.TRef.toBuf, StableHlo.TRef.ofBuf, cast_cast, cast_eq]
  dsimp only [Cert.Expert.be, Cert.Expert.nu, Cert.Expert.nx, Cert.Expert.later, Cert.Expert.ends, Cert.Expert.blocks, fn_floor_divide, fn_floor_divide_1, fn_cumsum, fn_where, fn_argmax]
  rfl

end Cert.Kernel3Ideal.Expert

end
-- ==== Proof.ExKHost.lean ====
module

public import proofs.«01_k».proof.Proof.ExTab
public import proofs.«01_k».proof.Proof.ExKDat

@[expose] public section

set_option maxRecDepth 65536

noncomputable section

/-! The tables the host's operations before the region make are the tables of the counts. -/

namespace Cert.Kernel3.Expert

open Idealize.ShloMosaic Idealize.ShloMosaic.TcCoe Idealize.ShloMosaic.StableHlo Idealize.SL.Sem Cert.Kernel3 Cert.Kernel3.Gen Cert.Pre_tables_ok

variable (m : (ℓ : Loc nD τ sig) → Buf (Elt Bits) ℓ) (c : Dev nD)

/-- The experts' counts of rows. -/
abbrev cnt : IVec Cert.Pre_tables_ok.S32 32 := m ((c : Thread nD τ).loc main_arg0)

theorem V_be : (V m c main_v25 : IVec Cert.Pre_tables_ok.S288 32) = Cert.Expert.be (cnt m c) := by
  simp only [V, hosts, StableHlo.afterL_cons, StableHlo.afterL_nil]
  after_reads_simp
  simp -implicitDefEqProofs only [StableHlo.TRef.toBuf, StableHlo.TRef.ofBuf, cast_cast, cast_eq]
  dsimp only [Cert.Expert.be, Cert.Expert.nu, Cert.Expert.nx, Cert.Expert.later, Cert.Expert.ends, Cert.Expert.blocks, fn_floor_divide, fn_floor_divide_1, fn_cumsum, fn_where, fn_argmax]
  rfl

theorem V_nu : (V m c main_v27 : IVec Cert.Pre_tables_ok.S1 32) = Cert.Expert.nu (cnt m c) := by
  simp only [V, hosts, StableHlo.afterL_cons, StableHlo.afterL_nil]
  after_reads_simp
  simp -implicitDefEqProofs only [StableHlo.TRef.toBuf, StableHlo.TRef.ofBuf, cast_cast, cast_eq]
  dsimp only [Cert.Expert.be, Cert.Expert.nu, Cert.Expert.nx, Cert.Expert.later, Cert.Expert.ends, Cert.Expert.blocks, fn_floor_divide, fn_floor_divide_1, fn_cumsum, fn_where, fn_argmax]
  rfl

theorem V_nx : (V m c main_v41 : IVec Cert.Pre_tables_ok.S32 32) = Cert.Expert.nx (cnt m c) := by
  simp only [V, hosts, StableHlo.afterL_cons, StableHlo.afterL_nil]
  after_reads_simp
  simp -implicitDefEqProofs only [StableHlo.TRef.toBuf, StableHlo.TRef.ofBuf, cast_cast, cast_eq]
  dsimp only [Cert.Expert.be, Cert.Expert.nu, Cert.Expert.nx, Cert.Expert.later, Cert.Expert.ends, Cert.Expert.blocks, fn_floor_divide, fn_floor_divide_1, fn_cumsum, fn_where, fn_argmax]
  rfl

end Cert.Kernel3.Expert

end
-- ==== Proof.ExEqual.lean ====
module

public import proofs.«01_k».proof.Defs
public import proofs.«01_k».proof.Proof.ExDone
public import proofs.«01_k».proof.Proof.ExKDone
public import proofs.«01_k».proof.Proof.ExArr
public import proofs.«01_k».proof.Proof.ExHost
public import proofs.«01_k».proof.Proof.ExKHost
public import proofs.«01_k».proof.Proof.ExRefVal

@[expose] public section

set_option maxRecDepth 16384

noncomputable section

/-! The expert layers' claims: the tables the precondition allows, the frames, and the kernel's results are the reference's. -/

namespace Cert.Expert

open Idealize.ShloMosaic Idealize.ShloMosaic.TcCoe Idealize.SL.Sem

theorem Tabs.of_eq {be be' : IVec Cert.Pre_tables_ok.S288 32} {nu nu' : IVec Cert.Pre_tables_ok.S1 32} {nx nx' : IVec Cert.Pre_tables_ok.S32 32} (h0 : be' = be) (h1 : nu' = nu) (h2 : nx' = nx)
    (h : Tabs be nu nx) : Tabs be' nu' nx' := by
  subst h0 h1 h2
  exact h

/-- The printed kernel's tables agree. -/
theorem good (m : (ℓ : Loc Cert.Kernel3.nD Cert.Kernel3.τ Cert.Kernel3.sig) → Buf (Elt Bits) ℓ) (h : Cert.Pre_Kernel3 m) : Cert.Kernel3.Expert.Good m :=
  fun c => Tabs.of_eq (Cert.Kernel3.Expert.V_be m c) (Cert.Kernel3.Expert.V_nu m c) (Cert.Kernel3.Expert.V_nx m c)
    (tabs _ _ _ _ _ _ _ _ (h c))

/-- The idealized kernel's. -/
theorem goodI (m : (ℓ : Loc Cert.Kernel3Ideal.nD Cert.Kernel3Ideal.τ Cert.Kernel3Ideal.sig) → Buf (Elt Ideal) ℓ) (h : Cert.Pre_Kernel3Ideal m) :
    Cert.Kernel3Ideal.Expert.Good m :=
  fun c => Tabs.of_eq (Cert.Kernel3Ideal.Expert.V_be m c) (Cert.Kernel3Ideal.Expert.V_nu m c) (Cert.Kernel3Ideal.Expert.V_nx m c)
    (tabs _ _ _ _ _ _ _ _ (h c))

section equal
variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ) (c : Dev Cert.Kernel3Ideal.nD)

/-- The two programs start from the same arguments. -/
structure Agree : Prop where
  e0 : Ref.N0 m' c = Cert.Kernel3Ideal.Expert.T0 m c
  e1 : Ref.N1 m' c = Cert.Kernel3Ideal.Expert.T1 m c
  e3 : Ref.N3 m' c = Cert.Kernel3Ideal.Expert.M3 m c
  e4 : Ref.N4 m' c = Cert.Kernel3Ideal.Expert.M4 m c
  e5 : Ref.N5 m' c = Cert.Kernel3Ideal.Expert.M5 m c
  e6 : Ref.N6 m' c = Cert.Kernel3Ideal.Expert.M6 m c
  e7 : Ref.N7 m' c = Cert.Kernel3Ideal.Expert.M7 m c
  e8 : Ref.N8 m' c = Cert.Kernel3Ideal.Expert.M8 m c
  e9 : Ref.N9 m' c = Cert.Kernel3Ideal.Expert.M9 m c

variable {m m' c}

theorem cell_eq (h : Agree m m' c) (n : Fin 288) (r : Fin 512) (j : Fin 1024) : Ref.cell m' c n r j = Cert.Kernel3Ideal.Expert.cell m c n r j := by
  unfold Ref.cell Cert.Kernel3Ideal.Expert.cell
  rw [h.e0, h.e1, h.e3, h.e4, h.e5, h.e6, h.e7, h.e8, h.e9]

theorem hE (hT : Cert.Kernel3Ideal.Expert.Good m) (h : Agree m m' c) (n : Fin 288) : (Ref.N0 m' c (ix1 n)).toNat < 32 := by
  rw [h.e0]
  exact (hT c).hE n
theorem hU (hT : Cert.Kernel3Ideal.Expert.Good m) (h : Agree m m' c) : (Ref.N1 m' c (ix1 0)).toNat ≤ 288 := by
  rw [h.e1]
  exact (hT c).hU1

/-- The first results are one array. -/
theorem eq0 (hT : Cert.Kernel3Ideal.Expert.Good m) (h : Agree m m' c) :
    (Cert.Reference3Ideal.Step.R_main_v38 (Ref.it (Ref.s0 m' c) 288) : FVec Ideal Cert.Kernel3Ideal.S589824x128 .f32)
      = (Cert.Kernel3Ideal.Expert.dats m hT 0 c).arrAt 3 (Cert.Kernel3Ideal.Expert.cfgM m hT).N := by
  refine funext fun i => ?_
  rw [eq_ix2 i]
  exact (Ref.res0 m' c (hE hT h) (hU hT h) _ _).trans ((cell_eq h _ _ _).trans (Cert.Kernel3Ideal.Expert.res0 m hT c _ _).symm)

/-- The second results are one array. -/
theorem eq1 (hT : Cert.Kernel3Ideal.Expert.Good m) (h : Agree m m' c) :
    (Cert.Reference3Ideal.Step.R_main_v39 (Ref.it (Ref.s0 m' c) 288) : FVec Ideal Cert.Kernel3Ideal.S589824x128 .f32)
      = (Cert.Kernel3Ideal.Expert.dats m hT 0 c).arrAt 4 (Cert.Kernel3Ideal.Expert.cfgM m hT).N := by
  refine funext fun i => ?_
  rw [eq_ix2 i]
  exact (Ref.res1 m' c (hE hT h) (hU hT h) _ _).trans ((cell_eq h _ _ _).trans (Cert.Kernel3Ideal.Expert.res1 m hT c _ _).symm)

end equal

/-- The third kernel ends with its reference's two results: the rows of each block in use through the block's expert. -/
theorem algebraic3 : Cert.algebraic_Kernel3Ideal_Reference3Ideal (hKernel3Ideal := Cert.Kernel3Ideal.Gen.facts)
    (hReference3Ideal := Cert.Reference3Ideal.Gen.facts) (hPre_tables_ok := Cert.Pre_tables_ok.Gen.facts) := by
  intro m g m' g' hpre hagree
  have hT := goodI m hpre
  have ha : ∀ c, Agree m m' c := fun c =>
    ⟨(congrArg Cert.Expert.be (hagree c).1).trans (Cert.Kernel3Ideal.Expert.V_be m c).symm, (congrArg Cert.Expert.nu (hagree c).1).trans (Cert.Kernel3Ideal.Expert.V_nu m c).symm,
      (hagree c).2.1, (hagree c).2.2.1, (hagree c).2.2.2.1, (hagree c).2.2.2.2.1, (hagree c).2.2.2.2.2.1, (hagree c).2.2.2.2.2.2.1, (hagree c).2.2.2.2.2.2.2⟩
  refine ⟨fun c => (Cert.Kernel3Ideal.Expert.dats m hT 0 c).arrAt 3 (Cert.Kernel3Ideal.Expert.cfgM m hT).N,
    fun c => (Cert.Kernel3Ideal.Expert.dats m hT 0 c).arrAt 4 (Cert.Kernel3Ideal.Expert.cfgM m hT).N, ?_, ?_⟩
  · exact (θ_run _ _ _).mono (fun r h c => ⟨(h.1 c).1 3, (h.1 c).1 4, Cert.Kernel3Ideal.Expert.kept m hT r h.1 c⟩) (Cert.Kernel3Ideal.Expert.run_main m hT g)
  · exact (θ_run _ _ _).mono (fun r h c => ⟨(h c).1.trans (eq0 hT (ha c)), (h c).2.1.trans (eq1 hT (ha c)), (h c).2.2⟩)
      (Ref.run_iter m' g' (fun c => Ref.it (Ref.s0 m' c)) (fun _ => rfl) (fun _ _ => rfl))

end Cert.Expert

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.RefFrame
public import proofs.«01_k».proof.Proof.Equal
public import proofs.«01_k».proof.Proof.InEqual
public import proofs.«01_k».proof.Proof.ExFrame
public import proofs.«01_k».proof.Proof.ExTab
public import proofs.«01_k».proof.Proof.ExCond
public import proofs.«01_k».proof.Proof.ExTail
public import proofs.«01_k».proof.Proof.ExRun
public import proofs.«01_k».proof.Proof.ExInv
public import proofs.«01_k».proof.Proof.ExOut
public import proofs.«01_k».proof.Proof.ExDat
public import proofs.«01_k».proof.Proof.ExLaunch
public import proofs.«01_k».proof.Proof.ExMain
public import proofs.«01_k».proof.Proof.ExDone
public import proofs.«01_k».proof.Proof.ExKCond
public import proofs.«01_k».proof.Proof.ExKTail
public import proofs.«01_k».proof.Proof.ExKRun
public import proofs.«01_k».proof.Proof.ExKInv
public import proofs.«01_k».proof.Proof.ExKOut
public import proofs.«01_k».proof.Proof.ExKDat
public import proofs.«01_k».proof.Proof.ExKLaunch
public import proofs.«01_k».proof.Proof.ExKMain
public import proofs.«01_k».proof.Proof.ExKDone
public import proofs.«01_k».proof.Proof.ExSpec
public import proofs.«01_k».proof.Proof.ExLay
public import proofs.«01_k».proof.Proof.ExCell
public import proofs.«01_k».proof.Proof.ExVal
public import proofs.«01_k».proof.Proof.ExArr
public import proofs.«01_k».proof.Proof.ExRefAt
public import proofs.«01_k».proof.Proof.ExStep
public import proofs.«01_k».proof.Proof.ExRefVal
public import proofs.«01_k».proof.Proof.ExHost
public import proofs.«01_k».proof.Proof.ExKHost
public import proofs.«01_k».proof.Proof.ExEqual
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- At arguments whose gate entries are finite, the kernel ends with the reference's result: the gated linear attention. -/
theorem algebraic : Cert.algebraic_KernelIdeal_ReferenceIdeal_pre_gate_finite (hKernelIdeal := Cert.KernelIdeal.Gen.facts)
    (hReferenceIdeal := Cert.ReferenceIdeal.Gen.facts) (hPre_gate_finite := Cert.Gla.Pre.facts) := by
  intro m g m' g' hpre hagree
  refine ⟨fun c => Cert.KernelIdeal.Value.G8 m c, Cert.KernelIdeal.Value.run m g, ?_⟩
  refine (θ_run _ _ _).mono (fun r h c => ⟨(h.1 c).1.trans ?_, (h.1 c).2⟩) (Cert.Gla.Ref.run m' g')
  have := Cert.Gla.Pre.facts
  obtain ⟨e0, e1, e2, e3, e4, e5, e6⟩ := hagree c
  exact Cert.Gla.equal m m' c (Cert.Gla.Pre.fin2 _ _ _ _ _ _ _ (hpre c).1) (Cert.Gla.Pre.fin3 _ _ _ _ _ _ _ (hpre c).2) e0 e1 e2 e3 e4 e5 e6

/-- The second kernel ends with its reference's eight results: the input projection of the normed and modulated rows. -/
theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨_, _, _, _, _, _, _, _, Cert.Kernel2Ideal.Value.run_blocks m g, ?_⟩
  refine (θ_run _ _ _).mono (fun r h c => ?_) (Cert.Inp.Ref.run m' g')
  obtain ⟨h0, h1, h2, h3, h4, h5, h6, h7, hargs⟩ := h c
  have e : Cert.Inp.Agree m m' c := hagree c
  exact ⟨h0.trans (Cert.Inp.q_eq m m' c e), h1.trans (Cert.Inp.k_eq m m' c e), h2.trans (Cert.Inp.v_eq m m' c e), h3.trans (Cert.Inp.qk_eq m m' c e),
    h4.trans (Cert.Inp.vb_eq m m' c e), h5.trans (Cert.Inp.gk_eq m m' c e), h6.trans (Cert.Inp.r_eq m m' c e), h7.trans (Cert.Inp.g_eq m m' c e), hargs⟩

/-- The nine programs end with their arguments unchanged and every semaphore at zero, and each kernel computes its reference. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Gla.Pre.facts,
    Cert.Pre_tables_ok.Gen.facts,
    fun m ρ _ => Cert.Kernel.Gen.frame m ρ, fun m ρ _ => Cert.KernelIdeal.Gen.frame m ρ, fun m ρ _ => Cert.KernelIdeal.Gen.frame m ρ,
    fun m ρ _ => (θ_run _ _ _).mono (fun _ h => ⟨fun c => (h.1 c).2, h.2⟩) (Cert.Gla.Ref.run m ρ),
    fun m ρ _ => (θ_run _ _ _).mono (fun _ h => ⟨fun c => (h.1 c).2, h.2⟩) (Cert.Gla.Ref.run m ρ),
    fun m ρ _ => Cert.Kernel2.Gen.frame m ρ, fun m ρ _ => Cert.Kernel2Ideal.Gen.frame m ρ,
    fun m ρ _ => (θ_run _ _ _).mono (fun r h => ⟨fun c => (h c).2.2.2.2.2.2.2.2, sem_eq_zero_of_no_sems (by decide) r.2⟩) (Cert.Inp.Ref.run m ρ),
    fun m ρ h => Cert.Kernel3.Expert.frame m (Cert.Expert.good m h) ρ, fun m ρ h => Cert.Kernel3Ideal.Expert.frame m (Cert.Expert.goodI m h) ρ,
    fun m ρ _ => (θ_run _ _ _).mono (fun r h => ⟨fun c => (h c).2.2, sem_eq_zero_of_no_sems (by decide) r.2⟩) (Cert.Reference3Ideal.Value.run m ρ),
    fun m ρ _ => (θ_run _ _ _).mono (fun r h => ⟨fun c => (h c).2.2, sem_eq_zero_of_no_sems (by decide) r.2⟩) (Cert.Reference3Ideal.Value.run m ρ),
    trivial, algebraic, trivial, algebraic2, trivial, Cert.Expert.algebraic3⟩

end Cert.Proof

end
